-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_norm [hPre_finite_norm : Cert.Pre_finite_norm.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_norm.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_norm [hPre_finite_norm : Cert.Pre_finite_norm.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_norm.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite_norm [hKernel8Ideal : Cert.Kernel8Ideal.Facts] [hPre_finite_norm : Cert.Pre_finite_norm.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_norm m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite_norm [hReference8Ideal : Cert.Reference8Ideal.Facts] [hPre_finite_norm : Cert.Pre_finite_norm.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_norm m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2)
      ∧ r.2.mem ((c.tc : Thread Cert.Kernel49.nD Cert.Kernel49.τ).loc Cert.Kernel49.main_arg3) = m ((c.tc : Thread Cert.Kernel49.nD Cert.Kernel49.τ).loc Cert.Kernel49.main_arg3))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
      ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2)
      ∧ r.2.mem ((c.tc : Thread Cert.Reference49Ideal.nD Cert.Reference49Ideal.τ).loc Cert.Reference49Ideal.main_arg3) = m ((c.tc : Thread Cert.Reference49Ideal.nD Cert.Reference49Ideal.τ).loc Cert.Reference49Ideal.main_arg3))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1)
      ∧ r.2.mem ((c.tc : Thread Cert.Kernel50.nD Cert.Kernel50.τ).loc Cert.Kernel50.main_arg2) = m ((c.tc : Thread Cert.Kernel50.nD Cert.Kernel50.τ).loc Cert.Kernel50.main_arg2)
      ∧ r.2.mem ((c.tc : Thread Cert.Kernel50.nD Cert.Kernel50.τ).loc Cert.Kernel50.main_arg3) = m ((c.tc : Thread Cert.Kernel50.nD Cert.Kernel50.τ).loc Cert.Kernel50.main_arg3))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
      ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
      ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1)
      ∧ r.2.mem ((c.tc : Thread Cert.Reference50Ideal.nD Cert.Reference50Ideal.τ).loc Cert.Reference50Ideal.main_arg2) = m ((c.tc : Thread Cert.Reference50Ideal.nD Cert.Reference50Ideal.τ).loc Cert.Reference50Ideal.main_arg2)
      ∧ r.2.mem ((c.tc : Thread Cert.Reference50Ideal.nD Cert.Reference50Ideal.τ).loc Cert.Reference50Ideal.main_arg3) = m ((c.tc : Thread Cert.Reference50Ideal.nD Cert.Reference50Ideal.τ).loc Cert.Reference50Ideal.main_arg3))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1)
      ∧ r.2.mem ((c.tc : Thread Cert.Kernel51.nD Cert.Kernel51.τ).loc Cert.Kernel51.main_arg2) = m ((c.tc : Thread Cert.Kernel51.nD Cert.Kernel51.τ).loc Cert.Kernel51.main_arg2)
      ∧ r.2.mem ((c.tc : Thread Cert.Kernel51.nD Cert.Kernel51.τ).loc Cert.Kernel51.main_arg3) = m ((c.tc : Thread Cert.Kernel51.nD Cert.Kernel51.τ).loc Cert.Kernel51.main_arg3))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
      ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
      ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1)
      ∧ r.2.mem ((c.tc : Thread Cert.Reference51Ideal.nD Cert.Reference51Ideal.τ).loc Cert.Reference51Ideal.main_arg2) = m ((c.tc : Thread Cert.Reference51Ideal.nD Cert.Reference51Ideal.τ).loc Cert.Reference51Ideal.main_arg2)
      ∧ r.2.mem ((c.tc : Thread Cert.Reference51Ideal.nD Cert.Reference51Ideal.τ).loc Cert.Reference51Ideal.main_arg3) = m ((c.tc : Thread Cert.Reference51Ideal.nD Cert.Reference51Ideal.τ).loc Cert.Reference51Ideal.main_arg3))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1)
      ∧ r.2.mem ((c.tc : Thread Cert.Kernel52.nD Cert.Kernel52.τ).loc Cert.Kernel52.main_arg2) = m ((c.tc : Thread Cert.Kernel52.nD Cert.Kernel52.τ).loc Cert.Kernel52.main_arg2)
      ∧ r.2.mem ((c.tc : Thread Cert.Kernel52.nD Cert.Kernel52.τ).loc Cert.Kernel52.main_arg3) = m ((c.tc : Thread Cert.Kernel52.nD Cert.Kernel52.τ).loc Cert.Kernel52.main_arg3))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
      ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
      ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1)
      ∧ r.2.mem ((c.tc : Thread Cert.Reference52Ideal.nD Cert.Reference52Ideal.τ).loc Cert.Reference52Ideal.main_arg2) = m ((c.tc : Thread Cert.Reference52Ideal.nD Cert.Reference52Ideal.τ).loc Cert.Reference52Ideal.main_arg2)
      ∧ r.2.mem ((c.tc : Thread Cert.Reference52Ideal.nD Cert.Reference52Ideal.τ).loc Cert.Reference52Ideal.main_arg3) = m ((c.tc : Thread Cert.Reference52Ideal.nD Cert.Reference52Ideal.τ).loc Cert.Reference52Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_norm [hKernel8Ideal : Cert.Kernel8Ideal.Facts] [hReference8Ideal : Cert.Reference8Ideal.Facts] [hPre_finite_norm : Cert.Pre_finite_norm.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_norm m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_v38) = v1 c
          ∧ r.2.mem ((c.tc : Thread Cert.Reference8Ideal.nD Cert.Reference8Ideal.τ).loc Cert.Reference8Ideal.main_v39) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v8) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v17) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v11) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v11) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_v8) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v17) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_v8) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v9) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v9) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v9) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v9) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v9) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v9) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v9) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v9) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v9) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v9) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v10) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v11) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v11) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v10) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v10) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v10) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v4) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v4) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v5) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v5) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v5) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v5) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)
      ∧ m' ((c.tc : Thread Cert.Reference49Ideal.nD Cert.Reference49Ideal.τ).loc Cert.Reference49Ideal.main_arg3) = m ((c.tc : Thread Cert.Kernel49Ideal.nD Cert.Kernel49Ideal.τ).loc Cert.Kernel49Ideal.main_arg3)) →
    ∃ (v0 : (c : Dev Cert.Kernel49Ideal.nD) → Buf (Elt Ideal) ((c.tc : Thread Cert.Kernel49Ideal.nD Cert.Kernel49Ideal.τ).loc Cert.Kernel49Ideal.main_v0_0)) (v1 : (c : Dev Cert.Kernel49Ideal.nD) → Buf (Elt Ideal) ((c.tc : Thread Cert.Kernel49Ideal.nD Cert.Kernel49Ideal.τ).loc Cert.Kernel49Ideal.main_v0_1)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0_0) = v0 c
          ∧ r.2.mem ((c.tc : Thread Cert.Kernel49Ideal.nD Cert.Kernel49Ideal.τ).loc Cert.Kernel49Ideal.main_v0_1) = v1 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
          ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v12) = v0 c
          ∧ r.2.mem ((c.tc : Thread Cert.Reference49Ideal.nD Cert.Reference49Ideal.τ).loc Cert.Reference49Ideal.main_v13) = v1 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2)
          ∧ r.2.mem ((c.tc : Thread Cert.Reference49Ideal.nD Cert.Reference49Ideal.τ).loc Cert.Reference49Ideal.main_arg3) = m' ((c.tc : Thread Cert.Reference49Ideal.nD Cert.Reference49Ideal.τ).loc Cert.Reference49Ideal.main_arg3))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)
      ∧ m' ((c.tc : Thread Cert.Reference50Ideal.nD Cert.Reference50Ideal.τ).loc Cert.Reference50Ideal.main_arg2) = m ((c.tc : Thread Cert.Kernel50Ideal.nD Cert.Kernel50Ideal.τ).loc Cert.Kernel50Ideal.main_arg2)
      ∧ m' ((c.tc : Thread Cert.Reference50Ideal.nD Cert.Reference50Ideal.τ).loc Cert.Reference50Ideal.main_arg3) = m ((c.tc : Thread Cert.Kernel50Ideal.nD Cert.Kernel50Ideal.τ).loc Cert.Kernel50Ideal.main_arg3)) →
    ∃ (v0 : (c : Dev Cert.Kernel50Ideal.nD) → Buf (Elt Ideal) ((c.tc : Thread Cert.Kernel50Ideal.nD Cert.Kernel50Ideal.τ).loc Cert.Kernel50Ideal.main_v0_0)) (v1 : (c : Dev Cert.Kernel50Ideal.nD) → Buf (Elt Ideal) ((c.tc : Thread Cert.Kernel50Ideal.nD Cert.Kernel50Ideal.τ).loc Cert.Kernel50Ideal.main_v0_1)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v0_0) = v0 c
          ∧ r.2.mem ((c.tc : Thread Cert.Kernel50Ideal.nD Cert.Kernel50Ideal.τ).loc Cert.Kernel50Ideal.main_v0_1) = v1 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
          ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
          ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v12) = v0 c
          ∧ r.2.mem ((c.tc : Thread Cert.Reference50Ideal.nD Cert.Reference50Ideal.τ).loc Cert.Reference50Ideal.main_v13) = v1 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1)
          ∧ r.2.mem ((c.tc : Thread Cert.Reference50Ideal.nD Cert.Reference50Ideal.τ).loc Cert.Reference50Ideal.main_arg2) = m' ((c.tc : Thread Cert.Reference50Ideal.nD Cert.Reference50Ideal.τ).loc Cert.Reference50Ideal.main_arg2)
          ∧ r.2.mem ((c.tc : Thread Cert.Reference50Ideal.nD Cert.Reference50Ideal.τ).loc Cert.Reference50Ideal.main_arg3) = m' ((c.tc : Thread Cert.Reference50Ideal.nD Cert.Reference50Ideal.τ).loc Cert.Reference50Ideal.main_arg3))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)
      ∧ m' ((c.tc : Thread Cert.Reference51Ideal.nD Cert.Reference51Ideal.τ).loc Cert.Reference51Ideal.main_arg2) = m ((c.tc : Thread Cert.Kernel51Ideal.nD Cert.Kernel51Ideal.τ).loc Cert.Kernel51Ideal.main_arg2)
      ∧ m' ((c.tc : Thread Cert.Reference51Ideal.nD Cert.Reference51Ideal.τ).loc Cert.Reference51Ideal.main_arg3) = m ((c.tc : Thread Cert.Kernel51Ideal.nD Cert.Kernel51Ideal.τ).loc Cert.Kernel51Ideal.main_arg3)) →
    ∃ (v0 : (c : Dev Cert.Kernel51Ideal.nD) → Buf (Elt Ideal) ((c.tc : Thread Cert.Kernel51Ideal.nD Cert.Kernel51Ideal.τ).loc Cert.Kernel51Ideal.main_v0_0)) (v1 : (c : Dev Cert.Kernel51Ideal.nD) → Buf (Elt Ideal) ((c.tc : Thread Cert.Kernel51Ideal.nD Cert.Kernel51Ideal.τ).loc Cert.Kernel51Ideal.main_v0_1)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0_0) = v0 c
          ∧ r.2.mem ((c.tc : Thread Cert.Kernel51Ideal.nD Cert.Kernel51Ideal.τ).loc Cert.Kernel51Ideal.main_v0_1) = v1 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
          ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
          ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v12) = v0 c
          ∧ r.2.mem ((c.tc : Thread Cert.Reference51Ideal.nD Cert.Reference51Ideal.τ).loc Cert.Reference51Ideal.main_v13) = v1 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1)
          ∧ r.2.mem ((c.tc : Thread Cert.Reference51Ideal.nD Cert.Reference51Ideal.τ).loc Cert.Reference51Ideal.main_arg2) = m' ((c.tc : Thread Cert.Reference51Ideal.nD Cert.Reference51Ideal.τ).loc Cert.Reference51Ideal.main_arg2)
          ∧ r.2.mem ((c.tc : Thread Cert.Reference51Ideal.nD Cert.Reference51Ideal.τ).loc Cert.Reference51Ideal.main_arg3) = m' ((c.tc : Thread Cert.Reference51Ideal.nD Cert.Reference51Ideal.τ).loc Cert.Reference51Ideal.main_arg3))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)
      ∧ m' ((c.tc : Thread Cert.Reference52Ideal.nD Cert.Reference52Ideal.τ).loc Cert.Reference52Ideal.main_arg2) = m ((c.tc : Thread Cert.Kernel52Ideal.nD Cert.Kernel52Ideal.τ).loc Cert.Kernel52Ideal.main_arg2)
      ∧ m' ((c.tc : Thread Cert.Reference52Ideal.nD Cert.Reference52Ideal.τ).loc Cert.Reference52Ideal.main_arg3) = m ((c.tc : Thread Cert.Kernel52Ideal.nD Cert.Kernel52Ideal.τ).loc Cert.Kernel52Ideal.main_arg3)) →
    ∃ (v0 : (c : Dev Cert.Kernel52Ideal.nD) → Buf (Elt Ideal) ((c.tc : Thread Cert.Kernel52Ideal.nD Cert.Kernel52Ideal.τ).loc Cert.Kernel52Ideal.main_v0_0)) (v1 : (c : Dev Cert.Kernel52Ideal.nD) → Buf (Elt Ideal) ((c.tc : Thread Cert.Kernel52Ideal.nD Cert.Kernel52Ideal.τ).loc Cert.Kernel52Ideal.main_v0_1)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v0_0) = v0 c
          ∧ r.2.mem ((c.tc : Thread Cert.Kernel52Ideal.nD Cert.Kernel52Ideal.τ).loc Cert.Kernel52Ideal.main_v0_1) = v1 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
          ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
          ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v12) = v0 c
          ∧ r.2.mem ((c.tc : Thread Cert.Reference52Ideal.nD Cert.Reference52Ideal.τ).loc Cert.Reference52Ideal.main_v13) = v1 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1)
          ∧ r.2.mem ((c.tc : Thread Cert.Reference52Ideal.nD Cert.Reference52Ideal.τ).loc Cert.Reference52Ideal.main_arg2) = m' ((c.tc : Thread Cert.Reference52Ideal.nD Cert.Reference52Ideal.τ).loc Cert.Reference52Ideal.main_arg2)
          ∧ r.2.mem ((c.tc : Thread Cert.Reference52Ideal.nD Cert.Reference52Ideal.τ).loc Cert.Reference52Ideal.main_arg3) = m' ((c.tc : Thread Cert.Reference52Ideal.nD Cert.Reference52Ideal.τ).loc Cert.Reference52Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts) (hPre_finite : Cert.Pre_finite.Facts) (hPre_finite_norm : Cert.Pre_finite_norm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_norm (hKernel8Ideal := hKernel8Ideal) (hPre_finite_norm := hPre_finite_norm)
    ∧ quiescent_Reference8Ideal (hReference8Ideal := hReference8Ideal)
    ∧ quiescent_Reference8Ideal_pre_finite_norm (hReference8Ideal := hReference8Ideal) (hPre_finite_norm := hPre_finite_norm)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_norm (hKernel8Ideal := hKernel8Ideal) (hReference8Ideal := hReference8Ideal) (hPre_finite_norm := hPre_finite_norm)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
-- ==== Pre_finite.lean ====
abbrev S8192x6144 : Shape := ⟨2, ![8192, 6144]⟩
abbrev S8192x2048 : Shape := ⟨2, ![8192, 2048]⟩
abbrev S16x32 : Shape := ⟨2, ![16, 32]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x6144 .bf16) (main_arg1 : FVec F S8192x2048 .bf16) (main_arg2 : FVec F S16x32 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  main_v10
-- ==== Pre_finite_norm.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bitsLt_bf16_f32 : FTy.bits .bf16 < FTy.bits .f32

variable [Facts]

def fn {F : FTy → Type} [FloatOps F] (main_arg0 : FVec F S8192x2048 .f32) (main_arg1 : FVec F S2048 .f32) (main_arg2 : FVec F S8192x2048 .bf16) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192x2048 .f32 := (extf .f32 · bitsLt_bf16_f32) main_arg2
  let main_v10 : FVec F S8192x2048 .f32 := Host.absf main_v9
  let main_cst_2 : FVec F S_ .f32 := constant S_ .f32 0x7F800000#32
  let main_v11 : FVec F S8192x2048 .f32 := broadcastInDim S8192x2048 ![] bcast_S_S8192x2048 main_cst_2
  let main_v12 : IVec S8192x2048 1 := cmpf .olt main_v10 main_v11
  let main_c_3 : IVec S_ 1 := constantI S_ 1 1#1
  let main_v13 : IVec S_ 1 := (fun x v => Host.reduce IntOp.andi x v reducesTo_S8192x2048_S_d0_1 h_S_) main_v12 main_c_3
  let main_v14 : IVec S_ 1 := andi main_v8 main_v13
  main_v14
-- ==== Kernel.lean ====
abbrev S8192x6144 : Shape := ⟨2, ![8192, 6144]⟩
abbrev S8192x2048 : Shape := ⟨2, ![8192, 2048]⟩
abbrev S16x32 : Shape := ⟨2, ![16, 32]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S32 : Shape := ⟨1, ![32]⟩
abbrev S1x32 : Shape := ⟨2, ![1, 32]⟩
abbrev S16x32x256 : Shape := ⟨3, ![16, 32, 256]⟩
abbrev S16x8192 : Shape := ⟨2, ![16, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S16x8192x1 : Shape := ⟨3, ![16, 8192, 1]⟩
abbrev S256x256 : Shape := ⟨2, ![256, 256]⟩
abbrev S8192x256 : Shape := ⟨2, ![8192, 256]⟩
abbrev S2x256x128 : Shape := ⟨3, ![2, 256, 128]⟩
abbrev S1x1 : Shape := ⟨2, ![1, 1]⟩
abbrev S256x1 : Shape := ⟨2, ![256, 1]⟩
abbrev S256x128 : Shape := ⟨2, ![256, 128]⟩
abbrev S256 : Shape := ⟨1, ![256]⟩
abbrev S1x256x1 : Shape := ⟨3, ![1, 256, 1]⟩

abbrev nBuf : Space → Nat
  | .hbm => 82
  | .vmem => 14
  | .smem => 1
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S16x32, .f32⟩
  | .hbm, ⟨3, _⟩ => ⟨S8192x6144, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x16x128, .f32⟩
  | .hbm, ⟨8, _⟩ => ⟨S16x8192x128, .f32⟩
  | .hbm, ⟨9, _⟩ => ⟨S8192x16x128, .f32⟩
  | .hbm, ⟨10, _⟩ => ⟨S16x8192x128, .f32⟩
  | .hbm, ⟨11, _⟩ => ⟨S16x8192x8192, .f32⟩
  | .hbm, ⟨12, _⟩ => ⟨S_, .f32⟩
  | .hbm, ⟨13, _⟩ => ⟨S16x8192x8192, .f32⟩
  | .hbm, ⟨14, _⟩ => ⟨S16x8192x8192, .f32⟩
  | .hbm, ⟨15, _⟩ => ⟨S8192, .i32⟩
  | .hbm, ⟨16, _⟩ => ⟨S_, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S16x32, .i32⟩
  | .hbm, ⟨35, _⟩ => ⟨S32, .i32⟩
  | .hbm, ⟨36, _⟩ => ⟨S1x32, .i32⟩
  | .hbm, ⟨37, _⟩ => ⟨S_, .i32⟩
  | .hbm, ⟨38, _⟩ => ⟨S_, .i32⟩
  | .hbm, ⟨39, _⟩ => ⟨S16x32, .i32⟩
  | .hbm, ⟨40, _⟩ => ⟨S16x32, .i32⟩
  | .hbm, ⟨41, _⟩ => ⟨S16x32, .i32⟩
  | .hbm, ⟨42, _⟩ => ⟨S16x32, .i32⟩
  | .hbm, ⟨43, _⟩ => ⟨S16x32x256, .i32⟩
  | .hbm, ⟨44, _⟩ => ⟨S16x8192, .i32⟩
  | .hbm, ⟨45, _⟩ => ⟨S1x1x8192, .i32⟩
  | .hbm, ⟨46, _⟩ => ⟨S1x8192x1, .i32⟩
  | .hbm, ⟨47, _⟩ => ⟨S1x8192x8192, .i32⟩
  | .hbm, ⟨48, _⟩ => ⟨S1x8192x8192, .i32⟩
  | .hbm, ⟨49, _⟩ => ⟨S1x8192x8192, .i1⟩
  | .hbm, ⟨50, _⟩ => ⟨S1x1x8192, .i32⟩
  | .hbm, ⟨51, _⟩ => ⟨S16x8192x1, .i32⟩
  | .hbm, ⟨52, _⟩ => ⟨S16x8192x8192, .i32⟩
  | .hbm, ⟨53, _⟩ => ⟨S16x8192x8192, .i32⟩
  | .hbm, ⟨54, _⟩ => ⟨S16x8192x8192, .i1⟩
  | .hbm, ⟨55, _⟩ => ⟨S16x8192x8192, .i1⟩
  | .hbm, ⟨56, _⟩ => ⟨S16x8192x8192, .i1⟩
  | .hbm, ⟨57, _⟩ => ⟨S_, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .i1⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S16x8192x8192, .f32⟩
  | .hbm, ⟨67, _⟩ => ⟨S16x8192x8192, .f32⟩
  | .hbm, ⟨68, _⟩ => ⟨S16x8192x8192, .f32⟩
  | .hbm, ⟨69, _⟩ => ⟨S16x8192x8192, .f32⟩
  | .hbm, ⟨70, _⟩ => ⟨S16x8192x8192, .f32⟩
  | .hbm, ⟨71, _⟩ => ⟨S_, .f32⟩
  | .hbm, ⟨72, _⟩ => ⟨S_, .f32⟩
  | .hbm, ⟨73, _⟩ => ⟨S16x8192x8192, .f32⟩
  | .hbm, ⟨74, _⟩ => ⟨S16x8192x8192, .f32⟩
  | .hbm, ⟨75, _⟩ => ⟨S_, .f32⟩
  | .hbm, ⟨76, _⟩ => ⟨S16x8192, .f32⟩
  | .hbm, ⟨77, _⟩ => ⟨S16x8192x1, .f32⟩
  | .hbm, ⟨78, _⟩ => ⟨S16x8192x128, .f32⟩
  | .hbm, ⟨79, _⟩ => ⟨S8192x2048, .bf16⟩
  | .hbm, ⟨80, _⟩ => ⟨S8192x2048, .f32⟩
  | .hbm, ⟨81, _⟩ => ⟨S8192x2048, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S256x256, .bf16⟩
  | .local _ .vmem, ⟨5, _⟩ => ⟨S256x256, .bf16⟩
  | .local _ .vmem, ⟨6, _⟩ => ⟨S2x256x128, .f32⟩
  | .local _ .vmem, ⟨7, _⟩ => ⟨S2x256x128, .f32⟩
  | .local _ .vmem, ⟨8, _⟩ => ⟨S256x256, .bf16⟩
  | .local _ .vmem, ⟨9, _⟩ => ⟨S256x256, .bf16⟩
  | .local _ .vmem, ⟨10, _⟩ => ⟨S8192x256, .f32⟩
  | .local _ .vmem, ⟨11, _⟩ => ⟨S8192x256, .f32⟩
  | .local _ .vmem, ⟨12, _⟩ => ⟨S8192x256, .f32⟩
  | .local _ .vmem, ⟨13, _⟩ => ⟨S8192x256, .f32⟩
  | .local _ .smem, ⟨0, _⟩ => ⟨S16x32, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_v31 : Ref sig .tc := ⟨.hbm, 70, rfl⟩
abbrev main_cst_1 : Ref sig .tc := ⟨.hbm, 71, rfl⟩
abbrev main_call3_v0 : Ref sig .tc := ⟨.hbm, 72, rfl⟩
abbrev main_call3_v1 : Ref sig .tc := ⟨.hbm, 73, rfl⟩
abbrev main_v32 : Ref sig .tc := ⟨.hbm, 74, rfl⟩
abbrev main_cst_2 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36_0 : Ref sig .tc := ⟨.hbm, 79, rfl⟩
abbrev main_v36_1 : Ref sig .tc := ⟨.hbm, 80, rfl⟩
abbrev main_v36_2 : Ref sig .tc := ⟨.hbm, 81, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 32], ![false, false]⟩

def k0_off1 (i : grid0.Coords) : Fin 2 → Nat :=
  let c2_i32 : BitVec 32 := 2#32
  let arg0 : BitVec 32 := BitVec.ofNat 32 (i 0).val
  let v13 : BitVec 32 := Scalar.muli c2_i32 arg0
  let c0_i32_1 : BitVec 32 := 0#32
  let v14 : BitVec 32 := Scalar.addi v13 c0_i32_1
  let v15 : Index := Scalar.indexCast v14
  let arg1 : BitVec 32 := BitVec.ofNat 32 (i 1).val
  let v16 : Index := Scalar.indexCast arg1
  ![v15.toNat, v16.toNat]
@[reducible] def k0_t1_loop (i : grid0.Coords) (v18 : BitVec 32) : Scf.Loop 32 :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32 : BitVec 32 := 1#32
  let v24 : BitVec 32 := Scalar.subi arg1 c1_i32
  let v25 : BitVec 32 := Scalar.maxsi v24 v20
  let v26 : BitVec 32 := Scalar.subi v25 v20
  let c1_i32_5 : BitVec 32 := 1#32
  let v28 : BitVec 32 := Scalar.divsi v26 c1_i32_5
  let v29 : BitVec 32 := Scalar.muli v28 c1_i32_5
  let v30 : BitVec 32 := Scalar.addi v20 v29
  let c1_i32_6 : BitVec 32 := 1#32
  ⟨v20, v30, c1_i32_6⟩

def k0_mult1 (i : grid0.Coords) (v18 : BitVec 32) (k0_t1 : Fin (k0_t1_loop i v18).trips) : BitVec 32 :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32_6 : BitVec 32 := 1#32
  let arg11 : BitVec 32 := Scf.iv v20 c1_i32_6 k0_t1
  let c256_i32_146 : BitVec 32 := 256#32
  let v351 : BitVec 32 := Scalar.muli arg11 c256_i32_146
  v351
def k0_off2 (i : grid0.Coords) (v18 : BitVec 32) (k0_t1 : Fin (k0_t1_loop i v18).trips) : Fin 2 → Nat :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32_6 : BitVec 32 := 1#32
  let arg11 : BitVec 32 := Scf.iv v20 c1_i32_6 k0_t1
  let c256_i32_146 : BitVec 32 := 256#32
  let v351 : BitVec 32 := Scalar.muli arg11 c256_i32_146
  let v352 : BitVec 32 := v351
  let v355 : Index := Scalar.indexCast v352
  let c0_151 : Index := 0#32
  ![v355.toNat, 0]
@[reducible] def k0_t2_loop (i : grid0.Coords) (v18 : BitVec 32) : Scf.Loop 32 :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32 : BitVec 32 := 1#32
  let v24 : BitVec 32 := Scalar.subi arg1 c1_i32
  let v25 : BitVec 32 := Scalar.maxsi v24 v20
  let v26 : BitVec 32 := Scalar.subi v25 v20
  let c1_i32_5 : BitVec 32 := 1#32
  let v28 : BitVec 32 := Scalar.divsi v26 c1_i32_5
  let v29 : BitVec 32 := Scalar.muli v28 c1_i32_5
  let v30 : BitVec 32 := Scalar.addi v20 v29
  let v27 : BitVec 32 := Scalar.addi v20 v26
  let c1_i32_7 : BitVec 32 := 1#32
  ⟨v30, v27, c1_i32_7⟩
def k0_mult2 (i : grid0.Coords) (v18 : BitVec 32) (k0_t2 : Fin (k0_t2_loop i v18).trips) : BitVec 32 :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32 : BitVec 32 := 1#32
  let v24 : BitVec 32 := Scalar.subi arg1 c1_i32
  let v25 : BitVec 32 := Scalar.maxsi v24 v20
  let v26 : BitVec 32 := Scalar.subi v25 v20
  let c1_i32_5 : BitVec 32 := 1#32
  let v28 : BitVec 32 := Scalar.divsi v26 c1_i32_5
  let v29 : BitVec 32 := Scalar.muli v28 c1_i32_5
  let v30 : BitVec 32 := Scalar.addi v20 v29
  let c1_i32_7 : BitVec 32 := 1#32
  let arg11 : BitVec 32 := Scf.iv v30 c1_i32_7 k0_t2
  let c256_i32_146 : BitVec 32 := 256#32
  let v351 : BitVec 32 := Scalar.muli arg11 c256_i32_146
  v351
def k0_off3 (i : grid0.Coords) (v18 : BitVec 32) (k0_t2 : Fin (k0_t2_loop i v18).trips) : Fin 2 → Nat :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32 : BitVec 32 := 1#32
  let v24 : BitVec 32 := Scalar.subi arg1 c1_i32
  let v25 : BitVec 32 := Scalar.maxsi v24 v20
  let v26 : BitVec 32 := Scalar.subi v25 v20
  let c1_i32_5 : BitVec 32 := 1#32
  let v28 : BitVec 32 := Scalar.divsi v26 c1_i32_5
  let v29 : BitVec 32 := Scalar.muli v28 c1_i32_5
  let v30 : BitVec 32 := Scalar.addi v20 v29
  let c1_i32_7 : BitVec 32 := 1#32
  let arg11 : BitVec 32 := Scf.iv v30 c1_i32_7 k0_t2
  let c256_i32_146 : BitVec 32 := 256#32
  let v351 : BitVec 32 := Scalar.muli arg11 c256_i32_146
  let v352 : BitVec 32 := v351
  let v355 : Index := Scalar.indexCast v352
  let c0_151 : Index := 0#32
  ![v355.toNat, 0]

def k0_chk1 (i : grid0.Coords) (v18 : BitVec 32) : Prop :=
  ((k0_t1_loop i v18).OK) ∧
  (∀ k0_t1 : Fin (k0_t1_loop i v18).trips, 256 ∣ (k0_mult1 i v18 k0_t1).toNat) ∧
  (∀ k0_t1 : Fin (k0_t1_loop i v18).trips, ∀ a, (k0_off2 i v18 k0_t1) a + S256x128.size a ≤ S8192x256.size a) ∧
  ((k0_t2_loop i v18).OK) ∧
  (∀ k0_t2 : Fin (k0_t2_loop i v18).trips, 256 ∣ (k0_mult2 i v18 k0_t2).toNat) ∧
  (∀ k0_t2 : Fin (k0_t2_loop i v18).trips, ∀ a, (k0_off3 i v18 k0_t2) a + S256x128.size a ≤ S8192x256.size a)
theorem k0_t1_ok : ∀ (i : grid0.Coords) (v18 : BitVec 32) (k0_hw1 : k0_chk1 i v18), (k0_t1_loop i v18).OK := fun i v18 k0_hw1 => k0_hw1.1
theorem k0_mult1_dvd : ∀ (i : grid0.Coords) (v18 : BitVec 32) (k0_hw1 : k0_chk1 i v18) (k0_t1 : Fin (k0_t1_loop i v18).trips), 256 ∣ (k0_mult1 i v18 k0_t1).toNat := fun i v18 k0_hw1 k0_t1 => k0_hw1.2.1 k0_t1
theorem k0_off2_inb : ∀ (i : grid0.Coords) (v18 : BitVec 32) (k0_hw1 : k0_chk1 i v18) (k0_t1 : Fin (k0_t1_loop i v18).trips), ∀ a, (k0_off2 i v18 k0_t1) a + S256x128.size a ≤ S8192x256.size a := fun i v18 k0_hw1 k0_t1 => k0_hw1.2.2.1 k0_t1
theorem k0_t2_ok : ∀ (i : grid0.Coords) (v18 : BitVec 32) (k0_hw1 : k0_chk1 i v18), (k0_t2_loop i v18).OK := fun i v18 k0_hw1 => k0_hw1.2.2.2.1
theorem k0_mult2_dvd : ∀ (i : grid0.Coords) (v18 : BitVec 32) (k0_hw1 : k0_chk1 i v18) (k0_t2 : Fin (k0_t2_loop i v18).trips), 256 ∣ (k0_mult2 i v18 k0_t2).toNat := fun i v18 k0_hw1 k0_t2 => k0_hw1.2.2.2.2.1 k0_t2
theorem k0_off3_inb : ∀ (i : grid0.Coords) (v18 : BitVec 32) (k0_hw1 : k0_chk1 i v18) (k0_t2 : Fin (k0_t2_loop i v18).trips), ∀ a, (k0_off3 i v18 k0_t2) a + S256x128.size a ≤ S8192x256.size a := fun i v18 k0_hw1 k0_t2 => k0_hw1.2.2.2.2.2 k0_t2

def k0_off4 (i : grid0.Coords) : Fin 2 → Nat :=
  let c2_i32_8 : BitVec 32 := 2#32
  let arg0 : BitVec 32 := BitVec.ofNat 32 (i 0).val
  let v33 : BitVec 32 := Scalar.muli c2_i32_8 arg0
  let c1_i32_9 : BitVec 32 := 1#32
  let v34 : BitVec 32 := Scalar.addi v33 c1_i32_9
  let v35 : Index := Scalar.indexCast v34
  let arg1 : BitVec 32 := BitVec.ofNat 32 (i 1).val
  let v36 : Index := Scalar.indexCast arg1
  ![v35.toNat, v36.toNat]
@[reducible] def k0_t3_loop (i : grid0.Coords) (v38 : BitVec 32) : Scf.Loop 32 :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_14 : BitVec 32 := 1#32
  let v44 : BitVec 32 := Scalar.subi arg1 c1_i32_14
  let v45 : BitVec 32 := Scalar.maxsi v44 v40
  let v46 : BitVec 32 := Scalar.subi v45 v40
  let c1_i32_15 : BitVec 32 := 1#32
  let v48 : BitVec 32 := Scalar.divsi v46 c1_i32_15
  let v49 : BitVec 32 := Scalar.muli v48 c1_i32_15
  let v50 : BitVec 32 := Scalar.addi v40 v49
  let c1_i32_16 : BitVec 32 := 1#32
  ⟨v40, v50, c1_i32_16⟩

def k0_mult3 (i : grid0.Coords) (v38 : BitVec 32) (k0_t3 : Fin (k0_t3_loop i v38).trips) : BitVec 32 :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_16 : BitVec 32 := 1#32
  let arg11 : BitVec 32 := Scf.iv v40 c1_i32_16 k0_t3
  let c256_i32_146 : BitVec 32 := 256#32
  let v351 : BitVec 32 := Scalar.muli arg11 c256_i32_146
  v351
def k0_off5 (i : grid0.Coords) (v38 : BitVec 32) (k0_t3 : Fin (k0_t3_loop i v38).trips) : Fin 2 → Nat :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_16 : BitVec 32 := 1#32
  let arg11 : BitVec 32 := Scf.iv v40 c1_i32_16 k0_t3
  let c256_i32_146 : BitVec 32 := 256#32
  let v351 : BitVec 32 := Scalar.muli arg11 c256_i32_146
  let v352 : BitVec 32 := v351
  let v355 : Index := Scalar.indexCast v352
  let c128_151 : Index := 128#32
  ![v355.toNat, 128]
@[reducible] def k0_t4_loop (i : grid0.Coords) (v38 : BitVec 32) : Scf.Loop 32 :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_14 : BitVec 32 := 1#32
  let v44 : BitVec 32 := Scalar.subi arg1 c1_i32_14
  let v45 : BitVec 32 := Scalar.maxsi v44 v40
  let v46 : BitVec 32 := Scalar.subi v45 v40
  let c1_i32_15 : BitVec 32 := 1#32
  let v48 : BitVec 32 := Scalar.divsi v46 c1_i32_15
  let v49 : BitVec 32 := Scalar.muli v48 c1_i32_15
  let v50 : BitVec 32 := Scalar.addi v40 v49
  let v47 : BitVec 32 := Scalar.addi v40 v46
  let c1_i32_17 : BitVec 32 := 1#32
  ⟨v50, v47, c1_i32_17⟩
def k0_mult4 (i : grid0.Coords) (v38 : BitVec 32) (k0_t4 : Fin (k0_t4_loop i v38).trips) : BitVec 32 :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_14 : BitVec 32 := 1#32
  let v44 : BitVec 32 := Scalar.subi arg1 c1_i32_14
  let v45 : BitVec 32 := Scalar.maxsi v44 v40
  let v46 : BitVec 32 := Scalar.subi v45 v40
  let c1_i32_15 : BitVec 32 := 1#32
  let v48 : BitVec 32 := Scalar.divsi v46 c1_i32_15
  let v49 : BitVec 32 := Scalar.muli v48 c1_i32_15
  let v50 : BitVec 32 := Scalar.addi v40 v49
  let c1_i32_17 : BitVec 32 := 1#32
  let arg11 : BitVec 32 := Scf.iv v50 c1_i32_17 k0_t4
  let c256_i32_146 : BitVec 32 := 256#32
  let v351 : BitVec 32 := Scalar.muli arg11 c256_i32_146
  v351
def k0_off6 (i : grid0.Coords) (v38 : BitVec 32) (k0_t4 : Fin (k0_t4_loop i v38).trips) : Fin 2 → Nat :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_14 : BitVec 32 := 1#32
  let v44 : BitVec 32 := Scalar.subi arg1 c1_i32_14
  let v45 : BitVec 32 := Scalar.maxsi v44 v40
  let v46 : BitVec 32 := Scalar.subi v45 v40
  let c1_i32_15 : BitVec 32 := 1#32
  let v48 : BitVec 32 := Scalar.divsi v46 c1_i32_15
  let v49 : BitVec 32 := Scalar.muli v48 c1_i32_15
  let v50 : BitVec 32 := Scalar.addi v40 v49
  let c1_i32_17 : BitVec 32 := 1#32
  let arg11 : BitVec 32 := Scf.iv v50 c1_i32_17 k0_t4
  let c256_i32_146 : BitVec 32 := 256#32
  let v351 : BitVec 32 := Scalar.muli arg11 c256_i32_146
  let v352 : BitVec 32 := v351
  let v355 : Index := Scalar.indexCast v352
  let c128_151 : Index := 128#32
  ![v355.toNat, 128]

def k0_chk2 (i : grid0.Coords) (v38 : BitVec 32) : Prop :=
  ((k0_t3_loop i v38).OK) ∧
  (∀ k0_t3 : Fin (k0_t3_loop i v38).trips, 256 ∣ (k0_mult3 i v38 k0_t3).toNat) ∧
  (∀ k0_t3 : Fin (k0_t3_loop i v38).trips, ∀ a, (k0_off5 i v38 k0_t3) a + S256x128.size a ≤ S8192x256.size a) ∧
  ((k0_t4_loop i v38).OK) ∧
  (∀ k0_t4 : Fin (k0_t4_loop i v38).trips, 256 ∣ (k0_mult4 i v38 k0_t4).toNat) ∧
  (∀ k0_t4 : Fin (k0_t4_loop i v38).trips, ∀ a, (k0_off6 i v38 k0_t4) a + S256x128.size a ≤ S8192x256.size a)
theorem k0_t3_ok : ∀ (i : grid0.Coords) (v38 : BitVec 32) (k0_hw2 : k0_chk2 i v38), (k0_t3_loop i v38).OK := fun i v38 k0_hw2 => k0_hw2.1
theorem k0_mult3_dvd : ∀ (i : grid0.Coords) (v38 : BitVec 32) (k0_hw2 : k0_chk2 i v38) (k0_t3 : Fin (k0_t3_loop i v38).trips), 256 ∣ (k0_mult3 i v38 k0_t3).toNat := fun i v38 k0_hw2 k0_t3 => k0_hw2.2.1 k0_t3
theorem k0_off5_inb : ∀ (i : grid0.Coords) (v38 : BitVec 32) (k0_hw2 : k0_chk2 i v38) (k0_t3 : Fin (k0_t3_loop i v38).trips), ∀ a, (k0_off5 i v38 k0_t3) a + S256x128.size a ≤ S8192x256.size a := fun i v38 k0_hw2 k0_t3 => k0_hw2.2.2.1 k0_t3
theorem k0_t4_ok : ∀ (i : grid0.Coords) (v38 : BitVec 32) (k0_hw2 : k0_chk2 i v38), (k0_t4_loop i v38).OK := fun i v38 k0_hw2 => k0_hw2.2.2.2.1
theorem k0_mult4_dvd : ∀ (i : grid0.Coords) (v38 : BitVec 32) (k0_hw2 : k0_chk2 i v38) (k0_t4 : Fin (k0_t4_loop i v38).trips), 256 ∣ (k0_mult4 i v38 k0_t4).toNat := fun i v38 k0_hw2 k0_t4 => k0_hw2.2.2.2.2.1 k0_t4
theorem k0_off6_inb : ∀ (i : grid0.Coords) (v38 : BitVec 32) (k0_hw2 : k0_chk2 i v38) (k0_t4 : Fin (k0_t4_loop i v38).trips), ∀ a, (k0_off6 i v38 k0_t4) a + S256x128.size a ≤ S8192x256.size a := fun i v38 k0_hw2 k0_t4 => k0_hw2.2.2.2.2.2 k0_t4

def k0_mult5 (i : grid0.Coords) : BitVec 32 :=
  let arg1 : BitVec 32 := BitVec.ofNat 32 (i 1).val
  let c1_i32_18 : BitVec 32 := 1#32
  let v53 : BitVec 32 := Scalar.subi arg1 c1_i32_18
  let c0_i32_19 : BitVec 32 := 0#32
  let v54 : BitVec 32 := Scalar.maxsi v53 c0_i32_19
  let c256_i32 : BitVec 32 := 256#32
  let v58 : BitVec 32 := Scalar.muli v54 c256_i32
  v58
def k0_off7 (i : grid0.Coords) : Fin 2 → Nat :=
  let arg1 : BitVec 32 := BitVec.ofNat 32 (i 1).val
  let c1_i32_18 : BitVec 32 := 1#32
  let v53 : BitVec 32 := Scalar.subi arg1 c1_i32_18
  let c0_i32_19 : BitVec 32 := 0#32
  let v54 : BitVec 32 := Scalar.maxsi v53 c0_i32_19
  let c256_i32 : BitVec 32 := 256#32
  let v58 : BitVec 32 := Scalar.muli v54 c256_i32
  let v59 : BitVec 32 := v58
  let v62 : Index := Scalar.indexCast v59
  let c0_24 : Index := 0#32
  ![v62.toNat, 0]
def k0_mult6 (i : grid0.Coords) : BitVec 32 :=
  let arg1 : BitVec 32 := BitVec.ofNat 32 (i 1).val
  let c256_i32_50 : BitVec 32 := 256#32
  let v131 : BitVec 32 := Scalar.muli arg1 c256_i32_50
  v131
def k0_off8 (i : grid0.Coords) : Fin 2 → Nat :=
  let arg1 : BitVec 32 := BitVec.ofNat 32 (i 1).val
  let c256_i32_50 : BitVec 32 := 256#32
  let v131 : BitVec 32 := Scalar.muli arg1 c256_i32_50
  let v132 : BitVec 32 := v131
  let v135 : Index := Scalar.indexCast v132
  let c0_55 : Index := 0#32
  ![v135.toNat, 0]
def k0_mult7 (i : grid0.Coords) : BitVec 32 :=
  let arg1 : BitVec 32 := BitVec.ofNat 32 (i 1).val
  let c1_i32_82 : BitVec 32 := 1#32
  let v202 : BitVec 32 := Scalar.subi arg1 c1_i32_82
  let c0_i32_83 : BitVec 32 := 0#32
  let v203 : BitVec 32 := Scalar.maxsi v202 c0_i32_83
  let c256_i32_85 : BitVec 32 := 256#32
  let v207 : BitVec 32 := Scalar.muli v203 c256_i32_85
  v207
def k0_off9 (i : grid0.Coords) : Fin 2 → Nat :=
  let arg1 : BitVec 32 := BitVec.ofNat 32 (i 1).val
  let c1_i32_82 : BitVec 32 := 1#32
  let v202 : BitVec 32 := Scalar.subi arg1 c1_i32_82
  let c0_i32_83 : BitVec 32 := 0#32
  let v203 : BitVec 32 := Scalar.maxsi v202 c0_i32_83
  let c256_i32_85 : BitVec 32 := 256#32
  let v207 : BitVec 32 := Scalar.muli v203 c256_i32_85
  let v208 : BitVec 32 := v207
  let v211 : Index := Scalar.indexCast v208
  let c128_89 : Index := 128#32
  ![v211.toNat, 128]
def k0_mult8 (i : grid0.Coords) : BitVec 32 :=
  let arg1 : BitVec 32 := BitVec.ofNat 32 (i 1).val
  let c256_i32_114 : BitVec 32 := 256#32
  let v280 : BitVec 32 := Scalar.muli arg1 c256_i32_114
  v280
def k0_off10 (i : grid0.Coords) : Fin 2 → Nat :=
  let arg1 : BitVec 32 := BitVec.ofNat 32 (i 1).val
  let c256_i32_114 : BitVec 32 := 256#32
  let v280 : BitVec 32 := Scalar.muli arg1 c256_i32_114
  let v281 : BitVec 32 := v280
  let v284 : Index := Scalar.indexCast v281
  let c128_119 : Index := 128#32
  ![v284.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
abbrev S8192x6144 : Shape := ⟨2, ![8192, 6144]⟩
abbrev S8192x2048 : Shape := ⟨2, ![8192, 2048]⟩
abbrev S16x32 : Shape := ⟨2, ![16, 32]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S_ : Shape := ⟨0, ![]⟩
abbrev S8192 : Shape := ⟨1, ![8192]⟩
abbrev S32 : Shape := ⟨1, ![32]⟩
abbrev S1x32 : Shape := ⟨2, ![1, 32]⟩
abbrev S16x32x256 : Shape := ⟨3, ![16, 32, 256]⟩
abbrev S16x8192 : Shape := ⟨2, ![16, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S16x8192x1 : Shape := ⟨3, ![16, 8192, 1]⟩
abbrev S256x256 : Shape := ⟨2, ![256, 256]⟩
abbrev S8192x256 : Shape := ⟨2, ![8192, 256]⟩
abbrev S2x256x128 : Shape := ⟨3, ![2, 256, 128]⟩
abbrev S1x1 : Shape := ⟨2, ![1, 1]⟩
abbrev S256x1 : Shape := ⟨2, ![256, 1]⟩
abbrev S256x128 : Shape := ⟨2, ![256, 128]⟩
abbrev S256 : Shape := ⟨1, ![256]⟩
abbrev S1x256x1 : Shape := ⟨3, ![1, 256, 1]⟩

abbrev nBuf : Space → Nat
  | .hbm => 82
  | .vmem => 14
  | .smem => 1
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S16x32, .f32⟩
  | .hbm, ⟨3, _⟩ => ⟨S8192x6144, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x16x128, .f32⟩
  | .hbm, ⟨8, _⟩ => ⟨S16x8192x128, .f32⟩
  | .hbm, ⟨9, _⟩ => ⟨S8192x16x128, .f32⟩
  | .hbm, ⟨10, _⟩ => ⟨S16x8192x128, .f32⟩
  | .hbm, ⟨11, _⟩ => ⟨S16x8192x8192, .f32⟩
  | .hbm, ⟨12, _⟩ => ⟨S_, .f32⟩
  | .hbm, ⟨13, _⟩ => ⟨S16x8192x8192, .f32⟩
  | .hbm, ⟨14, _⟩ => ⟨S16x8192x8192, .f32⟩
  | .hbm, ⟨15, _⟩ => ⟨S8192, .i32⟩
  | .hbm, ⟨16, _⟩ => ⟨S_, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S16x32, .i32⟩
  | .hbm, ⟨35, _⟩ => ⟨S32, .i32⟩
  | .hbm, ⟨36, _⟩ => ⟨S1x32, .i32⟩
  | .hbm, ⟨37, _⟩ => ⟨S_, .i32⟩
  | .hbm, ⟨38, _⟩ => ⟨S_, .i32⟩
  | .hbm, ⟨39, _⟩ => ⟨S16x32, .i32⟩
  | .hbm, ⟨40, _⟩ => ⟨S16x32, .i32⟩
  | .hbm, ⟨41, _⟩ => ⟨S16x32, .i32⟩
  | .hbm, ⟨42, _⟩ => ⟨S16x32, .i32⟩
  | .hbm, ⟨43, _⟩ => ⟨S16x32x256, .i32⟩
  | .hbm, ⟨44, _⟩ => ⟨S16x8192, .i32⟩
  | .hbm, ⟨45, _⟩ => ⟨S1x1x8192, .i32⟩
  | .hbm, ⟨46, _⟩ => ⟨S1x8192x1, .i32⟩
  | .hbm, ⟨47, _⟩ => ⟨S1x8192x8192, .i32⟩
  | .hbm, ⟨48, _⟩ => ⟨S1x8192x8192, .i32⟩
  | .hbm, ⟨49, _⟩ => ⟨S1x8192x8192, .i1⟩
  | .hbm, ⟨50, _⟩ => ⟨S1x1x8192, .i32⟩
  | .hbm, ⟨51, _⟩ => ⟨S16x8192x1, .i32⟩
  | .hbm, ⟨52, _⟩ => ⟨S16x8192x8192, .i32⟩
  | .hbm, ⟨53, _⟩ => ⟨S16x8192x8192, .i32⟩
  | .hbm, ⟨54, _⟩ => ⟨S16x8192x8192, .i1⟩
  | .hbm, ⟨55, _⟩ => ⟨S16x8192x8192, .i1⟩
  | .hbm, ⟨56, _⟩ => ⟨S16x8192x8192, .i1⟩
  | .hbm, ⟨57, _⟩ => ⟨S_, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .i1⟩
  | .hbm, ⟨63, _⟩ => ⟨S16x8192x8192, .f32⟩
  | .hbm, ⟨64, _⟩ => ⟨S16x8192x8192, .f32⟩
  | .hbm, ⟨65, _⟩ => ⟨S16x8192x8192, .f32⟩
  | .hbm, ⟨66, _⟩ => ⟨S16x8192x8192, .f32⟩
  | .hbm, ⟨67, _⟩ => ⟨S16x8192x8192, .f32⟩
  | .hbm, ⟨68, _⟩ => ⟨S16x8192x8192, .f32⟩
  | .hbm, ⟨69, _⟩ => ⟨S16x8192x8192, .f32⟩
  | .hbm, ⟨70, _⟩ => ⟨S16x8192x8192, .f32⟩
  | .hbm, ⟨71, _⟩ => ⟨S_, .f32⟩
  | .hbm, ⟨72, _⟩ => ⟨S_, .f32⟩
  | .hbm, ⟨73, _⟩ => ⟨S16x8192x8192, .f32⟩
  | .hbm, ⟨74, _⟩ => ⟨S16x8192x8192, .f32⟩
  | .hbm, ⟨75, _⟩ => ⟨S_, .f32⟩
  | .hbm, ⟨76, _⟩ => ⟨S16x8192, .f32⟩
  | .hbm, ⟨77, _⟩ => ⟨S16x8192x1, .f32⟩
  | .hbm, ⟨78, _⟩ => ⟨S16x8192x128, .f32⟩
  | .hbm, ⟨79, _⟩ => ⟨S8192x2048, .bf16⟩
  | .hbm, ⟨80, _⟩ => ⟨S8192x2048, .f32⟩
  | .hbm, ⟨81, _⟩ => ⟨S8192x2048, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S256x256, .bf16⟩
  | .local _ .vmem, ⟨5, _⟩ => ⟨S256x256, .bf16⟩
  | .local _ .vmem, ⟨6, _⟩ => ⟨S2x256x128, .f32⟩
  | .local _ .vmem, ⟨7, _⟩ => ⟨S2x256x128, .f32⟩
  | .local _ .vmem, ⟨8, _⟩ => ⟨S256x256, .bf16⟩
  | .local _ .vmem, ⟨9, _⟩ => ⟨S256x256, .bf16⟩
  | .local _ .vmem, ⟨10, _⟩ => ⟨S8192x256, .f32⟩
  | .local _ .vmem, ⟨11, _⟩ => ⟨S8192x256, .f32⟩
  | .local _ .vmem, ⟨12, _⟩ => ⟨S8192x256, .f32⟩
  | .local _ .vmem, ⟨13, _⟩ => ⟨S8192x256, .f32⟩
  | .local _ .smem, ⟨0, _⟩ => ⟨S16x32, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_v31 : Ref sig .tc := ⟨.hbm, 70, rfl⟩
abbrev main_cst_1 : Ref sig .tc := ⟨.hbm, 71, rfl⟩
abbrev main_call3_v0 : Ref sig .tc := ⟨.hbm, 72, rfl⟩
abbrev main_call3_v1 : Ref sig .tc := ⟨.hbm, 73, rfl⟩
abbrev main_v32 : Ref sig .tc := ⟨.hbm, 74, rfl⟩
abbrev main_cst_2 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36_0 : Ref sig .tc := ⟨.hbm, 79, rfl⟩
abbrev main_v36_1 : Ref sig .tc := ⟨.hbm, 80, rfl⟩
abbrev main_v36_2 : Ref sig .tc := ⟨.hbm, 81, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F] [Named F]

def κ : String → Option EReal := fun
  | "mask" => some ⊥
  | _ => none

abbrev grid0 : Pipeline.Grid := ⟨2, ![8, 32], ![false, false]⟩

def k0_off1 (i : grid0.Coords) : Fin 2 → Nat :=
  let c2_i32 : BitVec 32 := 2#32
  let arg0 : BitVec 32 := BitVec.ofNat 32 (i 0).val
  let v13 : BitVec 32 := Scalar.muli c2_i32 arg0
  let c0_i32_1 : BitVec 32 := 0#32
  let v14 : BitVec 32 := Scalar.addi v13 c0_i32_1
  let v15 : Index := Scalar.indexCast v14
  let arg1 : BitVec 32 := BitVec.ofNat 32 (i 1).val
  let v16 : Index := Scalar.indexCast arg1
  ![v15.toNat, v16.toNat]
@[reducible] def k0_t1_loop (i : grid0.Coords) (v18 : BitVec 32) : Scf.Loop 32 :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32 : BitVec 32 := 1#32
  let v24 : BitVec 32 := Scalar.subi arg1 c1_i32
  let v25 : BitVec 32 := Scalar.maxsi v24 v20
  let v26 : BitVec 32 := Scalar.subi v25 v20
  let c1_i32_5 : BitVec 32 := 1#32
  let v28 : BitVec 32 := Scalar.divsi v26 c1_i32_5
  let v29 : BitVec 32 := Scalar.muli v28 c1_i32_5
  let v30 : BitVec 32 := Scalar.addi v20 v29
  let c1_i32_6 : BitVec 32 := 1#32
  ⟨v20, v30, c1_i32_6⟩

def k0_mult1 (i : grid0.Coords) (v18 : BitVec 32) (k0_t1 : Fin (k0_t1_loop i v18).trips) : BitVec 32 :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32_6 : BitVec 32 := 1#32
  let arg11 : BitVec 32 := Scf.iv v20 c1_i32_6 k0_t1
  let c256_i32_146 : BitVec 32 := 256#32
  let v351 : BitVec 32 := Scalar.muli arg11 c256_i32_146
  v351
def k0_off2 (i : grid0.Coords) (v18 : BitVec 32) (k0_t1 : Fin (k0_t1_loop i v18).trips) : Fin 2 → Nat :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32_6 : BitVec 32 := 1#32
  let arg11 : BitVec 32 := Scf.iv v20 c1_i32_6 k0_t1
  let c256_i32_146 : BitVec 32 := 256#32
  let v351 : BitVec 32 := Scalar.muli arg11 c256_i32_146
  let v352 : BitVec 32 := v351
  let v355 : Index := Scalar.indexCast v352
  let c0_151 : Index := 0#32
  ![v355.toNat, 0]
@[reducible] def k0_t2_loop (i : grid0.Coords) (v18 : BitVec 32) : Scf.Loop 32 :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32 : BitVec 32 := 1#32
  let v24 : BitVec 32 := Scalar.subi arg1 c1_i32
  let v25 : BitVec 32 := Scalar.maxsi v24 v20
  let v26 : BitVec 32 := Scalar.subi v25 v20
  let c1_i32_5 : BitVec 32 := 1#32
  let v28 : BitVec 32 := Scalar.divsi v26 c1_i32_5
  let v29 : BitVec 32 := Scalar.muli v28 c1_i32_5
  let v30 : BitVec 32 := Scalar.addi v20 v29
  let v27 : BitVec 32 := Scalar.addi v20 v26
  let c1_i32_7 : BitVec 32 := 1#32
  ⟨v30, v27, c1_i32_7⟩
def k0_mult2 (i : grid0.Coords) (v18 : BitVec 32) (k0_t2 : Fin (k0_t2_loop i v18).trips) : BitVec 32 :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32 : BitVec 32 := 1#32
  let v24 : BitVec 32 := Scalar.subi arg1 c1_i32
  let v25 : BitVec 32 := Scalar.maxsi v24 v20
  let v26 : BitVec 32 := Scalar.subi v25 v20
  let c1_i32_5 : BitVec 32 := 1#32
  let v28 : BitVec 32 := Scalar.divsi v26 c1_i32_5
  let v29 : BitVec 32 := Scalar.muli v28 c1_i32_5
  let v30 : BitVec 32 := Scalar.addi v20 v29
  let c1_i32_7 : BitVec 32 := 1#32
  let arg11 : BitVec 32 := Scf.iv v30 c1_i32_7 k0_t2
  let c256_i32_146 : BitVec 32 := 256#32
  let v351 : BitVec 32 := Scalar.muli arg11 c256_i32_146
  v351
def k0_off3 (i : grid0.Coords) (v18 : BitVec 32) (k0_t2 : Fin (k0_t2_loop i v18).trips) : Fin 2 → Nat :=
  let arg1 : BitVec 32 := BitVec.ofNat 32 (i 1).val
  let c0_i32_2 : BitVec 32 := 0#32
  let v19 : BitVec 32 := Scalar.maxsi c0_i32_2 v18
  let v20 : BitVec 32 := Scalar.minsi arg1 v19
  let c1_i32 : BitVec 32 := 1#32
  let v24 : BitVec 32 := Scalar.subi arg1 c1_i32
  let v25 : BitVec 32 := Scalar.maxsi v24 v20
  let v26 : BitVec 32 := Scalar.subi v25 v20
  let c1_i32_5 : BitVec 32 := 1#32
  let v28 : BitVec 32 := Scalar.divsi v26 c1_i32_5
  let v29 : BitVec 32 := Scalar.muli v28 c1_i32_5
  let v30 : BitVec 32 := Scalar.addi v20 v29
  let c1_i32_7 : BitVec 32 := 1#32
  let arg11 : BitVec 32 := Scf.iv v30 c1_i32_7 k0_t2
  let c256_i32_146 : BitVec 32 := 256#32
  let v351 : BitVec 32 := Scalar.muli arg11 c256_i32_146
  let v352 : BitVec 32 := v351
  let v355 : Index := Scalar.indexCast v352
  let c0_151 : Index := 0#32
  ![v355.toNat, 0]

def k0_chk1 (i : grid0.Coords) (v18 : BitVec 32) : Prop :=
  ((k0_t1_loop i v18).OK) ∧
  (∀ k0_t1 : Fin (k0_t1_loop i v18).trips, 256 ∣ (k0_mult1 i v18 k0_t1).toNat) ∧
  (∀ k0_t1 : Fin (k0_t1_loop i v18).trips, ∀ a, (k0_off2 i v18 k0_t1) a + S256x128.size a ≤ S8192x256.size a) ∧
  ((k0_t2_loop i v18).OK) ∧
  (∀ k0_t2 : Fin (k0_t2_loop i v18).trips, 256 ∣ (k0_mult2 i v18 k0_t2).toNat) ∧
  (∀ k0_t2 : Fin (k0_t2_loop i v18).trips, ∀ a, (k0_off3 i v18 k0_t2) a + S256x128.size a ≤ S8192x256.size a)
theorem k0_t1_ok : ∀ (i : grid0.Coords) (v18 : BitVec 32) (k0_hw1 : k0_chk1 i v18), (k0_t1_loop i v18).OK := fun i v18 k0_hw1 => k0_hw1.1
theorem k0_mult1_dvd : ∀ (i : grid0.Coords) (v18 : BitVec 32) (k0_hw1 : k0_chk1 i v18) (k0_t1 : Fin (k0_t1_loop i v18).trips), 256 ∣ (k0_mult1 i v18 k0_t1).toNat := fun i v18 k0_hw1 k0_t1 => k0_hw1.2.1 k0_t1
theorem k0_off2_inb : ∀ (i : grid0.Coords) (v18 : BitVec 32) (k0_hw1 : k0_chk1 i v18) (k0_t1 : Fin (k0_t1_loop i v18).trips), ∀ a, (k0_off2 i v18 k0_t1) a + S256x128.size a ≤ S8192x256.size a := fun i v18 k0_hw1 k0_t1 => k0_hw1.2.2.1 k0_t1
theorem k0_t2_ok : ∀ (i : grid0.Coords) (v18 : BitVec 32) (k0_hw1 : k0_chk1 i v18), (k0_t2_loop i v18).OK := fun i v18 k0_hw1 => k0_hw1.2.2.2.1
theorem k0_mult2_dvd : ∀ (i : grid0.Coords) (v18 : BitVec 32) (k0_hw1 : k0_chk1 i v18) (k0_t2 : Fin (k0_t2_loop i v18).trips), 256 ∣ (k0_mult2 i v18 k0_t2).toNat := fun i v18 k0_hw1 k0_t2 => k0_hw1.2.2.2.2.1 k0_t2
theorem k0_off3_inb : ∀ (i : grid0.Coords) (v18 : BitVec 32) (k0_hw1 : k0_chk1 i v18) (k0_t2 : Fin (k0_t2_loop i v18).trips), ∀ a, (k0_off3 i v18 k0_t2) a + S256x128.size a ≤ S8192x256.size a := fun i v18 k0_hw1 k0_t2 => k0_hw1.2.2.2.2.2 k0_t2

def k0_off4 (i : grid0.Coords) : Fin 2 → Nat :=
  let c2_i32_8 : BitVec 32 := 2#32
  let arg0 : BitVec 32 := BitVec.ofNat 32 (i 0).val
  let v33 : BitVec 32 := Scalar.muli c2_i32_8 arg0
  let c1_i32_9 : BitVec 32 := 1#32
  let v34 : BitVec 32 := Scalar.addi v33 c1_i32_9
  let v35 : Index := Scalar.indexCast v34
  let arg1 : BitVec 32 := BitVec.ofNat 32 (i 1).val
  let v36 : Index := Scalar.indexCast arg1
  ![v35.toNat, v36.toNat]
@[reducible] def k0_t3_loop (i : grid0.Coords) (v38 : BitVec 32) : Scf.Loop 32 :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_14 : BitVec 32 := 1#32
  let v44 : BitVec 32 := Scalar.subi arg1 c1_i32_14
  let v45 : BitVec 32 := Scalar.maxsi v44 v40
  let v46 : BitVec 32 := Scalar.subi v45 v40
  let c1_i32_15 : BitVec 32 := 1#32
  let v48 : BitVec 32 := Scalar.divsi v46 c1_i32_15
  let v49 : BitVec 32 := Scalar.muli v48 c1_i32_15
  let v50 : BitVec 32 := Scalar.addi v40 v49
  let c1_i32_16 : BitVec 32 := 1#32
  ⟨v40, v50, c1_i32_16⟩

def k0_mult3 (i : grid0.Coords) (v38 : BitVec 32) (k0_t3 : Fin (k0_t3_loop i v38).trips) : BitVec 32 :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_16 : BitVec 32 := 1#32
  let arg11 : BitVec 32 := Scf.iv v40 c1_i32_16 k0_t3
  let c256_i32_146 : BitVec 32 := 256#32
  let v351 : BitVec 32 := Scalar.muli arg11 c256_i32_146
  v351
def k0_off5 (i : grid0.Coords) (v38 : BitVec 32) (k0_t3 : Fin (k0_t3_loop i v38).trips) : Fin 2 → Nat :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_16 : BitVec 32 := 1#32
  let arg11 : BitVec 32 := Scf.iv v40 c1_i32_16 k0_t3
  let c256_i32_146 : BitVec 32 := 256#32
  let v351 : BitVec 32 := Scalar.muli arg11 c256_i32_146
  let v352 : BitVec 32 := v351
  let v355 : Index := Scalar.indexCast v352
  let c128_151 : Index := 128#32
  ![v355.toNat, 128]
@[reducible] def k0_t4_loop (i : grid0.Coords) (v38 : BitVec 32) : Scf.Loop 32 :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_14 : BitVec 32 := 1#32
  let v44 : BitVec 32 := Scalar.subi arg1 c1_i32_14
  let v45 : BitVec 32 := Scalar.maxsi v44 v40
  let v46 : BitVec 32 := Scalar.subi v45 v40
  let c1_i32_15 : BitVec 32 := 1#32
  let v48 : BitVec 32 := Scalar.divsi v46 c1_i32_15
  let v49 : BitVec 32 := Scalar.muli v48 c1_i32_15
  let v50 : BitVec 32 := Scalar.addi v40 v49
  let v47 : BitVec 32 := Scalar.addi v40 v46
  let c1_i32_17 : BitVec 32 := 1#32
  ⟨v50, v47, c1_i32_17⟩
def k0_mult4 (i : grid0.Coords) (v38 : BitVec 32) (k0_t4 : Fin (k0_t4_loop i v38).trips) : BitVec 32 :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_14 : BitVec 32 := 1#32
  let v44 : BitVec 32 := Scalar.subi arg1 c1_i32_14
  let v45 : BitVec 32 := Scalar.maxsi v44 v40
  let v46 : BitVec 32 := Scalar.subi v45 v40
  let c1_i32_15 : BitVec 32 := 1#32
  let v48 : BitVec 32 := Scalar.divsi v46 c1_i32_15
  let v49 : BitVec 32 := Scalar.muli v48 c1_i32_15
  let v50 : BitVec 32 := Scalar.addi v40 v49
  let c1_i32_17 : BitVec 32 := 1#32
  let arg11 : BitVec 32 := Scf.iv v50 c1_i32_17 k0_t4
  let c256_i32_146 : BitVec 32 := 256#32
  let v351 : BitVec 32 := Scalar.muli arg11 c256_i32_146
  v351
def k0_off6 (i : grid0.Coords) (v38 : BitVec 32) (k0_t4 : Fin (k0_t4_loop i v38).trips) : Fin 2 → Nat :=
  let arg1 : BitVec 32 := BitVec.ofNat 32 (i 1).val
  let c0_i32_10 : BitVec 32 := 0#32
  let v39 : BitVec 32 := Scalar.maxsi c0_i32_10 v38
  let v40 : BitVec 32 := Scalar.minsi arg1 v39
  let c1_i32_14 : BitVec 32 := 1#32
  let v44 : BitVec 32 := Scalar.subi arg1 c1_i32_14
  let v45 : BitVec 32 := Scalar.maxsi v44 v40
  let v46 : BitVec 32 := Scalar.subi v45 v40
  let c1_i32_15 : BitVec 32 := 1#32
  let v48 : BitVec 32 := Scalar.divsi v46 c1_i32_15
  let v49 : BitVec 32 := Scalar.muli v48 c1_i32_15
  let v50 : BitVec 32 := Scalar.addi v40 v49
  let c1_i32_17 : BitVec 32 := 1#32
  let arg11 : BitVec 32 := Scf.iv v50 c1_i32_17 k0_t4
  let c256_i32_146 : BitVec 32 := 256#32
  let v351 : BitVec 32 := Scalar.muli arg11 c256_i32_146
  let v352 : BitVec 32 := v351
  let v355 : Index := Scalar.indexCast v352
  let c128_151 : Index := 128#32
  ![v355.toNat, 128]

def k0_chk2 (i : grid0.Coords) (v38 : BitVec 32) : Prop :=
  ((k0_t3_loop i v38).OK) ∧
  (∀ k0_t3 : Fin (k0_t3_loop i v38).trips, 256 ∣ (k0_mult3 i v38 k0_t3).toNat) ∧
  (∀ k0_t3 : Fin (k0_t3_loop i v38).trips, ∀ a, (k0_off5 i v38 k0_t3) a + S256x128.size a ≤ S8192x256.size a) ∧
  ((k0_t4_loop i v38).OK) ∧
  (∀ k0_t4 : Fin (k0_t4_loop i v38).trips, 256 ∣ (k0_mult4 i v38 k0_t4).toNat) ∧
  (∀ k0_t4 : Fin (k0_t4_loop i v38).trips, ∀ a, (k0_off6 i v38 k0_t4) a + S256x128.size a ≤ S8192x256.size a)
theorem k0_t3_ok : ∀ (i : grid0.Coords) (v38 : BitVec 32) (k0_hw2 : k0_chk2 i v38), (k0_t3_loop i v38).OK := fun i v38 k0_hw2 => k0_hw2.1
theorem k0_mult3_dvd : ∀ (i : grid0.Coords) (v38 : BitVec 32) (k0_hw2 : k0_chk2 i v38) (k0_t3 : Fin (k0_t3_loop i v38).trips), 256 ∣ (k0_mult3 i v38 k0_t3).toNat := fun i v38 k0_hw2 k0_t3 => k0_hw2.2.1 k0_t3
theorem k0_off5_inb : ∀ (i : grid0.Coords) (v38 : BitVec 32) (k0_hw2 : k0_chk2 i v38) (k0_t3 : Fin (k0_t3_loop i v38).trips), ∀ a, (k0_off5 i v38 k0_t3) a + S256x128.size a ≤ S8192x256.size a := fun i v38 k0_hw2 k0_t3 => k0_hw2.2.2.1 k0_t3
theorem k0_t4_ok : ∀ (i : grid0.Coords) (v38 : BitVec 32) (k0_hw2 : k0_chk2 i v38), (k0_t4_loop i v38).OK := fun i v38 k0_hw2 => k0_hw2.2.2.2.1
theorem k0_mult4_dvd : ∀ (i : grid0.Coords) (v38 : BitVec 32) (k0_hw2 : k0_chk2 i v38) (k0_t4 : Fin (k0_t4_loop i v38).trips), 256 ∣ (k0_mult4 i v38 k0_t4).toNat := fun i v38 k0_hw2 k0_t4 => k0_hw2.2.2.2.2.1 k0_t4
theorem k0_off6_inb : ∀ (i : grid0.Coords) (v38 : BitVec 32) (k0_hw2 : k0_chk2 i v38) (k0_t4 : Fin (k0_t4_loop i v38).trips), ∀ a, (k0_off6 i v38 k0_t4) a + S256x128.size a ≤ S8192x256.size a := fun i v38 k0_hw2 k0_t4 => k0_hw2.2.2.2.2.2 k0_t4

def k0_mult5 (i : grid0.Coords) : BitVec 32 :=
  let arg1 : BitVec 32 := BitVec.ofNat 32 (i 1).val
  let c1_i32_18 : BitVec 32 := 1#32
  let v53 : BitVec 32 := Scalar.subi arg1 c1_i32_18
  let c0_i32_19 : BitVec 32 := 0#32
  let v54 : BitVec 32 := Scalar.maxsi v53 c0_i32_19
  let c256_i32 : BitVec 32 := 256#32
  let v58 : BitVec 32 := Scalar.muli v54 c256_i32
  v58
def k0_off7 (i : grid0.Coords) : Fin 2 → Nat :=
  let arg1 : BitVec 32 := BitVec.ofNat 32 (i 1).val
  let c1_i32_18 : BitVec 32 := 1#32
  let v53 : BitVec 32 := Scalar.subi arg1 c1_i32_18
  let c0_i32_19 : BitVec 32 := 0#32
  let v54 : BitVec 32 := Scalar.maxsi v53 c0_i32_19
  let c256_i32 : BitVec 32 := 256#32
  let v58 : BitVec 32 := Scalar.muli v54 c256_i32
  let v59 : BitVec 32 := v58
  let v62 : Index := Scalar.indexCast v59
  let c0_24 : Index := 0#32
  ![v62.toNat, 0]
def k0_mult6 (i : grid0.Coords) : BitVec 32 :=
  let arg1 : BitVec 32 := BitVec.ofNat 32 (i 1).val
  let c256_i32_50 : BitVec 32 := 256#32
  let v131 : BitVec 32 := Scalar.muli arg1 c256_i32_50
  v131
def k0_off8 (i : grid0.Coords) : Fin 2 → Nat :=
  let arg1 : BitVec 32 := BitVec.ofNat 32 (i 1).val
  let c256_i32_50 : BitVec 32 := 256#32
  let v131 : BitVec 32 := Scalar.muli arg1 c256_i32_50
  let v132 : BitVec 32 := v131
  let v135 : Index := Scalar.indexCast v132
  let c0_55 : Index := 0#32
  ![v135.toNat, 0]
def k0_mult7 (i : grid0.Coords) : BitVec 32 :=
  let arg1 : BitVec 32 := BitVec.ofNat 32 (i 1).val
  let c1_i32_82 : BitVec 32 := 1#32
  let v202 : BitVec 32 := Scalar.subi arg1 c1_i32_82
  let c0_i32_83 : BitVec 32 := 0#32
  let v203 : BitVec 32 := Scalar.maxsi v202 c0_i32_83
  let c256_i32_85 : BitVec 32 := 256#32
  let v207 : BitVec 32 := Scalar.muli v203 c256_i32_85
  v207
def k0_off9 (i : grid0.Coords) : Fin 2 → Nat :=
  let arg1 : BitVec 32 := BitVec.ofNat 32 (i 1).val
  let c1_i32_82 : BitVec 32 := 1#32
  let v202 : BitVec 32 := Scalar.subi arg1 c1_i32_82
  let c0_i32_83 : BitVec 32 := 0#32
  let v203 : BitVec 32 := Scalar.maxsi v202 c0_i32_83
  let c256_i32_85 : BitVec 32 := 256#32
  let v207 : BitVec 32 := Scalar.muli v203 c256_i32_85
  let v208 : BitVec 32 := v207
  let v211 : Index := Scalar.indexCast v208
  let c128_89 : Index := 128#32
  ![v211.toNat, 128]
def k0_mult8 (i : grid0.Coords) : BitVec 32 :=
  let arg1 : BitVec 32 := BitVec.ofNat 32 (i 1).val
  let c256_i32_114 : BitVec 32 := 256#32
  let v280 : BitVec 32 := Scalar.muli arg1 c256_i32_114
  v280
def k0_off10 (i : grid0.Coords) : Fin 2 → Nat :=
  let arg1 : BitVec 32 := BitVec.ofNat 32 (i 1).val
  let c256_i32_114 : BitVec 32 := 256#32
  let v280 : BitVec 32 := Scalar.muli arg1 c256_i32_114
  let v281 : BitVec 32 := v280
  let v284 : Index := Scalar.indexCast v281
  let c128_119 : Index := 128#32
  ![v284.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x6144 : Shape := ⟨2, ![8192, 6144]⟩
abbrev S8192x2048 : Shape := ⟨2, ![8192, 2048]⟩
abbrev S16x32 : Shape := ⟨2, ![16, 32]⟩
abbrev S8192 : Shape := ⟨1, ![8192]⟩
abbrev S_ : Shape := ⟨0, ![]⟩
abbrev S32 : Shape := ⟨1, ![32]⟩
abbrev S1x32 : Shape := ⟨2, ![1, 32]⟩
abbrev S16x32x256 : Shape := ⟨3, ![16, 32, 256]⟩
abbrev S16x8192 : Shape := ⟨2, ![16, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S16x8192x1 : Shape := ⟨3, ![16, 8192, 1]⟩
abbrev S16x8192x8192 : Shape := ⟨3, ![16, 8192, 8192]⟩
abbrev S8192x16x128 : Shape := ⟨3, ![8192, 16, 128]⟩
abbrev S16x8192x128 : Shape := ⟨3, ![16, 8192, 128]⟩
abbrev S16x128x8192 : Shape := ⟨3, ![16, 128, 8192]⟩

abbrev nBuf : Space → Nat
  | .hbm => 211
  | .vmem => 0
  | .smem => 0
  | _ => 0

abbrev hbmTy0_0 (i : Nat) : BufTy := match i % 128 with
  | 0 => ⟨S8192x6144, .bf16⟩
  | 1 => ⟨S8192x2048, .bf16⟩
  | 2 => ⟨S16x32, .f32⟩
  | 3 => ⟨S8192x6144, .f32⟩
  | 4 => ⟨S8192x2048, .f32⟩
  | 5 => ⟨S8192x2048, .f32⟩
  | 6 => ⟨S8192x2048, .f32⟩
  | 7 => ⟨S8192, .i32⟩
  | 8 => ⟨S_, .i32⟩
  | 9 => ⟨S_, .i32⟩
  | 10 => ⟨S8192, .i32⟩
  | 11 => ⟨S8192, .i32⟩
  | 12 => ⟨S8192, .i32⟩
  | 13 => ⟨S_, .i32⟩
  | 14 => ⟨S8192, .i32⟩
  | 15 => ⟨S8192, .i1⟩
  | 16 => ⟨S8192, .i32⟩
  | 17 => ⟨S8192, .i32⟩
  | 18 => ⟨S_, .i32⟩
  | 19 => ⟨S8192, .i32⟩
  | 20 => ⟨S8192, .i1⟩
  | 21 => ⟨S8192, .i1⟩
  | 22 => ⟨S_, .i32⟩
  | 23 => ⟨S8192, .i32⟩
  | 24 => ⟨S8192, .i32⟩
  | 25 => ⟨S8192, .i32⟩
  | 26 => ⟨S16x32, .i32⟩
  | 27 => ⟨S32, .i32⟩
  | 28 => ⟨S1x32, .i32⟩
  | 29 => ⟨S_, .i32⟩
  | 30 => ⟨S_, .i32⟩
  | 31 => ⟨S16x32, .i32⟩
  | 32 => ⟨S16x32, .i32⟩
  | 33 => ⟨S16x32, .i32⟩
  | 34 => ⟨S16x32, .i32⟩
  | 35 => ⟨S16x32x256, .i32⟩
  | 36 => ⟨S16x8192, .i32⟩
  | 37 => ⟨S1x1x8192, .i32⟩
  | 38 => ⟨S1x8192x1, .i32⟩
  | 39 => ⟨S1x8192x8192, .i32⟩
  | 40 => ⟨S1x8192x8192, .i32⟩
  | 41 => ⟨S1x8192x8192, .i1⟩
  | 42 => ⟨S1x1x8192, .i32⟩
  | 43 => ⟨S16x8192x1, .i32⟩
  | 44 => ⟨S16x8192x8192, .i32⟩
  | 45 => ⟨S16x8192x8192, .i32⟩
  | 46 => ⟨S16x8192x8192, .i1⟩
  | 47 => ⟨S16x8192x8192, .i1⟩
  | 48 => ⟨S16x8192x8192, .i1⟩
  | 49 => ⟨S8192x16x128, .f32⟩
  | 50 => ⟨S16x8192x128, .f32⟩
  | 51 => ⟨S8192x16x128, .f32⟩
  | 52 => ⟨S16x8192x128, .f32⟩
  | 53 => ⟨S8192x16x128, .f32⟩
  | 54 => ⟨S16x8192x128, .f32⟩
  | 55 => ⟨S16x8192x8192, .f32⟩
  | 56 => ⟨S_, .f32⟩
  | 57 => ⟨S16x8192x8192, .f32⟩
  | 58 => ⟨S16x8192x8192, .f32⟩
  | 59 => ⟨S_, .f32⟩
  | 60 => ⟨S16x8192x8192, .f32⟩
  | 61 => ⟨S16x8192x8192, .f32⟩
  | 62 => ⟨S16x8192x8192, .f32⟩
  | 63 => ⟨S16x8192x8192, .f32⟩
  | 64 => ⟨S16x8192x8192, .i1⟩
  | 65 => ⟨S16x8192x8192, .f32⟩
  | 66 => ⟨S16x8192x8192, .f32⟩
  | 67 => ⟨S16x8192x8192, .f32⟩
  | 68 => ⟨S16x8192x8192, .f32⟩
  | 69 => ⟨S16x8192x8192, .f32⟩
  | 70 => ⟨S16x8192x8192, .f32⟩
  | 71 => ⟨S16x8192x8192, .f32⟩
  | 72 => ⟨S16x8192x8192, .f32⟩
  | 73 => ⟨S_, .f32⟩
  | 74 => ⟨S16x8192x8192, .f32⟩
  | 75 => ⟨S16x8192x8192, .i1⟩
  | 76 => ⟨S_, .f32⟩
  | 77 => ⟨S16x8192x8192, .f32⟩
  | 78 => ⟨S16x8192x8192, .f32⟩
  | 79 => ⟨S_, .f32⟩
  | 80 => ⟨S16x8192x8192, .f32⟩
  | 81 => ⟨S16x8192x8192, .i1⟩
  | 82 => ⟨S_, .f32⟩
  | 83 => ⟨S16x8192x8192, .f32⟩
  | 84 => ⟨S16x8192x8192, .f32⟩
  | 85 => ⟨S16x8192x8192, .f32⟩
  | 86 => ⟨S16x8192x8192, .f32⟩
  | 87 => ⟨S_, .f32⟩
  | 88 => ⟨S_, .f32⟩
  | 89 => ⟨S_, .i1⟩
  | 90 => ⟨S_, .f32⟩
  | 91 => ⟨S_, .f32⟩
  | 92 => ⟨S_, .f32⟩
  | 93 => ⟨S_, .f32⟩
  | 94 => ⟨S16x8192x8192, .f32⟩
  | 95 => ⟨S16x8192x8192, .i1⟩
  | 96 => ⟨S_, .f32⟩
  | 97 => ⟨S16x8192x8192, .f32⟩
  | 98 => ⟨S16x8192x8192, .f32⟩
  | 99 => ⟨S16x8192x8192, .f32⟩
  | 100 => ⟨S16x8192x8192, .f32⟩
  | 101 => ⟨S16x8192x8192, .f32⟩
  | 102 => ⟨S_, .f32⟩
  | 103 => ⟨S16x8192x8192, .f32⟩
  | 104 => ⟨S16x8192x8192, .f32⟩
  | 105 => ⟨S16x8192x8192, .f32⟩
  | 106 => ⟨S_, .f32⟩
  | 107 => ⟨S_, .f32⟩
  | 108 => ⟨S16x8192x8192, .f32⟩
  | 109 => ⟨S16x8192x8192, .f32⟩
  | 110 => ⟨S_, .f32⟩
  | 111 => ⟨S16x8192x8192, .f32⟩
  | 112 => ⟨S_, .f32⟩
  | 113 => ⟨S_, .f32⟩
  | 114 => ⟨S16x8192x8192, .f32⟩
  | 115 => ⟨S16x8192x8192, .f32⟩
  | 116 => ⟨S16x8192x8192, .f32⟩
  | 117 => ⟨S_, .f32⟩
  | 118 => ⟨S16x8192x8192, .f32⟩
  | 119 => ⟨S16x8192x8192, .f32⟩
  | 120 => ⟨S16x8192x8192, .f32⟩
  | 121 => ⟨S16x8192x8192, .f32⟩
  | 122 => ⟨S16x8192x8192, .i1⟩
  | 123 => ⟨S16x8192x8192, .f32⟩
  | 124 => ⟨S16x8192x8192, .f32⟩
  | 125 => ⟨S16x8192x8192, .f32⟩
  | 126 => ⟨S16x8192x8192, .f32⟩
  | 127 => ⟨S16x8192x8192, .f32⟩
  | _ => ⟨S8192x6144, .bf16⟩

abbrev hbmTy0_1 (i : Nat) : BufTy := match i % 128 with
  | 0 => ⟨S16x8192x8192, .f32⟩
  | 1 => ⟨S16x8192x8192, .f32⟩
  | 2 => ⟨S16x8192x8192, .f32⟩
  | 3 => ⟨S_, .f32⟩
  | 4 => ⟨S16x8192x8192, .f32⟩
  | 5 => ⟨S16x8192x8192, .i1⟩
  | 6 => ⟨S_, .f32⟩
  | 7 => ⟨S16x8192x8192, .f32⟩
  | 8 => ⟨S16x8192x8192, .f32⟩
  | 9 => ⟨S_, .f32⟩
  | 10 => ⟨S16x8192x8192, .f32⟩
  | 11 => ⟨S16x8192x8192, .i1⟩
  | 12 => ⟨S_, .f32⟩
  | 13 => ⟨S16x8192x8192, .f32⟩
  | 14 => ⟨S16x8192x8192, .f32⟩
  | 15 => ⟨S16x8192x8192, .f32⟩
  | 16 => ⟨S16x8192x8192, .f32⟩
  | 17 => ⟨S_, .f32⟩
  | 18 => ⟨S_, .f32⟩
  | 19 => ⟨S_, .i1⟩
  | 20 => ⟨S_, .f32⟩
  | 21 => ⟨S_, .f32⟩
  | 22 => ⟨S_, .f32⟩
  | 23 => ⟨S_, .f32⟩
  | 24 => ⟨S16x8192x8192, .f32⟩
  | 25 => ⟨S16x8192x8192, .i1⟩
  | 26 => ⟨S_, .f32⟩
  | 27 => ⟨S16x8192x8192, .f32⟩
  | 28 => ⟨S16x8192x8192, .f32⟩
  | 29 => ⟨S16x8192x8192, .f32⟩
  | 30 => ⟨S16x8192x8192, .f32⟩
  | 31 => ⟨S16x8192x8192, .f32⟩
  | 32 => ⟨S_, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S_, .f32⟩
  | 39 => ⟨S_, .f32⟩
  | 40 => ⟨S16x8192x8192, .f32⟩
  | 41 => ⟨S16x8192x8192, .f32⟩
  | 42 => ⟨S_, .f32⟩
  | 43 => ⟨S16x8192x8192, .f32⟩
  | 44 => ⟨S16x8192x128, .f32⟩
  | 45 => ⟨S8192x16x128, .f32⟩
  | 46 => ⟨S8192x2048, .f32⟩
  | 47 => ⟨S8192x2048, .f32⟩
  | 48 => ⟨S8192x16x128, .f32⟩
  | 49 => ⟨S16x8192x128, .f32⟩
  | 50 => ⟨S16x128x8192, .f32⟩
  | 51 => ⟨S16x8192x128, .f32⟩
  | 52 => ⟨S16x8192x8192, .f32⟩
  | 53 => ⟨S_, .f32⟩
  | 54 => ⟨S16x8192x8192, .f32⟩
  | 55 => ⟨S16x8192x8192, .f32⟩
  | 56 => ⟨S16x8192x8192, .f32⟩
  | 57 => ⟨S16x8192x8192, .f32⟩
  | 58 => ⟨S16x8192x8192, .f32⟩
  | 59 => ⟨S16x8192x8192, .f32⟩
  | 60 => ⟨S16x8192x8192, .f32⟩
  | 61 => ⟨S_, .f32⟩
  | 62 => ⟨S_, .f32⟩
  | 63 => ⟨S16x8192x8192, .f32⟩
  | 64 => ⟨S16x8192x8192, .f32⟩
  | 65 => ⟨S_, .f32⟩
  | 66 => ⟨S16x8192x8192, .f32⟩
  | 67 => ⟨S16x8192x8192, .f32⟩
  | 68 => ⟨S16x8192x8192, .f32⟩
  | 69 => ⟨S16x8192x8192, .f32⟩
  | 70 => ⟨S16x8192x8192, .f32⟩
  | 71 => ⟨S_, .f32⟩
  | 72 => ⟨S16x8192x8192, .f32⟩
  | 73 => ⟨S16x8192x8192, .f32⟩
  | 74 => ⟨S16x8192x128, .f32⟩
  | 75 => ⟨S16x8192x128, .f32⟩
  | 76 => ⟨S8192x16x128, .f32⟩
  | 77 => ⟨S8192x2048, .f32⟩
  | 78 => ⟨S8192x16x128, .f32⟩
  | 79 => ⟨S8192x2048, .f32⟩
  | 80 => ⟨S8192x16x128, .f32⟩
  | 81 => ⟨S8192x2048, .f32⟩
  | 82 => ⟨S8192x2048, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_v32 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_v33_0 : Ref sig .tc := ⟨.hbm, 72, rfl⟩
abbrev main_call2_cst_0 : Ref sig .tc := ⟨.hbm, 73, rfl⟩
abbrev main_call2_v13 : Ref sig .tc := ⟨.hbm, 74, rfl⟩
abbrev main_call2_v14 : Ref sig .tc := ⟨.hbm, 75, rfl⟩
abbrev main_call2_cst_1 : Ref sig .tc := ⟨.hbm, 76, rfl⟩
abbrev main_call2_v15 : Ref sig .tc := ⟨.hbm, 77, rfl⟩
abbrev main_call2_v16 : Ref sig .tc := ⟨.hbm, 78, rfl⟩
abbrev main_call2_cst_2 : Ref sig .tc := ⟨.hbm, 79, rfl⟩
abbrev main_call2_v17 : Ref sig .tc := ⟨.hbm, 80, rfl⟩
abbrev main_call2_v18 : Ref sig .tc := ⟨.hbm, 81, rfl⟩
abbrev main_call2_cst_3 : Ref sig .tc := ⟨.hbm, 82, rfl⟩
abbrev main_call2_v19 : Ref sig .tc := ⟨.hbm, 83, rfl⟩
abbrev main_call2_v20 : Ref sig .tc := ⟨.hbm, 84, rfl⟩
abbrev main_call2_v21 : Ref sig .tc := ⟨.hbm, 85, rfl⟩
abbrev main_v33_1 : Ref sig .tc := ⟨.hbm, 86, rfl⟩
abbrev main_call2_cst_4 : Ref sig .tc := ⟨.hbm, 87, rfl⟩
abbrev main_call2_cst_5 : Ref sig .tc := ⟨.hbm, 88, rfl⟩
abbrev main_call2_v23 : Ref sig .tc := ⟨.hbm, 89, rfl⟩
abbrev main_call2_cst_6 : Ref sig .tc := ⟨.hbm, 90, rfl⟩
abbrev main_call2_cst_7 : Ref sig .tc := ⟨.hbm, 91, rfl⟩
abbrev main_call2_v24 : Ref sig .tc := ⟨.hbm, 92, rfl⟩
abbrev main_call2_cst_8 : Ref sig .tc := ⟨.hbm, 93, rfl⟩
abbrev main_call2_v25 : Ref sig .tc := ⟨.hbm, 94, rfl⟩
abbrev main_call2_v26 : Ref sig .tc := ⟨.hbm, 95, rfl⟩
abbrev main_call2_cst_9 : Ref sig .tc := ⟨.hbm, 96, rfl⟩
abbrev main_call2_v27 : Ref sig .tc := ⟨.hbm, 97, rfl⟩
abbrev main_call2_v28 : Ref sig .tc := ⟨.hbm, 98, rfl⟩
abbrev main_call2_v29 : Ref sig .tc := ⟨.hbm, 99, rfl⟩
abbrev main_call2_v30 : Ref sig .tc := ⟨.hbm, 100, rfl⟩
abbrev main_call2_v31 : Ref sig .tc := ⟨.hbm, 101, rfl⟩
abbrev main_call2_cst_10 : Ref sig .tc := ⟨.hbm, 102, rfl⟩
abbrev main_call2_v32 : Ref sig .tc := ⟨.hbm, 103, rfl⟩
abbrev main_v33_2 : Ref sig .tc := ⟨.hbm, 104, rfl⟩
abbrev main_v34 : Ref sig .tc := ⟨.hbm, 105, rfl⟩
abbrev main_cst_1 : Ref sig .tc := ⟨.hbm, 106, rfl⟩
abbrev main_call3_v0 : Ref sig .tc := ⟨.hbm, 107, rfl⟩
abbrev main_call3_v1 : Ref sig .tc := ⟨.hbm, 108, rfl⟩
abbrev main_v35_0 : Ref sig .tc := ⟨.hbm, 109, rfl⟩
abbrev main_call3_cst : Ref sig .tc := ⟨.hbm, 110, rfl⟩
abbrev main_v35_1 : Ref sig .tc := ⟨.hbm, 111, rfl⟩
abbrev main_call4_cst : Ref sig .tc := ⟨.hbm, 112, rfl⟩
abbrev main_call4_v0 : Ref sig .tc := ⟨.hbm, 113, rfl⟩
abbrev main_v36 : Ref sig .tc := ⟨.hbm, 114, rfl⟩
abbrev main_v37 : Ref sig .tc := ⟨.hbm, 115, rfl⟩
abbrev main_call5_v0 : Ref sig .tc := ⟨.hbm, 116, rfl⟩
abbrev main_call5_call0_cst : Ref sig .tc := ⟨.hbm, 117, rfl⟩
abbrev main_call5_call0_v0 : Ref sig .tc := ⟨.hbm, 118, rfl⟩
abbrev main_call5_call0_v1 : Ref sig .tc := ⟨.hbm, 119, rfl⟩
abbrev main_call5_call0_v2 : Ref sig .tc := ⟨.hbm, 120, rfl⟩
abbrev main_call5_call0_v3 : Ref sig .tc := ⟨.hbm, 121, rfl⟩
abbrev main_call5_call0_v4 : Ref sig .tc := ⟨.hbm, 122, rfl⟩
abbrev main_call5_call0_v5 : Ref sig .tc := ⟨.hbm, 123, rfl⟩
abbrev main_call5_call0_v6 : Ref sig .tc := ⟨.hbm, 124, rfl⟩
abbrev main_call5_call0_v7 : Ref sig .tc := ⟨.hbm, 125, rfl⟩
abbrev main_call5_call0_v8 : Ref sig .tc := ⟨.hbm, 126, rfl⟩
abbrev main_call5_call0_v9 : Ref sig .tc := ⟨.hbm, 127, rfl⟩
abbrev main_call5_call0_v10 : Ref sig .tc := ⟨.hbm, 128, rfl⟩
abbrev main_call5_call0_v11 : Ref sig .tc := ⟨.hbm, 129, rfl⟩
abbrev main_call5_v1_0 : Ref sig .tc := ⟨.hbm, 130, rfl⟩
abbrev main_call5_call0_cst_0 : Ref sig .tc := ⟨.hbm, 131, rfl⟩
abbrev main_call5_call0_v13 : Ref sig .tc := ⟨.hbm, 132, rfl⟩
abbrev main_call5_call0_v14 : Ref sig .tc := ⟨.hbm, 133, rfl⟩
abbrev main_call5_call0_cst_1 : Ref sig .tc := ⟨.hbm, 134, rfl⟩
abbrev main_call5_call0_v15 : Ref sig .tc := ⟨.hbm, 135, rfl⟩
abbrev main_call5_call0_v16 : Ref sig .tc := ⟨.hbm, 136, rfl⟩
abbrev main_call5_call0_cst_2 : Ref sig .tc := ⟨.hbm, 137, rfl⟩
abbrev main_call5_call0_v17 : Ref sig .tc := ⟨.hbm, 138, rfl⟩
abbrev main_call5_call0_v18 : Ref sig .tc := ⟨.hbm, 139, rfl⟩
abbrev main_call5_call0_cst_3 : Ref sig .tc := ⟨.hbm, 140, rfl⟩
abbrev main_call5_call0_v19 : Ref sig .tc := ⟨.hbm, 141, rfl⟩
abbrev main_call5_call0_v20 : Ref sig .tc := ⟨.hbm, 142, rfl⟩
abbrev main_call5_call0_v21 : Ref sig .tc := ⟨.hbm, 143, rfl⟩
abbrev main_v38_1 : Ref sig .tc := ⟨.hbm, 144, rfl⟩
abbrev main_call5_call0_cst_4 : Ref sig .tc := ⟨.hbm, 145, rfl⟩
abbrev main_call5_call0_cst_5 : Ref sig .tc := ⟨.hbm, 146, rfl⟩
abbrev main_call5_call0_v23 : Ref sig .tc := ⟨.hbm, 147, rfl⟩
abbrev main_call5_call0_cst_6 : Ref sig .tc := ⟨.hbm, 148, rfl⟩
abbrev main_call5_call0_cst_7 : Ref sig .tc := ⟨.hbm, 149, rfl⟩
abbrev main_call5_call0_v24 : Ref sig .tc := ⟨.hbm, 150, rfl⟩
abbrev main_call5_call0_cst_8 : Ref sig .tc := ⟨.hbm, 151, rfl⟩
abbrev main_call5_call0_v25 : Ref sig .tc := ⟨.hbm, 152, rfl⟩
abbrev main_call5_call0_v26 : Ref sig .tc := ⟨.hbm, 153, rfl⟩
abbrev main_call5_call0_cst_9 : Ref sig .tc := ⟨.hbm, 154, rfl⟩
abbrev main_call5_call0_v27 : Ref sig .tc := ⟨.hbm, 155, rfl⟩
abbrev main_call5_call0_v28 : Ref sig .tc := ⟨.hbm, 156, rfl⟩
abbrev main_call5_call0_v29 : Ref sig .tc := ⟨.hbm, 157, rfl⟩
abbrev main_call5_call0_v30 : Ref sig .tc := ⟨.hbm, 158, rfl⟩
abbrev main_call5_call0_v31 : Ref sig .tc := ⟨.hbm, 159, rfl⟩
abbrev main_call5_call0_cst_10 : Ref sig .tc := ⟨.hbm, 160, rfl⟩
abbrev main_call5_call0_v32 : Ref sig .tc := ⟨.hbm, 161, rfl⟩
abbrev main_v38_2 : Ref sig .tc := ⟨.hbm, 162, rfl⟩
abbrev main_v38_0 : Ref sig .tc := ⟨.hbm, 163, rfl⟩
abbrev main_v39 : Ref sig .tc := ⟨.hbm, 164, rfl⟩
abbrev main_v40 : Ref sig .tc := ⟨.hbm, 165, rfl⟩
abbrev main_cst_2 : Ref sig .tc := ⟨.hbm, 166, rfl⟩
abbrev main_call6_v0 : Ref sig .tc := ⟨.hbm, 167, rfl⟩
abbrev main_call6_v1 : Ref sig .tc := ⟨.hbm, 168, rfl⟩
abbrev main_v41_0 : Ref sig .tc := ⟨.hbm, 169, rfl⟩
abbrev main_call6_cst : Ref sig .tc := ⟨.hbm, 170, rfl⟩
abbrev main_v41_1 : Ref sig .tc := ⟨.hbm, 171, rfl⟩
abbrev main_v42 : Ref sig .tc := ⟨.hbm, 172, rfl⟩
abbrev main_v43 : Ref sig .tc := ⟨.hbm, 173, rfl⟩
abbrev main_v44 : Ref sig .tc := ⟨.hbm, 174, rfl⟩
abbrev main_v45 : Ref sig .tc := ⟨.hbm, 175, rfl⟩
abbrev main_v46 : Ref sig .tc := ⟨.hbm, 176, rfl⟩
abbrev main_v47 : Ref sig .tc := ⟨.hbm, 177, rfl⟩
abbrev main_v48 : Ref sig .tc := ⟨.hbm, 178, rfl⟩
abbrev main_v49 : Ref sig .tc := ⟨.hbm, 179, rfl⟩
abbrev main_v50 : Ref sig .tc := ⟨.hbm, 180, rfl⟩
abbrev main_call7_cst : Ref sig .tc := ⟨.hbm, 181, rfl⟩
abbrev main_call7_v0 : Ref sig .tc := ⟨.hbm, 182, rfl⟩
abbrev main_v51 : Ref sig .tc := ⟨.hbm, 183, rfl⟩
abbrev main_v52 : Ref sig .tc := ⟨.hbm, 184, rfl⟩
abbrev main_call8_v0 : Ref sig .tc := ⟨.hbm, 185, rfl⟩
abbrev main_call8_v1 : Ref sig .tc := ⟨.hbm, 186, rfl⟩
abbrev main_v53 : Ref sig .tc := ⟨.hbm, 187, rfl⟩
abbrev main_v54 : Ref sig .tc := ⟨.hbm, 188, rfl⟩
abbrev main_call9_cst : Ref sig .tc := ⟨.hbm, 189, rfl⟩
abbrev main_call9_v0 : Ref sig .tc := ⟨.hbm, 190, rfl⟩
abbrev main_v55 : Ref sig .tc := ⟨.hbm, 191, rfl⟩
abbrev main_v56 : Ref sig .tc := ⟨.hbm, 192, rfl⟩
abbrev main_call10_cst : Ref sig .tc := ⟨.hbm, 193, rfl⟩
abbrev main_call10_v0 : Ref sig .tc := ⟨.hbm, 194, rfl⟩
abbrev main_v57 : Ref sig .tc := ⟨.hbm, 195, rfl⟩
abbrev main_v58 : Ref sig .tc := ⟨.hbm, 196, rfl⟩
abbrev main_v59 : Ref sig .tc := ⟨.hbm, 197, rfl⟩
abbrev main_v60 : Ref sig .tc := ⟨.hbm, 198, rfl⟩
abbrev main_cst_3 : Ref sig .tc := ⟨.hbm, 199, rfl⟩
abbrev main_v61 : Ref sig .tc := ⟨.hbm, 200, rfl⟩
abbrev main_v62 : Ref sig .tc := ⟨.hbm, 201, rfl⟩
abbrev main_v63 : Ref sig .tc := ⟨.hbm, 202, rfl⟩
abbrev main_v64 : Ref sig .tc := ⟨.hbm, 203, rfl⟩
abbrev main_v65 : Ref sig .tc := ⟨.hbm, 204, rfl⟩
abbrev main_v66 : Ref sig .tc := ⟨.hbm, 205, rfl⟩
abbrev main_v67 : Ref sig .tc := ⟨.hbm, 206, rfl⟩
abbrev main_v68 : Ref sig .tc := ⟨.hbm, 207, rfl⟩
abbrev main_v69 : Ref sig .tc := ⟨.hbm, 208, rfl⟩
abbrev main_v70 : Ref sig .tc := ⟨.hbm, 209, rfl⟩
abbrev main_v71 : Ref sig .tc := ⟨.hbm, 210, rfl⟩

abbrev nD : Nat := 1
abbrev τ : Topo := Topo.v7x

variable {F : FTy → Type} [FloatOps F]
-- ==== Kernel2.lean ====
abbrev S8192x2048 : Shape := ⟨2, ![8192, 2048]⟩
abbrev S4x8192x2048 : Shape := ⟨3, ![4, 8192, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S4x8192x2048 : Shape := ⟨3, ![4, 8192, 2048]⟩
abbrev S8192x8192 : Shape := ⟨2, ![8192, 8192]⟩
abbrev S1x8192x2048 : Shape := ⟨3, ![1, 8192, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S1x8192x2048, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x2048, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S8192x8192 : Shape := ⟨2, ![8192, 8192]⟩
abbrev S4x2048x8192 : Shape := ⟨3, ![4, 2048, 8192]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S4x2048x8192 : Shape := ⟨3, ![4, 2048, 8192]⟩
abbrev S_ : Shape := ⟨0, ![]⟩
abbrev S8192x2048 : Shape := ⟨2, ![8192, 2048]⟩
abbrev S1x2048x8192 : Shape := ⟨3, ![1, 2048, 8192]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S_, .f32⟩
  | .hbm, ⟨3, _⟩ => ⟨S8192x2048, .f32⟩
  | .hbm, ⟨4, _⟩ => ⟨S1x2048x8192, .bf16⟩
  | .hbm, ⟨5, _⟩ => ⟨S2048x8192, .bf16⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S8192x8192 : Shape := ⟨2, ![8192, 8192]⟩
abbrev S8192x2048 : Shape := ⟨2, ![8192, 2048]⟩
abbrev S4x8192x2048 : Shape := ⟨3, ![4, 8192, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S4x8192x2048, .bf16⟩
  | .hbm, ⟨3, _⟩ => ⟨S4x8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x8192 : Shape := ⟨2, ![8192, 8192]⟩
abbrev S8192x2048 : Shape := ⟨2, ![8192, 2048]⟩
abbrev S4x8192x2048 : Shape := ⟨3, ![4, 8192, 2048]⟩
abbrev S_ : Shape := ⟨0, ![]⟩
abbrev S2048x8192 : Shape := ⟨2, ![2048, 8192]⟩
abbrev S1x8192x2048 : Shape := ⟨3, ![1, 8192, 2048]⟩
abbrev S3x8192x2048 : Shape := ⟨3, ![3, 8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S4x8192x2048, .bf16⟩
  | .hbm, ⟨3, _⟩ => ⟨S_, .f32⟩
  | .hbm, ⟨4, _⟩ => ⟨S8192x2048, .f32⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S8192x8192, .f32⟩
  | .hbm, ⟨11, _⟩ => ⟨S8192x2048, .bf16⟩
  | .hbm, ⟨12, _⟩ => ⟨S1x8192x2048, .bf16⟩
  | .hbm, ⟨13, _⟩ => ⟨S3x8192x2048, .bf16⟩
  | .hbm, ⟨14, _⟩ => ⟨S4x8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S8192x2048 : Shape := ⟨2, ![8192, 2048]⟩
abbrev S8192x8192 : Shape := ⟨2, ![8192, 8192]⟩
abbrev S4x2048x8192 : Shape := ⟨3, ![4, 2048, 8192]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x8192, .bf16⟩
  | .hbm, ⟨3, _⟩ => ⟨S4x2048x8192, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x8192 : Shape := ⟨2, ![8192, 8192]⟩
abbrev S4x2048x8192 : Shape := ⟨3, ![4, 2048, 8192]⟩
abbrev S_ : Shape := ⟨0, ![]⟩
abbrev S2048x8192 : Shape := ⟨2, ![2048, 8192]⟩
abbrev S1x2048x8192 : Shape := ⟨3, ![1, 2048, 8192]⟩
abbrev S3x2048x8192 : Shape := ⟨3, ![3, 2048, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x8192, .bf16⟩
  | .hbm, ⟨3, _⟩ => ⟨S_, .f32⟩
  | .hbm, ⟨4, _⟩ => ⟨S2048x8192, .f32⟩
  | .hbm, ⟨5, _⟩ => ⟨S8192x2048, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S2048x8192, .bf16⟩
  | .hbm, ⟨12, _⟩ => ⟨S1x2048x8192, .bf16⟩
  | .hbm, ⟨13, _⟩ => ⟨S3x2048x8192, .bf16⟩
  | .hbm, ⟨14, _⟩ => ⟨S4x2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S8192x2048 : Shape := ⟨2, ![8192, 2048]⟩
abbrev S4x2048x8192 : Shape := ⟨3, ![4, 2048, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2048 : Shape := ⟨2, ![8192, 2048]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S1x2048x8192, .bf16⟩
  | .hbm, ⟨3, _⟩ => ⟨S2048x8192, .bf16⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S8192x8192, .bf16⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S8192x2048 : Shape := ⟨2, ![8192, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S8192x2048, .bf16⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .bf16⟩
  | .hbm, ⟨52, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel9.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S8192x8192 : Shape := ⟨2, ![8192, 8192]⟩
abbrev S4x8192x2048 : Shape := ⟨3, ![4, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel10Ideal.lean ====
abbrev S8192x8192 : Shape := ⟨2, ![8192, 8192]⟩
abbrev S4x8192x2048 : Shape := ⟨3, ![4, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x8192 : Shape := ⟨2, ![8192, 8192]⟩
abbrev S4x8192x2048 : Shape := ⟨3, ![4, 8192, 2048]⟩
abbrev S8192x2048 : Shape := ⟨2, ![8192, 2048]⟩
abbrev S1x8192x2048 : Shape := ⟨3, ![1, 8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S1x8192x2048, .bf16⟩
  | .hbm, ⟨4, _⟩ => ⟨S8192x2048, .bf16⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S4x8192x2048 : Shape := ⟨3, ![4, 8192, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel11Ideal.lean ====
abbrev S8192x2048 : Shape := ⟨2, ![8192, 2048]⟩
abbrev S4x8192x2048 : Shape := ⟨3, ![4, 8192, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x2048 : Shape := ⟨2, ![8192, 2048]⟩
abbrev S4x8192x2048 : Shape := ⟨3, ![4, 8192, 2048]⟩
abbrev S8192x8192 : Shape := ⟨2, ![8192, 8192]⟩
abbrev S1x8192x2048 : Shape := ⟨3, ![1, 8192, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S1x8192x2048, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x2048, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel12.lean ====
abbrev S8192x8192 : Shape := ⟨2, ![8192, 8192]⟩
abbrev S4x2048x8192 : Shape := ⟨3, ![4, 2048, 8192]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S8192x8192 : Shape := ⟨2, ![8192, 8192]⟩
abbrev S4x2048x8192 : Shape := ⟨3, ![4, 2048, 8192]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x8192 : Shape := ⟨2, ![8192, 8192]⟩
abbrev S4x2048x8192 : Shape := ⟨3, ![4, 2048, 8192]⟩
abbrev S_ : Shape := ⟨0, ![]⟩
abbrev S8192x2048 : Shape := ⟨2, ![8192, 2048]⟩
abbrev S1x2048x8192 : Shape := ⟨3, ![1, 2048, 8192]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S_, .f32⟩
  | .hbm, ⟨3, _⟩ => ⟨S8192x2048, .f32⟩
  | .hbm, ⟨4, _⟩ => ⟨S1x2048x8192, .bf16⟩
  | .hbm, ⟨5, _⟩ => ⟨S2048x8192, .bf16⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel13.lean ====
abbrev S8192x8192 : Shape := ⟨2, ![8192, 8192]⟩
abbrev S8192x2048 : Shape := ⟨2, ![8192, 2048]⟩
abbrev S4x8192x2048 : Shape := ⟨3, ![4, 8192, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S4x8192x2048, .bf16⟩
  | .hbm, ⟨3, _⟩ => ⟨S4x8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S8192x8192 : Shape := ⟨2, ![8192, 8192]⟩
abbrev S8192x2048 : Shape := ⟨2, ![8192, 2048]⟩
abbrev S4x8192x2048 : Shape := ⟨3, ![4, 8192, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S4x8192x2048, .bf16⟩
  | .hbm, ⟨3, _⟩ => ⟨S4x8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x8192 : Shape := ⟨2, ![8192, 8192]⟩
abbrev S8192x2048 : Shape := ⟨2, ![8192, 2048]⟩
abbrev S4x8192x2048 : Shape := ⟨3, ![4, 8192, 2048]⟩
abbrev S_ : Shape := ⟨0, ![]⟩
abbrev S2048x8192 : Shape := ⟨2, ![2048, 8192]⟩
abbrev S1x8192x2048 : Shape := ⟨3, ![1, 8192, 2048]⟩
abbrev S2x8192x2048 : Shape := ⟨3, ![2, 8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S4x8192x2048, .bf16⟩
  | .hbm, ⟨3, _⟩ => ⟨S_, .f32⟩
  | .hbm, ⟨4, _⟩ => ⟨S8192x2048, .f32⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S8192x8192, .f32⟩
  | .hbm, ⟨11, _⟩ => ⟨S8192x2048, .bf16⟩
  | .hbm, ⟨12, _⟩ => ⟨S1x8192x2048, .bf16⟩
  | .hbm, ⟨13, _⟩ => ⟨S1x8192x2048, .bf16⟩
  | .hbm, ⟨14, _⟩ => ⟨S2x8192x2048, .bf16⟩
  | .hbm, ⟨15, _⟩ => ⟨S4x8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel14.lean ====
abbrev S8192x2048 : Shape := ⟨2, ![8192, 2048]⟩
abbrev S8192x8192 : Shape := ⟨2, ![8192, 8192]⟩
abbrev S4x2048x8192 : Shape := ⟨3, ![4, 2048, 8192]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x8192, .bf16⟩
  | .hbm, ⟨3, _⟩ => ⟨S4x2048x8192, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S8192x2048 : Shape := ⟨2, ![8192, 2048]⟩
abbrev S8192x8192 : Shape := ⟨2, ![8192, 8192]⟩
abbrev S4x2048x8192 : Shape := ⟨3, ![4, 2048, 8192]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x8192, .bf16⟩
  | .hbm, ⟨3, _⟩ => ⟨S4x2048x8192, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S8192x8192 : Shape := ⟨2, ![8192, 8192]⟩
abbrev S4x2048x8192 : Shape := ⟨3, ![4, 2048, 8192]⟩
abbrev S_ : Shape := ⟨0, ![]⟩
abbrev S2048x8192 : Shape := ⟨2, ![2048, 8192]⟩
abbrev S1x2048x8192 : Shape := ⟨3, ![1, 2048, 8192]⟩
abbrev S2x2048x8192 : Shape := ⟨3, ![2, 2048, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x8192, .bf16⟩
  | .hbm, ⟨3, _⟩ => ⟨S_, .f32⟩
  | .hbm, ⟨4, _⟩ => ⟨S2048x8192, .f32⟩
  | .hbm, ⟨5, _⟩ => ⟨S8192x2048, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S2048x8192, .bf16⟩
  | .hbm, ⟨12, _⟩ => ⟨S1x2048x8192, .bf16⟩
  | .hbm, ⟨13, _⟩ => ⟨S1x2048x8192, .bf16⟩
  | .hbm, ⟨14, _⟩ => ⟨S2x2048x8192, .bf16⟩
  | .hbm, ⟨15, _⟩ => ⟨S4x2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel15.lean ====
abbrev S8192x2048 : Shape := ⟨2, ![8192, 2048]⟩
abbrev S4x2048x8192 : Shape := ⟨3, ![4, 2048, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel15Ideal.lean ====
abbrev S8192x2048 : Shape := ⟨2, ![8192, 2048]⟩
abbrev S4x2048x8192 : Shape := ⟨3, ![4, 2048, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x2048 : Shape := ⟨2, ![8192, 2048]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S1x2048x8192, .bf16⟩
  | .hbm, ⟨3, _⟩ => ⟨S2048x8192, .bf16⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S8192x8192, .bf16⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel16.lean ====
abbrev S8192x8192 : Shape := ⟨2, ![8192, 8192]⟩
abbrev S4x8192x2048 : Shape := ⟨3, ![4, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel16Ideal.lean ====
abbrev S8192x8192 : Shape := ⟨2, ![8192, 8192]⟩
abbrev S4x8192x2048 : Shape := ⟨3, ![4, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x8192 : Shape := ⟨2, ![8192, 8192]⟩
abbrev S4x8192x2048 : Shape := ⟨3, ![4, 8192, 2048]⟩
abbrev S8192x2048 : Shape := ⟨2, ![8192, 2048]⟩
abbrev S1x8192x2048 : Shape := ⟨3, ![1, 8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S1x8192x2048, .bf16⟩
  | .hbm, ⟨4, _⟩ => ⟨S8192x2048, .bf16⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x2048 : Shape := ⟨2, ![8192, 2048]⟩
abbrev S4x8192x2048 : Shape := ⟨3, ![4, 8192, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel17Ideal.lean ====
abbrev S8192x2048 : Shape := ⟨2, ![8192, 2048]⟩
abbrev S4x8192x2048 : Shape := ⟨3, ![4, 8192, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8192x2048 : Shape := ⟨2, ![8192, 2048]⟩
abbrev S4x8192x2048 : Shape := ⟨3, ![4, 8192, 2048]⟩
abbrev S8192x8192 : Shape := ⟨2, ![8192, 8192]⟩
abbrev S1x8192x2048 : Shape := ⟨3, ![1, 8192, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S1x8192x2048, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x2048, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel18.lean ====
abbrev S8192x8192 : Shape := ⟨2, ![8192, 8192]⟩
abbrev S4x2048x8192 : Shape := ⟨3, ![4, 2048, 8192]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S8192x8192 : Shape := ⟨2, ![8192, 8192]⟩
abbrev S4x2048x8192 : Shape := ⟨3, ![4, 2048, 8192]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x8192 : Shape := ⟨2, ![8192, 8192]⟩
abbrev S4x2048x8192 : Shape := ⟨3, ![4, 2048, 8192]⟩
abbrev S_ : Shape := ⟨0, ![]⟩
abbrev S8192x2048 : Shape := ⟨2, ![8192, 2048]⟩
abbrev S1x2048x8192 : Shape := ⟨3, ![1, 2048, 8192]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S_, .f32⟩
  | .hbm, ⟨3, _⟩ => ⟨S8192x2048, .f32⟩
  | .hbm, ⟨4, _⟩ => ⟨S1x2048x8192, .bf16⟩
  | .hbm, ⟨5, _⟩ => ⟨S2048x8192, .bf16⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel19.lean ====
abbrev S8192x8192 : Shape := ⟨2, ![8192, 8192]⟩
abbrev S8192x2048 : Shape := ⟨2, ![8192, 2048]⟩
abbrev S4x8192x2048 : Shape := ⟨3, ![4, 8192, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S4x8192x2048, .bf16⟩
  | .hbm, ⟨3, _⟩ => ⟨S4x8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel19Ideal.lean ====
abbrev S8192x8192 : Shape := ⟨2, ![8192, 8192]⟩
abbrev S8192x2048 : Shape := ⟨2, ![8192, 2048]⟩
abbrev S4x8192x2048 : Shape := ⟨3, ![4, 8192, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S4x8192x2048, .bf16⟩
  | .hbm, ⟨3, _⟩ => ⟨S4x8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x8192 : Shape := ⟨2, ![8192, 8192]⟩
abbrev S8192x2048 : Shape := ⟨2, ![8192, 2048]⟩
abbrev S4x8192x2048 : Shape := ⟨3, ![4, 8192, 2048]⟩
abbrev S_ : Shape := ⟨0, ![]⟩
abbrev S2048x8192 : Shape := ⟨2, ![2048, 8192]⟩
abbrev S2x8192x2048 : Shape := ⟨3, ![2, 8192, 2048]⟩
abbrev S1x8192x2048 : Shape := ⟨3, ![1, 8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S4x8192x2048, .bf16⟩
  | .hbm, ⟨3, _⟩ => ⟨S_, .f32⟩
  | .hbm, ⟨4, _⟩ => ⟨S8192x2048, .f32⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S8192x8192, .f32⟩
  | .hbm, ⟨11, _⟩ => ⟨S8192x2048, .bf16⟩
  | .hbm, ⟨12, _⟩ => ⟨S2x8192x2048, .bf16⟩
  | .hbm, ⟨13, _⟩ => ⟨S1x8192x2048, .bf16⟩
  | .hbm, ⟨14, _⟩ => ⟨S1x8192x2048, .bf16⟩
  | .hbm, ⟨15, _⟩ => ⟨S4x8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel20.lean ====
abbrev S8192x2048 : Shape := ⟨2, ![8192, 2048]⟩
abbrev S8192x8192 : Shape := ⟨2, ![8192, 8192]⟩
abbrev S4x2048x8192 : Shape := ⟨3, ![4, 2048, 8192]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x8192, .bf16⟩
  | .hbm, ⟨3, _⟩ => ⟨S4x2048x8192, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel20Ideal.lean ====
abbrev S8192x2048 : Shape := ⟨2, ![8192, 2048]⟩
abbrev S8192x8192 : Shape := ⟨2, ![8192, 8192]⟩
abbrev S4x2048x8192 : Shape := ⟨3, ![4, 2048, 8192]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x8192, .bf16⟩
  | .hbm, ⟨3, _⟩ => ⟨S4x2048x8192, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S8192x8192 : Shape := ⟨2, ![8192, 8192]⟩
abbrev S4x2048x8192 : Shape := ⟨3, ![4, 2048, 8192]⟩
abbrev S_ : Shape := ⟨0, ![]⟩
abbrev S2048x8192 : Shape := ⟨2, ![2048, 8192]⟩
abbrev S2x2048x8192 : Shape := ⟨3, ![2, 2048, 8192]⟩
abbrev S1x2048x8192 : Shape := ⟨3, ![1, 2048, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x8192, .bf16⟩
  | .hbm, ⟨3, _⟩ => ⟨S_, .f32⟩
  | .hbm, ⟨4, _⟩ => ⟨S2048x8192, .f32⟩
  | .hbm, ⟨5, _⟩ => ⟨S8192x2048, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S2048x8192, .bf16⟩
  | .hbm, ⟨12, _⟩ => ⟨S2x2048x8192, .bf16⟩
  | .hbm, ⟨13, _⟩ => ⟨S1x2048x8192, .bf16⟩
  | .hbm, ⟨14, _⟩ => ⟨S1x2048x8192, .bf16⟩
  | .hbm, ⟨15, _⟩ => ⟨S4x2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel21.lean ====
abbrev S8192x2048 : Shape := ⟨2, ![8192, 2048]⟩
abbrev S4x2048x8192 : Shape := ⟨3, ![4, 2048, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel21Ideal.lean ====
abbrev S8192x2048 : Shape := ⟨2, ![8192, 2048]⟩
abbrev S4x2048x8192 : Shape := ⟨3, ![4, 2048, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S8192x2048 : Shape := ⟨2, ![8192, 2048]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S1x2048x8192, .bf16⟩
  | .hbm, ⟨3, _⟩ => ⟨S2048x8192, .bf16⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S8192x8192, .bf16⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel22.lean ====
abbrev S8192x8192 : Shape := ⟨2, ![8192, 8192]⟩
abbrev S4x8192x2048 : Shape := ⟨3, ![4, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel22Ideal.lean ====
abbrev S8192x8192 : Shape := ⟨2, ![8192, 8192]⟩
abbrev S4x8192x2048 : Shape := ⟨3, ![4, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S8192x8192 : Shape := ⟨2, ![8192, 8192]⟩
abbrev S4x8192x2048 : Shape := ⟨3, ![4, 8192, 2048]⟩
abbrev S8192x2048 : Shape := ⟨2, ![8192, 2048]⟩
abbrev S1x8192x2048 : Shape := ⟨3, ![1, 8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S1x8192x2048, .bf16⟩
  | .hbm, ⟨4, _⟩ => ⟨S8192x2048, .bf16⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S8192x2048 : Shape := ⟨2, ![8192, 2048]⟩
abbrev S4x8192x2048 : Shape := ⟨3, ![4, 8192, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel23Ideal.lean ====
abbrev S8192x2048 : Shape := ⟨2, ![8192, 2048]⟩
abbrev S4x8192x2048 : Shape := ⟨3, ![4, 8192, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S8192x2048 : Shape := ⟨2, ![8192, 2048]⟩
abbrev S4x8192x2048 : Shape := ⟨3, ![4, 8192, 2048]⟩
abbrev S8192x8192 : Shape := ⟨2, ![8192, 8192]⟩
abbrev S1x8192x2048 : Shape := ⟨3, ![1, 8192, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S8192x8192, .bf16⟩
  | .hbm, ⟨3, _⟩ => ⟨S1x8192x2048, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x2048, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel24.lean ====
abbrev S8192x8192 : Shape := ⟨2, ![8192, 8192]⟩
abbrev S4x2048x8192 : Shape := ⟨3, ![4, 2048, 8192]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel24Ideal.lean ====
abbrev S8192x8192 : Shape := ⟨2, ![8192, 8192]⟩
abbrev S4x2048x8192 : Shape := ⟨3, ![4, 2048, 8192]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x8192 : Shape := ⟨2, ![8192, 8192]⟩
abbrev S4x2048x8192 : Shape := ⟨3, ![4, 2048, 8192]⟩
abbrev S_ : Shape := ⟨0, ![]⟩
abbrev S8192x2048 : Shape := ⟨2, ![8192, 2048]⟩
abbrev S1x2048x8192 : Shape := ⟨3, ![1, 2048, 8192]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x8192, .bf16⟩
  | .hbm, ⟨2, _⟩ => ⟨S_, .f32⟩
  | .hbm, ⟨3, _⟩ => ⟨S8192x2048, .f32⟩
  | .hbm, ⟨4, _⟩ => ⟨S1x2048x8192, .bf16⟩
  | .hbm, ⟨5, _⟩ => ⟨S2048x8192, .bf16⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel25.lean ====
abbrev S8192x2048 : Shape := ⟨2, ![8192, 2048]⟩
abbrev S4x2048x8192 : Shape := ⟨3, ![4, 2048, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel25Ideal.lean ====
abbrev S8192x2048 : Shape := ⟨2, ![8192, 2048]⟩
abbrev S4x2048x8192 : Shape := ⟨3, ![4, 2048, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S8192x2048 : Shape := ⟨2, ![8192, 2048]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .bf16⟩
  | .hbm, ⟨2, _⟩ => ⟨S1x2048x8192, .bf16⟩
  | .hbm, ⟨3, _⟩ => ⟨S2048x8192, .bf16⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S8192x8192, .bf16⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel26.lean ====
abbrev S8192x8192 : Shape := ⟨2, ![8192, 8192]⟩
abbrev S4x8192x2048 : Shape := ⟨3, ![4, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel26Ideal.lean ====
abbrev S8192x8192 : Shape := ⟨2, ![8192, 8192]⟩
abbrev S4x8192x2048 : Shape := ⟨3, ![4, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference26Ideal.lean ====
abbrev S8192x8192 : Shape := ⟨2, ![8192, 8192]⟩
abbrev S4x8192x2048 : Shape := ⟨3, ![4, 8192, 2048]⟩
abbrev S8192x2048 : Shape := ⟨2, ![8192, 2048]⟩
abbrev S1x8192x2048 : Shape := ⟨3, ![1, 8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x8192x2048, .bf16⟩
  | .hbm, ⟨2, _⟩ => ⟨S8192x2048, .f32⟩
  | .hbm, ⟨3, _⟩ => ⟨S1x8192x2048, .bf16⟩
  | .hbm, ⟨4, _⟩ => ⟨S8192x2048, .bf16⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S8192x2048 : Shape := ⟨2, ![8192, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel27Ideal.lean ====
abbrev S8192x2048 : Shape := ⟨2, ![8192, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x2048 : Shape := ⟨2, ![8192, 2048]⟩
abbrev S4x2048x2048 : Shape := ⟨3, ![4, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S_, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S8192x2048, .f32⟩
  | .hbm, ⟨12, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel28.lean ====
abbrev S8192x2048 : Shape := ⟨2, ![8192, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel28Ideal.lean ====
abbrev S8192x2048 : Shape := ⟨2, ![8192, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x2048 : Shape := ⟨2, ![8192, 2048]⟩
abbrev S4x2048x2048 : Shape := ⟨3, ![4, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S_, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S8192x2048, .f32⟩
  | .hbm, ⟨12, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel29.lean ====
abbrev S8192x2048 : Shape := ⟨2, ![8192, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel29Ideal.lean ====
abbrev S8192x2048 : Shape := ⟨2, ![8192, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8192x2048 : Shape := ⟨2, ![8192, 2048]⟩
abbrev S4x2048x2048 : Shape := ⟨3, ![4, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S_, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S8192x2048, .f32⟩
  | .hbm, ⟨12, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel30.lean ====
abbrev S8192x2048 : Shape := ⟨2, ![8192, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel30Ideal.lean ====
abbrev S8192x2048 : Shape := ⟨2, ![8192, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S8192x2048 : Shape := ⟨2, ![8192, 2048]⟩
abbrev S4x2048x2048 : Shape := ⟨3, ![4, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S_, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S8192x2048, .f32⟩
  | .hbm, ⟨12, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel31.lean ====
abbrev S8192x2048 : Shape := ⟨2, ![8192, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel31Ideal.lean ====
abbrev S8192x2048 : Shape := ⟨2, ![8192, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S8192x2048 : Shape := ⟨2, ![8192, 2048]⟩
abbrev S2x2048x2048 : Shape := ⟨3, ![2, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S_, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S8192x2048, .f32⟩
  | .hbm, ⟨12, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel32.lean ====
abbrev S8192x2048 : Shape := ⟨2, ![8192, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel32Ideal.lean ====
abbrev S8192x2048 : Shape := ⟨2, ![8192, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S8192x2048 : Shape := ⟨2, ![8192, 2048]⟩
abbrev S2x2048x2048 : Shape := ⟨3, ![2, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S_, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S8192x2048, .f32⟩
  | .hbm, ⟨12, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel33.lean ====
abbrev S8192x4096 : Shape := ⟨2, ![8192, 4096]⟩
abbrev S2x2048x4096 : Shape := ⟨3, ![2, 2048, 4096]⟩
abbrev S8192x2048 : Shape := ⟨2, ![8192, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x2048x4096, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel33Ideal.lean ====
abbrev S8192x4096 : Shape := ⟨2, ![8192, 4096]⟩
abbrev S2x2048x4096 : Shape := ⟨3, ![2, 2048, 4096]⟩
abbrev S8192x2048 : Shape := ⟨2, ![8192, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x2048x4096, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S8192x4096 : Shape := ⟨2, ![8192, 4096]⟩
abbrev S2x2048x4096 : Shape := ⟨3, ![2, 2048, 4096]⟩
abbrev S_ : Shape := ⟨0, ![]⟩
abbrev S8192x2048 : Shape := ⟨2, ![8192, 2048]⟩
abbrev S1x2048x4096 : Shape := ⟨3, ![1, 2048, 4096]⟩
abbrev S2048x4096 : Shape := ⟨2, ![2048, 4096]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x2048x4096, .bf16⟩
  | .hbm, ⟨2, _⟩ => ⟨S_, .f32⟩
  | .hbm, ⟨3, _⟩ => ⟨S8192x2048, .f32⟩
  | .hbm, ⟨4, _⟩ => ⟨S1x2048x4096, .bf16⟩
  | .hbm, ⟨5, _⟩ => ⟨S2048x4096, .bf16⟩
  | .hbm, ⟨6, _⟩ => ⟨S2048x4096, .f32⟩
  | .hbm, ⟨7, _⟩ => ⟨S8192x4096, .f32⟩
  | .hbm, ⟨8, _⟩ => ⟨S8192x4096, .f32⟩
  | .hbm, ⟨9, _⟩ => ⟨S4096x2048, .f32⟩
  | .hbm, ⟨10, _⟩ => ⟨S2048x4096, .f32⟩
  | .hbm, ⟨11, _⟩ => ⟨S8192x2048, .f32⟩
  | .hbm, ⟨12, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel34.lean ====
abbrev S8192x4096 : Shape := ⟨2, ![8192, 4096]⟩
abbrev S2x2048x4096 : Shape := ⟨3, ![2, 2048, 4096]⟩
abbrev S8192x2048 : Shape := ⟨2, ![8192, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x2048x4096, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel34Ideal.lean ====
abbrev S8192x4096 : Shape := ⟨2, ![8192, 4096]⟩
abbrev S2x2048x4096 : Shape := ⟨3, ![2, 2048, 4096]⟩
abbrev S8192x2048 : Shape := ⟨2, ![8192, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x2048x4096, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S8192x4096 : Shape := ⟨2, ![8192, 4096]⟩
abbrev S2x2048x4096 : Shape := ⟨3, ![2, 2048, 4096]⟩
abbrev S_ : Shape := ⟨0, ![]⟩
abbrev S8192x2048 : Shape := ⟨2, ![8192, 2048]⟩
abbrev S1x2048x4096 : Shape := ⟨3, ![1, 2048, 4096]⟩
abbrev S2048x4096 : Shape := ⟨2, ![2048, 4096]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x2048x4096, .bf16⟩
  | .hbm, ⟨2, _⟩ => ⟨S_, .f32⟩
  | .hbm, ⟨3, _⟩ => ⟨S8192x2048, .f32⟩
  | .hbm, ⟨4, _⟩ => ⟨S1x2048x4096, .bf16⟩
  | .hbm, ⟨5, _⟩ => ⟨S2048x4096, .bf16⟩
  | .hbm, ⟨6, _⟩ => ⟨S2048x4096, .f32⟩
  | .hbm, ⟨7, _⟩ => ⟨S8192x4096, .f32⟩
  | .hbm, ⟨8, _⟩ => ⟨S8192x4096, .f32⟩
  | .hbm, ⟨9, _⟩ => ⟨S4096x2048, .f32⟩
  | .hbm, ⟨10, _⟩ => ⟨S2048x4096, .f32⟩
  | .hbm, ⟨11, _⟩ => ⟨S8192x2048, .f32⟩
  | .hbm, ⟨12, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel35.lean ====
abbrev S8192x6144 : Shape := ⟨2, ![8192, 6144]⟩
abbrev S2x2048x6144 : Shape := ⟨3, ![2, 2048, 6144]⟩
abbrev S8192x2048 : Shape := ⟨2, ![8192, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2x2048x6144, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel35Ideal.lean ====
abbrev S8192x6144 : Shape := ⟨2, ![8192, 6144]⟩
abbrev S2x2048x6144 : Shape := ⟨3, ![2, 2048, 6144]⟩
abbrev S8192x2048 : Shape := ⟨2, ![8192, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2x2048x6144, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference35Ideal.lean ====
abbrev S8192x6144 : Shape := ⟨2, ![8192, 6144]⟩
abbrev S2x2048x6144 : Shape := ⟨3, ![2, 2048, 6144]⟩
abbrev S_ : Shape := ⟨0, ![]⟩
abbrev S8192x2048 : Shape := ⟨2, ![8192, 2048]⟩
abbrev S1x2048x6144 : Shape := ⟨3, ![1, 2048, 6144]⟩
abbrev S2048x6144 : Shape := ⟨2, ![2048, 6144]⟩
abbrev S6144x2048 : Shape := ⟨2, ![6144, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2x2048x6144, .bf16⟩
  | .hbm, ⟨2, _⟩ => ⟨S_, .f32⟩
  | .hbm, ⟨3, _⟩ => ⟨S8192x2048, .f32⟩
  | .hbm, ⟨4, _⟩ => ⟨S1x2048x6144, .bf16⟩
  | .hbm, ⟨5, _⟩ => ⟨S2048x6144, .bf16⟩
  | .hbm, ⟨6, _⟩ => ⟨S2048x6144, .f32⟩
  | .hbm, ⟨7, _⟩ => ⟨S8192x6144, .f32⟩
  | .hbm, ⟨8, _⟩ => ⟨S8192x6144, .f32⟩
  | .hbm, ⟨9, _⟩ => ⟨S6144x2048, .f32⟩
  | .hbm, ⟨10, _⟩ => ⟨S2048x6144, .f32⟩
  | .hbm, ⟨11, _⟩ => ⟨S8192x2048, .f32⟩
  | .hbm, ⟨12, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel36.lean ====
abbrev S8192x6144 : Shape := ⟨2, ![8192, 6144]⟩
abbrev S2x2048x6144 : Shape := ⟨3, ![2, 2048, 6144]⟩
abbrev S8192x2048 : Shape := ⟨2, ![8192, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2x2048x6144, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel36Ideal.lean ====
abbrev S8192x6144 : Shape := ⟨2, ![8192, 6144]⟩
abbrev S2x2048x6144 : Shape := ⟨3, ![2, 2048, 6144]⟩
abbrev S8192x2048 : Shape := ⟨2, ![8192, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2x2048x6144, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S8192x6144 : Shape := ⟨2, ![8192, 6144]⟩
abbrev S2x2048x6144 : Shape := ⟨3, ![2, 2048, 6144]⟩
abbrev S_ : Shape := ⟨0, ![]⟩
abbrev S8192x2048 : Shape := ⟨2, ![8192, 2048]⟩
abbrev S1x2048x6144 : Shape := ⟨3, ![1, 2048, 6144]⟩
abbrev S2048x6144 : Shape := ⟨2, ![2048, 6144]⟩
abbrev S6144x2048 : Shape := ⟨2, ![6144, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2x2048x6144, .bf16⟩
  | .hbm, ⟨2, _⟩ => ⟨S_, .f32⟩
  | .hbm, ⟨3, _⟩ => ⟨S8192x2048, .f32⟩
  | .hbm, ⟨4, _⟩ => ⟨S1x2048x6144, .bf16⟩
  | .hbm, ⟨5, _⟩ => ⟨S2048x6144, .bf16⟩
  | .hbm, ⟨6, _⟩ => ⟨S2048x6144, .f32⟩
  | .hbm, ⟨7, _⟩ => ⟨S8192x6144, .f32⟩
  | .hbm, ⟨8, _⟩ => ⟨S8192x6144, .f32⟩
  | .hbm, ⟨9, _⟩ => ⟨S6144x2048, .f32⟩
  | .hbm, ⟨10, _⟩ => ⟨S2048x6144, .f32⟩
  | .hbm, ⟨11, _⟩ => ⟨S8192x2048, .f32⟩
  | .hbm, ⟨12, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel37.lean ====
abbrev S8192x2048 : Shape := ⟨2, ![8192, 2048]⟩
abbrev S4x2048x2048 : Shape := ⟨3, ![4, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .bf16⟩
  | .hbm, ⟨3, _⟩ => ⟨S4x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel37Ideal.lean ====
abbrev S8192x2048 : Shape := ⟨2, ![8192, 2048]⟩
abbrev S4x2048x2048 : Shape := ⟨3, ![4, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .bf16⟩
  | .hbm, ⟨3, _⟩ => ⟨S4x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference37Ideal.lean ====
abbrev S8192x2048 : Shape := ⟨2, ![8192, 2048]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S3x2048x2048 : Shape := ⟨3, ![3, 2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .bf16⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S8192x2048, .f32⟩
  | .hbm, ⟨11, _⟩ => ⟨S2048x2048, .bf16⟩
  | .hbm, ⟨12, _⟩ => ⟨S1x2048x2048, .bf16⟩
  | .hbm, ⟨13, _⟩ => ⟨S3x2048x2048, .bf16⟩
  | .hbm, ⟨14, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel38.lean ====
abbrev S8192x2048 : Shape := ⟨2, ![8192, 2048]⟩
abbrev S4x2048x2048 : Shape := ⟨3, ![4, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .bf16⟩
  | .hbm, ⟨3, _⟩ => ⟨S4x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel38Ideal.lean ====
abbrev S8192x2048 : Shape := ⟨2, ![8192, 2048]⟩
abbrev S4x2048x2048 : Shape := ⟨3, ![4, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .bf16⟩
  | .hbm, ⟨3, _⟩ => ⟨S4x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference38Ideal.lean ====
abbrev S8192x2048 : Shape := ⟨2, ![8192, 2048]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S2x2048x2048 : Shape := ⟨3, ![2, 2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .bf16⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S8192x2048, .f32⟩
  | .hbm, ⟨11, _⟩ => ⟨S2048x2048, .bf16⟩
  | .hbm, ⟨12, _⟩ => ⟨S1x2048x2048, .bf16⟩
  | .hbm, ⟨13, _⟩ => ⟨S1x2048x2048, .bf16⟩
  | .hbm, ⟨14, _⟩ => ⟨S2x2048x2048, .bf16⟩
  | .hbm, ⟨15, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel39.lean ====
abbrev S8192x2048 : Shape := ⟨2, ![8192, 2048]⟩
abbrev S4x2048x2048 : Shape := ⟨3, ![4, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .bf16⟩
  | .hbm, ⟨3, _⟩ => ⟨S4x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel39Ideal.lean ====
abbrev S8192x2048 : Shape := ⟨2, ![8192, 2048]⟩
abbrev S4x2048x2048 : Shape := ⟨3, ![4, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .bf16⟩
  | .hbm, ⟨3, _⟩ => ⟨S4x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference39Ideal.lean ====
abbrev S8192x2048 : Shape := ⟨2, ![8192, 2048]⟩
abbrev S4x2048x2048 : Shape := ⟨3, ![4, 2048, 2048]⟩
abbrev S_ : Shape := ⟨0, ![]⟩
abbrev S2048x2048 : Shape := ⟨2, ![2048, 2048]⟩
abbrev S2x2048x2048 : Shape := ⟨3, ![2, 2048, 2048]⟩
abbrev S1x2048x2048 : Shape := ⟨3, ![1, 2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x2048x2048, .bf16⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S8192x2048, .f32⟩
  | .hbm, ⟨11, _⟩ => ⟨S2048x2048, .bf16⟩
  | .hbm, ⟨12, _⟩ => ⟨S2x2048x2048, .bf16⟩
  | .hbm, ⟨13, _⟩ => ⟨S1x2048x2048, .bf16⟩
  | .hbm, ⟨14, _⟩ => ⟨S1x2048x2048, .bf16⟩
  | .hbm, ⟨15, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel40.lean ====
abbrev S8192x2048 : Shape := ⟨2, ![8192, 2048]⟩
abbrev S2x2048x2048 : Shape := ⟨3, ![2, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x2048x2048, .bf16⟩
  | .hbm, ⟨3, _⟩ => ⟨S2x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel40Ideal.lean ====
abbrev S8192x2048 : Shape := ⟨2, ![8192, 2048]⟩
abbrev S2x2048x2048 : Shape := ⟨3, ![2, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x2048x2048, .bf16⟩
  | .hbm, ⟨3, _⟩ => ⟨S2x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference40Ideal.lean ====
abbrev S8192x2048 : Shape := ⟨2, ![8192, 2048]⟩
abbrev S2x2048x2048 : Shape := ⟨3, ![2, 2048, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x2048x2048, .bf16⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S8192x2048, .f32⟩
  | .hbm, ⟨11, _⟩ => ⟨S2048x2048, .bf16⟩
  | .hbm, ⟨12, _⟩ => ⟨S1x2048x2048, .bf16⟩
  | .hbm, ⟨13, _⟩ => ⟨S1x2048x2048, .bf16⟩
  | .hbm, ⟨14, _⟩ => ⟨S2x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel41.lean ====
abbrev S8192x2048 : Shape := ⟨2, ![8192, 2048]⟩
abbrev S8192x4096 : Shape := ⟨2, ![8192, 4096]⟩
abbrev S2x2048x4096 : Shape := ⟨3, ![2, 2048, 4096]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2x2048x4096, .bf16⟩
  | .hbm, ⟨3, _⟩ => ⟨S2x2048x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel41Ideal.lean ====
abbrev S8192x2048 : Shape := ⟨2, ![8192, 2048]⟩
abbrev S8192x4096 : Shape := ⟨2, ![8192, 4096]⟩
abbrev S2x2048x4096 : Shape := ⟨3, ![2, 2048, 4096]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2x2048x4096, .bf16⟩
  | .hbm, ⟨3, _⟩ => ⟨S2x2048x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference41Ideal.lean ====
abbrev S8192x2048 : Shape := ⟨2, ![8192, 2048]⟩
abbrev S8192x4096 : Shape := ⟨2, ![8192, 4096]⟩
abbrev S2x2048x4096 : Shape := ⟨3, ![2, 2048, 4096]⟩
abbrev S_ : Shape := ⟨0, ![]⟩
abbrev S2048x4096 : Shape := ⟨2, ![2048, 4096]⟩
abbrev S4096x2048 : Shape := ⟨2, ![4096, 2048]⟩
abbrev S1x2048x4096 : Shape := ⟨3, ![1, 2048, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2x2048x4096, .bf16⟩
  | .hbm, ⟨3, _⟩ => ⟨S_, .f32⟩
  | .hbm, ⟨4, _⟩ => ⟨S2048x4096, .f32⟩
  | .hbm, ⟨5, _⟩ => ⟨S8192x2048, .f32⟩
  | .hbm, ⟨6, _⟩ => ⟨S8192x4096, .f32⟩
  | .hbm, ⟨7, _⟩ => ⟨S8192x4096, .f32⟩
  | .hbm, ⟨8, _⟩ => ⟨S4096x2048, .f32⟩
  | .hbm, ⟨9, _⟩ => ⟨S2048x4096, .f32⟩
  | .hbm, ⟨10, _⟩ => ⟨S8192x2048, .f32⟩
  | .hbm, ⟨11, _⟩ => ⟨S2048x4096, .bf16⟩
  | .hbm, ⟨12, _⟩ => ⟨S1x2048x4096, .bf16⟩
  | .hbm, ⟨13, _⟩ => ⟨S1x2048x4096, .bf16⟩
  | .hbm, ⟨14, _⟩ => ⟨S2x2048x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel42.lean ====
abbrev S8192x2048 : Shape := ⟨2, ![8192, 2048]⟩
abbrev S8192x6144 : Shape := ⟨2, ![8192, 6144]⟩
abbrev S2x2048x6144 : Shape := ⟨3, ![2, 2048, 6144]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2x2048x6144, .bf16⟩
  | .hbm, ⟨3, _⟩ => ⟨S2x2048x6144, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel42Ideal.lean ====
abbrev S8192x2048 : Shape := ⟨2, ![8192, 2048]⟩
abbrev S8192x6144 : Shape := ⟨2, ![8192, 6144]⟩
abbrev S2x2048x6144 : Shape := ⟨3, ![2, 2048, 6144]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2x2048x6144, .bf16⟩
  | .hbm, ⟨3, _⟩ => ⟨S2x2048x6144, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference42Ideal.lean ====
abbrev S8192x2048 : Shape := ⟨2, ![8192, 2048]⟩
abbrev S8192x6144 : Shape := ⟨2, ![8192, 6144]⟩
abbrev S2x2048x6144 : Shape := ⟨3, ![2, 2048, 6144]⟩
abbrev S_ : Shape := ⟨0, ![]⟩
abbrev S2048x6144 : Shape := ⟨2, ![2048, 6144]⟩
abbrev S6144x2048 : Shape := ⟨2, ![6144, 2048]⟩
abbrev S1x2048x6144 : Shape := ⟨3, ![1, 2048, 6144]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2x2048x6144, .bf16⟩
  | .hbm, ⟨3, _⟩ => ⟨S_, .f32⟩
  | .hbm, ⟨4, _⟩ => ⟨S2048x6144, .f32⟩
  | .hbm, ⟨5, _⟩ => ⟨S8192x2048, .f32⟩
  | .hbm, ⟨6, _⟩ => ⟨S8192x6144, .f32⟩
  | .hbm, ⟨7, _⟩ => ⟨S8192x6144, .f32⟩
  | .hbm, ⟨8, _⟩ => ⟨S6144x2048, .f32⟩
  | .hbm, ⟨9, _⟩ => ⟨S2048x6144, .f32⟩
  | .hbm, ⟨10, _⟩ => ⟨S8192x2048, .f32⟩
  | .hbm, ⟨11, _⟩ => ⟨S2048x6144, .bf16⟩
  | .hbm, ⟨12, _⟩ => ⟨S1x2048x6144, .bf16⟩
  | .hbm, ⟨13, _⟩ => ⟨S1x2048x6144, .bf16⟩
  | .hbm, ⟨14, _⟩ => ⟨S2x2048x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel43.lean ====
abbrev S8192x2048 : Shape := ⟨2, ![8192, 2048]⟩
abbrev S2x2048x4096 : Shape := ⟨3, ![2, 2048, 4096]⟩
abbrev S8192x4096 : Shape := ⟨2, ![8192, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .bf16⟩
  | .hbm, ⟨2, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel43Ideal.lean ====
abbrev S8192x2048 : Shape := ⟨2, ![8192, 2048]⟩
abbrev S2x2048x4096 : Shape := ⟨3, ![2, 2048, 4096]⟩
abbrev S8192x4096 : Shape := ⟨2, ![8192, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .bf16⟩
  | .hbm, ⟨2, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference43Ideal.lean ====
abbrev S8192x2048 : Shape := ⟨2, ![8192, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .bf16⟩
  | .hbm, ⟨2, _⟩ => ⟨S1x2048x4096, .bf16⟩
  | .hbm, ⟨3, _⟩ => ⟨S2048x4096, .bf16⟩
  | .hbm, ⟨4, _⟩ => ⟨S8192x2048, .f32⟩
  | .hbm, ⟨5, _⟩ => ⟨S2048x4096, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel44.lean ====
abbrev S8192x2048 : Shape := ⟨2, ![8192, 2048]⟩
abbrev S2x2048x4096 : Shape := ⟨3, ![2, 2048, 4096]⟩
abbrev S8192x4096 : Shape := ⟨2, ![8192, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .bf16⟩
  | .hbm, ⟨2, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel44Ideal.lean ====
abbrev S8192x2048 : Shape := ⟨2, ![8192, 2048]⟩
abbrev S2x2048x4096 : Shape := ⟨3, ![2, 2048, 4096]⟩
abbrev S8192x4096 : Shape := ⟨2, ![8192, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .bf16⟩
  | .hbm, ⟨2, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference44Ideal.lean ====
abbrev S8192x2048 : Shape := ⟨2, ![8192, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .bf16⟩
  | .hbm, ⟨2, _⟩ => ⟨S1x2048x4096, .bf16⟩
  | .hbm, ⟨3, _⟩ => ⟨S2048x4096, .bf16⟩
  | .hbm, ⟨4, _⟩ => ⟨S8192x2048, .f32⟩
  | .hbm, ⟨5, _⟩ => ⟨S2048x4096, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel45.lean ====
abbrev S8192x2048 : Shape := ⟨2, ![8192, 2048]⟩
abbrev S2x2048x6144 : Shape := ⟨3, ![2, 2048, 6144]⟩
abbrev S8192x6144 : Shape := ⟨2, ![8192, 6144]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .bf16⟩
  | .hbm, ⟨2, _⟩ => ⟨S8192x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel45Ideal.lean ====
abbrev S8192x2048 : Shape := ⟨2, ![8192, 2048]⟩
abbrev S2x2048x6144 : Shape := ⟨3, ![2, 2048, 6144]⟩
abbrev S8192x6144 : Shape := ⟨2, ![8192, 6144]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .bf16⟩
  | .hbm, ⟨2, _⟩ => ⟨S8192x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference45Ideal.lean ====
abbrev S8192x2048 : Shape := ⟨2, ![8192, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .bf16⟩
  | .hbm, ⟨2, _⟩ => ⟨S1x2048x6144, .bf16⟩
  | .hbm, ⟨3, _⟩ => ⟨S2048x6144, .bf16⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel46.lean ====
abbrev S8192x2048 : Shape := ⟨2, ![8192, 2048]⟩
abbrev S2x2048x6144 : Shape := ⟨3, ![2, 2048, 6144]⟩
abbrev S8192x6144 : Shape := ⟨2, ![8192, 6144]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .bf16⟩
  | .hbm, ⟨2, _⟩ => ⟨S8192x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel46Ideal.lean ====
abbrev S8192x2048 : Shape := ⟨2, ![8192, 2048]⟩
abbrev S2x2048x6144 : Shape := ⟨3, ![2, 2048, 6144]⟩
abbrev S8192x6144 : Shape := ⟨2, ![8192, 6144]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .bf16⟩
  | .hbm, ⟨2, _⟩ => ⟨S8192x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference46Ideal.lean ====
abbrev S8192x2048 : Shape := ⟨2, ![8192, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .bf16⟩
  | .hbm, ⟨2, _⟩ => ⟨S1x2048x6144, .bf16⟩
  | .hbm, ⟨3, _⟩ => ⟨S2048x6144, .bf16⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel47.lean ====
abbrev S8192x2048 : Shape := ⟨2, ![8192, 2048]⟩
abbrev S2x2048x2048 : Shape := ⟨3, ![2, 2048, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel47Ideal.lean ====
abbrev S8192x2048 : Shape := ⟨2, ![8192, 2048]⟩
abbrev S2x2048x2048 : Shape := ⟨3, ![2, 2048, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference47Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S1x2048x2048, .bf16⟩
  | .hbm, ⟨4, _⟩ => ⟨S2048x2048, .bf16⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel48.lean ====
abbrev S8192x2048 : Shape := ⟨2, ![8192, 2048]⟩
abbrev S2x2048x2048 : Shape := ⟨3, ![2, 2048, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel48Ideal.lean ====
abbrev S8192x2048 : Shape := ⟨2, ![8192, 2048]⟩
abbrev S2x2048x2048 : Shape := ⟨3, ![2, 2048, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference48Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .bf16⟩
  | .hbm, ⟨2, _⟩ => ⟨S8192x2048, .f32⟩
  | .hbm, ⟨3, _⟩ => ⟨S1x2048x2048, .bf16⟩
  | .hbm, ⟨4, _⟩ => ⟨S2048x2048, .bf16⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel49.lean ====
abbrev S8192x2048 : Shape := ⟨2, ![8192, 2048]⟩
abbrev S4x2048x2048 : Shape := ⟨3, ![4, 2048, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Kernel49Ideal.lean ====
  let c0_i32_0 : BitVec 32 := 0#32
  ![c0_i32.toNat, arg2.toNat, arg1.toNat]
-- ==== Reference49Ideal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel50.lean ====
abbrev S8192x2048 : Shape := ⟨2, ![8192, 2048]⟩
abbrev S4x2048x2048 : Shape := ⟨3, ![4, 2048, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Kernel50Ideal.lean ====
  let c1_i32 : BitVec 32 := 1#32
  ![c1_i32.toNat, arg2.toNat, arg1.toNat]
-- ==== Reference50Ideal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel51.lean ====
abbrev S8192x2048 : Shape := ⟨2, ![8192, 2048]⟩
abbrev S4x2048x2048 : Shape := ⟨3, ![4, 2048, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Kernel51Ideal.lean ====
  let c2_i32 : BitVec 32 := 2#32
  ![c2_i32.toNat, arg2.toNat, arg1.toNat]
-- ==== Reference51Ideal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel52.lean ====
abbrev S8192x2048 : Shape := ⟨2, ![8192, 2048]⟩
abbrev S4x2048x2048 : Shape := ⟨3, ![4, 2048, 2048]⟩
abbrev S256x2048 : Shape := ⟨2, ![256, 2048]⟩
abbrev S1x2048x2048 : Shape := ⟨3, ![1, 2048, 2048]⟩
abbrev S2048x2048 : Shape := ⟨2, ![2048, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference52Ideal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S8192x2048, .f32⟩
  | .hbm, ⟨4, _⟩ => ⟨S1x2048x2048, .bf16⟩
  | .hbm, ⟨5, _⟩ => ⟨S2048x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mlp2.lean ====
/-
  The gradient at the up projection's output: what the call leaves is the reference's array.
-/
module

public import proofs.«01_k».proof.Defs
public import proofs.«01_k».proof.Proof.Gen.Kernel2
public import proofs.«01_k».proof.Proof.Gen.Kernel2Ideal.Value
public import proofs.«01_k».proof.Proof.Gen.Reference2Ideal.Read
public import proofs.«01_k».proof.Proof.Gen.Reference2Ideal.Run
public import Idealize.ShloMosaic.Lib.Pipeline.ValueKit
public import Idealize.ShloMosaic.Lib.Quiescent

@[expose] public section

set_option maxRecDepth 16384

noncomputable section

namespace Cert.Kernel2Ideal.Mlp

open Idealize.ShloMosaic Idealize.ShloMosaic.TcCoe Idealize.SL.Sem Idealize.ShloMosaic.ValueIdx
open Cert.Kernel2Ideal Cert.Kernel2Ideal.Gen

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![0, (grid0.coords t 1).val, 0] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

/-- A gated value vanishes where the gate is closed. -/
theorem gate (a s u : EReal) : a * (s * max u 0) = if 0 < u then a * (s * max u 0) else 0 := by
  by_cases h : 0 < u
  · rw [if_pos h]
  · rw [if_neg h, max_eq_right (not_lt.1 h), mul_zero, mul_zero]

theorem final : (dats m 0 c).arrAt 3 cfg0.N = Cert.Reference2Ideal.Read.val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, Cert.Reference2Ideal.Read.val_main_v17, Cert.Reference2Ideal.Read.val_main_v16, Cert.Reference2Ideal.Read.val_main_v15, Cert.Reference2Ideal.Read.val_main_cst_2, Cert.Reference2Ideal.Read.val_main_v14, Cert.Reference2Ideal.Read.val_main_v13, Cert.Reference2Ideal.Read.val_main_v11, Cert.Reference2Ideal.Read.val_main_v10, Cert.Reference2Ideal.Read.val_main_cst_1, Cert.Reference2Ideal.Read.val_main_v7, Cert.Reference2Ideal.Read.val_main_v6, Cert.Reference2Ideal.Read.val_main_cst, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_call0_v0, Cert.Reference2Ideal.Read.val_main_call0_cst]
  refine Eq.trans ?_ (gate _ _ _)
  blk_point [iblk, V, ix3v t, ix0v t, ix1v t, ix2v t]

theorem algebraic : Cert.algebraic_Kernel2Ideal_Reference2Ideal (hKernel2Ideal := Cert.Kernel2Ideal.Gen.facts)
    (hReference2Ideal := Cert.Reference2Ideal.Gen.facts) := by
  intro m g m' g' _ he
  refine ⟨fun c => Cert.Reference2Ideal.Read.val_main_v17 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel2Ideal.Value.run_blocks m g)
  · refine (θ_run _ _ _).mono (fun r h c => ?_) (Cert.Reference2Ideal.Value.run (F := Ideal) m' g')
    obtain ⟨e0, e1, e2⟩ := he c
    refine ⟨(h c).1.trans ?_, (h c).2⟩
    exact (Cert.Reference2Ideal.Read.val_main_v17_eq _ _ _).trans (congr (congrArg₂ (Cert.Reference2Ideal.Read.val_main_v17 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel2Ideal.Gen.frame (F := Bits) m g

theorem frame_same : FrameBits = Cert.quiescent_Kernel2 (hKernel2 := Cert.Kernel2.Gen.facts) := by sl_kernel_rfl

theorem frame_kernel : Cert.quiescent_Kernel2 (hKernel2 := Cert.Kernel2.Gen.facts) := cast frame_same frame_bits

theorem frame_ideal : Cert.quiescent_Kernel2Ideal (hKernel2Ideal := Cert.Kernel2Ideal.Gen.facts) := fun m g _ =>
  Cert.Kernel2Ideal.Gen.frame (F := Ideal) m g

theorem frame_reference : Cert.quiescent_Reference2Ideal (hReference2Ideal := Cert.Reference2Ideal.Gen.facts) := fun m g _ =>
  (θ_run _ _ _).mono (fun r h => ⟨fun c => (h c).2, Idealize.ShloMosaic.sem_eq_zero_of_no_sems (by decide) r.2⟩)
    (Cert.Reference2Ideal.Value.run (F := Ideal) m g)

end Cert.Kernel2Ideal.Mlp

end
-- ==== Proof.Mlp3.lean ====
/-
  The gradient at the normalised input: the contraction walked in four stretches by four grid points over a carried
  accumulator is the reference's whole contraction.
-/
module

public import proofs.«01_k».proof.Defs
public import proofs.«01_k».proof.Proof.Gen.Kernel3
public import proofs.«01_k».proof.Proof.Gen.Kernel3Ideal.Value
public import proofs.«01_k».proof.Proof.Gen.Reference3Ideal.Read
public import proofs.«01_k».proof.Proof.Gen.Reference3Ideal.Run
public import Idealize.ShloMosaic.Lib.Pipeline.ValueKit
public import Idealize.ShloMosaic.Lib.Quiescent

@[expose] public section

set_option maxRecDepth 16384

noncomputable section

namespace Cert.Kernel3Ideal.Mlp

open Idealize.ShloMosaic Idealize.ShloMosaic.TcCoe Idealize.SL.Sem Idealize.ShloMosaic.ValueIdx
open Cert.Kernel3Ideal Cert.Kernel3Ideal.Gen

variable (m : (ℓ : Loc nD τ sig) → Buf (Elt Ideal) ℓ) (c : Dev nD)

theorem ix0v : ∀ t : Fin cfg0.N, win0_0.index t = ![t.val / 8, t.val % 4] :=
  (by decide +kernel : ∀ t : Fin grid0.N, _)

theorem ix1v : ∀ t : Fin cfg0.N, win0_1.index t = ![0, t.val / 4 % 2, t.val % 4] :=
  (by decide +kernel : ∀ t : Fin grid0.N, _)

theorem ix2v : ∀ t : Fin cfg0.N, win0_2.index t = ![t.val / 8, t.val / 4 % 2] :=
  (by decide +kernel : ∀ t : Fin grid0.N, _)

/-- What a point adds at an index of the block: its stretch of the contraction. -/
def share (t : Fin cfg0.N) (j : S1024x1024.Idx) : EReal :=
  ∑ k : Fin 2048, HMul.hMul (α := EReal) (β := EReal) (γ := EReal) (iblk m c 0 t (Idealize.ShloMosaic.ix2 (j 0) k)) (iblk m c 1 t (Idealize.ShloMosaic.ix3 0 (j 1) k))

theorem pay_zero (j : S1024x1024.Idx) : k0_pay1 (F := Ideal) j = (0 : EReal) := by pointwise [k0_pay1]

theorem pay_add (t : Fin cfg0.N) (v : Vec Ideal S1024x1024 .f32) (j : S1024x1024.Idx) :
    k0_pay2 v (iblk m c 0 t) (iblk m c 1 t) j = (v j + share m c t j : EReal) := by
  pointwise [k0_pay2, share]

theorem step0 (t : Fin cfg0.N) (h : t.val % 4 = 0) (j : S1024x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S1024x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1024x1024.Idx) :
    (outsAt0 m c t.val t.isLt).1 y = ((outsAt0 m c t.val t.isLt).2 y : EReal) := by
  rw [outsAt0_C m c t (by omega) hm]
  dsimp only
  frame_out
  pointwise [k0_pay3]

theorem summed (t : Fin cfg0.N) (hm : t.val % 4 = 3) (y : S1024x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

theorem final : (dats m 0 c).arrAt 2 cfg0.N = Cert.Reference3Ideal.Read.val_main_v9 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2]
  refine (written m c t hm _).trans ((summed m c t hm _).trans ?_)
  rw [zero_add]
  pointwise [Cert.Reference3Ideal.Read.val_main_v9, Cert.Reference3Ideal.Read.val_main_v8, Cert.Reference3Ideal.Read.val_main_v4, Cert.Reference3Ideal.Read.val_main_v3, Cert.Reference3Ideal.Read.val_main_v2, Cert.Reference3Ideal.Read.val_main_v1]
  unfold share
  refine Fin.sum_mul_add_congr fun s k hl => ?_
  have hN : t.val < 64 := lt_of_lt_of_eq t.isLt (show cfg0.N = 64 from N_0)
  congr 1 <;> blk_ext [iblk, V, ix2v t, ix0v ⟨4 * (t.val / 4) + s.val, Pipeline.run_point_lt_of_flush t hm s⟩, ix1v ⟨4 * (t.val / 4) + s.val, Pipeline.run_point_lt_of_flush t hm s⟩]

theorem algebraic : Cert.algebraic_Kernel3Ideal_Reference3Ideal (hKernel3Ideal := Cert.Kernel3Ideal.Gen.facts)
    (hReference3Ideal := Cert.Reference3Ideal.Gen.facts) := by
  intro m g m' g' _ he
  refine ⟨fun c => Cert.Reference3Ideal.Read.val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel3Ideal.Value.run_blocks m g)
  · refine (θ_run _ _ _).mono (fun r h c => ?_) (Cert.Reference3Ideal.Value.run (F := Ideal) m' g')
    obtain ⟨e0, e1⟩ := he c
    refine ⟨(h c).1.trans ?_, (h c).2⟩
    exact (Cert.Reference3Ideal.Read.val_main_v9_eq _ _).trans (congrArg₂ (Cert.Reference3Ideal.Read.val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel3Ideal.Gen.frame (F := Bits) m g

theorem frame_same : FrameBits = Cert.quiescent_Kernel3 (hKernel3 := Cert.Kernel3.Gen.facts) := by sl_kernel_rfl

theorem frame_kernel : Cert.quiescent_Kernel3 (hKernel3 := Cert.Kernel3.Gen.facts) := cast frame_same frame_bits

theorem frame_ideal : Cert.quiescent_Kernel3Ideal (hKernel3Ideal := Cert.Kernel3Ideal.Gen.facts) := fun m g _ =>
  Cert.Kernel3Ideal.Gen.frame (F := Ideal) m g

theorem frame_reference : Cert.quiescent_Reference3Ideal (hReference3Ideal := Cert.Reference3Ideal.Gen.facts) := fun m g _ =>
  (θ_run _ _ _).mono (fun r h => ⟨fun c => (h c).2, Idealize.ShloMosaic.sem_eq_zero_of_no_sems (by decide) r.2⟩)
    (Cert.Reference3Ideal.Value.run (F := Ideal) m g)

end Cert.Kernel3Ideal.Mlp

end
-- ==== Proof.Mlp4.lean ====
/-
  The gradient of the down projection's weight, written into one layer of the stacked gradient in place.
-/
module

public import proofs.«01_k».proof.Defs
public import proofs.«01_k».proof.Proof.Gen.Kernel4
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit
public import Idealize.ShloMosaic.Lib.Pipeline.ValueKit.Partial
public import Idealize.ShloMosaic.Lib.Quiescent

@[expose] public section

set_option maxRecDepth 16384

noncomputable section

namespace Cert.Kernel4Ideal.Mlp

open Idealize.ShloMosaic Idealize.ShloMosaic.TcCoe Idealize.SL.Sem Idealize.ShloMosaic.ValueIdx
open Cert.Kernel4Ideal Cert.Kernel4Ideal.Gen

variable (m : (ℓ : Loc nD τ sig) → Buf (Elt Ideal) ℓ) (c : Dev nD)

theorem ix0v : ∀ t : Fin cfg0.N, win0_0.index t = ![t.val % 4, t.val / 8] :=
  (by decide +kernel : ∀ t : Fin grid0.N, _)

theorem ix1v : ∀ t : Fin cfg0.N, win0_1.index t = ![t.val % 4, t.val / 4 % 2] :=
  (by decide +kernel : ∀ t : Fin grid0.N, _)

theorem ix2v : ∀ t : Fin cfg0.N, win0_2.index t = ![0, t.val / 8, t.val / 4 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = Cert.Reference4Ideal.Read.val_main_v10 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 0) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 128 := lt_of_lt_of_eq t.isLt (show cfg0.N = 128 from N_0)
    pointwise [Cert.Reference4Ideal.Read.val_main_v10, Cert.Reference4Ideal.Read.val_main_v9, Cert.Reference4Ideal.Read.val_main_v8, Cert.Reference4Ideal.Read.val_main_v7, Cert.Reference4Ideal.Read.val_main_v5, Cert.Reference4Ideal.Read.val_main_v4, Cert.Reference4Ideal.Read.val_main_v2, Cert.Reference4Ideal.Read.val_main_v1]
    rw [dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [Cert.Reference4Ideal.Read.val_main_v10, Cert.Reference4Ideal.Read.val_main_v9, Cert.Reference4Ideal.Read.val_main_v8, Cert.Reference4Ideal.Read.val_main_v7, Cert.Reference4Ideal.Read.val_main_v5, Cert.Reference4Ideal.Read.val_main_v4, Cert.Reference4Ideal.Read.val_main_v2, Cert.Reference4Ideal.Read.val_main_v1]
    rw [dif_neg (by blk_simp; omega)]
    entry_read
    blk_ext

theorem algebraic : Cert.algebraic_Kernel4Ideal_Reference4Ideal (hKernel4Ideal := Cert.Kernel4Ideal.Gen.facts)
    (hReference4Ideal := Cert.Reference4Ideal.Gen.facts) := by
  intro m g m' g' _ he
  refine ⟨fun c => Cert.Reference4Ideal.Read.val_main_v10 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel4Ideal.Value.run_blocks m g)
  · refine (θ_run _ _ _).mono (fun r h c => ?_) (Cert.Reference4Ideal.Value.run (F := Ideal) m' g')
    obtain ⟨e0, e1, e2⟩ := he c
    refine ⟨(h c).1.trans ?_, (h c).2⟩
    exact (Cert.Reference4Ideal.Read.val_main_v10_eq _ _ _).trans (congr (congrArg₂ (Cert.Reference4Ideal.Read.val_main_v10 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel4Ideal.Gen.frame (F := Bits) m g

theorem frame_same : FrameBits = Cert.quiescent_Kernel4 (hKernel4 := Cert.Kernel4.Gen.facts) := by sl_kernel_rfl

theorem frame_kernel : Cert.quiescent_Kernel4 (hKernel4 := Cert.Kernel4.Gen.facts) := cast frame_same frame_bits

theorem frame_ideal : Cert.quiescent_Kernel4Ideal (hKernel4Ideal := Cert.Kernel4Ideal.Gen.facts) := fun m g _ =>
  Cert.Kernel4Ideal.Gen.frame (F := Ideal) m g

theorem frame_reference : Cert.quiescent_Reference4Ideal (hReference4Ideal := Cert.Reference4Ideal.Gen.facts) := fun m g _ =>
  (θ_run _ _ _).mono (fun r h => ⟨fun c => (h c).2, Idealize.ShloMosaic.sem_eq_zero_of_no_sems (by decide) r.2⟩)
    (Cert.Reference4Ideal.Value.run (F := Ideal) m g)

end Cert.Kernel4Ideal.Mlp

end
-- ==== Proof.Mlp5.lean ====
/-
  The gradient of the up projection's weight, written into one layer of the stacked gradient in place.
-/
module

public import proofs.«01_k».proof.Defs
public import proofs.«01_k».proof.Proof.Gen.Kernel5
public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Pipeline.ValueKit.Partial
public import Idealize.ShloMosaic.Lib.Quiescent

@[expose] public section

set_option maxRecDepth 16384

noncomputable section

namespace Cert.Kernel5Ideal.Mlp

open Idealize.ShloMosaic Idealize.ShloMosaic.TcCoe Idealize.SL.Sem Idealize.ShloMosaic.ValueIdx
open Cert.Kernel5Ideal Cert.Kernel5Ideal.Gen

variable (m : (ℓ : Loc nD τ sig) → Buf (Elt Ideal) ℓ) (c : Dev nD)

theorem ix0v : ∀ t : Fin cfg0.N, win0_0.index t = ![t.val % 4, t.val / 32] :=
  (by decide +kernel : ∀ t : Fin grid0.N, _)

theorem ix1v : ∀ t : Fin cfg0.N, win0_1.index t = ![t.val % 4, t.val / 4 % 8] :=
  (by decide +kernel : ∀ t : Fin grid0.N, _)

theorem ix2v : ∀ t : Fin cfg0.N, win0_2.index t = ![0, t.val / 32, t.val / 4 % 8] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = Cert.Reference5Ideal.Read.val_main_v10 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 0) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 128 := lt_of_lt_of_eq t.isLt (show cfg0.N = 128 from N_0)
    pointwise [Cert.Reference5Ideal.Read.val_main_v10, Cert.Reference5Ideal.Read.val_main_v9, Cert.Reference5Ideal.Read.val_main_v8, Cert.Reference5Ideal.Read.val_main_v7, Cert.Reference5Ideal.Read.val_main_v5, Cert.Reference5Ideal.Read.val_main_v4, Cert.Reference5Ideal.Read.val_main_v2, Cert.Reference5Ideal.Read.val_main_v1]
    rw [dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [Cert.Reference5Ideal.Read.val_main_v10, Cert.Reference5Ideal.Read.val_main_v9, Cert.Reference5Ideal.Read.val_main_v8, Cert.Reference5Ideal.Read.val_main_v7, Cert.Reference5Ideal.Read.val_main_v5, Cert.Reference5Ideal.Read.val_main_v4, Cert.Reference5Ideal.Read.val_main_v2, Cert.Reference5Ideal.Read.val_main_v1]
    rw [dif_neg (by blk_simp; omega)]
    entry_read
    blk_ext

theorem algebraic : Cert.algebraic_Kernel5Ideal_Reference5Ideal (hKernel5Ideal := Cert.Kernel5Ideal.Gen.facts)
    (hReference5Ideal := Cert.Reference5Ideal.Gen.facts) := by
  intro m g m' g' _ he
  refine ⟨fun c => Cert.Reference5Ideal.Read.val_main_v10 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel5Ideal.Value.run_blocks m g)
  · refine (θ_run _ _ _).mono (fun r h c => ?_) (Cert.Reference5Ideal.Value.run (F := Ideal) m' g')
    obtain ⟨e0, e1, e2⟩ := he c
    refine ⟨(h c).1.trans ?_, (h c).2⟩
    exact (Cert.Reference5Ideal.Read.val_main_v10_eq _ _ _).trans (congr (congrArg₂ (Cert.Reference5Ideal.Read.val_main_v10 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel5Ideal.Gen.frame (F := Bits) m g

theorem frame_same : FrameBits = Cert.quiescent_Kernel5 (hKernel5 := Cert.Kernel5.Gen.facts) := by sl_kernel_rfl

theorem frame_kernel : Cert.quiescent_Kernel5 (hKernel5 := Cert.Kernel5.Gen.facts) := cast frame_same frame_bits

theorem frame_ideal : Cert.quiescent_Kernel5Ideal (hKernel5Ideal := Cert.Kernel5Ideal.Gen.facts) := fun m g _ =>
  Cert.Kernel5Ideal.Gen.frame (F := Ideal) m g

theorem frame_reference : Cert.quiescent_Reference5Ideal (hReference5Ideal := Cert.Reference5Ideal.Gen.facts) := fun m g _ =>
  (θ_run _ _ _).mono (fun r h => ⟨fun c => (h c).2, Idealize.ShloMosaic.sem_eq_zero_of_no_sems (by decide) r.2⟩)
    (Cert.Reference5Ideal.Value.run (F := Ideal) m g)

end Cert.Kernel5Ideal.Mlp

end
-- ==== Proof.Mlp6.lean ====
/-
  The up projection of the forward pass: the call's two arrays, what it projects to and the squared positive part of it,
  are the reference's.
-/
module

public import proofs.«01_k».proof.Defs
public import proofs.«01_k».proof.Proof.Gen.Kernel6
public import proofs.«01_k».proof.Proof.Gen.Kernel6Ideal.Value
public import proofs.«01_k».proof.Proof.Gen.Reference6Ideal.Read
public import proofs.«01_k».proof.Proof.Gen.Reference6Ideal.Run
public import Idealize.ShloMosaic.Lib.Pipeline.ValueKit
public import Idealize.ShloMosaic.Lib.Quiescent

@[expose] public section

set_option maxRecDepth 16384

noncomputable section

namespace Cert.Kernel6Ideal.Mlp

open Idealize.ShloMosaic Idealize.ShloMosaic.TcCoe Idealize.SL.Sem Idealize.ShloMosaic.ValueIdx
open Cert.Kernel6Ideal Cert.Kernel6Ideal.Gen

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![0, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

/-- The projection. -/
theorem final_up : (dats m 0 c).arrAt 2 cfg0.N = Cert.Reference6Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, k0_pay2, Cert.Reference6Ideal.Read.val_main_v8, Cert.Reference6Ideal.Read.val_main_v7, Cert.Reference6Ideal.Read.val_main_v6, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0, Cert.Reference6Ideal.Read.val_main_call0_v0, Cert.Reference6Ideal.Read.val_main_call0_cst]
  blk_point [iblk, V, ix2v t, ix0v t, ix1v t]

/-- The squared positive part. -/
theorem final_act : (dats m 0 c).arrAt 3 cfg0.N = Cert.Reference6Ideal.Read.val_main_v8 (F := Ideal) (m ((c : Thread nD τ).loc main_arg0)) (m ((c : Thread nD τ).loc main_arg1)) := by
  refine (dats m 0 c).arrAt_eq_of_covers 3 _ (by decide +kernel) fun t hf y => ?_
  blk_simp
  rw [after0_3]; frame_out
  pointwise [k0_pay1, k0_pay3, Cert.Reference6Ideal.Read.val_main_v8, Cert.Reference6Ideal.Read.val_main_v7, Cert.Reference6Ideal.Read.val_main_v6, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0, Cert.Reference6Ideal.Read.val_main_call0_v0, Cert.Reference6Ideal.Read.val_main_call0_cst]
  blk_point [iblk, V, ix3v t, ix0v t, ix1v t]

theorem algebraic : Cert.algebraic_Kernel6Ideal_Reference6Ideal (hKernel6Ideal := Cert.Kernel6Ideal.Gen.facts)
    (hReference6Ideal := Cert.Reference6Ideal.Gen.facts) := by
  intro m g m' g' _ he
  refine ⟨fun c => Cert.Reference6Ideal.Read.val_main_v5 (F := Ideal) (m ((c : Thread nD τ).loc main_arg0)) (m ((c : Thread nD τ).loc main_arg1)), fun c => Cert.Reference6Ideal.Read.val_main_v8 (F := Ideal) (m ((c : Thread nD τ).loc main_arg0)) (m ((c : Thread nD τ).loc main_arg1)), ?_, ?_⟩
  · exact (θ_run _ _ _).mono (fun r h c => ⟨(h c).1.trans (final_up m c), (h c).2.1.trans (final_act m c), (h c).2.2⟩) (Cert.Kernel6Ideal.Value.run_blocks m g)
  · refine (θ_run _ _ _).mono (fun r h c => ?_) (Cert.Reference6Ideal.Value.run (F := Ideal) m' g')
    obtain ⟨e0, e1⟩ := he c
    refine ⟨(h c).1.trans ?_, (h c).2.1.trans ?_, (h c).2.2⟩
    · exact (Cert.Reference6Ideal.Read.val_main_v5_eq _ _).trans (congrArg₂ (Cert.Reference6Ideal.Read.val_main_v5 (F := Ideal)) e0 e1)
    · exact (Cert.Reference6Ideal.Read.val_main_v8_eq _ _).trans (congrArg₂ (Cert.Reference6Ideal.Read.val_main_v8 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel6Ideal.Gen.frame (F := Bits) m g

theorem frame_same : FrameBits = Cert.quiescent_Kernel6 (hKernel6 := Cert.Kernel6.Gen.facts) := by sl_kernel_rfl

theorem frame_kernel : Cert.quiescent_Kernel6 (hKernel6 := Cert.Kernel6.Gen.facts) := cast frame_same frame_bits

theorem frame_ideal : Cert.quiescent_Kernel6Ideal (hKernel6Ideal := Cert.Kernel6Ideal.Gen.facts) := fun m g _ =>
  Cert.Kernel6Ideal.Gen.frame (F := Ideal) m g

theorem frame_reference : Cert.quiescent_Reference6Ideal (hReference6Ideal := Cert.Reference6Ideal.Gen.facts) := fun m g _ =>
  (θ_run _ _ _).mono (fun r h => ⟨fun c => (h c).2.2, Idealize.ShloMosaic.sem_eq_zero_of_no_sems (by decide) r.2⟩)
    (Cert.Reference6Ideal.Value.run (F := Ideal) m g)

end Cert.Kernel6Ideal.Mlp

end
-- ==== Proof.Gate7.lean ====
/-
  The gate: the gradients at the embedding's projection and at the gate's, entry by entry.
-/
module

public import proofs.«01_k».proof.Defs
public import proofs.«01_k».proof.Proof.Gen.Kernel7
public import proofs.«01_k».proof.Proof.Gen.Kernel7Ideal.Value
public import proofs.«01_k».proof.Proof.Gen.Reference7Ideal.Read
public import proofs.«01_k».proof.Proof.Gen.Reference7Ideal.Run
public import Idealize.ShloMosaic.Lib.Pipeline.ValueKit
public import Idealize.ShloMosaic.Lib.Quiescent

@[expose] public section

set_option maxRecDepth 16384

noncomputable section

namespace Cert.Kernel7Ideal.Mlp

open Idealize.ShloMosaic Idealize.ShloMosaic.TcCoe Idealize.SL.Sem Idealize.ShloMosaic.ValueIdx
open Cert.Kernel7Ideal Cert.Kernel7Ideal.Gen

variable (m : (ℓ : Loc nD τ sig) → Buf (Elt Ideal) ℓ) (c : Dev nD)

theorem ix0v : ∀ t : Fin cfg0.N, win0_0.index t = ![t.val, 0] :=
  (by decide +kernel : ∀ t : Fin grid0.N, _)

theorem ix1v : ∀ t : Fin cfg0.N, win0_1.index t = ![t.val, 0] :=
  (by decide +kernel : ∀ t : Fin grid0.N, _)

theorem ix2v : ∀ t : Fin cfg0.N, win0_2.index t = ![t.val, 0] :=
  (by decide +kernel : ∀ t : Fin grid0.N, _)

theorem ix3v : ∀ t : Fin cfg0.N, win0_3.index t = ![t.val, 0] :=
  (by decide +kernel : ∀ t : Fin grid0.N, _)

theorem ix4v : ∀ t : Fin cfg0.N, win0_4.index t = ![t.val, 0] :=
  (by decide +kernel : ∀ t : Fin grid0.N, _)

/-- At the embedding's projection. -/
theorem final_pp : (dats m 0 c).arrAt 3 cfg0.N = Cert.Reference7Ideal.Read.val_main_v14 (F := Ideal) (m ((c : Thread nD τ).loc main_arg0)) (m ((c : Thread nD τ).loc main_arg1)) := by
  refine (dats m 0 c).arrAt_eq_of_covers 3 _ (by decide +kernel) fun t hf y => ?_
  blk_simp
  rw [after0_3]; frame_out
  pointwise [k0_pay1, k0_pay2, Ideal.logistic, Cert.Reference7Ideal.Read.val_main_v15, Cert.Reference7Ideal.Read.val_main_v14, Cert.Reference7Ideal.Read.val_main_v13, Cert.Reference7Ideal.Read.val_main_v12, Cert.Reference7Ideal.Read.val_main_v11, Cert.Reference7Ideal.Read.val_main_v9, Cert.Reference7Ideal.Read.val_main_v8, Cert.Reference7Ideal.Read.val_main_v7, Cert.Reference7Ideal.Read.val_main_cst_1, Cert.Reference7Ideal.Read.val_main_v6, Cert.Reference7Ideal.Read.val_main_v5, Cert.Reference7Ideal.Read.val_main_cst_0, Cert.Reference7Ideal.Read.val_main_v4, Cert.Reference7Ideal.Read.val_main_v3, Cert.Reference7Ideal.Read.val_main_cst, Cert.Reference7Ideal.Read.val_main_v2, Cert.Reference7Ideal.Read.val_main_v1, Cert.Reference7Ideal.Read.val_main_v0]
  blk_point [iblk, V, ix3v t, ix0v t, ix1v t]

/-- At the gate's. -/
theorem final_gz : (dats m 0 c).arrAt 4 cfg0.N = Cert.Reference7Ideal.Read.val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  pointwise [k0_pay1, k0_pay3, Ideal.logistic, Cert.Reference7Ideal.Read.val_main_v15, Cert.Reference7Ideal.Read.val_main_v14, Cert.Reference7Ideal.Read.val_main_v13, Cert.Reference7Ideal.Read.val_main_v12, Cert.Reference7Ideal.Read.val_main_v11, Cert.Reference7Ideal.Read.val_main_v9, Cert.Reference7Ideal.Read.val_main_v8, Cert.Reference7Ideal.Read.val_main_v7, Cert.Reference7Ideal.Read.val_main_cst_1, Cert.Reference7Ideal.Read.val_main_v6, Cert.Reference7Ideal.Read.val_main_v5, Cert.Reference7Ideal.Read.val_main_cst_0, Cert.Reference7Ideal.Read.val_main_v4, Cert.Reference7Ideal.Read.val_main_v3, Cert.Reference7Ideal.Read.val_main_cst, Cert.Reference7Ideal.Read.val_main_v2, Cert.Reference7Ideal.Read.val_main_v1, Cert.Reference7Ideal.Read.val_main_v0]
  refine Eq.trans (mul_assoc (G := EReal) _ _ _) ?_
  refine congrArg₂ (fun a b : EReal => a * b) (Eq.trans (mul_comm (G := EReal) _ _) ?_) ?_
  all_goals blk_point [iblk, V, ix4v t, ix0v t, ix1v t, ix2v t]

theorem algebraic : Cert.algebraic_Kernel7Ideal_Reference7Ideal (hKernel7Ideal := Cert.Kernel7Ideal.Gen.facts)
    (hReference7Ideal := Cert.Reference7Ideal.Gen.facts) := by
  intro m g m' g' _ he
  refine ⟨fun c => Cert.Reference7Ideal.Read.val_main_v14 (F := Ideal) (m ((c : Thread nD τ).loc main_arg0)) (m ((c : Thread nD τ).loc main_arg1)), fun c => Cert.Reference7Ideal.Read.val_main_v15 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final_pp m c), (h c).2.1.trans (final_gz m c), (h c).2.2⟩) (Cert.Kernel7Ideal.Value.run_blocks m g)
  · refine (θ_run _ _ _).mono (fun r h c => ?_) (Cert.Reference7Ideal.Value.run (F := Ideal) m' g')
    obtain ⟨e0, e1, e2⟩ := he c
    refine ⟨(h c).1.trans ?_, (h c).2.1.trans ?_, (h c).2.2⟩
    · exact (Cert.Reference7Ideal.Read.val_main_v14_eq _ _).trans (congrArg₂ (Cert.Reference7Ideal.Read.val_main_v14 (F := Ideal)) e0 e1)
    · exact (Cert.Reference7Ideal.Read.val_main_v15_eq _ _ _).trans (congr (congrArg₂ (Cert.Reference7Ideal.Read.val_main_v15 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel7Ideal.Gen.frame (F := Bits) m g

theorem frame_same : FrameBits = Cert.quiescent_Kernel7 (hKernel7 := Cert.Kernel7.Gen.facts) := by sl_kernel_rfl

theorem frame_kernel : Cert.quiescent_Kernel7 (hKernel7 := Cert.Kernel7.Gen.facts) := cast frame_same frame_bits

theorem frame_ideal : Cert.quiescent_Kernel7Ideal (hKernel7Ideal := Cert.Kernel7Ideal.Gen.facts) := fun m g _ =>
  Cert.Kernel7Ideal.Gen.frame (F := Ideal) m g

theorem frame_reference : Cert.quiescent_Reference7Ideal (hReference7Ideal := Cert.Reference7Ideal.Gen.facts) := fun m g _ =>
  (θ_run _ _ _).mono (fun r h => ⟨fun c => (h c).2.2, Idealize.ShloMosaic.sem_eq_zero_of_no_sems (by decide) r.2⟩)
    (Cert.Reference7Ideal.Value.run (F := Ideal) m g)

end Cert.Kernel7Ideal.Mlp

end
-- ==== Proof.Row8.lean ====
/-
  One row of the norm's gradient over the reals: the two ways of writing it agree.
-/
module

public import Idealize.ShloMosaic.Lib.Pipeline.ValueKit

@[expose] public section

noncomputable section

namespace Cert.Kernel8Ideal.Mlp

open Idealize.ShloMosaic

theorem word_inf : (Ideal.ofBits .f32 0x7F800000#32 : EReal) = ⊤ := by
  simp [Ideal.ofBits, Ideal.ieee]

/-- What is below the greatest value in magnitude is a real number. -/
theorem real_of_abs_lt (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  have h' : max x (-x) < ⊤ := by
    rw [word_inf] at h
    have h2 : BitVec.ofBool (decide (max x (-x) < (⊤ : EReal))) = 1#1 := h
    by_contra hc
    rw [decide_eq_false hc] at h2
    exact absurd h2 (by decide)
  refine (EReal.coe_toReal (fun e => ?_) fun e => ?_).symm
  · subst e; simp at h'
  · subst e; simp at h'

theorem coe_total {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- The mean square with the small constant added, as a positive real number. -/
theorem mean_sq {n : ℕ} (X : Fin n → ℝ) (W E : EReal) (hW : W = ((2048 : ℝ) : EReal)) (hE : ∃ ε : ℝ, 0 < ε ∧ E = (ε : EReal)) :
    ∃ q : ℝ, 0 < q ∧ Ideal.div (∑ k, (X k : EReal) * (X k : EReal)) W + E = (q : EReal) := by
  obtain ⟨ε, h0, rfl⟩ := hE
  refine ⟨(∑ k, X k * X k) * (1 / 2048) + ε, ?_, ?_⟩
  · have : 0 ≤ ∑ k, X k * X k := Finset.sum_nonneg fun k _ => mul_self_nonneg _
    positivity
  · subst hW
    rw [Ideal.div_coe (by norm_num)]
    simp only [← EReal.coe_mul]
    rw [coe_total, ← EReal.coe_mul, ← EReal.coe_add]

theorem row_eq {n : ℕ} (X D : Fin n → ℝ) (W E H : EReal) (hW : W = ((2048 : ℝ) : EReal)) (hE : ∃ ε : ℝ, 0 < ε ∧ E = (ε : EReal))
    (hH : H = ((-1 / 2 : ℝ) : EReal)) (j : Fin n) (Q r : EReal) (hQ : Q = Ideal.div (∑ k, (X k : EReal) * (X k : EReal)) W + E)
    (hr : r = Ideal.rsqrt Q) :
    r * ((D j : EReal) - (X j : EReal) * r * Ideal.div (∑ k, (D k : EReal) * ((X k : EReal) * r)) W)
      = (D j : EReal) * r + (X j : EReal) * Ideal.div ((∑ k, (X k : EReal) * (D k : EReal)) * (H * Ideal.div r Q)) W
        + Ideal.div ((∑ k, (X k : EReal) * (D k : EReal)) * (H * Ideal.div r Q)) W * (X j : EReal) := by
  obtain ⟨q, hq, e⟩ := mean_sq X W E hW hE
  rw [e] at hQ
  subst hQ
  rw [Ideal.rsqrt_coe, if_neg (not_lt.2 hq.le), if_neg hq.ne'] at hr
  generalize hs : (Real.sqrt q)⁻¹ = s at hr
  have hss : 1 / q = s * s := by
    rw [← hs, ← mul_inv, Real.mul_self_sqrt hq.le, one_div]
  subst hr hW hH
  simp only [Ideal.div_coe (show (2048 : ℝ) ≠ 0 by norm_num), Ideal.div_coe hq.ne', hss, ← EReal.coe_mul, coe_total, ← EReal.coe_sub, ← EReal.coe_add]
  congr 1
  have h1 : (∑ k, D k * (X k * s)) = (∑ k, X k * D k) * s := by
    rw [Finset.sum_mul]
    exact Finset.sum_congr rfl fun k _ => by ring
  rw [h1]
  ring

/-- A normal word, by its sign, exponent and fraction. -/
theorem word (b : BitVec 32) (neg : Bool) (ex fr : ℕ) (hn : (b.extractLsb' 31 1 == 1#1) = neg) (he : (b.extractLsb' 23 8).toNat = ex)
    (hf : (b.extractLsb' 0 23).toNat = fr) (h1 : ¬ ex = 2 ^ 8 - 1) (h2 : ¬ ex = 0) :
    (Ideal.ofBits .f32 b : EReal) = (((if neg then -1 else 1) * ((2 ^ 23 + fr : ℕ) : ℝ) * (2 : ℝ) ^ ((ex : ℤ) - 127 - 23) : ℝ) : EReal) := by
  subst hn he hf
  change Ideal.ieee 8 23 b = _
  unfold Ideal.ieee
  dsimp only
  rw [if_neg h1, if_neg h2]
  norm_num

theorem word_half : (Ideal.ofBits .f32 0xBF000000#32 : EReal) = ((-1 / 2 : ℝ) : EReal) := by
  rw [word _ true 126 0 (by decide) (by decide) (by decide) (by decide) (by decide)]
  congr 1
  norm_num

theorem word_width : (Ideal.ofBits .f32 0x45000000#32 : EReal) = ((2048 : ℝ) : EReal) := by
  rw [word _ false 138 0 (by decide) (by decide) (by decide) (by decide) (by decide)]
  congr 1
  norm_num

theorem word_eps : ∃ ε : ℝ, 0 < ε ∧ (Ideal.ofBits .f32 0x358637BD#32 : EReal) = (ε : EReal) := by
  refine ⟨_, ?_, word _ false 107 407485 (by decide) (by decide) (by decide) (by decide) (by decide)⟩
  norm_num

end Cert.Kernel8Ideal.Mlp

end
-- ==== Proof.Norm8.lean ====
/-
  The norm's gradient: at its argument, and at the gain summed over the rows.
-/
module

public import proofs.«01_k».proof.Defs
public import proofs.«01_k».proof.Proof.Gen.Kernel8
public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit
public import Idealize.ShloMosaic.Lib.Quiescent
public import proofs.«01_k».proof.Proof.Row8
public import proofs.«01_k».proof.Proof.Gen.Pre_finite_norm
public import Idealize.ShloMosaic.Lib.ReduceAll

@[expose] public section

set_option maxRecDepth 16384

noncomputable section

namespace Cert.Kernel8Ideal.Mlp

open Idealize.ShloMosaic Idealize.ShloMosaic.TcCoe Idealize.SL.Sem Idealize.ShloMosaic.ValueIdx
open Cert.Kernel8Ideal Cert.Kernel8Ideal.Gen

variable (m : (ℓ : Loc nD τ sig) → Buf (Elt Ideal) ℓ) (c : Dev nD)

theorem ix0v : ∀ t : Fin cfg0.N, win0_0.index t = ![t.val, 0] :=
  (by decide +kernel : ∀ t : Fin grid0.N, _)

theorem ix1v : ∀ t : Fin cfg0.N, win0_1.index t = ![0, 0] :=
  (by decide +kernel : ∀ t : Fin grid0.N, _)

theorem ix2v : ∀ t : Fin cfg0.N, win0_2.index t = ![t.val, 0] :=
  (by decide +kernel : ∀ t : Fin grid0.N, _)

theorem ix3v : ∀ t : Fin cfg0.N, win0_3.index t = ![t.val, 0] :=
  (by decide +kernel : ∀ t : Fin grid0.N, _)

theorem ix4v : ∀ t : Fin cfg0.N, win0_4.index t = ![t.val, 0] :=
  (by decide +kernel : ∀ t : Fin grid0.N, _)

theorem ix5v : ∀ t : Fin cfg0.N, win0_5.index t = ![t.val, 0] :=
  (by decide +kernel : ∀ t : Fin grid0.N, _)

theorem ix6v : ∀ t : Fin cfg0.N, win0_6.index t = ![0, 0] :=
  (by decide +kernel : ∀ t : Fin grid0.N, _)

theorem finite_args (x0 : (⟨S8192x2048, .f32⟩ : BufTy).Contents (Elt Ideal)) (x1 : (⟨S2048, .f32⟩ : BufTy).Contents (Elt Ideal))
    (x2 : (⟨S8192x2048, .bf16⟩ : BufTy).Contents (Elt Ideal)) (x3 : (⟨S8192x2048, .f32⟩ : BufTy).Contents (Elt Ideal))
    (hp : Cert.Pre_finite_norm.fn (F := Ideal) x0 x1 x2 x3 = fun _ => 1#1) :
    (∀ i, x0 i = (((x0 i : EReal).toReal : ℝ) : EReal)) ∧ (∀ i, x1 i = (((x1 i : EReal).toReal : ℝ) : EReal))
      ∧ ∀ i, x2 i = (((x2 i : EReal).toReal : ℝ) : EReal) := by
  have h := congrFun hp Idealize.ShloMosaic.ix0
  dsimp only [Cert.Pre_finite_norm.fn] at h
  have h2 : IntOp.andi _ _ = 1#1 := h
  obtain ⟨hab, hc⟩ := IntOp.andi_eq_one.1 h2
  have h3 : IntOp.andi _ _ = 1#1 := hab
  obtain ⟨ha, hb⟩ := IntOp.andi_eq_one.1 h3
  exact ⟨fun i => real_of_abs_lt _ (Host.reduce_andi_all _ _ _ _ _ ha i), fun i => real_of_abs_lt _ (Host.reduce_andi_all _ _ _ _ _ hb i),
    fun i => real_of_abs_lt _ (Host.reduce_andi_all _ _ _ _ _ hc i)⟩

/-- A row's factor: one over the root of the mean square with the small constant added. -/
def fac (X : Fin 2048 → ℝ) : EReal :=
  Ideal.rsqrt (Ideal.div (∑ k, (X k : EReal) * (X k : EReal)) (Ideal.ofBits .f32 0x45000000#32) + Ideal.ofBits .f32 0x358637BD#32)

/-- The call's block at an entry, when its row is real numbers. -/
theorem pay_row (v3 : Vec Ideal S256x2048 .f32) (v4 : Vec Ideal S1x2048 .f32) (v6 : Vec Ideal S256x2048 .bf16) (v33 : Vec Ideal S256x2048 .f32)
    (X D : Fin 2048 → ℝ) (p : Fin 256) (q : Fin 2048) (hx : ∀ k, v3 (Idealize.ShloMosaic.ix2 p k) = (X k : EReal))
    (hd : ∀ k, HMul.hMul (α := EReal) (β := EReal) (γ := EReal) (v6 (Idealize.ShloMosaic.ix2 p k)) (v4 (Idealize.ShloMosaic.ix2 0 k)) = (D k : EReal)) :
    k0_pay7 v3 v4 v6 v33 (Idealize.ShloMosaic.ix2 p q) = HAdd.hAdd (α := EReal) (β := EReal) (γ := EReal) (v33 (Idealize.ShloMosaic.ix2 p q))
      (fac X * ((D q : EReal) - (X q : EReal) * fac X * Ideal.div (∑ k, (D k : EReal) * ((X k : EReal) * fac X)) (Ideal.ofBits .f32 0x45000000#32))) := by
  unfold fac
  pointwise [k0_pay3, k0_pay4, k0_pay5, k0_pay7]
  simp only [hx, hd]

/-- The reference at an entry, likewise. -/
theorem ref_row (x0 : (⟨S8192x2048, .f32⟩ : BufTy).Contents (Elt Ideal)) (x1 : (⟨S2048, .f32⟩ : BufTy).Contents (Elt Ideal))
    (x2 : (⟨S8192x2048, .bf16⟩ : BufTy).Contents (Elt Ideal)) (x3 : (⟨S8192x2048, .f32⟩ : BufTy).Contents (Elt Ideal))
    (X D : Fin 2048 → ℝ) (z : S8192x2048.Idx) (hx : ∀ k, x0 (Idealize.ShloMosaic.ix2 (z 0) k) = (X k : EReal)) (hxz : x0 z = (X (z 1) : EReal))
    (hd : ∀ k, HMul.hMul (α := EReal) (β := EReal) (γ := EReal) (x2 (Idealize.ShloMosaic.ix2 (z 0) k)) (x1 (Idealize.ShloMosaic.ix1 k)) = (D k : EReal))
    (hdz : HMul.hMul (α := EReal) (β := EReal) (γ := EReal) (x2 z) (x1 (Idealize.ShloMosaic.ix1 (z 1))) = (D (z 1) : EReal)) :
    Cert.Reference8Ideal.Read.val_main_v37 (F := Ideal) x0 x1 x2 x3 z = HAdd.hAdd (α := EReal) (β := EReal) (γ := EReal) (x3 z)
      (fac X * ((D (z 1) : EReal) - (X (z 1) : EReal) * fac X * Ideal.div (∑ k, (D k : EReal) * ((X k : EReal) * fac X)) (Ideal.ofBits .f32 0x45000000#32))) := by
  rw [row_eq X D _ _ _ word_width word_eps word_half (z 1) _ (fac X) rfl rfl]
  unfold fac
  pointwise [Cert.Reference8Ideal.Read.val_main_v38, Cert.Reference8Ideal.Read.val_main_v37, Cert.Reference8Ideal.Read.val_main_v36, Cert.Reference8Ideal.Read.val_main_v35, Cert.Reference8Ideal.Read.val_main_v34, Cert.Reference8Ideal.Read.val_main_v33, Cert.Reference8Ideal.Read.val_main_v32, Cert.Reference8Ideal.Read.val_main_v31, Cert.Reference8Ideal.Read.val_main_cst_7, Cert.Reference8Ideal.Read.val_main_v30, Cert.Reference8Ideal.Read.val_main_v29, Cert.Reference8Ideal.Read.val_main_cst_6, Cert.Reference8Ideal.Read.val_main_v28, Cert.Reference8Ideal.Read.val_main_v27, Cert.Reference8Ideal.Read.val_main_v26, Cert.Reference8Ideal.Read.val_main_v25, Cert.Reference8Ideal.Read.val_main_v24, Cert.Reference8Ideal.Read.val_main_cst_5, Cert.Reference8Ideal.Read.val_main_v23, Cert.Reference8Ideal.Read.val_main_v21, Cert.Reference8Ideal.Read.val_main_v20, Cert.Reference8Ideal.Read.val_main_v15, Cert.Reference8Ideal.Read.val_main_v14, Cert.Reference8Ideal.Read.val_main_v13, Cert.Reference8Ideal.Read.val_main_v12, Cert.Reference8Ideal.Read.val_main_v11, Cert.Reference8Ideal.Read.val_main_v10, Cert.Reference8Ideal.Read.val_main_cst_2, Cert.Reference8Ideal.Read.val_main_v9, Cert.Reference8Ideal.Read.val_main_v8, Cert.Reference8Ideal.Read.val_main_v7, Cert.Reference8Ideal.Read.val_main_v6, Cert.Reference8Ideal.Read.val_main_cst_1, Cert.Reference8Ideal.Read.val_main_v5, Cert.Reference8Ideal.Read.val_main_v4, Cert.Reference8Ideal.Read.val_main_cst_0, Cert.Reference8Ideal.Read.val_main_v3, Cert.Reference8Ideal.Read.val_main_v2, Cert.Reference8Ideal.Read.val_main_cst, Cert.Reference8Ideal.Read.val_main_v1, Cert.Reference8Ideal.Read.val_main_v0]
  simp only [hx, hxz, hd, hdz, Finset.sum_const, Finset.card_univ, Fintype.card_fin, one_smul]

theorem written4 (t : Fin cfg0.N) (y : S256x2048.Idx) :
    (outsAt0 m c t.val t.isLt).1 y = k0_pay7 (iblk m c 0 t) (iblk m c 1 t) (iblk m c 2 t) (iblk m c 3 t) y := by
  by_cases h : t.val % 32 = 0
  · rw [outsAt0_A m c t h]; dsimp only; frame_out
  · rw [outsAt0_B m c t h]; dsimp only; frame_out

theorem written5 (t : Fin cfg0.N) (y : S256x2048.Idx) :
    (outsAt0 m c t.val t.isLt).2.1 y = k0_pay8 (iblk m c 0 t) (iblk m c 1 t) (iblk m c 2 t) (iblk m c 3 t) y := by
  by_cases h : t.val % 32 = 0
  · rw [outsAt0_A m c t h]; dsimp only; frame_out
  · rw [outsAt0_B m c t h]; dsimp only; frame_out

/-- A block's entry is the reference's at its place in the array. -/
theorem cell (hp : Cert.Pre_finite_norm.fn (F := Ideal) (m ((c : Thread nD τ).loc main_arg0)) (m ((c : Thread nD τ).loc main_arg1)) (m ((c : Thread nD τ).loc main_arg2)) (m ((c : Thread nD τ).loc main_arg3)) = fun _ => 1#1) (t : Fin cfg0.N)
    (y : S256x2048.Idx) (z : S8192x2048.Idx) (h0 : (z 0).val = t.val * 256 + (y 0).val) (h1 : (z 1).val = (y 1).val) :
    k0_pay7 (iblk m c 0 t) (iblk m c 1 t) (iblk m c 2 t) (iblk m c 3 t) y = Cert.Reference8Ideal.Read.val_main_v37 (F := Ideal) (m ((c : Thread nD τ).loc main_arg0)) (m ((c : Thread nD τ).loc main_arg1)) (m ((c : Thread nD τ).loc main_arg2)) (m ((c : Thread nD τ).loc main_arg3)) z := by
  obtain ⟨f0, f1, f2⟩ := finite_args _ _ _ _ hp
  have hz : z = Idealize.ShloMosaic.ix2 (z 0) (y 1) := by
    funext a
    match a with
    | ⟨0, _⟩ => rfl
    | ⟨1, _⟩ => exact Fin.ext h1
  have hy : y = Idealize.ShloMosaic.ix2 (y 0) (y 1) := by
    funext a
    match a with
    | ⟨0, _⟩ => rfl
    | ⟨1, _⟩ => rfl
  have e0 : ∀ k : Fin 2048, iblk m c 0 t (Idealize.ShloMosaic.ix2 (y 0) k) = m ((c : Thread nD τ).loc main_arg0) (Idealize.ShloMosaic.ix2 (z 0) k) := fun k => by
    blk_ext [iblk, V, ix0v t]
  have e1 : ∀ k : Fin 2048, iblk m c 1 t (Idealize.ShloMosaic.ix2 0 k) = m ((c : Thread nD τ).loc main_arg1) (Idealize.ShloMosaic.ix1 k) := fun k => by
    blk_point [iblk, V, ix1v t]
  have e2 : ∀ k : Fin 2048, iblk m c 2 t (Idealize.ShloMosaic.ix2 (y 0) k) = m ((c : Thread nD τ).loc main_arg2) (Idealize.ShloMosaic.ix2 (z 0) k) := fun k => by
    blk_ext [iblk, V, ix2v t]
  have e3 : ∀ k : Fin 2048, iblk m c 3 t (Idealize.ShloMosaic.ix2 (y 0) k) = m ((c : Thread nD τ).loc main_arg3) (Idealize.ShloMosaic.ix2 (z 0) k) := fun k => by
    blk_ext [iblk, V, ix3v t]
  have hd : ∀ k : Fin 2048, HMul.hMul (α := EReal) (β := EReal) (γ := EReal) (m ((c : Thread nD τ).loc main_arg2) (Idealize.ShloMosaic.ix2 (z 0) k)) (m ((c : Thread nD τ).loc main_arg1) (Idealize.ShloMosaic.ix1 k))
      = (((m ((c : Thread nD τ).loc main_arg2) (Idealize.ShloMosaic.ix2 (z 0) k) : EReal).toReal * (m ((c : Thread nD τ).loc main_arg1) (Idealize.ShloMosaic.ix1 k) : EReal).toReal : ℝ) : EReal) := fun k => by
    rw [EReal.coe_mul]
    exact congrArg₂ (fun a b : EReal => a * b) (f2 _) (f1 _)
  rw [hz, hy]
  refine (pay_row _ _ _ _ (fun k => (m ((c : Thread nD τ).loc main_arg0) (Idealize.ShloMosaic.ix2 (z 0) k) : EReal).toReal) _ (y 0) (y 1)
    (fun k => (e0 k).trans (f0 _)) (fun k => (congrArg₂ (fun a b : EReal => a * b) (e2 k) (e1 k)).trans (hd k))).trans ?_
  refine Eq.trans ?_ (ref_row _ _ _ _ (fun k => (m ((c : Thread nD τ).loc main_arg0) (Idealize.ShloMosaic.ix2 (z 0) k) : EReal).toReal) _
    (Idealize.ShloMosaic.ix2 (z 0) (y 1)) (fun k => f0 _) (f0 _) (fun k => hd k) (hd _)).symm
  exact congrArg (fun a : EReal => HAdd.hAdd (α := EReal) (β := EReal) (γ := EReal) a _) (e3 _)

theorem final4 (hp : Cert.Pre_finite_norm.fn (F := Ideal) (m ((c : Thread nD τ).loc main_arg0)) (m ((c : Thread nD τ).loc main_arg1)) (m ((c : Thread nD τ).loc main_arg2)) (m ((c : Thread nD τ).loc main_arg3)) = fun _ => 1#1) : (dats m 0 c).arrAt 4 cfg0.N = Cert.Reference8Ideal.Read.val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  refine (written4 m c t _).trans ?_
  refine cell m c hp t _ _ ?_ ?_
  all_goals blk_simp [ix4v t]
  all_goals try omega

theorem final5 (hp : Cert.Pre_finite_norm.fn (F := Ideal) (m ((c : Thread nD τ).loc main_arg0)) (m ((c : Thread nD τ).loc main_arg1)) (m ((c : Thread nD τ).loc main_arg2)) (m ((c : Thread nD τ).loc main_arg3)) = fun _ => 1#1) : (dats m 0 c).arrAt 5 cfg0.N = Cert.Reference8Ideal.Read.val_main_v38 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine (written5 m c t _).trans ?_
  refine cell m c hp t _ _ ?_ ?_
  all_goals blk_simp [ix5v t]
  all_goals try omega

/-- What a point adds to the gain's gradient: its rows' sum. -/
def share (t : Fin cfg0.N) (j : S1x2048.Idx) : EReal := k0_pay6 (iblk m c 0 t) (iblk m c 2 t) j

theorem step0 (t : Fin cfg0.N) (h : t.val % 32 = 0) (j : S1x2048.Idx) :
    (outsAt0 m c t.val t.isLt).2.2 j = (0 + share m c t j : EReal) := by
  rw [outsAt0_A m c t h]
  dsimp only
  frame_out
  pointwise [k0_pay1, k0_pay2, share]

theorem stepS (t : Fin cfg0.N) (h : ¬t.val % 32 = 0) (j : S1x2048.Idx) :
    (outsAt0 m c t.val t.isLt).2.2 j = ((outsAt0 m c (t.val - 1) (Nat.lt_of_le_of_lt (Nat.sub_le _ _) t.isLt)).2.2 j + share m c t j : EReal) := by
  rw [outsAt0_B m c t h]
  dsimp only
  frame_out
  pointwise [k0_pay1, share]

theorem summed (t : Fin cfg0.N) (hm : t.val % 32 = 31) (y : S1x2048.Idx) :
    (outsAt0 m c t.val t.isLt).2.2 y = (0 + ∑ s : Fin 32, share m c ⟨32 * (t.val / 32) + s.val, Pipeline.run_point_lt_of_flush t hm s⟩ y : EReal) :=
  Pipeline.eq_sum_fin_of_reset_step_apply_of_flush (M := EReal) (fun n h => (outsAt0 m c n h).2.2) 32 (fun _ => 0) (share m c)
    (fun t h j => step0 m c t h j) (fun t h j => stepS m c t h j) t hm y

theorem final6 : (dats m 0 c).arrAt 6 cfg0.N = Cert.Reference8Ideal.Read.val_main_v39 (F := Ideal) (m ((c : Thread nD τ).loc main_arg0)) (m ((c : Thread nD τ).loc main_arg2)) := by
  refine (dats m 0 c).arrAt_eq_of_covers 6 _ (by decide +kernel) fun t hf y => ?_
  have hm : t.val % 32 = 31 := (flush0_6 t).mp hf
  blk_simp
  rw [after0_6]
  refine (summed m c t hm _).trans ?_
  rw [zero_add]
  have hN : t.val < 32 := lt_of_lt_of_eq t.isLt (show cfg0.N = 32 from N_0)
  pointwise [share, k0_pay3, k0_pay4, k0_pay5, k0_pay6, Cert.Reference8Ideal.Read.val_main_v39, Cert.Reference8Ideal.Read.val_main_v22, Cert.Reference8Ideal.Read.val_main_cst_4, Cert.Reference8Ideal.Read.val_main_v19, Cert.Reference8Ideal.Read.val_main_v18, Cert.Reference8Ideal.Read.val_main_cst_3, Cert.Reference8Ideal.Read.val_main_v17, Cert.Reference8Ideal.Read.val_main_v13, Cert.Reference8Ideal.Read.val_main_v12, Cert.Reference8Ideal.Read.val_main_v8, Cert.Reference8Ideal.Read.val_main_v7, Cert.Reference8Ideal.Read.val_main_v6, Cert.Reference8Ideal.Read.val_main_cst_1, Cert.Reference8Ideal.Read.val_main_v5, Cert.Reference8Ideal.Read.val_main_v4, Cert.Reference8Ideal.Read.val_main_cst_0, Cert.Reference8Ideal.Read.val_main_v3, Cert.Reference8Ideal.Read.val_main_v2, Cert.Reference8Ideal.Read.val_main_cst, Cert.Reference8Ideal.Read.val_main_v1, Cert.Reference8Ideal.Read.val_main_v0]
  refine Eq.trans ?_ (Fin.sum_univ_one _).symm
  refine Fin.sum_mul_add_congr fun s k hl => ?_
  refine (mul_comm (G := EReal) _ _).trans ?_
  blk_point [iblk, V, ix6v t, ix0v ⟨32 * (t.val / 32) + s.val, Pipeline.run_point_lt_of_flush t hm s⟩, ix2v ⟨32 * (t.val / 32) + s.val, Pipeline.run_point_lt_of_flush t hm s⟩]

theorem algebraic : Cert.algebraic_Kernel8Ideal_Reference8Ideal_pre_finite_norm (hKernel8Ideal := Cert.Kernel8Ideal.Gen.facts)
    (hReference8Ideal := Cert.Reference8Ideal.Gen.facts) (hPre_finite_norm := Cert.Pre_finite_norm.Gen.facts) := by
  intro m g m' g' hp he
  refine ⟨fun c => Cert.Reference8Ideal.Read.val_main_v37 (F := Ideal) (m ((c : Thread nD τ).loc main_arg0)) (m ((c : Thread nD τ).loc main_arg1)) (m ((c : Thread nD τ).loc main_arg2)) (m ((c : Thread nD τ).loc main_arg3)), fun c => Cert.Reference8Ideal.Read.val_main_v38 (F := Ideal) (m ((c : Thread nD τ).loc main_arg0)) (m ((c : Thread nD τ).loc main_arg1)) (m ((c : Thread nD τ).loc main_arg2)) (m ((c : Thread nD τ).loc main_arg3)),
    fun c => Cert.Reference8Ideal.Read.val_main_v39 (F := Ideal) (m ((c : Thread nD τ).loc main_arg0)) (m ((c : Thread nD τ).loc main_arg2)), ?_, ?_⟩
  · exact (θ_run _ _ _).mono (fun r h c => ⟨(h c).1.trans (final4 m c (hp c)), (h c).2.1.trans (final5 m c (hp c)),
      (h c).2.2.1.trans (final6 m c), (h c).2.2.2⟩) (Cert.Kernel8Ideal.Value.run_blocks m g)
  · refine (θ_run _ _ _).mono (fun r h c => ?_) (Cert.Reference8Ideal.Value.run (F := Ideal) m' g')
    obtain ⟨e0, e1, e2, e3⟩ := he c
    refine ⟨(h c).1.trans ?_, (h c).2.1.trans ?_, (h c).2.2.1.trans ?_, (h c).2.2.2⟩
    · exact (Cert.Reference8Ideal.Read.val_main_v37_eq _ _ _ _).trans (congr (congr (congrArg₂ (Cert.Reference8Ideal.Read.val_main_v37 (F := Ideal)) e0 e1) e2) e3)
    · exact (Cert.Reference8Ideal.Read.val_main_v38_eq m' c).trans (congr (congr (congrArg₂ (Cert.Reference8Ideal.Read.val_main_v38 (F := Ideal)) e0 e1) e2) e3)
    · exact (Cert.Reference8Ideal.Read.val_main_v39_eq _ _).trans (congrArg₂ (Cert.Reference8Ideal.Read.val_main_v39 (F := Ideal)) e0 e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_bits : FrameBits := fun m g _ => Cert.Kernel8Ideal.Gen.frame (F := Bits) m g

theorem frame_same : FrameBits = Cert.quiescent_Kernel8 (hKernel8 := Cert.Kernel8.Gen.facts) := by sl_kernel_rfl

theorem frame_kernel : Cert.quiescent_Kernel8 (hKernel8 := Cert.Kernel8.Gen.facts) := cast frame_same frame_bits

theorem frame_ideal : Cert.quiescent_Kernel8Ideal (hKernel8Ideal := Cert.Kernel8Ideal.Gen.facts) := fun m g _ =>
  Cert.Kernel8Ideal.Gen.frame (F := Ideal) m g

theorem frame_reference : Cert.quiescent_Reference8Ideal (hReference8Ideal := Cert.Reference8Ideal.Gen.facts) := fun m g _ =>
  (θ_run _ _ _).mono (fun r h => ⟨fun c => (h c).2.2.2, Idealize.ShloMosaic.sem_eq_zero_of_no_sems (by decide) r.2⟩)
    (Cert.Reference8Ideal.Value.run (F := Ideal) m g)

end Cert.Kernel8Ideal.Mlp

end
-- ==== Proof.Norm9.lean ====
/-
  The norm: a row over the root of its mean square, times the gain.
-/
module

public import proofs.«01_k».proof.Defs
public import proofs.«01_k».proof.Proof.Gen.Kernel9
public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit
public import Idealize.ShloMosaic.Lib.Quiescent

@[expose] public section

set_option maxRecDepth 16384

noncomputable section

namespace Cert.Kernel9Ideal.Mlp

open Idealize.ShloMosaic Idealize.ShloMosaic.TcCoe Idealize.SL.Sem Idealize.ShloMosaic.ValueIdx
open Cert.Kernel9Ideal Cert.Kernel9Ideal.Gen

variable (m : (ℓ : Loc nD τ sig) → Buf (Elt Ideal) ℓ) (c : Dev nD)

theorem ix0v : ∀ t : Fin cfg0.N, win0_0.index t = ![t.val, 0] :=
  (by decide +kernel : ∀ t : Fin grid0.N, _)

theorem ix1v : ∀ t : Fin cfg0.N, win0_1.index t = ![0, 0] :=
  (by decide +kernel : ∀ t : Fin grid0.N, _)

theorem ix2v : ∀ t : Fin cfg0.N, win0_2.index t = ![t.val, 0] :=
  (by decide +kernel : ∀ t : Fin grid0.N, _)

theorem final : (dats m 0 c).arrAt 2 cfg0.N = Cert.Reference9Ideal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, Cert.Reference9Ideal.Read.val_main_v13, Cert.Reference9Ideal.Read.val_main_v12, Cert.Reference9Ideal.Read.val_main_v11, Cert.Reference9Ideal.Read.val_main_v10, Cert.Reference9Ideal.Read.val_main_v9, Cert.Reference9Ideal.Read.val_main_v8, Cert.Reference9Ideal.Read.val_main_v7, Cert.Reference9Ideal.Read.val_main_v6, Cert.Reference9Ideal.Read.val_main_v5, Cert.Reference9Ideal.Read.val_main_cst_1, Cert.Reference9Ideal.Read.val_main_v4, Cert.Reference9Ideal.Read.val_main_v3, Cert.Reference9Ideal.Read.val_main_cst_0, Cert.Reference9Ideal.Read.val_main_v2, Cert.Reference9Ideal.Read.val_main_v1, Cert.Reference9Ideal.Read.val_main_cst, Cert.Reference9Ideal.Read.val_main_v0]
  blk_point [iblk, V, ix2v t, ix0v t, ix1v t]

theorem algebraic : Cert.algebraic_Kernel9Ideal_Reference9Ideal (hKernel9Ideal := Cert.Kernel9Ideal.Gen.facts)
    (hReference9Ideal := Cert.Reference9Ideal.Gen.facts) := by
  intro m g m' g' _ he
  refine ⟨fun c => Cert.Reference9Ideal.Read.val_main_v13 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel9Ideal.Value.run_blocks m g)
  · refine (θ_run _ _ _).mono (fun r h c => ?_) (Cert.Reference9Ideal.Value.run (F := Ideal) m' g')
    obtain ⟨e0, e1⟩ := he c
    refine ⟨(h c).1.trans ?_, (h c).2⟩
    exact (Cert.Reference9Ideal.Read.val_main_v13_eq _ _).trans (congrArg₂ (Cert.Reference9Ideal.Read.val_main_v13 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel9Ideal.Gen.frame (F := Bits) m g

theorem frame_same : FrameBits = Cert.quiescent_Kernel9 (hKernel9 := Cert.Kernel9.Gen.facts) := by sl_kernel_rfl

theorem frame_kernel : Cert.quiescent_Kernel9 (hKernel9 := Cert.Kernel9.Gen.facts) := cast frame_same frame_bits

theorem frame_ideal : Cert.quiescent_Kernel9Ideal (hKernel9Ideal := Cert.Kernel9Ideal.Gen.facts) := fun m g _ =>
  Cert.Kernel9Ideal.Gen.frame (F := Ideal) m g

theorem frame_reference : Cert.quiescent_Reference9Ideal (hReference9Ideal := Cert.Reference9Ideal.Gen.facts) := fun m g _ =>
  (θ_run _ _ _).mono (fun r h => ⟨fun c => (h c).2, Idealize.ShloMosaic.sem_eq_zero_of_no_sems (by decide) r.2⟩)
    (Cert.Reference9Ideal.Value.run (F := Ideal) m g)

end Cert.Kernel9Ideal.Mlp

end
-- ==== Proof.Mlp10.lean ====
/-
  The first layer. The down projection, added to the residual: the contraction is walked in four stretches by four grid
  points over a carried accumulator, and the sum joins the residual after the last.
-/
module

public import proofs.«01_k».proof.Defs
public import proofs.«01_k».proof.Proof.Gen.Kernel10
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pipeline.ValueKit
public import Idealize.ShloMosaic.Lib.Quiescent

@[expose] public section

set_option maxRecDepth 16384

noncomputable section

namespace Cert.Kernel10Ideal.Mlp

open Idealize.ShloMosaic Idealize.ShloMosaic.TcCoe Idealize.SL.Sem Idealize.ShloMosaic.ValueIdx
open Cert.Kernel10Ideal Cert.Kernel10Ideal.Gen

variable (m : (ℓ : Loc nD τ sig) → Buf (Elt Ideal) ℓ) (c : Dev nD)

theorem ix0v : ∀ t : Fin cfg0.N, win0_0.index t = ![t.val / 8, t.val % 4] :=
  (by decide +kernel : ∀ t : Fin grid0.N, _)

theorem ix1v : ∀ t : Fin cfg0.N, win0_1.index t = ![0, t.val % 4, t.val / 4 % 2] :=
  (by decide +kernel : ∀ t : Fin grid0.N, _)

theorem ix2v : ∀ t : Fin cfg0.N, win0_2.index t = ![t.val / 8, t.val / 4 % 2] :=
  (by decide +kernel : ∀ t : Fin grid0.N, _)

theorem ix3v : ∀ t : Fin cfg0.N, win0_3.index t = ![t.val / 8, t.val / 4 % 2] :=
  (by decide +kernel : ∀ t : Fin grid0.N, _)

/-- What a point adds at an index of the block: its stretch of the contraction. -/
def share (t : Fin cfg0.N) (j : S1024x1024.Idx) : EReal :=
  ∑ k : Fin 2048, HMul.hMul (α := EReal) (β := EReal) (γ := EReal) (iblk m c 0 t (Idealize.ShloMosaic.ix2 (j 0) k)) (iblk m c 1 t (Idealize.ShloMosaic.ix3 0 k (j 1)))

theorem pay_zero (j : S1024x1024.Idx) : k0_pay1 (F := Ideal) j = (0 : EReal) := by pointwise [k0_pay1]

theorem pay_add (t : Fin cfg0.N) (v : Vec Ideal S1024x1024 .f32) (j : S1024x1024.Idx) :
    k0_pay2 v (iblk m c 0 t) (iblk m c 1 t) j = (v j + share m c t j : EReal) := by
  pointwise [k0_pay2, share]

theorem step0 (t : Fin cfg0.N) (h : t.val % 4 = 0) (j : S1024x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S1024x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the residual's with the accumulator after the run's last point added. -/
theorem written (t : Fin cfg0.N) (hm : t.val % 4 = 3) (y : S1024x1024.Idx) :
    (outsAt0 m c t.val t.isLt).1 y = HAdd.hAdd (α := EReal) (β := EReal) (γ := EReal) (iblk m c 2 t y) ((outsAt0 m c t.val t.isLt).2 y) := by
  rw [outsAt0_C m c t (by omega) hm]
  dsimp only
  frame_out
  pointwise [k0_pay3]

theorem summed (t : Fin cfg0.N) (hm : t.val % 4 = 3) (y : S1024x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

theorem final : (dats m 0 c).arrAt 3 cfg0.N = Cert.Reference10Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 4 = 3 := (flush0_3 t).mp hf
  blk_simp
  rw [after0_3]
  refine (written m c t hm _).trans ?_
  pointwise [Cert.Reference10Ideal.Read.val_main_v5, Cert.Reference10Ideal.Read.val_main_v4, Cert.Reference10Ideal.Read.val_main_v3, Cert.Reference10Ideal.Read.val_main_v2, Cert.Reference10Ideal.Read.val_main_v1, Cert.Reference10Ideal.Read.val_main_v0]
  have hN : t.val < 64 := lt_of_lt_of_eq t.isLt (show cfg0.N = 64 from N_0)
  refine congrArg₂ (fun a b : EReal => a + b) ?_ ?_
  · blk_ext [iblk, V, ix3v t, ix2v t]
  refine (summed m c t hm _).trans ?_
  rw [zero_add]
  unfold share
  refine Fin.sum_mul_add_congr fun s k hl => ?_
  congr 1 <;> blk_ext [iblk, V, ix3v t, ix0v ⟨4 * (t.val / 4) + s.val, Pipeline.run_point_lt_of_flush t hm s⟩, ix1v ⟨4 * (t.val / 4) + s.val, Pipeline.run_point_lt_of_flush t hm s⟩]

theorem algebraic : Cert.algebraic_Kernel10Ideal_Reference10Ideal (hKernel10Ideal := Cert.Kernel10Ideal.Gen.facts)
    (hReference10Ideal := Cert.Reference10Ideal.Gen.facts) := by
  intro m g m' g' _ he
  refine ⟨fun c => Cert.Reference10Ideal.Read.val_main_v5 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel10Ideal.Value.run_blocks m g)
  · refine (θ_run _ _ _).mono (fun r h c => ?_) (Cert.Reference10Ideal.Value.run (F := Ideal) m' g')
    obtain ⟨e0, e1, e2⟩ := he c
    refine ⟨(h c).1.trans ?_, (h c).2⟩
    exact (Cert.Reference10Ideal.Read.val_main_v5_eq _ _ _).trans (congr (congrArg₂ (Cert.Reference10Ideal.Read.val_main_v5 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel10Ideal.Gen.frame (F := Bits) m g

theorem frame_same : FrameBits = Cert.quiescent_Kernel10 (hKernel10 := Cert.Kernel10.Gen.facts) := by sl_kernel_rfl

theorem frame_kernel : Cert.quiescent_Kernel10 (hKernel10 := Cert.Kernel10.Gen.facts) := cast frame_same frame_bits

theorem frame_ideal : Cert.quiescent_Kernel10Ideal (hKernel10Ideal := Cert.Kernel10Ideal.Gen.facts) := fun m g _ =>
  Cert.Kernel10Ideal.Gen.frame (F := Ideal) m g

theorem frame_reference : Cert.quiescent_Reference10Ideal (hReference10Ideal := Cert.Reference10Ideal.Gen.facts) := fun m g _ =>
  (θ_run _ _ _).mono (fun r h => ⟨fun c => (h c).2, Idealize.ShloMosaic.sem_eq_zero_of_no_sems (by decide) r.2⟩)
    (Cert.Reference10Ideal.Value.run (F := Ideal) m g)

end Cert.Kernel10Ideal.Mlp

end
-- ==== Proof.Mlp11.lean ====
/-
  The second layer. The gradient at the up projection's output: what the call leaves is the reference's array.
-/
module

public import proofs.«01_k».proof.Defs
public import proofs.«01_k».proof.Proof.Gen.Kernel11
public import proofs.«01_k».proof.Proof.Gen.Kernel11Ideal.Value
public import proofs.«01_k».proof.Proof.Gen.Reference11Ideal.Read
public import proofs.«01_k».proof.Proof.Gen.Reference11Ideal.Run
public import Idealize.ShloMosaic.Lib.Pipeline.ValueKit
public import Idealize.ShloMosaic.Lib.Quiescent

@[expose] public section

set_option maxRecDepth 16384

noncomputable section

namespace Cert.Kernel11Ideal.Mlp

open Idealize.ShloMosaic Idealize.ShloMosaic.TcCoe Idealize.SL.Sem Idealize.ShloMosaic.ValueIdx
open Cert.Kernel11Ideal Cert.Kernel11Ideal.Gen

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![1, (grid0.coords t 1).val, 0] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

/-- A gated value vanishes where the gate is closed. -/
theorem gate (a s u : EReal) : a * (s * max u 0) = if 0 < u then a * (s * max u 0) else 0 := by
  by_cases h : 0 < u
  · rw [if_pos h]
  · rw [if_neg h, max_eq_right (not_lt.1 h), mul_zero, mul_zero]

theorem final : (dats m 0 c).arrAt 3 cfg0.N = Cert.Reference11Ideal.Read.val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, Cert.Reference11Ideal.Read.val_main_v17, Cert.Reference11Ideal.Read.val_main_v16, Cert.Reference11Ideal.Read.val_main_v15, Cert.Reference11Ideal.Read.val_main_cst_2, Cert.Reference11Ideal.Read.val_main_v14, Cert.Reference11Ideal.Read.val_main_v13, Cert.Reference11Ideal.Read.val_main_v11, Cert.Reference11Ideal.Read.val_main_v10, Cert.Reference11Ideal.Read.val_main_cst_1, Cert.Reference11Ideal.Read.val_main_v7, Cert.Reference11Ideal.Read.val_main_v6, Cert.Reference11Ideal.Read.val_main_cst, Cert.Reference11Ideal.Read.val_main_v5, Cert.Reference11Ideal.Read.val_main_v4, Cert.Reference11Ideal.Read.val_main_v3, Cert.Reference11Ideal.Read.val_main_v2, Cert.Reference11Ideal.Read.val_main_v1, Cert.Reference11Ideal.Read.val_main_v0, Cert.Reference11Ideal.Read.val_main_call0_v0, Cert.Reference11Ideal.Read.val_main_call0_cst]
  refine Eq.trans ?_ (gate _ _ _)
  blk_point [iblk, V, ix3v t, ix0v t, ix1v t, ix2v t]

theorem algebraic : Cert.algebraic_Kernel11Ideal_Reference11Ideal (hKernel11Ideal := Cert.Kernel11Ideal.Gen.facts)
    (hReference11Ideal := Cert.Reference11Ideal.Gen.facts) := by
  intro m g m' g' _ he
  refine ⟨fun c => Cert.Reference11Ideal.Read.val_main_v17 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel11Ideal.Value.run_blocks m g)
  · refine (θ_run _ _ _).mono (fun r h c => ?_) (Cert.Reference11Ideal.Value.run (F := Ideal) m' g')
    obtain ⟨e0, e1, e2⟩ := he c
    refine ⟨(h c).1.trans ?_, (h c).2⟩
    exact (Cert.Reference11Ideal.Read.val_main_v17_eq _ _ _).trans (congr (congrArg₂ (Cert.Reference11Ideal.Read.val_main_v17 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel11Ideal.Gen.frame (F := Bits) m g

theorem frame_same : FrameBits = Cert.quiescent_Kernel11 (hKernel11 := Cert.Kernel11.Gen.facts) := by sl_kernel_rfl

theorem frame_kernel : Cert.quiescent_Kernel11 (hKernel11 := Cert.Kernel11.Gen.facts) := cast frame_same frame_bits

theorem frame_ideal : Cert.quiescent_Kernel11Ideal (hKernel11Ideal := Cert.Kernel11Ideal.Gen.facts) := fun m g _ =>
  Cert.Kernel11Ideal.Gen.frame (F := Ideal) m g

theorem frame_reference : Cert.quiescent_Reference11Ideal (hReference11Ideal := Cert.Reference11Ideal.Gen.facts) := fun m g _ =>
  (θ_run _ _ _).mono (fun r h => ⟨fun c => (h c).2, Idealize.ShloMosaic.sem_eq_zero_of_no_sems (by decide) r.2⟩)
    (Cert.Reference11Ideal.Value.run (F := Ideal) m g)

end Cert.Kernel11Ideal.Mlp

end
-- ==== Proof.Mlp12.lean ====
/-
  The second layer. The gradient at the normalised input: the contraction walked in four stretches by four grid points over a carried
  accumulator is the reference's whole contraction.
-/
module

public import proofs.«01_k».proof.Defs
public import proofs.«01_k».proof.Proof.Gen.Kernel12
public import proofs.«01_k».proof.Proof.Gen.Kernel12Ideal.Value
public import proofs.«01_k».proof.Proof.Gen.Reference12Ideal.Read
public import proofs.«01_k».proof.Proof.Gen.Reference12Ideal.Run
public import Idealize.ShloMosaic.Lib.Pipeline.ValueKit
public import Idealize.ShloMosaic.Lib.Quiescent

@[expose] public section

set_option maxRecDepth 16384

noncomputable section

namespace Cert.Kernel12Ideal.Mlp

open Idealize.ShloMosaic Idealize.ShloMosaic.TcCoe Idealize.SL.Sem Idealize.ShloMosaic.ValueIdx
open Cert.Kernel12Ideal Cert.Kernel12Ideal.Gen

variable (m : (ℓ : Loc nD τ sig) → Buf (Elt Ideal) ℓ) (c : Dev nD)

theorem ix0v : ∀ t : Fin cfg0.N, win0_0.index t = ![t.val / 8, t.val % 4] :=
  (by decide +kernel : ∀ t : Fin grid0.N, _)

theorem ix1v : ∀ t : Fin cfg0.N, win0_1.index t = ![1, t.val / 4 % 2, t.val % 4] :=
  (by decide +kernel : ∀ t : Fin grid0.N, _)

theorem ix2v : ∀ t : Fin cfg0.N, win0_2.index t = ![t.val / 8, t.val / 4 % 2] :=
  (by decide +kernel : ∀ t : Fin grid0.N, _)

/-- What a point adds at an index of the block: its stretch of the contraction. -/
def share (t : Fin cfg0.N) (j : S1024x1024.Idx) : EReal :=
  ∑ k : Fin 2048, HMul.hMul (α := EReal) (β := EReal) (γ := EReal) (iblk m c 0 t (Idealize.ShloMosaic.ix2 (j 0) k)) (iblk m c 1 t (Idealize.ShloMosaic.ix3 0 (j 1) k))

theorem pay_zero (j : S1024x1024.Idx) : k0_pay1 (F := Ideal) j = (0 : EReal) := by pointwise [k0_pay1]

theorem pay_add (t : Fin cfg0.N) (v : Vec Ideal S1024x1024 .f32) (j : S1024x1024.Idx) :
    k0_pay2 v (iblk m c 0 t) (iblk m c 1 t) j = (v j + share m c t j : EReal) := by
  pointwise [k0_pay2, share]

theorem step0 (t : Fin cfg0.N) (h : t.val % 4 = 0) (j : S1024x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S1024x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1024x1024.Idx) :
    (outsAt0 m c t.val t.isLt).1 y = ((outsAt0 m c t.val t.isLt).2 y : EReal) := by
  rw [outsAt0_C m c t (by omega) hm]
  dsimp only
  frame_out
  pointwise [k0_pay3]

theorem summed (t : Fin cfg0.N) (hm : t.val % 4 = 3) (y : S1024x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

theorem final : (dats m 0 c).arrAt 2 cfg0.N = Cert.Reference12Ideal.Read.val_main_v9 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2]
  refine (written m c t hm _).trans ((summed m c t hm _).trans ?_)
  rw [zero_add]
  pointwise [Cert.Reference12Ideal.Read.val_main_v9, Cert.Reference12Ideal.Read.val_main_v8, Cert.Reference12Ideal.Read.val_main_v4, Cert.Reference12Ideal.Read.val_main_v3, Cert.Reference12Ideal.Read.val_main_v2, Cert.Reference12Ideal.Read.val_main_v1]
  unfold share
  refine Fin.sum_mul_add_congr fun s k hl => ?_
  have hN : t.val < 64 := lt_of_lt_of_eq t.isLt (show cfg0.N = 64 from N_0)
  congr 1 <;> blk_ext [iblk, V, ix2v t, ix0v ⟨4 * (t.val / 4) + s.val, Pipeline.run_point_lt_of_flush t hm s⟩, ix1v ⟨4 * (t.val / 4) + s.val, Pipeline.run_point_lt_of_flush t hm s⟩]

theorem algebraic : Cert.algebraic_Kernel12Ideal_Reference12Ideal (hKernel12Ideal := Cert.Kernel12Ideal.Gen.facts)
    (hReference12Ideal := Cert.Reference12Ideal.Gen.facts) := by
  intro m g m' g' _ he
  refine ⟨fun c => Cert.Reference12Ideal.Read.val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel12Ideal.Value.run_blocks m g)
  · refine (θ_run _ _ _).mono (fun r h c => ?_) (Cert.Reference12Ideal.Value.run (F := Ideal) m' g')
    obtain ⟨e0, e1⟩ := he c
    refine ⟨(h c).1.trans ?_, (h c).2⟩
    exact (Cert.Reference12Ideal.Read.val_main_v9_eq _ _).trans (congrArg₂ (Cert.Reference12Ideal.Read.val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel12Ideal.Gen.frame (F := Bits) m g

theorem frame_same : FrameBits = Cert.quiescent_Kernel12 (hKernel12 := Cert.Kernel12.Gen.facts) := by sl_kernel_rfl

theorem frame_kernel : Cert.quiescent_Kernel12 (hKernel12 := Cert.Kernel12.Gen.facts) := cast frame_same frame_bits

theorem frame_ideal : Cert.quiescent_Kernel12Ideal (hKernel12Ideal := Cert.Kernel12Ideal.Gen.facts) := fun m g _ =>
  Cert.Kernel12Ideal.Gen.frame (F := Ideal) m g

theorem frame_reference : Cert.quiescent_Reference12Ideal (hReference12Ideal := Cert.Reference12Ideal.Gen.facts) := fun m g _ =>
  (θ_run _ _ _).mono (fun r h => ⟨fun c => (h c).2, Idealize.ShloMosaic.sem_eq_zero_of_no_sems (by decide) r.2⟩)
    (Cert.Reference12Ideal.Value.run (F := Ideal) m g)

end Cert.Kernel12Ideal.Mlp

end
-- ==== Proof.Mlp13.lean ====
/-
  The second layer. The gradient of the down projection's weight, written into one layer of the stacked gradient in place.
-/
module

public import proofs.«01_k».proof.Defs
public import proofs.«01_k».proof.Proof.Gen.Kernel13
public import proofs.«01_k».proof.Proof.Gen.Kernel13Ideal.Value
public import proofs.«01_k».proof.Proof.Gen.Reference13Ideal.Read
public import proofs.«01_k».proof.Proof.Gen.Reference13Ideal.Run
public import Idealize.ShloMosaic.Lib.Pipeline.ValueKit
public import Idealize.ShloMosaic.Lib.Pipeline.ValueKit.Partial
public import Idealize.ShloMosaic.Lib.Quiescent

@[expose] public section

set_option maxRecDepth 16384

noncomputable section

namespace Cert.Kernel13Ideal.Mlp

open Idealize.ShloMosaic Idealize.ShloMosaic.TcCoe Idealize.SL.Sem Idealize.ShloMosaic.ValueIdx
open Cert.Kernel13Ideal Cert.Kernel13Ideal.Gen

variable (m : (ℓ : Loc nD τ sig) → Buf (Elt Ideal) ℓ) (c : Dev nD)

theorem ix0v : ∀ t : Fin cfg0.N, win0_0.index t = ![t.val % 4, t.val / 8] :=
  (by decide +kernel : ∀ t : Fin grid0.N, _)

theorem ix1v : ∀ t : Fin cfg0.N, win0_1.index t = ![t.val % 4, t.val / 4 % 2] :=
  (by decide +kernel : ∀ t : Fin grid0.N, _)

theorem ix2v : ∀ t : Fin cfg0.N, win0_2.index t = ![1, t.val / 8, t.val / 4 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = Cert.Reference13Ideal.Read.val_main_v11 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 1) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 128 := lt_of_lt_of_eq t.isLt (show cfg0.N = 128 from N_0)
    pointwise [Cert.Reference13Ideal.Read.val_main_v11, Cert.Reference13Ideal.Read.val_main_v10, Cert.Reference13Ideal.Read.val_main_v9, Cert.Reference13Ideal.Read.val_main_v8, Cert.Reference13Ideal.Read.val_main_v7, Cert.Reference13Ideal.Read.val_main_v5, Cert.Reference13Ideal.Read.val_main_v4, Cert.Reference13Ideal.Read.val_main_v2, Cert.Reference13Ideal.Read.val_main_v1]
    rw [dif_neg (by blk_simp [ix2v t]; idx_bounds y; omega), dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [Cert.Reference13Ideal.Read.val_main_v11, Cert.Reference13Ideal.Read.val_main_v10, Cert.Reference13Ideal.Read.val_main_v9, Cert.Reference13Ideal.Read.val_main_v8, Cert.Reference13Ideal.Read.val_main_v7, Cert.Reference13Ideal.Read.val_main_v5, Cert.Reference13Ideal.Read.val_main_v4, Cert.Reference13Ideal.Read.val_main_v2, Cert.Reference13Ideal.Read.val_main_v1]
    by_cases h0 : (j 0).val < 1
    · rw [dif_pos (by blk_simp; omega)]
      entry_read
      blk_ext
    · rw [dif_neg (by blk_simp; omega), dif_neg (by blk_simp; omega)]
      entry_read
      blk_ext

theorem algebraic : Cert.algebraic_Kernel13Ideal_Reference13Ideal (hKernel13Ideal := Cert.Kernel13Ideal.Gen.facts)
    (hReference13Ideal := Cert.Reference13Ideal.Gen.facts) := by
  intro m g m' g' _ he
  refine ⟨fun c => Cert.Reference13Ideal.Read.val_main_v11 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel13Ideal.Value.run_blocks m g)
  · refine (θ_run _ _ _).mono (fun r h c => ?_) (Cert.Reference13Ideal.Value.run (F := Ideal) m' g')
    obtain ⟨e0, e1, e2⟩ := he c
    refine ⟨(h c).1.trans ?_, (h c).2⟩
    exact (Cert.Reference13Ideal.Read.val_main_v11_eq _ _ _).trans (congr (congrArg₂ (Cert.Reference13Ideal.Read.val_main_v11 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel13Ideal.Gen.frame (F := Bits) m g

theorem frame_same : FrameBits = Cert.quiescent_Kernel13 (hKernel13 := Cert.Kernel13.Gen.facts) := by sl_kernel_rfl

theorem frame_kernel : Cert.quiescent_Kernel13 (hKernel13 := Cert.Kernel13.Gen.facts) := cast frame_same frame_bits

theorem frame_ideal : Cert.quiescent_Kernel13Ideal (hKernel13Ideal := Cert.Kernel13Ideal.Gen.facts) := fun m g _ =>
  Cert.Kernel13Ideal.Gen.frame (F := Ideal) m g

theorem frame_reference : Cert.quiescent_Reference13Ideal (hReference13Ideal := Cert.Reference13Ideal.Gen.facts) := fun m g _ =>
  (θ_run _ _ _).mono (fun r h => ⟨fun c => (h c).2, Idealize.ShloMosaic.sem_eq_zero_of_no_sems (by decide) r.2⟩)
    (Cert.Reference13Ideal.Value.run (F := Ideal) m g)

end Cert.Kernel13Ideal.Mlp

end
-- ==== Proof.Mlp14.lean ====
/-
  The second layer. The gradient of the up projection's weight, written into one layer of the stacked gradient in place.
-/
module

public import proofs.«01_k».proof.Defs
public import proofs.«01_k».proof.Proof.Gen.Kernel14
public import proofs.«01_k».proof.Proof.Gen.Kernel14Ideal.Value
public import proofs.«01_k».proof.Proof.Gen.Reference14Ideal.Read
public import proofs.«01_k».proof.Proof.Gen.Reference14Ideal.Run
public import Idealize.ShloMosaic.Lib.Pipeline.ValueKit
public import Idealize.ShloMosaic.Lib.Pipeline.ValueKit.Partial
public import Idealize.ShloMosaic.Lib.Quiescent

@[expose] public section

set_option maxRecDepth 16384

noncomputable section

namespace Cert.Kernel14Ideal.Mlp

open Idealize.ShloMosaic Idealize.ShloMosaic.TcCoe Idealize.SL.Sem Idealize.ShloMosaic.ValueIdx
open Cert.Kernel14Ideal Cert.Kernel14Ideal.Gen

variable (m : (ℓ : Loc nD τ sig) → Buf (Elt Ideal) ℓ) (c : Dev nD)

theorem ix0v : ∀ t : Fin cfg0.N, win0_0.index t = ![t.val % 4, t.val / 32] :=
  (by decide +kernel : ∀ t : Fin grid0.N, _)

theorem ix1v : ∀ t : Fin cfg0.N, win0_1.index t = ![t.val % 4, t.val / 4 % 8] :=
  (by decide +kernel : ∀ t : Fin grid0.N, _)

theorem ix2v : ∀ t : Fin cfg0.N, win0_2.index t = ![1, t.val / 32, t.val / 4 % 8] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = Cert.Reference14Ideal.Read.val_main_v11 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 1) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 128 := lt_of_lt_of_eq t.isLt (show cfg0.N = 128 from N_0)
    pointwise [Cert.Reference14Ideal.Read.val_main_v11, Cert.Reference14Ideal.Read.val_main_v10, Cert.Reference14Ideal.Read.val_main_v9, Cert.Reference14Ideal.Read.val_main_v8, Cert.Reference14Ideal.Read.val_main_v7, Cert.Reference14Ideal.Read.val_main_v5, Cert.Reference14Ideal.Read.val_main_v4, Cert.Reference14Ideal.Read.val_main_v2, Cert.Reference14Ideal.Read.val_main_v1]
    rw [dif_neg (by blk_simp [ix2v t]; idx_bounds y; omega), dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [Cert.Reference14Ideal.Read.val_main_v11, Cert.Reference14Ideal.Read.val_main_v10, Cert.Reference14Ideal.Read.val_main_v9, Cert.Reference14Ideal.Read.val_main_v8, Cert.Reference14Ideal.Read.val_main_v7, Cert.Reference14Ideal.Read.val_main_v5, Cert.Reference14Ideal.Read.val_main_v4, Cert.Reference14Ideal.Read.val_main_v2, Cert.Reference14Ideal.Read.val_main_v1]
    by_cases h0 : (j 0).val < 1
    · rw [dif_pos (by blk_simp; omega)]
      entry_read
      blk_ext
    · rw [dif_neg (by blk_simp; omega), dif_neg (by blk_simp; omega)]
      entry_read
      blk_ext

theorem algebraic : Cert.algebraic_Kernel14Ideal_Reference14Ideal (hKernel14Ideal := Cert.Kernel14Ideal.Gen.facts)
    (hReference14Ideal := Cert.Reference14Ideal.Gen.facts) := by
  intro m g m' g' _ he
  refine ⟨fun c => Cert.Reference14Ideal.Read.val_main_v11 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel14Ideal.Value.run_blocks m g)
  · refine (θ_run _ _ _).mono (fun r h c => ?_) (Cert.Reference14Ideal.Value.run (F := Ideal) m' g')
    obtain ⟨e0, e1, e2⟩ := he c
    refine ⟨(h c).1.trans ?_, (h c).2⟩
    exact (Cert.Reference14Ideal.Read.val_main_v11_eq _ _ _).trans (congr (congrArg₂ (Cert.Reference14Ideal.Read.val_main_v11 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel14Ideal.Gen.frame (F := Bits) m g

theorem frame_same : FrameBits = Cert.quiescent_Kernel14 (hKernel14 := Cert.Kernel14.Gen.facts) := by sl_kernel_rfl

theorem frame_kernel : Cert.quiescent_Kernel14 (hKernel14 := Cert.Kernel14.Gen.facts) := cast frame_same frame_bits

theorem frame_ideal : Cert.quiescent_Kernel14Ideal (hKernel14Ideal := Cert.Kernel14Ideal.Gen.facts) := fun m g _ =>
  Cert.Kernel14Ideal.Gen.frame (F := Ideal) m g

theorem frame_reference : Cert.quiescent_Reference14Ideal (hReference14Ideal := Cert.Reference14Ideal.Gen.facts) := fun m g _ =>
  (θ_run _ _ _).mono (fun r h => ⟨fun c => (h c).2, Idealize.ShloMosaic.sem_eq_zero_of_no_sems (by decide) r.2⟩)
    (Cert.Reference14Ideal.Value.run (F := Ideal) m g)

end Cert.Kernel14Ideal.Mlp

end
-- ==== Proof.Mlp15.lean ====
/-
  The second layer. The up projection of the forward pass: the call's two arrays, what it projects to and the squared positive part of it,
  are the reference's.
-/
module

public import proofs.«01_k».proof.Defs
public import proofs.«01_k».proof.Proof.Gen.Kernel15
public import proofs.«01_k».proof.Proof.Gen.Kernel15Ideal.Value
public import proofs.«01_k».proof.Proof.Gen.Reference15Ideal.Read
public import proofs.«01_k».proof.Proof.Gen.Reference15Ideal.Run
public import Idealize.ShloMosaic.Lib.Pipeline.ValueKit
public import Idealize.ShloMosaic.Lib.Quiescent

@[expose] public section

set_option maxRecDepth 16384

noncomputable section

namespace Cert.Kernel15Ideal.Mlp

open Idealize.ShloMosaic Idealize.ShloMosaic.TcCoe Idealize.SL.Sem Idealize.ShloMosaic.ValueIdx
open Cert.Kernel15Ideal Cert.Kernel15Ideal.Gen

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![1, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

/-- The projection. -/
theorem final_up : (dats m 0 c).arrAt 2 cfg0.N = Cert.Reference15Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, k0_pay2, Cert.Reference15Ideal.Read.val_main_v8, Cert.Reference15Ideal.Read.val_main_v7, Cert.Reference15Ideal.Read.val_main_v6, Cert.Reference15Ideal.Read.val_main_v5, Cert.Reference15Ideal.Read.val_main_v4, Cert.Reference15Ideal.Read.val_main_v3, Cert.Reference15Ideal.Read.val_main_v2, Cert.Reference15Ideal.Read.val_main_v1, Cert.Reference15Ideal.Read.val_main_v0, Cert.Reference15Ideal.Read.val_main_call0_v0, Cert.Reference15Ideal.Read.val_main_call0_cst]
  blk_point [iblk, V, ix2v t, ix0v t, ix1v t]

/-- The squared positive part. -/
theorem final_act : (dats m 0 c).arrAt 3 cfg0.N = Cert.Reference15Ideal.Read.val_main_v8 (F := Ideal) (m ((c : Thread nD τ).loc main_arg0)) (m ((c : Thread nD τ).loc main_arg1)) := by
  refine (dats m 0 c).arrAt_eq_of_covers 3 _ (by decide +kernel) fun t hf y => ?_
  blk_simp
  rw [after0_3]; frame_out
  pointwise [k0_pay1, k0_pay3, Cert.Reference15Ideal.Read.val_main_v8, Cert.Reference15Ideal.Read.val_main_v7, Cert.Reference15Ideal.Read.val_main_v6, Cert.Reference15Ideal.Read.val_main_v5, Cert.Reference15Ideal.Read.val_main_v4, Cert.Reference15Ideal.Read.val_main_v3, Cert.Reference15Ideal.Read.val_main_v2, Cert.Reference15Ideal.Read.val_main_v1, Cert.Reference15Ideal.Read.val_main_v0, Cert.Reference15Ideal.Read.val_main_call0_v0, Cert.Reference15Ideal.Read.val_main_call0_cst]
  blk_point [iblk, V, ix3v t, ix0v t, ix1v t]

theorem algebraic : Cert.algebraic_Kernel15Ideal_Reference15Ideal (hKernel15Ideal := Cert.Kernel15Ideal.Gen.facts)
    (hReference15Ideal := Cert.Reference15Ideal.Gen.facts) := by
  intro m g m' g' _ he
  refine ⟨fun c => Cert.Reference15Ideal.Read.val_main_v5 (F := Ideal) (m ((c : Thread nD τ).loc main_arg0)) (m ((c : Thread nD τ).loc main_arg1)), fun c => Cert.Reference15Ideal.Read.val_main_v8 (F := Ideal) (m ((c : Thread nD τ).loc main_arg0)) (m ((c : Thread nD τ).loc main_arg1)), ?_, ?_⟩
  · exact (θ_run _ _ _).mono (fun r h c => ⟨(h c).1.trans (final_up m c), (h c).2.1.trans (final_act m c), (h c).2.2⟩) (Cert.Kernel15Ideal.Value.run_blocks m g)
  · refine (θ_run _ _ _).mono (fun r h c => ?_) (Cert.Reference15Ideal.Value.run (F := Ideal) m' g')
    obtain ⟨e0, e1⟩ := he c
    refine ⟨(h c).1.trans ?_, (h c).2.1.trans ?_, (h c).2.2⟩
    · exact (Cert.Reference15Ideal.Read.val_main_v5_eq _ _).trans (congrArg₂ (Cert.Reference15Ideal.Read.val_main_v5 (F := Ideal)) e0 e1)
    · exact (Cert.Reference15Ideal.Read.val_main_v8_eq _ _).trans (congrArg₂ (Cert.Reference15Ideal.Read.val_main_v8 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel15Ideal.Gen.frame (F := Bits) m g

theorem frame_same : FrameBits = Cert.quiescent_Kernel15 (hKernel15 := Cert.Kernel15.Gen.facts) := by sl_kernel_rfl

theorem frame_kernel : Cert.quiescent_Kernel15 (hKernel15 := Cert.Kernel15.Gen.facts) := cast frame_same frame_bits

theorem frame_ideal : Cert.quiescent_Kernel15Ideal (hKernel15Ideal := Cert.Kernel15Ideal.Gen.facts) := fun m g _ =>
  Cert.Kernel15Ideal.Gen.frame (F := Ideal) m g

theorem frame_reference : Cert.quiescent_Reference15Ideal (hReference15Ideal := Cert.Reference15Ideal.Gen.facts) := fun m g _ =>
  (θ_run _ _ _).mono (fun r h => ⟨fun c => (h c).2.2, Idealize.ShloMosaic.sem_eq_zero_of_no_sems (by decide) r.2⟩)
    (Cert.Reference15Ideal.Value.run (F := Ideal) m g)

end Cert.Kernel15Ideal.Mlp

end
-- ==== Proof.Mlp16.lean ====
/-
  The second layer. The down projection, added to the residual: the contraction is walked in four stretches by four grid
  points over a carried accumulator, and the sum joins the residual after the last.
-/
module

public import proofs.«01_k».proof.Defs
public import proofs.«01_k».proof.Proof.Gen.Kernel16
public import proofs.«01_k».proof.Proof.Gen.Kernel16Ideal.Value
public import proofs.«01_k».proof.Proof.Gen.Reference16Ideal.Read
public import proofs.«01_k».proof.Proof.Gen.Reference16Ideal.Run
public import Idealize.ShloMosaic.Lib.Pipeline.ValueKit
public import Idealize.ShloMosaic.Lib.Quiescent

@[expose] public section

set_option maxRecDepth 16384

noncomputable section

namespace Cert.Kernel16Ideal.Mlp

open Idealize.ShloMosaic Idealize.ShloMosaic.TcCoe Idealize.SL.Sem Idealize.ShloMosaic.ValueIdx
open Cert.Kernel16Ideal Cert.Kernel16Ideal.Gen

variable (m : (ℓ : Loc nD τ sig) → Buf (Elt Ideal) ℓ) (c : Dev nD)

theorem ix0v : ∀ t : Fin cfg0.N, win0_0.index t = ![t.val / 8, t.val % 4] :=
  (by decide +kernel : ∀ t : Fin grid0.N, _)

theorem ix1v : ∀ t : Fin cfg0.N, win0_1.index t = ![1, t.val % 4, t.val / 4 % 2] :=
  (by decide +kernel : ∀ t : Fin grid0.N, _)

theorem ix2v : ∀ t : Fin cfg0.N, win0_2.index t = ![t.val / 8, t.val / 4 % 2] :=
  (by decide +kernel : ∀ t : Fin grid0.N, _)

theorem ix3v : ∀ t : Fin cfg0.N, win0_3.index t = ![t.val / 8, t.val / 4 % 2] :=
  (by decide +kernel : ∀ t : Fin grid0.N, _)

/-- What a point adds at an index of the block: its stretch of the contraction. -/
def share (t : Fin cfg0.N) (j : S1024x1024.Idx) : EReal :=
  ∑ k : Fin 2048, HMul.hMul (α := EReal) (β := EReal) (γ := EReal) (iblk m c 0 t (Idealize.ShloMosaic.ix2 (j 0) k)) (iblk m c 1 t (Idealize.ShloMosaic.ix3 0 k (j 1)))

theorem pay_zero (j : S1024x1024.Idx) : k0_pay1 (F := Ideal) j = (0 : EReal) := by pointwise [k0_pay1]

theorem pay_add (t : Fin cfg0.N) (v : Vec Ideal S1024x1024 .f32) (j : S1024x1024.Idx) :
    k0_pay2 v (iblk m c 0 t) (iblk m c 1 t) j = (v j + share m c t j : EReal) := by
  pointwise [k0_pay2, share]

theorem step0 (t : Fin cfg0.N) (h : t.val % 4 = 0) (j : S1024x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S1024x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the residual's with the accumulator after the run's last point added. -/
theorem written (t : Fin cfg0.N) (hm : t.val % 4 = 3) (y : S1024x1024.Idx) :
    (outsAt0 m c t.val t.isLt).1 y = HAdd.hAdd (α := EReal) (β := EReal) (γ := EReal) (iblk m c 2 t y) ((outsAt0 m c t.val t.isLt).2 y) := by
  rw [outsAt0_C m c t (by omega) hm]
  dsimp only
  frame_out
  pointwise [k0_pay3]

theorem summed (t : Fin cfg0.N) (hm : t.val % 4 = 3) (y : S1024x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

theorem final : (dats m 0 c).arrAt 3 cfg0.N = Cert.Reference16Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 4 = 3 := (flush0_3 t).mp hf
  blk_simp
  rw [after0_3]
  refine (written m c t hm _).trans ?_
  pointwise [Cert.Reference16Ideal.Read.val_main_v5, Cert.Reference16Ideal.Read.val_main_v4, Cert.Reference16Ideal.Read.val_main_v3, Cert.Reference16Ideal.Read.val_main_v2, Cert.Reference16Ideal.Read.val_main_v1, Cert.Reference16Ideal.Read.val_main_v0]
  have hN : t.val < 64 := lt_of_lt_of_eq t.isLt (show cfg0.N = 64 from N_0)
  refine congrArg₂ (fun a b : EReal => a + b) ?_ ?_
  · blk_ext [iblk, V, ix3v t, ix2v t]
  refine (summed m c t hm _).trans ?_
  rw [zero_add]
  unfold share
  refine Fin.sum_mul_add_congr fun s k hl => ?_
  congr 1 <;> blk_ext [iblk, V, ix3v t, ix0v ⟨4 * (t.val / 4) + s.val, Pipeline.run_point_lt_of_flush t hm s⟩, ix1v ⟨4 * (t.val / 4) + s.val, Pipeline.run_point_lt_of_flush t hm s⟩]

theorem algebraic : Cert.algebraic_Kernel16Ideal_Reference16Ideal (hKernel16Ideal := Cert.Kernel16Ideal.Gen.facts)
    (hReference16Ideal := Cert.Reference16Ideal.Gen.facts) := by
  intro m g m' g' _ he
  refine ⟨fun c => Cert.Reference16Ideal.Read.val_main_v5 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel16Ideal.Value.run_blocks m g)
  · refine (θ_run _ _ _).mono (fun r h c => ?_) (Cert.Reference16Ideal.Value.run (F := Ideal) m' g')
    obtain ⟨e0, e1, e2⟩ := he c
    refine ⟨(h c).1.trans ?_, (h c).2⟩
    exact (Cert.Reference16Ideal.Read.val_main_v5_eq _ _ _).trans (congr (congrArg₂ (Cert.Reference16Ideal.Read.val_main_v5 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel16Ideal.Gen.frame (F := Bits) m g

theorem frame_same : FrameBits = Cert.quiescent_Kernel16 (hKernel16 := Cert.Kernel16.Gen.facts) := by sl_kernel_rfl

theorem frame_kernel : Cert.quiescent_Kernel16 (hKernel16 := Cert.Kernel16.Gen.facts) := cast frame_same frame_bits

theorem frame_ideal : Cert.quiescent_Kernel16Ideal (hKernel16Ideal := Cert.Kernel16Ideal.Gen.facts) := fun m g _ =>
  Cert.Kernel16Ideal.Gen.frame (F := Ideal) m g

theorem frame_reference : Cert.quiescent_Reference16Ideal (hReference16Ideal := Cert.Reference16Ideal.Gen.facts) := fun m g _ =>
  (θ_run _ _ _).mono (fun r h => ⟨fun c => (h c).2, Idealize.ShloMosaic.sem_eq_zero_of_no_sems (by decide) r.2⟩)
    (Cert.Reference16Ideal.Value.run (F := Ideal) m g)

end Cert.Kernel16Ideal.Mlp

end
-- ==== Proof.Mlp17.lean ====
/-
  The third layer. The gradient at the up projection's output: what the call leaves is the reference's array.
-/
module

public import proofs.«01_k».proof.Defs
public import proofs.«01_k».proof.Proof.Gen.Kernel17
public import proofs.«01_k».proof.Proof.Gen.Kernel17Ideal.Value
public import proofs.«01_k».proof.Proof.Gen.Reference17Ideal.Read
public import proofs.«01_k».proof.Proof.Gen.Reference17Ideal.Run
public import Idealize.ShloMosaic.Lib.Pipeline.ValueKit
public import Idealize.ShloMosaic.Lib.Quiescent

@[expose] public section

set_option maxRecDepth 16384

noncomputable section

namespace Cert.Kernel17Ideal.Mlp

open Idealize.ShloMosaic Idealize.ShloMosaic.TcCoe Idealize.SL.Sem Idealize.ShloMosaic.ValueIdx
open Cert.Kernel17Ideal Cert.Kernel17Ideal.Gen

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![2, (grid0.coords t 1).val, 0] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

/-- A gated value vanishes where the gate is closed. -/
theorem gate (a s u : EReal) : a * (s * max u 0) = if 0 < u then a * (s * max u 0) else 0 := by
  by_cases h : 0 < u
  · rw [if_pos h]
  · rw [if_neg h, max_eq_right (not_lt.1 h), mul_zero, mul_zero]

theorem final : (dats m 0 c).arrAt 3 cfg0.N = Cert.Reference17Ideal.Read.val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, Cert.Reference17Ideal.Read.val_main_v17, Cert.Reference17Ideal.Read.val_main_v16, Cert.Reference17Ideal.Read.val_main_v15, Cert.Reference17Ideal.Read.val_main_cst_2, Cert.Reference17Ideal.Read.val_main_v14, Cert.Reference17Ideal.Read.val_main_v13, Cert.Reference17Ideal.Read.val_main_v11, Cert.Reference17Ideal.Read.val_main_v10, Cert.Reference17Ideal.Read.val_main_cst_1, Cert.Reference17Ideal.Read.val_main_v7, Cert.Reference17Ideal.Read.val_main_v6, Cert.Reference17Ideal.Read.val_main_cst, Cert.Reference17Ideal.Read.val_main_v5, Cert.Reference17Ideal.Read.val_main_v4, Cert.Reference17Ideal.Read.val_main_v3, Cert.Reference17Ideal.Read.val_main_v2, Cert.Reference17Ideal.Read.val_main_v1, Cert.Reference17Ideal.Read.val_main_v0, Cert.Reference17Ideal.Read.val_main_call0_v0, Cert.Reference17Ideal.Read.val_main_call0_cst]
  refine Eq.trans ?_ (gate _ _ _)
  blk_point [iblk, V, ix3v t, ix0v t, ix1v t, ix2v t]

theorem algebraic : Cert.algebraic_Kernel17Ideal_Reference17Ideal (hKernel17Ideal := Cert.Kernel17Ideal.Gen.facts)
    (hReference17Ideal := Cert.Reference17Ideal.Gen.facts) := by
  intro m g m' g' _ he
  refine ⟨fun c => Cert.Reference17Ideal.Read.val_main_v17 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel17Ideal.Value.run_blocks m g)
  · refine (θ_run _ _ _).mono (fun r h c => ?_) (Cert.Reference17Ideal.Value.run (F := Ideal) m' g')
    obtain ⟨e0, e1, e2⟩ := he c
    refine ⟨(h c).1.trans ?_, (h c).2⟩
    exact (Cert.Reference17Ideal.Read.val_main_v17_eq _ _ _).trans (congr (congrArg₂ (Cert.Reference17Ideal.Read.val_main_v17 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel17Ideal.Gen.frame (F := Bits) m g

theorem frame_same : FrameBits = Cert.quiescent_Kernel17 (hKernel17 := Cert.Kernel17.Gen.facts) := by sl_kernel_rfl

theorem frame_kernel : Cert.quiescent_Kernel17 (hKernel17 := Cert.Kernel17.Gen.facts) := cast frame_same frame_bits

theorem frame_ideal : Cert.quiescent_Kernel17Ideal (hKernel17Ideal := Cert.Kernel17Ideal.Gen.facts) := fun m g _ =>
  Cert.Kernel17Ideal.Gen.frame (F := Ideal) m g

theorem frame_reference : Cert.quiescent_Reference17Ideal (hReference17Ideal := Cert.Reference17Ideal.Gen.facts) := fun m g _ =>
  (θ_run _ _ _).mono (fun r h => ⟨fun c => (h c).2, Idealize.ShloMosaic.sem_eq_zero_of_no_sems (by decide) r.2⟩)
    (Cert.Reference17Ideal.Value.run (F := Ideal) m g)

end Cert.Kernel17Ideal.Mlp

end
-- ==== Proof.Mlp18.lean ====
/-
  The third layer. The gradient at the normalised input: the contraction walked in four stretches by four grid points over a carried
  accumulator is the reference's whole contraction.
-/
module

public import proofs.«01_k».proof.Defs
public import proofs.«01_k».proof.Proof.Gen.Kernel18
public import proofs.«01_k».proof.Proof.Gen.Kernel18Ideal.Value
public import proofs.«01_k».proof.Proof.Gen.Reference18Ideal.Read
public import proofs.«01_k».proof.Proof.Gen.Reference18Ideal.Run
public import Idealize.ShloMosaic.Lib.Pipeline.ValueKit
public import Idealize.ShloMosaic.Lib.Quiescent

@[expose] public section

set_option maxRecDepth 16384

noncomputable section

namespace Cert.Kernel18Ideal.Mlp

open Idealize.ShloMosaic Idealize.ShloMosaic.TcCoe Idealize.SL.Sem Idealize.ShloMosaic.ValueIdx
open Cert.Kernel18Ideal Cert.Kernel18Ideal.Gen

variable (m : (ℓ : Loc nD τ sig) → Buf (Elt Ideal) ℓ) (c : Dev nD)

theorem ix0v : ∀ t : Fin cfg0.N, win0_0.index t = ![t.val / 8, t.val % 4] :=
  (by decide +kernel : ∀ t : Fin grid0.N, _)

theorem ix1v : ∀ t : Fin cfg0.N, win0_1.index t = ![2, t.val / 4 % 2, t.val % 4] :=
  (by decide +kernel : ∀ t : Fin grid0.N, _)

theorem ix2v : ∀ t : Fin cfg0.N, win0_2.index t = ![t.val / 8, t.val / 4 % 2] :=
  (by decide +kernel : ∀ t : Fin grid0.N, _)

/-- What a point adds at an index of the block: its stretch of the contraction. -/
def share (t : Fin cfg0.N) (j : S1024x1024.Idx) : EReal :=
  ∑ k : Fin 2048, HMul.hMul (α := EReal) (β := EReal) (γ := EReal) (iblk m c 0 t (Idealize.ShloMosaic.ix2 (j 0) k)) (iblk m c 1 t (Idealize.ShloMosaic.ix3 0 (j 1) k))

theorem pay_zero (j : S1024x1024.Idx) : k0_pay1 (F := Ideal) j = (0 : EReal) := by pointwise [k0_pay1]

theorem pay_add (t : Fin cfg0.N) (v : Vec Ideal S1024x1024 .f32) (j : S1024x1024.Idx) :
    k0_pay2 v (iblk m c 0 t) (iblk m c 1 t) j = (v j + share m c t j : EReal) := by
  pointwise [k0_pay2, share]

theorem step0 (t : Fin cfg0.N) (h : t.val % 4 = 0) (j : S1024x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S1024x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1024x1024.Idx) :
    (outsAt0 m c t.val t.isLt).1 y = ((outsAt0 m c t.val t.isLt).2 y : EReal) := by
  rw [outsAt0_C m c t (by omega) hm]
  dsimp only
  frame_out
  pointwise [k0_pay3]

theorem summed (t : Fin cfg0.N) (hm : t.val % 4 = 3) (y : S1024x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

theorem final : (dats m 0 c).arrAt 2 cfg0.N = Cert.Reference18Ideal.Read.val_main_v9 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2]
  refine (written m c t hm _).trans ((summed m c t hm _).trans ?_)
  rw [zero_add]
  pointwise [Cert.Reference18Ideal.Read.val_main_v9, Cert.Reference18Ideal.Read.val_main_v8, Cert.Reference18Ideal.Read.val_main_v4, Cert.Reference18Ideal.Read.val_main_v3, Cert.Reference18Ideal.Read.val_main_v2, Cert.Reference18Ideal.Read.val_main_v1]
  unfold share
  refine Fin.sum_mul_add_congr fun s k hl => ?_
  have hN : t.val < 64 := lt_of_lt_of_eq t.isLt (show cfg0.N = 64 from N_0)
  congr 1 <;> blk_ext [iblk, V, ix2v t, ix0v ⟨4 * (t.val / 4) + s.val, Pipeline.run_point_lt_of_flush t hm s⟩, ix1v ⟨4 * (t.val / 4) + s.val, Pipeline.run_point_lt_of_flush t hm s⟩]

theorem algebraic : Cert.algebraic_Kernel18Ideal_Reference18Ideal (hKernel18Ideal := Cert.Kernel18Ideal.Gen.facts)
    (hReference18Ideal := Cert.Reference18Ideal.Gen.facts) := by
  intro m g m' g' _ he
  refine ⟨fun c => Cert.Reference18Ideal.Read.val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel18Ideal.Value.run_blocks m g)
  · refine (θ_run _ _ _).mono (fun r h c => ?_) (Cert.Reference18Ideal.Value.run (F := Ideal) m' g')
    obtain ⟨e0, e1⟩ := he c
    refine ⟨(h c).1.trans ?_, (h c).2⟩
    exact (Cert.Reference18Ideal.Read.val_main_v9_eq _ _).trans (congrArg₂ (Cert.Reference18Ideal.Read.val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel18Ideal.Gen.frame (F := Bits) m g

theorem frame_same : FrameBits = Cert.quiescent_Kernel18 (hKernel18 := Cert.Kernel18.Gen.facts) := by sl_kernel_rfl

theorem frame_kernel : Cert.quiescent_Kernel18 (hKernel18 := Cert.Kernel18.Gen.facts) := cast frame_same frame_bits

theorem frame_ideal : Cert.quiescent_Kernel18Ideal (hKernel18Ideal := Cert.Kernel18Ideal.Gen.facts) := fun m g _ =>
  Cert.Kernel18Ideal.Gen.frame (F := Ideal) m g

theorem frame_reference : Cert.quiescent_Reference18Ideal (hReference18Ideal := Cert.Reference18Ideal.Gen.facts) := fun m g _ =>
  (θ_run _ _ _).mono (fun r h => ⟨fun c => (h c).2, Idealize.ShloMosaic.sem_eq_zero_of_no_sems (by decide) r.2⟩)
    (Cert.Reference18Ideal.Value.run (F := Ideal) m g)

end Cert.Kernel18Ideal.Mlp

end
-- ==== Proof.Mlp19.lean ====
/-
  The third layer. The gradient of the down projection's weight, written into one layer of the stacked gradient in place.
-/
module

public import proofs.«01_k».proof.Defs
public import proofs.«01_k».proof.Proof.Gen.Kernel19
public import proofs.«01_k».proof.Proof.Gen.Kernel19Ideal.Value
public import proofs.«01_k».proof.Proof.Gen.Reference19Ideal.Read
public import proofs.«01_k».proof.Proof.Gen.Reference19Ideal.Run
public import Idealize.ShloMosaic.Lib.Pipeline.ValueKit
public import Idealize.ShloMosaic.Lib.Pipeline.ValueKit.Partial
public import Idealize.ShloMosaic.Lib.Quiescent

@[expose] public section

set_option maxRecDepth 16384

noncomputable section

namespace Cert.Kernel19Ideal.Mlp

open Idealize.ShloMosaic Idealize.ShloMosaic.TcCoe Idealize.SL.Sem Idealize.ShloMosaic.ValueIdx
open Cert.Kernel19Ideal Cert.Kernel19Ideal.Gen

variable (m : (ℓ : Loc nD τ sig) → Buf (Elt Ideal) ℓ) (c : Dev nD)

theorem ix0v : ∀ t : Fin cfg0.N, win0_0.index t = ![t.val % 4, t.val / 8] :=
  (by decide +kernel : ∀ t : Fin grid0.N, _)

theorem ix1v : ∀ t : Fin cfg0.N, win0_1.index t = ![t.val % 4, t.val / 4 % 2] :=
  (by decide +kernel : ∀ t : Fin grid0.N, _)

theorem ix2v : ∀ t : Fin cfg0.N, win0_2.index t = ![2, t.val / 8, t.val / 4 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = Cert.Reference19Ideal.Read.val_main_v11 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 2) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 128 := lt_of_lt_of_eq t.isLt (show cfg0.N = 128 from N_0)
    pointwise [Cert.Reference19Ideal.Read.val_main_v11, Cert.Reference19Ideal.Read.val_main_v10, Cert.Reference19Ideal.Read.val_main_v9, Cert.Reference19Ideal.Read.val_main_v8, Cert.Reference19Ideal.Read.val_main_v7, Cert.Reference19Ideal.Read.val_main_v5, Cert.Reference19Ideal.Read.val_main_v4, Cert.Reference19Ideal.Read.val_main_v2, Cert.Reference19Ideal.Read.val_main_v1]
    rw [dif_neg (by blk_simp [ix2v t]; idx_bounds y; omega), dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [Cert.Reference19Ideal.Read.val_main_v11, Cert.Reference19Ideal.Read.val_main_v10, Cert.Reference19Ideal.Read.val_main_v9, Cert.Reference19Ideal.Read.val_main_v8, Cert.Reference19Ideal.Read.val_main_v7, Cert.Reference19Ideal.Read.val_main_v5, Cert.Reference19Ideal.Read.val_main_v4, Cert.Reference19Ideal.Read.val_main_v2, Cert.Reference19Ideal.Read.val_main_v1]
    by_cases h0 : (j 0).val < 2
    · rw [dif_pos (by blk_simp; omega)]
      entry_read
      blk_ext
    · rw [dif_neg (by blk_simp; omega), dif_neg (by blk_simp; omega)]
      entry_read
      blk_ext

theorem algebraic : Cert.algebraic_Kernel19Ideal_Reference19Ideal (hKernel19Ideal := Cert.Kernel19Ideal.Gen.facts)
    (hReference19Ideal := Cert.Reference19Ideal.Gen.facts) := by
  intro m g m' g' _ he
  refine ⟨fun c => Cert.Reference19Ideal.Read.val_main_v11 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel19Ideal.Value.run_blocks m g)
  · refine (θ_run _ _ _).mono (fun r h c => ?_) (Cert.Reference19Ideal.Value.run (F := Ideal) m' g')
    obtain ⟨e0, e1, e2⟩ := he c
    refine ⟨(h c).1.trans ?_, (h c).2⟩
    exact (Cert.Reference19Ideal.Read.val_main_v11_eq _ _ _).trans (congr (congrArg₂ (Cert.Reference19Ideal.Read.val_main_v11 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel19Ideal.Gen.frame (F := Bits) m g

theorem frame_same : FrameBits = Cert.quiescent_Kernel19 (hKernel19 := Cert.Kernel19.Gen.facts) := by sl_kernel_rfl

theorem frame_kernel : Cert.quiescent_Kernel19 (hKernel19 := Cert.Kernel19.Gen.facts) := cast frame_same frame_bits

theorem frame_ideal : Cert.quiescent_Kernel19Ideal (hKernel19Ideal := Cert.Kernel19Ideal.Gen.facts) := fun m g _ =>
  Cert.Kernel19Ideal.Gen.frame (F := Ideal) m g

theorem frame_reference : Cert.quiescent_Reference19Ideal (hReference19Ideal := Cert.Reference19Ideal.Gen.facts) := fun m g _ =>
  (θ_run _ _ _).mono (fun r h => ⟨fun c => (h c).2, Idealize.ShloMosaic.sem_eq_zero_of_no_sems (by decide) r.2⟩)
    (Cert.Reference19Ideal.Value.run (F := Ideal) m g)

end Cert.Kernel19Ideal.Mlp

end
-- ==== Proof.Mlp20.lean ====
/-
  The third layer. The gradient of the up projection's weight, written into one layer of the stacked gradient in place.
-/
module

public import proofs.«01_k».proof.Defs
public import proofs.«01_k».proof.Proof.Gen.Kernel20
public import proofs.«01_k».proof.Proof.Gen.Kernel20Ideal.Value
public import proofs.«01_k».proof.Proof.Gen.Reference20Ideal.Read
public import proofs.«01_k».proof.Proof.Gen.Reference20Ideal.Run
public import Idealize.ShloMosaic.Lib.Pipeline.ValueKit
public import Idealize.ShloMosaic.Lib.Pipeline.ValueKit.Partial
public import Idealize.ShloMosaic.Lib.Quiescent

@[expose] public section

set_option maxRecDepth 16384

noncomputable section

namespace Cert.Kernel20Ideal.Mlp

open Idealize.ShloMosaic Idealize.ShloMosaic.TcCoe Idealize.SL.Sem Idealize.ShloMosaic.ValueIdx
open Cert.Kernel20Ideal Cert.Kernel20Ideal.Gen

variable (m : (ℓ : Loc nD τ sig) → Buf (Elt Ideal) ℓ) (c : Dev nD)

theorem ix0v : ∀ t : Fin cfg0.N, win0_0.index t = ![t.val % 4, t.val / 32] :=
  (by decide +kernel : ∀ t : Fin grid0.N, _)

theorem ix1v : ∀ t : Fin cfg0.N, win0_1.index t = ![t.val % 4, t.val / 4 % 8] :=
  (by decide +kernel : ∀ t : Fin grid0.N, _)

theorem ix2v : ∀ t : Fin cfg0.N, win0_2.index t = ![2, t.val / 32, t.val / 4 % 8] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = Cert.Reference20Ideal.Read.val_main_v11 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 2) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 128 := lt_of_lt_of_eq t.isLt (show cfg0.N = 128 from N_0)
    pointwise [Cert.Reference20Ideal.Read.val_main_v11, Cert.Reference20Ideal.Read.val_main_v10, Cert.Reference20Ideal.Read.val_main_v9, Cert.Reference20Ideal.Read.val_main_v8, Cert.Reference20Ideal.Read.val_main_v7, Cert.Reference20Ideal.Read.val_main_v5, Cert.Reference20Ideal.Read.val_main_v4, Cert.Reference20Ideal.Read.val_main_v2, Cert.Reference20Ideal.Read.val_main_v1]
    rw [dif_neg (by blk_simp [ix2v t]; idx_bounds y; omega), dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [Cert.Reference20Ideal.Read.val_main_v11, Cert.Reference20Ideal.Read.val_main_v10, Cert.Reference20Ideal.Read.val_main_v9, Cert.Reference20Ideal.Read.val_main_v8, Cert.Reference20Ideal.Read.val_main_v7, Cert.Reference20Ideal.Read.val_main_v5, Cert.Reference20Ideal.Read.val_main_v4, Cert.Reference20Ideal.Read.val_main_v2, Cert.Reference20Ideal.Read.val_main_v1]
    by_cases h0 : (j 0).val < 2
    · rw [dif_pos (by blk_simp; omega)]
      entry_read
      blk_ext
    · rw [dif_neg (by blk_simp; omega), dif_neg (by blk_simp; omega)]
      entry_read
      blk_ext

theorem algebraic : Cert.algebraic_Kernel20Ideal_Reference20Ideal (hKernel20Ideal := Cert.Kernel20Ideal.Gen.facts)
    (hReference20Ideal := Cert.Reference20Ideal.Gen.facts) := by
  intro m g m' g' _ he
  refine ⟨fun c => Cert.Reference20Ideal.Read.val_main_v11 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel20Ideal.Value.run_blocks m g)
  · refine (θ_run _ _ _).mono (fun r h c => ?_) (Cert.Reference20Ideal.Value.run (F := Ideal) m' g')
    obtain ⟨e0, e1, e2⟩ := he c
    refine ⟨(h c).1.trans ?_, (h c).2⟩
    exact (Cert.Reference20Ideal.Read.val_main_v11_eq _ _ _).trans (congr (congrArg₂ (Cert.Reference20Ideal.Read.val_main_v11 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel20Ideal.Gen.frame (F := Bits) m g

theorem frame_same : FrameBits = Cert.quiescent_Kernel20 (hKernel20 := Cert.Kernel20.Gen.facts) := by sl_kernel_rfl

theorem frame_kernel : Cert.quiescent_Kernel20 (hKernel20 := Cert.Kernel20.Gen.facts) := cast frame_same frame_bits

theorem frame_ideal : Cert.quiescent_Kernel20Ideal (hKernel20Ideal := Cert.Kernel20Ideal.Gen.facts) := fun m g _ =>
  Cert.Kernel20Ideal.Gen.frame (F := Ideal) m g

theorem frame_reference : Cert.quiescent_Reference20Ideal (hReference20Ideal := Cert.Reference20Ideal.Gen.facts) := fun m g _ =>
  (θ_run _ _ _).mono (fun r h => ⟨fun c => (h c).2, Idealize.ShloMosaic.sem_eq_zero_of_no_sems (by decide) r.2⟩)
    (Cert.Reference20Ideal.Value.run (F := Ideal) m g)

end Cert.Kernel20Ideal.Mlp

end
-- ==== Proof.Mlp21.lean ====
/-
  The third layer. The up projection of the forward pass: the call's two arrays, what it projects to and the squared positive part of it,
  are the reference's.
-/
module

public import proofs.«01_k».proof.Defs
public import proofs.«01_k».proof.Proof.Gen.Kernel21
public import proofs.«01_k».proof.Proof.Gen.Kernel21Ideal.Value
public import proofs.«01_k».proof.Proof.Gen.Reference21Ideal.Read
public import proofs.«01_k».proof.Proof.Gen.Reference21Ideal.Run
public import Idealize.ShloMosaic.Lib.Pipeline.ValueKit
public import Idealize.ShloMosaic.Lib.Quiescent

@[expose] public section

set_option maxRecDepth 16384

noncomputable section

namespace Cert.Kernel21Ideal.Mlp

open Idealize.ShloMosaic Idealize.ShloMosaic.TcCoe Idealize.SL.Sem Idealize.ShloMosaic.ValueIdx
open Cert.Kernel21Ideal Cert.Kernel21Ideal.Gen

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![2, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

/-- The projection. -/
theorem final_up : (dats m 0 c).arrAt 2 cfg0.N = Cert.Reference21Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, k0_pay2, Cert.Reference21Ideal.Read.val_main_v8, Cert.Reference21Ideal.Read.val_main_v7, Cert.Reference21Ideal.Read.val_main_v6, Cert.Reference21Ideal.Read.val_main_v5, Cert.Reference21Ideal.Read.val_main_v4, Cert.Reference21Ideal.Read.val_main_v3, Cert.Reference21Ideal.Read.val_main_v2, Cert.Reference21Ideal.Read.val_main_v1, Cert.Reference21Ideal.Read.val_main_v0, Cert.Reference21Ideal.Read.val_main_call0_v0, Cert.Reference21Ideal.Read.val_main_call0_cst]
  blk_point [iblk, V, ix2v t, ix0v t, ix1v t]

/-- The squared positive part. -/
theorem final_act : (dats m 0 c).arrAt 3 cfg0.N = Cert.Reference21Ideal.Read.val_main_v8 (F := Ideal) (m ((c : Thread nD τ).loc main_arg0)) (m ((c : Thread nD τ).loc main_arg1)) := by
  refine (dats m 0 c).arrAt_eq_of_covers 3 _ (by decide +kernel) fun t hf y => ?_
  blk_simp
  rw [after0_3]; frame_out
  pointwise [k0_pay1, k0_pay3, Cert.Reference21Ideal.Read.val_main_v8, Cert.Reference21Ideal.Read.val_main_v7, Cert.Reference21Ideal.Read.val_main_v6, Cert.Reference21Ideal.Read.val_main_v5, Cert.Reference21Ideal.Read.val_main_v4, Cert.Reference21Ideal.Read.val_main_v3, Cert.Reference21Ideal.Read.val_main_v2, Cert.Reference21Ideal.Read.val_main_v1, Cert.Reference21Ideal.Read.val_main_v0, Cert.Reference21Ideal.Read.val_main_call0_v0, Cert.Reference21Ideal.Read.val_main_call0_cst]
  blk_point [iblk, V, ix3v t, ix0v t, ix1v t]

theorem algebraic : Cert.algebraic_Kernel21Ideal_Reference21Ideal (hKernel21Ideal := Cert.Kernel21Ideal.Gen.facts)
    (hReference21Ideal := Cert.Reference21Ideal.Gen.facts) := by
  intro m g m' g' _ he
  refine ⟨fun c => Cert.Reference21Ideal.Read.val_main_v5 (F := Ideal) (m ((c : Thread nD τ).loc main_arg0)) (m ((c : Thread nD τ).loc main_arg1)), fun c => Cert.Reference21Ideal.Read.val_main_v8 (F := Ideal) (m ((c : Thread nD τ).loc main_arg0)) (m ((c : Thread nD τ).loc main_arg1)), ?_, ?_⟩
  · exact (θ_run _ _ _).mono (fun r h c => ⟨(h c).1.trans (final_up m c), (h c).2.1.trans (final_act m c), (h c).2.2⟩) (Cert.Kernel21Ideal.Value.run_blocks m g)
  · refine (θ_run _ _ _).mono (fun r h c => ?_) (Cert.Reference21Ideal.Value.run (F := Ideal) m' g')
    obtain ⟨e0, e1⟩ := he c
    refine ⟨(h c).1.trans ?_, (h c).2.1.trans ?_, (h c).2.2⟩
    · exact (Cert.Reference21Ideal.Read.val_main_v5_eq _ _).trans (congrArg₂ (Cert.Reference21Ideal.Read.val_main_v5 (F := Ideal)) e0 e1)
    · exact (Cert.Reference21Ideal.Read.val_main_v8_eq _ _).trans (congrArg₂ (Cert.Reference21Ideal.Read.val_main_v8 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel21Ideal.Gen.frame (F := Bits) m g

theorem frame_same : FrameBits = Cert.quiescent_Kernel21 (hKernel21 := Cert.Kernel21.Gen.facts) := by sl_kernel_rfl

theorem frame_kernel : Cert.quiescent_Kernel21 (hKernel21 := Cert.Kernel21.Gen.facts) := cast frame_same frame_bits

theorem frame_ideal : Cert.quiescent_Kernel21Ideal (hKernel21Ideal := Cert.Kernel21Ideal.Gen.facts) := fun m g _ =>
  Cert.Kernel21Ideal.Gen.frame (F := Ideal) m g

theorem frame_reference : Cert.quiescent_Reference21Ideal (hReference21Ideal := Cert.Reference21Ideal.Gen.facts) := fun m g _ =>
  (θ_run _ _ _).mono (fun r h => ⟨fun c => (h c).2.2, Idealize.ShloMosaic.sem_eq_zero_of_no_sems (by decide) r.2⟩)
    (Cert.Reference21Ideal.Value.run (F := Ideal) m g)

end Cert.Kernel21Ideal.Mlp

end
-- ==== Proof.Mlp22.lean ====
/-
  The third layer. The down projection, added to the residual: the contraction is walked in four stretches by four grid
  points over a carried accumulator, and the sum joins the residual after the last.
-/
module

public import proofs.«01_k».proof.Defs
public import proofs.«01_k».proof.Proof.Gen.Kernel22
public import proofs.«01_k».proof.Proof.Gen.Kernel22Ideal.Value
public import proofs.«01_k».proof.Proof.Gen.Reference22Ideal.Read
public import proofs.«01_k».proof.Proof.Gen.Reference22Ideal.Run
public import Idealize.ShloMosaic.Lib.Pipeline.ValueKit
public import Idealize.ShloMosaic.Lib.Quiescent

@[expose] public section

set_option maxRecDepth 16384

noncomputable section

namespace Cert.Kernel22Ideal.Mlp

open Idealize.ShloMosaic Idealize.ShloMosaic.TcCoe Idealize.SL.Sem Idealize.ShloMosaic.ValueIdx
open Cert.Kernel22Ideal Cert.Kernel22Ideal.Gen

variable (m : (ℓ : Loc nD τ sig) → Buf (Elt Ideal) ℓ) (c : Dev nD)

theorem ix0v : ∀ t : Fin cfg0.N, win0_0.index t = ![t.val / 8, t.val % 4] :=
  (by decide +kernel : ∀ t : Fin grid0.N, _)

theorem ix1v : ∀ t : Fin cfg0.N, win0_1.index t = ![2, t.val % 4, t.val / 4 % 2] :=
  (by decide +kernel : ∀ t : Fin grid0.N, _)

theorem ix2v : ∀ t : Fin cfg0.N, win0_2.index t = ![t.val / 8, t.val / 4 % 2] :=
  (by decide +kernel : ∀ t : Fin grid0.N, _)

theorem ix3v : ∀ t : Fin cfg0.N, win0_3.index t = ![t.val / 8, t.val / 4 % 2] :=
  (by decide +kernel : ∀ t : Fin grid0.N, _)

/-- What a point adds at an index of the block: its stretch of the contraction. -/
def share (t : Fin cfg0.N) (j : S1024x1024.Idx) : EReal :=
  ∑ k : Fin 2048, HMul.hMul (α := EReal) (β := EReal) (γ := EReal) (iblk m c 0 t (Idealize.ShloMosaic.ix2 (j 0) k)) (iblk m c 1 t (Idealize.ShloMosaic.ix3 0 k (j 1)))

theorem pay_zero (j : S1024x1024.Idx) : k0_pay1 (F := Ideal) j = (0 : EReal) := by pointwise [k0_pay1]

theorem pay_add (t : Fin cfg0.N) (v : Vec Ideal S1024x1024 .f32) (j : S1024x1024.Idx) :
    k0_pay2 v (iblk m c 0 t) (iblk m c 1 t) j = (v j + share m c t j : EReal) := by
  pointwise [k0_pay2, share]

theorem step0 (t : Fin cfg0.N) (h : t.val % 4 = 0) (j : S1024x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S1024x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the residual's with the accumulator after the run's last point added. -/
theorem written (t : Fin cfg0.N) (hm : t.val % 4 = 3) (y : S1024x1024.Idx) :
    (outsAt0 m c t.val t.isLt).1 y = HAdd.hAdd (α := EReal) (β := EReal) (γ := EReal) (iblk m c 2 t y) ((outsAt0 m c t.val t.isLt).2 y) := by
  rw [outsAt0_C m c t (by omega) hm]
  dsimp only
  frame_out
  pointwise [k0_pay3]

theorem summed (t : Fin cfg0.N) (hm : t.val % 4 = 3) (y : S1024x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

theorem final : (dats m 0 c).arrAt 3 cfg0.N = Cert.Reference22Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 4 = 3 := (flush0_3 t).mp hf
  blk_simp
  rw [after0_3]
  refine (written m c t hm _).trans ?_
  pointwise [Cert.Reference22Ideal.Read.val_main_v5, Cert.Reference22Ideal.Read.val_main_v4, Cert.Reference22Ideal.Read.val_main_v3, Cert.Reference22Ideal.Read.val_main_v2, Cert.Reference22Ideal.Read.val_main_v1, Cert.Reference22Ideal.Read.val_main_v0]
  have hN : t.val < 64 := lt_of_lt_of_eq t.isLt (show cfg0.N = 64 from N_0)
  refine congrArg₂ (fun a b : EReal => a + b) ?_ ?_
  · blk_ext [iblk, V, ix3v t, ix2v t]
  refine (summed m c t hm _).trans ?_
  rw [zero_add]
  unfold share
  refine Fin.sum_mul_add_congr fun s k hl => ?_
  congr 1 <;> blk_ext [iblk, V, ix3v t, ix0v ⟨4 * (t.val / 4) + s.val, Pipeline.run_point_lt_of_flush t hm s⟩, ix1v ⟨4 * (t.val / 4) + s.val, Pipeline.run_point_lt_of_flush t hm s⟩]

theorem algebraic : Cert.algebraic_Kernel22Ideal_Reference22Ideal (hKernel22Ideal := Cert.Kernel22Ideal.Gen.facts)
    (hReference22Ideal := Cert.Reference22Ideal.Gen.facts) := by
  intro m g m' g' _ he
  refine ⟨fun c => Cert.Reference22Ideal.Read.val_main_v5 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel22Ideal.Value.run_blocks m g)
  · refine (θ_run _ _ _).mono (fun r h c => ?_) (Cert.Reference22Ideal.Value.run (F := Ideal) m' g')
    obtain ⟨e0, e1, e2⟩ := he c
    refine ⟨(h c).1.trans ?_, (h c).2⟩
    exact (Cert.Reference22Ideal.Read.val_main_v5_eq _ _ _).trans (congr (congrArg₂ (Cert.Reference22Ideal.Read.val_main_v5 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel22Ideal.Gen.frame (F := Bits) m g

theorem frame_same : FrameBits = Cert.quiescent_Kernel22 (hKernel22 := Cert.Kernel22.Gen.facts) := by sl_kernel_rfl

theorem frame_kernel : Cert.quiescent_Kernel22 (hKernel22 := Cert.Kernel22.Gen.facts) := cast frame_same frame_bits

theorem frame_ideal : Cert.quiescent_Kernel22Ideal (hKernel22Ideal := Cert.Kernel22Ideal.Gen.facts) := fun m g _ =>
  Cert.Kernel22Ideal.Gen.frame (F := Ideal) m g

theorem frame_reference : Cert.quiescent_Reference22Ideal (hReference22Ideal := Cert.Reference22Ideal.Gen.facts) := fun m g _ =>
  (θ_run _ _ _).mono (fun r h => ⟨fun c => (h c).2, Idealize.ShloMosaic.sem_eq_zero_of_no_sems (by decide) r.2⟩)
    (Cert.Reference22Ideal.Value.run (F := Ideal) m g)

end Cert.Kernel22Ideal.Mlp

end
-- ==== Proof.Mlp23.lean ====
/-
  The last layer. The gradient at the up projection's output: what the call leaves is the reference's array.
-/
module

public import proofs.«01_k».proof.Defs
public import proofs.«01_k».proof.Proof.Gen.Kernel23
public import proofs.«01_k».proof.Proof.Gen.Kernel23Ideal.Value
public import proofs.«01_k».proof.Proof.Gen.Reference23Ideal.Read
public import proofs.«01_k».proof.Proof.Gen.Reference23Ideal.Run
public import Idealize.ShloMosaic.Lib.Pipeline.ValueKit
public import Idealize.ShloMosaic.Lib.Quiescent

@[expose] public section

set_option maxRecDepth 16384

noncomputable section

namespace Cert.Kernel23Ideal.Mlp

open Idealize.ShloMosaic Idealize.ShloMosaic.TcCoe Idealize.SL.Sem Idealize.ShloMosaic.ValueIdx
open Cert.Kernel23Ideal Cert.Kernel23Ideal.Gen

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![3, (grid0.coords t 1).val, 0] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

/-- A gated value vanishes where the gate is closed. -/
theorem gate (a s u : EReal) : a * (s * max u 0) = if 0 < u then a * (s * max u 0) else 0 := by
  by_cases h : 0 < u
  · rw [if_pos h]
  · rw [if_neg h, max_eq_right (not_lt.1 h), mul_zero, mul_zero]

theorem final : (dats m 0 c).arrAt 3 cfg0.N = Cert.Reference23Ideal.Read.val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, Cert.Reference23Ideal.Read.val_main_v17, Cert.Reference23Ideal.Read.val_main_v16, Cert.Reference23Ideal.Read.val_main_v15, Cert.Reference23Ideal.Read.val_main_cst_2, Cert.Reference23Ideal.Read.val_main_v14, Cert.Reference23Ideal.Read.val_main_v13, Cert.Reference23Ideal.Read.val_main_v11, Cert.Reference23Ideal.Read.val_main_v10, Cert.Reference23Ideal.Read.val_main_cst_1, Cert.Reference23Ideal.Read.val_main_v7, Cert.Reference23Ideal.Read.val_main_v6, Cert.Reference23Ideal.Read.val_main_cst, Cert.Reference23Ideal.Read.val_main_v5, Cert.Reference23Ideal.Read.val_main_v4, Cert.Reference23Ideal.Read.val_main_v3, Cert.Reference23Ideal.Read.val_main_v2, Cert.Reference23Ideal.Read.val_main_v1, Cert.Reference23Ideal.Read.val_main_v0, Cert.Reference23Ideal.Read.val_main_call0_v0, Cert.Reference23Ideal.Read.val_main_call0_cst]
  refine Eq.trans ?_ (gate _ _ _)
  blk_point [iblk, V, ix3v t, ix0v t, ix1v t, ix2v t]

theorem algebraic : Cert.algebraic_Kernel23Ideal_Reference23Ideal (hKernel23Ideal := Cert.Kernel23Ideal.Gen.facts)
    (hReference23Ideal := Cert.Reference23Ideal.Gen.facts) := by
  intro m g m' g' _ he
  refine ⟨fun c => Cert.Reference23Ideal.Read.val_main_v17 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel23Ideal.Value.run_blocks m g)
  · refine (θ_run _ _ _).mono (fun r h c => ?_) (Cert.Reference23Ideal.Value.run (F := Ideal) m' g')
    obtain ⟨e0, e1, e2⟩ := he c
    refine ⟨(h c).1.trans ?_, (h c).2⟩
    exact (Cert.Reference23Ideal.Read.val_main_v17_eq _ _ _).trans (congr (congrArg₂ (Cert.Reference23Ideal.Read.val_main_v17 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel23Ideal.Gen.frame (F := Bits) m g

theorem frame_same : FrameBits = Cert.quiescent_Kernel23 (hKernel23 := Cert.Kernel23.Gen.facts) := by sl_kernel_rfl

theorem frame_kernel : Cert.quiescent_Kernel23 (hKernel23 := Cert.Kernel23.Gen.facts) := cast frame_same frame_bits

theorem frame_ideal : Cert.quiescent_Kernel23Ideal (hKernel23Ideal := Cert.Kernel23Ideal.Gen.facts) := fun m g _ =>
  Cert.Kernel23Ideal.Gen.frame (F := Ideal) m g

theorem frame_reference : Cert.quiescent_Reference23Ideal (hReference23Ideal := Cert.Reference23Ideal.Gen.facts) := fun m g _ =>
  (θ_run _ _ _).mono (fun r h => ⟨fun c => (h c).2, Idealize.ShloMosaic.sem_eq_zero_of_no_sems (by decide) r.2⟩)
    (Cert.Reference23Ideal.Value.run (F := Ideal) m g)

end Cert.Kernel23Ideal.Mlp

end
-- ==== Proof.Mlp24.lean ====
/-
  The last layer. The gradient at the normalised input: the contraction walked in four stretches by four grid points over a carried
  accumulator is the reference's whole contraction.
-/
module

public import proofs.«01_k».proof.Defs
public import proofs.«01_k».proof.Proof.Gen.Kernel24
public import proofs.«01_k».proof.Proof.Gen.Kernel24Ideal.Value
public import proofs.«01_k».proof.Proof.Gen.Reference24Ideal.Read
public import proofs.«01_k».proof.Proof.Gen.Reference24Ideal.Run
public import Idealize.ShloMosaic.Lib.Pipeline.ValueKit
public import Idealize.ShloMosaic.Lib.Quiescent

@[expose] public section

set_option maxRecDepth 16384

noncomputable section

namespace Cert.Kernel24Ideal.Mlp

open Idealize.ShloMosaic Idealize.ShloMosaic.TcCoe Idealize.SL.Sem Idealize.ShloMosaic.ValueIdx
open Cert.Kernel24Ideal Cert.Kernel24Ideal.Gen

variable (m : (ℓ : Loc nD τ sig) → Buf (Elt Ideal) ℓ) (c : Dev nD)

theorem ix0v : ∀ t : Fin cfg0.N, win0_0.index t = ![t.val / 8, t.val % 4] :=
  (by decide +kernel : ∀ t : Fin grid0.N, _)

theorem ix1v : ∀ t : Fin cfg0.N, win0_1.index t = ![3, t.val / 4 % 2, t.val % 4] :=
  (by decide +kernel : ∀ t : Fin grid0.N, _)

theorem ix2v : ∀ t : Fin cfg0.N, win0_2.index t = ![t.val / 8, t.val / 4 % 2] :=
  (by decide +kernel : ∀ t : Fin grid0.N, _)

/-- What a point adds at an index of the block: its stretch of the contraction. -/
def share (t : Fin cfg0.N) (j : S1024x1024.Idx) : EReal :=
  ∑ k : Fin 2048, HMul.hMul (α := EReal) (β := EReal) (γ := EReal) (iblk m c 0 t (Idealize.ShloMosaic.ix2 (j 0) k)) (iblk m c 1 t (Idealize.ShloMosaic.ix3 0 (j 1) k))

theorem pay_zero (j : S1024x1024.Idx) : k0_pay1 (F := Ideal) j = (0 : EReal) := by pointwise [k0_pay1]

theorem pay_add (t : Fin cfg0.N) (v : Vec Ideal S1024x1024 .f32) (j : S1024x1024.Idx) :
    k0_pay2 v (iblk m c 0 t) (iblk m c 1 t) j = (v j + share m c t j : EReal) := by
  pointwise [k0_pay2, share]

theorem step0 (t : Fin cfg0.N) (h : t.val % 4 = 0) (j : S1024x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S1024x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1024x1024.Idx) :
    (outsAt0 m c t.val t.isLt).1 y = ((outsAt0 m c t.val t.isLt).2 y : EReal) := by
  rw [outsAt0_C m c t (by omega) hm]
  dsimp only
  frame_out
  pointwise [k0_pay3]

theorem summed (t : Fin cfg0.N) (hm : t.val % 4 = 3) (y : S1024x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

theorem final : (dats m 0 c).arrAt 2 cfg0.N = Cert.Reference24Ideal.Read.val_main_v9 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2]
  refine (written m c t hm _).trans ((summed m c t hm _).trans ?_)
  rw [zero_add]
  pointwise [Cert.Reference24Ideal.Read.val_main_v9, Cert.Reference24Ideal.Read.val_main_v8, Cert.Reference24Ideal.Read.val_main_v4, Cert.Reference24Ideal.Read.val_main_v3, Cert.Reference24Ideal.Read.val_main_v2, Cert.Reference24Ideal.Read.val_main_v1]
  unfold share
  refine Fin.sum_mul_add_congr fun s k hl => ?_
  have hN : t.val < 64 := lt_of_lt_of_eq t.isLt (show cfg0.N = 64 from N_0)
  congr 1 <;> blk_ext [iblk, V, ix2v t, ix0v ⟨4 * (t.val / 4) + s.val, Pipeline.run_point_lt_of_flush t hm s⟩, ix1v ⟨4 * (t.val / 4) + s.val, Pipeline.run_point_lt_of_flush t hm s⟩]

theorem algebraic : Cert.algebraic_Kernel24Ideal_Reference24Ideal (hKernel24Ideal := Cert.Kernel24Ideal.Gen.facts)
    (hReference24Ideal := Cert.Reference24Ideal.Gen.facts) := by
  intro m g m' g' _ he
  refine ⟨fun c => Cert.Reference24Ideal.Read.val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel24Ideal.Value.run_blocks m g)
  · refine (θ_run _ _ _).mono (fun r h c => ?_) (Cert.Reference24Ideal.Value.run (F := Ideal) m' g')
    obtain ⟨e0, e1⟩ := he c
    refine ⟨(h c).1.trans ?_, (h c).2⟩
    exact (Cert.Reference24Ideal.Read.val_main_v9_eq _ _).trans (congrArg₂ (Cert.Reference24Ideal.Read.val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel24Ideal.Gen.frame (F := Bits) m g

theorem frame_same : FrameBits = Cert.quiescent_Kernel24 (hKernel24 := Cert.Kernel24.Gen.facts) := by sl_kernel_rfl

theorem frame_kernel : Cert.quiescent_Kernel24 (hKernel24 := Cert.Kernel24.Gen.facts) := cast frame_same frame_bits

theorem frame_ideal : Cert.quiescent_Kernel24Ideal (hKernel24Ideal := Cert.Kernel24Ideal.Gen.facts) := fun m g _ =>
  Cert.Kernel24Ideal.Gen.frame (F := Ideal) m g

theorem frame_reference : Cert.quiescent_Reference24Ideal (hReference24Ideal := Cert.Reference24Ideal.Gen.facts) := fun m g _ =>
  (θ_run _ _ _).mono (fun r h => ⟨fun c => (h c).2, Idealize.ShloMosaic.sem_eq_zero_of_no_sems (by decide) r.2⟩)
    (Cert.Reference24Ideal.Value.run (F := Ideal) m g)

end Cert.Kernel24Ideal.Mlp

end
-- ==== Proof.Mlp25.lean ====
/-
  The last layer. The up projection of the forward pass: the call's two arrays, what it projects to and the squared positive part of it,
  are the reference's.
-/
module

public import proofs.«01_k».proof.Defs
public import proofs.«01_k».proof.Proof.Gen.Kernel25
public import proofs.«01_k».proof.Proof.Gen.Kernel25Ideal.Value
public import proofs.«01_k».proof.Proof.Gen.Reference25Ideal.Read
public import proofs.«01_k».proof.Proof.Gen.Reference25Ideal.Run
public import Idealize.ShloMosaic.Lib.Pipeline.ValueKit
public import Idealize.ShloMosaic.Lib.Quiescent

@[expose] public section

set_option maxRecDepth 16384

noncomputable section

namespace Cert.Kernel25Ideal.Mlp

open Idealize.ShloMosaic Idealize.ShloMosaic.TcCoe Idealize.SL.Sem Idealize.ShloMosaic.ValueIdx
open Cert.Kernel25Ideal Cert.Kernel25Ideal.Gen

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![3, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

/-- The projection. -/
theorem final_up : (dats m 0 c).arrAt 2 cfg0.N = Cert.Reference25Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, k0_pay2, Cert.Reference25Ideal.Read.val_main_v8, Cert.Reference25Ideal.Read.val_main_v7, Cert.Reference25Ideal.Read.val_main_v6, Cert.Reference25Ideal.Read.val_main_v5, Cert.Reference25Ideal.Read.val_main_v4, Cert.Reference25Ideal.Read.val_main_v3, Cert.Reference25Ideal.Read.val_main_v2, Cert.Reference25Ideal.Read.val_main_v1, Cert.Reference25Ideal.Read.val_main_v0, Cert.Reference25Ideal.Read.val_main_call0_v0, Cert.Reference25Ideal.Read.val_main_call0_cst]
  blk_point [iblk, V, ix2v t, ix0v t, ix1v t]

/-- The squared positive part. -/
theorem final_act : (dats m 0 c).arrAt 3 cfg0.N = Cert.Reference25Ideal.Read.val_main_v8 (F := Ideal) (m ((c : Thread nD τ).loc main_arg0)) (m ((c : Thread nD τ).loc main_arg1)) := by
  refine (dats m 0 c).arrAt_eq_of_covers 3 _ (by decide +kernel) fun t hf y => ?_
  blk_simp
  rw [after0_3]; frame_out
  pointwise [k0_pay1, k0_pay3, Cert.Reference25Ideal.Read.val_main_v8, Cert.Reference25Ideal.Read.val_main_v7, Cert.Reference25Ideal.Read.val_main_v6, Cert.Reference25Ideal.Read.val_main_v5, Cert.Reference25Ideal.Read.val_main_v4, Cert.Reference25Ideal.Read.val_main_v3, Cert.Reference25Ideal.Read.val_main_v2, Cert.Reference25Ideal.Read.val_main_v1, Cert.Reference25Ideal.Read.val_main_v0, Cert.Reference25Ideal.Read.val_main_call0_v0, Cert.Reference25Ideal.Read.val_main_call0_cst]
  blk_point [iblk, V, ix3v t, ix0v t, ix1v t]

theorem algebraic : Cert.algebraic_Kernel25Ideal_Reference25Ideal (hKernel25Ideal := Cert.Kernel25Ideal.Gen.facts)
    (hReference25Ideal := Cert.Reference25Ideal.Gen.facts) := by
  intro m g m' g' _ he
  refine ⟨fun c => Cert.Reference25Ideal.Read.val_main_v5 (F := Ideal) (m ((c : Thread nD τ).loc main_arg0)) (m ((c : Thread nD τ).loc main_arg1)), fun c => Cert.Reference25Ideal.Read.val_main_v8 (F := Ideal) (m ((c : Thread nD τ).loc main_arg0)) (m ((c : Thread nD τ).loc main_arg1)), ?_, ?_⟩
  · exact (θ_run _ _ _).mono (fun r h c => ⟨(h c).1.trans (final_up m c), (h c).2.1.trans (final_act m c), (h c).2.2⟩) (Cert.Kernel25Ideal.Value.run_blocks m g)
  · refine (θ_run _ _ _).mono (fun r h c => ?_) (Cert.Reference25Ideal.Value.run (F := Ideal) m' g')
    obtain ⟨e0, e1⟩ := he c
    refine ⟨(h c).1.trans ?_, (h c).2.1.trans ?_, (h c).2.2⟩
    · exact (Cert.Reference25Ideal.Read.val_main_v5_eq _ _).trans (congrArg₂ (Cert.Reference25Ideal.Read.val_main_v5 (F := Ideal)) e0 e1)
    · exact (Cert.Reference25Ideal.Read.val_main_v8_eq _ _).trans (congrArg₂ (Cert.Reference25Ideal.Read.val_main_v8 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel25Ideal.Gen.frame (F := Bits) m g

theorem frame_same : FrameBits = Cert.quiescent_Kernel25 (hKernel25 := Cert.Kernel25.Gen.facts) := by sl_kernel_rfl

theorem frame_kernel : Cert.quiescent_Kernel25 (hKernel25 := Cert.Kernel25.Gen.facts) := cast frame_same frame_bits

theorem frame_ideal : Cert.quiescent_Kernel25Ideal (hKernel25Ideal := Cert.Kernel25Ideal.Gen.facts) := fun m g _ =>
  Cert.Kernel25Ideal.Gen.frame (F := Ideal) m g

theorem frame_reference : Cert.quiescent_Reference25Ideal (hReference25Ideal := Cert.Reference25Ideal.Gen.facts) := fun m g _ =>
  (θ_run _ _ _).mono (fun r h => ⟨fun c => (h c).2.2, Idealize.ShloMosaic.sem_eq_zero_of_no_sems (by decide) r.2⟩)
    (Cert.Reference25Ideal.Value.run (F := Ideal) m g)

end Cert.Kernel25Ideal.Mlp

end
-- ==== Proof.Mlp26.lean ====
/-
  The last layer. The down projection, added to the residual: the contraction is walked in four stretches by four grid
  points over a carried accumulator, and the sum joins the residual after the last.
-/
module

public import proofs.«01_k».proof.Defs
public import proofs.«01_k».proof.Proof.Gen.Kernel26
public import proofs.«01_k».proof.Proof.Gen.Kernel26Ideal.Value
public import proofs.«01_k».proof.Proof.Gen.Reference26Ideal.Read
public import proofs.«01_k».proof.Proof.Gen.Reference26Ideal.Run
public import Idealize.ShloMosaic.Lib.Pipeline.ValueKit
public import Idealize.ShloMosaic.Lib.Quiescent

@[expose] public section

set_option maxRecDepth 16384

noncomputable section

namespace Cert.Kernel26Ideal.Mlp

open Idealize.ShloMosaic Idealize.ShloMosaic.TcCoe Idealize.SL.Sem Idealize.ShloMosaic.ValueIdx
open Cert.Kernel26Ideal Cert.Kernel26Ideal.Gen

variable (m : (ℓ : Loc nD τ sig) → Buf (Elt Ideal) ℓ) (c : Dev nD)

theorem ix0v : ∀ t : Fin cfg0.N, win0_0.index t = ![t.val / 8, t.val % 4] :=
  (by decide +kernel : ∀ t : Fin grid0.N, _)

theorem ix1v : ∀ t : Fin cfg0.N, win0_1.index t = ![3, t.val % 4, t.val / 4 % 2] :=
  (by decide +kernel : ∀ t : Fin grid0.N, _)

theorem ix2v : ∀ t : Fin cfg0.N, win0_2.index t = ![t.val / 8, t.val / 4 % 2] :=
  (by decide +kernel : ∀ t : Fin grid0.N, _)

theorem ix3v : ∀ t : Fin cfg0.N, win0_3.index t = ![t.val / 8, t.val / 4 % 2] :=
  (by decide +kernel : ∀ t : Fin grid0.N, _)

/-- What a point adds at an index of the block: its stretch of the contraction. -/
def share (t : Fin cfg0.N) (j : S1024x1024.Idx) : EReal :=
  ∑ k : Fin 2048, HMul.hMul (α := EReal) (β := EReal) (γ := EReal) (iblk m c 0 t (Idealize.ShloMosaic.ix2 (j 0) k)) (iblk m c 1 t (Idealize.ShloMosaic.ix3 0 k (j 1)))

theorem pay_zero (j : S1024x1024.Idx) : k0_pay1 (F := Ideal) j = (0 : EReal) := by pointwise [k0_pay1]

theorem pay_add (t : Fin cfg0.N) (v : Vec Ideal S1024x1024 .f32) (j : S1024x1024.Idx) :
    k0_pay2 v (iblk m c 0 t) (iblk m c 1 t) j = (v j + share m c t j : EReal) := by
  pointwise [k0_pay2, share]

theorem step0 (t : Fin cfg0.N) (h : t.val % 4 = 0) (j : S1024x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S1024x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the residual's with the accumulator after the run's last point added. -/
theorem written (t : Fin cfg0.N) (hm : t.val % 4 = 3) (y : S1024x1024.Idx) :
    (outsAt0 m c t.val t.isLt).1 y = HAdd.hAdd (α := EReal) (β := EReal) (γ := EReal) (iblk m c 2 t y) ((outsAt0 m c t.val t.isLt).2 y) := by
  rw [outsAt0_C m c t (by omega) hm]
  dsimp only
  frame_out
  pointwise [k0_pay3]

theorem summed (t : Fin cfg0.N) (hm : t.val % 4 = 3) (y : S1024x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

theorem final : (dats m 0 c).arrAt 3 cfg0.N = Cert.Reference26Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 4 = 3 := (flush0_3 t).mp hf
  blk_simp
  rw [after0_3]
  refine (written m c t hm _).trans ?_
  pointwise [Cert.Reference26Ideal.Read.val_main_v5, Cert.Reference26Ideal.Read.val_main_v4, Cert.Reference26Ideal.Read.val_main_v3, Cert.Reference26Ideal.Read.val_main_v2, Cert.Reference26Ideal.Read.val_main_v1, Cert.Reference26Ideal.Read.val_main_v0]
  have hN : t.val < 64 := lt_of_lt_of_eq t.isLt (show cfg0.N = 64 from N_0)
  refine congrArg₂ (fun a b : EReal => a + b) ?_ ?_
  · blk_ext [iblk, V, ix3v t, ix2v t]
  refine (summed m c t hm _).trans ?_
  rw [zero_add]
  unfold share
  refine Fin.sum_mul_add_congr fun s k hl => ?_
  congr 1 <;> blk_ext [iblk, V, ix3v t, ix0v ⟨4 * (t.val / 4) + s.val, Pipeline.run_point_lt_of_flush t hm s⟩, ix1v ⟨4 * (t.val / 4) + s.val, Pipeline.run_point_lt_of_flush t hm s⟩]

theorem algebraic : Cert.algebraic_Kernel26Ideal_Reference26Ideal (hKernel26Ideal := Cert.Kernel26Ideal.Gen.facts)
    (hReference26Ideal := Cert.Reference26Ideal.Gen.facts) := by
  intro m g m' g' _ he
  refine ⟨fun c => Cert.Reference26Ideal.Read.val_main_v5 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel26Ideal.Value.run_blocks m g)
  · refine (θ_run _ _ _).mono (fun r h c => ?_) (Cert.Reference26Ideal.Value.run (F := Ideal) m' g')
    obtain ⟨e0, e1, e2⟩ := he c
    refine ⟨(h c).1.trans ?_, (h c).2⟩
    exact (Cert.Reference26Ideal.Read.val_main_v5_eq _ _ _).trans (congr (congrArg₂ (Cert.Reference26Ideal.Read.val_main_v5 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel26Ideal.Gen.frame (F := Bits) m g

theorem frame_same : FrameBits = Cert.quiescent_Kernel26 (hKernel26 := Cert.Kernel26.Gen.facts) := by sl_kernel_rfl

theorem frame_kernel : Cert.quiescent_Kernel26 (hKernel26 := Cert.Kernel26.Gen.facts) := cast frame_same frame_bits

theorem frame_ideal : Cert.quiescent_Kernel26Ideal (hKernel26Ideal := Cert.Kernel26Ideal.Gen.facts) := fun m g _ =>
  Cert.Kernel26Ideal.Gen.frame (F := Ideal) m g

theorem frame_reference : Cert.quiescent_Reference26Ideal (hReference26Ideal := Cert.Reference26Ideal.Gen.facts) := fun m g _ =>
  (θ_run _ _ _).mono (fun r h => ⟨fun c => (h c).2, Idealize.ShloMosaic.sem_eq_zero_of_no_sems (by decide) r.2⟩)
    (Cert.Reference26Ideal.Value.run (F := Ideal) m g)

end Cert.Kernel26Ideal.Mlp

end
-- ==== Proof.Mlp27.lean ====
/-
  The first layer. The gradient of the gate's product at its input.
-/
module

public import proofs.«01_k».proof.Defs
public import proofs.«01_k».proof.Proof.Gen.Kernel27
public import proofs.«01_k».proof.Proof.Gen.Kernel27Ideal.Value
public import proofs.«01_k».proof.Proof.Gen.Reference27Ideal.Read
public import proofs.«01_k».proof.Proof.Gen.Reference27Ideal.Run
public import Idealize.ShloMosaic.Lib.Pipeline.ValueKit
public import Idealize.ShloMosaic.Lib.Quiescent

@[expose] public section

set_option maxRecDepth 16384

noncomputable section

namespace Cert.Kernel27Ideal.Mlp

open Idealize.ShloMosaic Idealize.ShloMosaic.TcCoe Idealize.SL.Sem Idealize.ShloMosaic.ValueIdx
open Cert.Kernel27Ideal Cert.Kernel27Ideal.Gen Cert.Reference27Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![0, (grid0.coords t 1).val, 0] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v9, val_main_v8, val_main_v4, val_main_v3, val_main_v2, val_main_v1]
  blk_point [iblk, V, ix2v t, ix0v t, ix1v t]

theorem algebraic : Cert.algebraic_Kernel27Ideal_Reference27Ideal (hKernel27Ideal := Cert.Kernel27Ideal.Gen.facts)
    (hReference27Ideal := Cert.Reference27Ideal.Gen.facts) := by
  intro m g m' g' _ he
  refine ⟨fun c => val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel27Ideal.Value.run_blocks m g)
  · refine (θ_run _ _ _).mono (fun r h c => ?_) (Cert.Reference27Ideal.Value.run (F := Ideal) m' g')
    obtain ⟨e0, e1⟩ := he c
    refine ⟨(h c).1.trans ?_, (h c).2⟩
    · exact (val_main_v9_eq _ _).trans (congrArg₂ (val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel27Ideal.Gen.frame (F := Bits) m g

theorem frame_same : FrameBits = Cert.quiescent_Kernel27 (hKernel27 := Cert.Kernel27.Gen.facts) := by sl_kernel_rfl

theorem frame_kernel : Cert.quiescent_Kernel27 (hKernel27 := Cert.Kernel27.Gen.facts) := cast frame_same frame_bits

theorem frame_ideal : Cert.quiescent_Kernel27Ideal (hKernel27Ideal := Cert.Kernel27Ideal.Gen.facts) := fun m g _ =>
  Cert.Kernel27Ideal.Gen.frame (F := Ideal) m g

theorem frame_reference : Cert.quiescent_Reference27Ideal (hReference27Ideal := Cert.Reference27Ideal.Gen.facts) := fun m g _ =>
  (θ_run _ _ _).mono (fun r h => ⟨fun c => (h c).2, Idealize.ShloMosaic.sem_eq_zero_of_no_sems (by decide) r.2⟩)
    (Cert.Reference27Ideal.Value.run (F := Ideal) m g)

end Cert.Kernel27Ideal.Mlp

end
-- ==== Proof.Mlp28.lean ====
/-
  The second layer. The gradient of the gate's product at its input.
-/
module

public import proofs.«01_k».proof.Defs
public import proofs.«01_k».proof.Proof.Gen.Kernel28
public import proofs.«01_k».proof.Proof.Gen.Kernel28Ideal.Value
public import proofs.«01_k».proof.Proof.Gen.Reference28Ideal.Read
public import proofs.«01_k».proof.Proof.Gen.Reference28Ideal.Run
public import Idealize.ShloMosaic.Lib.Pipeline.ValueKit
public import Idealize.ShloMosaic.Lib.Quiescent

@[expose] public section

set_option maxRecDepth 16384

noncomputable section

namespace Cert.Kernel28Ideal.Mlp

open Idealize.ShloMosaic Idealize.ShloMosaic.TcCoe Idealize.SL.Sem Idealize.ShloMosaic.ValueIdx
open Cert.Kernel28Ideal Cert.Kernel28Ideal.Gen Cert.Reference28Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![1, (grid0.coords t 1).val, 0] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v9, val_main_v8, val_main_v4, val_main_v3, val_main_v2, val_main_v1]
  blk_point [iblk, V, ix2v t, ix0v t, ix1v t]

theorem algebraic : Cert.algebraic_Kernel28Ideal_Reference28Ideal (hKernel28Ideal := Cert.Kernel28Ideal.Gen.facts)
    (hReference28Ideal := Cert.Reference28Ideal.Gen.facts) := by
  intro m g m' g' _ he
  refine ⟨fun c => val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel28Ideal.Value.run_blocks m g)
  · refine (θ_run _ _ _).mono (fun r h c => ?_) (Cert.Reference28Ideal.Value.run (F := Ideal) m' g')
    obtain ⟨e0, e1⟩ := he c
    refine ⟨(h c).1.trans ?_, (h c).2⟩
    · exact (val_main_v9_eq _ _).trans (congrArg₂ (val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel28Ideal.Gen.frame (F := Bits) m g

theorem frame_same : FrameBits = Cert.quiescent_Kernel28 (hKernel28 := Cert.Kernel28.Gen.facts) := by sl_kernel_rfl

theorem frame_kernel : Cert.quiescent_Kernel28 (hKernel28 := Cert.Kernel28.Gen.facts) := cast frame_same frame_bits

theorem frame_ideal : Cert.quiescent_Kernel28Ideal (hKernel28Ideal := Cert.Kernel28Ideal.Gen.facts) := fun m g _ =>
  Cert.Kernel28Ideal.Gen.frame (F := Ideal) m g

theorem frame_reference : Cert.quiescent_Reference28Ideal (hReference28Ideal := Cert.Reference28Ideal.Gen.facts) := fun m g _ =>
  (θ_run _ _ _).mono (fun r h => ⟨fun c => (h c).2, Idealize.ShloMosaic.sem_eq_zero_of_no_sems (by decide) r.2⟩)
    (Cert.Reference28Ideal.Value.run (F := Ideal) m g)

end Cert.Kernel28Ideal.Mlp

end
-- ==== Proof.Mlp29.lean ====
/-
  The third layer. The gradient of the gate's product at its input.
-/
module

public import proofs.«01_k».proof.Defs
public import proofs.«01_k».proof.Proof.Gen.Kernel29
public import proofs.«01_k».proof.Proof.Gen.Kernel29Ideal.Value
public import proofs.«01_k».proof.Proof.Gen.Reference29Ideal.Read
public import proofs.«01_k».proof.Proof.Gen.Reference29Ideal.Run
public import Idealize.ShloMosaic.Lib.Pipeline.ValueKit
public import Idealize.ShloMosaic.Lib.Quiescent

@[expose] public section

set_option maxRecDepth 16384

noncomputable section

namespace Cert.Kernel29Ideal.Mlp

open Idealize.ShloMosaic Idealize.ShloMosaic.TcCoe Idealize.SL.Sem Idealize.ShloMosaic.ValueIdx
open Cert.Kernel29Ideal Cert.Kernel29Ideal.Gen Cert.Reference29Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![2, (grid0.coords t 1).val, 0] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v9, val_main_v8, val_main_v4, val_main_v3, val_main_v2, val_main_v1]
  blk_point [iblk, V, ix2v t, ix0v t, ix1v t]

theorem algebraic : Cert.algebraic_Kernel29Ideal_Reference29Ideal (hKernel29Ideal := Cert.Kernel29Ideal.Gen.facts)
    (hReference29Ideal := Cert.Reference29Ideal.Gen.facts) := by
  intro m g m' g' _ he
  refine ⟨fun c => val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel29Ideal.Value.run_blocks m g)
  · refine (θ_run _ _ _).mono (fun r h c => ?_) (Cert.Reference29Ideal.Value.run (F := Ideal) m' g')
    obtain ⟨e0, e1⟩ := he c
    refine ⟨(h c).1.trans ?_, (h c).2⟩
    · exact (val_main_v9_eq _ _).trans (congrArg₂ (val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel29Ideal.Gen.frame (F := Bits) m g

theorem frame_same : FrameBits = Cert.quiescent_Kernel29 (hKernel29 := Cert.Kernel29.Gen.facts) := by sl_kernel_rfl

theorem frame_kernel : Cert.quiescent_Kernel29 (hKernel29 := Cert.Kernel29.Gen.facts) := cast frame_same frame_bits

theorem frame_ideal : Cert.quiescent_Kernel29Ideal (hKernel29Ideal := Cert.Kernel29Ideal.Gen.facts) := fun m g _ =>
  Cert.Kernel29Ideal.Gen.frame (F := Ideal) m g

theorem frame_reference : Cert.quiescent_Reference29Ideal (hReference29Ideal := Cert.Reference29Ideal.Gen.facts) := fun m g _ =>
  (θ_run _ _ _).mono (fun r h => ⟨fun c => (h c).2, Idealize.ShloMosaic.sem_eq_zero_of_no_sems (by decide) r.2⟩)
    (Cert.Reference29Ideal.Value.run (F := Ideal) m g)

end Cert.Kernel29Ideal.Mlp

end
-- ==== Proof.Mlp30.lean ====
/-
  The last layer. The gradient of the gate's product at its input.
-/
module

public import proofs.«01_k».proof.Defs
public import proofs.«01_k».proof.Proof.Gen.Kernel30
public import proofs.«01_k».proof.Proof.Gen.Kernel30Ideal.Value
public import proofs.«01_k».proof.Proof.Gen.Reference30Ideal.Read
public import proofs.«01_k».proof.Proof.Gen.Reference30Ideal.Run
public import Idealize.ShloMosaic.Lib.Pipeline.ValueKit
public import Idealize.ShloMosaic.Lib.Quiescent

@[expose] public section

set_option maxRecDepth 16384

noncomputable section

namespace Cert.Kernel30Ideal.Mlp

open Idealize.ShloMosaic Idealize.ShloMosaic.TcCoe Idealize.SL.Sem Idealize.ShloMosaic.ValueIdx
open Cert.Kernel30Ideal Cert.Kernel30Ideal.Gen Cert.Reference30Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![3, (grid0.coords t 1).val, 0] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v9, val_main_v8, val_main_v4, val_main_v3, val_main_v2, val_main_v1]
  blk_point [iblk, V, ix2v t, ix0v t, ix1v t]

theorem algebraic : Cert.algebraic_Kernel30Ideal_Reference30Ideal (hKernel30Ideal := Cert.Kernel30Ideal.Gen.facts)
    (hReference30Ideal := Cert.Reference30Ideal.Gen.facts) := by
  intro m g m' g' _ he
  refine ⟨fun c => val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel30Ideal.Value.run_blocks m g)
  · refine (θ_run _ _ _).mono (fun r h c => ?_) (Cert.Reference30Ideal.Value.run (F := Ideal) m' g')
    obtain ⟨e0, e1⟩ := he c
    refine ⟨(h c).1.trans ?_, (h c).2⟩
    · exact (val_main_v9_eq _ _).trans (congrArg₂ (val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel30Ideal.Gen.frame (F := Bits) m g

theorem frame_same : FrameBits = Cert.quiescent_Kernel30 (hKernel30 := Cert.Kernel30.Gen.facts) := by sl_kernel_rfl

theorem frame_kernel : Cert.quiescent_Kernel30 (hKernel30 := Cert.Kernel30.Gen.facts) := cast frame_same frame_bits

theorem frame_ideal : Cert.quiescent_Kernel30Ideal (hKernel30Ideal := Cert.Kernel30Ideal.Gen.facts) := fun m g _ =>
  Cert.Kernel30Ideal.Gen.frame (F := Ideal) m g

theorem frame_reference : Cert.quiescent_Reference30Ideal (hReference30Ideal := Cert.Reference30Ideal.Gen.facts) := fun m g _ =>
  (θ_run _ _ _).mono (fun r h => ⟨fun c => (h c).2, Idealize.ShloMosaic.sem_eq_zero_of_no_sems (by decide) r.2⟩)
    (Cert.Reference30Ideal.Value.run (F := Ideal) m g)

end Cert.Kernel30Ideal.Mlp

end
-- ==== Proof.Mlp31.lean ====
/-
  The gradient at the mixed input, first pair of layers.
-/
module

public import proofs.«01_k».proof.Defs
public import proofs.«01_k».proof.Proof.Gen.Kernel31
public import proofs.«01_k».proof.Proof.Gen.Kernel31Ideal.Value
public import proofs.«01_k».proof.Proof.Gen.Reference31Ideal.Read
public import proofs.«01_k».proof.Proof.Gen.Reference31Ideal.Run
public import Idealize.ShloMosaic.Lib.Pipeline.ValueKit
public import Idealize.ShloMosaic.Lib.Quiescent

@[expose] public section

set_option maxRecDepth 16384

noncomputable section

namespace Cert.Kernel31Ideal.Mlp

open Idealize.ShloMosaic Idealize.ShloMosaic.TcCoe Idealize.SL.Sem Idealize.ShloMosaic.ValueIdx
open Cert.Kernel31Ideal Cert.Kernel31Ideal.Gen Cert.Reference31Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![0, (grid0.coords t 1).val, 0] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v9, val_main_v8, val_main_v4, val_main_v3, val_main_v2, val_main_v1]
  blk_point [iblk, V, ix2v t, ix0v t, ix1v t]

theorem algebraic : Cert.algebraic_Kernel31Ideal_Reference31Ideal (hKernel31Ideal := Cert.Kernel31Ideal.Gen.facts)
    (hReference31Ideal := Cert.Reference31Ideal.Gen.facts) := by
  intro m g m' g' _ he
  refine ⟨fun c => val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel31Ideal.Value.run_blocks m g)
  · refine (θ_run _ _ _).mono (fun r h c => ?_) (Cert.Reference31Ideal.Value.run (F := Ideal) m' g')
    obtain ⟨e0, e1⟩ := he c
    refine ⟨(h c).1.trans ?_, (h c).2⟩
    · exact (val_main_v9_eq _ _).trans (congrArg₂ (val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel31Ideal.Gen.frame (F := Bits) m g

theorem frame_same : FrameBits = Cert.quiescent_Kernel31 (hKernel31 := Cert.Kernel31.Gen.facts) := by sl_kernel_rfl

theorem frame_kernel : Cert.quiescent_Kernel31 (hKernel31 := Cert.Kernel31.Gen.facts) := cast frame_same frame_bits

theorem frame_ideal : Cert.quiescent_Kernel31Ideal (hKernel31Ideal := Cert.Kernel31Ideal.Gen.facts) := fun m g _ =>
  Cert.Kernel31Ideal.Gen.frame (F := Ideal) m g

theorem frame_reference : Cert.quiescent_Reference31Ideal (hReference31Ideal := Cert.Reference31Ideal.Gen.facts) := fun m g _ =>
  (θ_run _ _ _).mono (fun r h => ⟨fun c => (h c).2, Idealize.ShloMosaic.sem_eq_zero_of_no_sems (by decide) r.2⟩)
    (Cert.Reference31Ideal.Value.run (F := Ideal) m g)

end Cert.Kernel31Ideal.Mlp

end
-- ==== Proof.Mlp32.lean ====
/-
  The gradient at the mixed input, second pair of layers.
-/
module

public import proofs.«01_k».proof.Defs
public import proofs.«01_k».proof.Proof.Gen.Kernel32
public import proofs.«01_k».proof.Proof.Gen.Kernel32Ideal.Value
public import proofs.«01_k».proof.Proof.Gen.Reference32Ideal.Read
public import proofs.«01_k».proof.Proof.Gen.Reference32Ideal.Run
public import Idealize.ShloMosaic.Lib.Pipeline.ValueKit
public import Idealize.ShloMosaic.Lib.Quiescent

@[expose] public section

set_option maxRecDepth 16384

noncomputable section

namespace Cert.Kernel32Ideal.Mlp

open Idealize.ShloMosaic Idealize.ShloMosaic.TcCoe Idealize.SL.Sem Idealize.ShloMosaic.ValueIdx
open Cert.Kernel32Ideal Cert.Kernel32Ideal.Gen Cert.Reference32Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![1, (grid0.coords t 1).val, 0] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v9, val_main_v8, val_main_v4, val_main_v3, val_main_v2, val_main_v1]
  blk_point [iblk, V, ix2v t, ix0v t, ix1v t]

theorem algebraic : Cert.algebraic_Kernel32Ideal_Reference32Ideal (hKernel32Ideal := Cert.Kernel32Ideal.Gen.facts)
    (hReference32Ideal := Cert.Reference32Ideal.Gen.facts) := by
  intro m g m' g' _ he
  refine ⟨fun c => val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel32Ideal.Value.run_blocks m g)
  · refine (θ_run _ _ _).mono (fun r h c => ?_) (Cert.Reference32Ideal.Value.run (F := Ideal) m' g')
    obtain ⟨e0, e1⟩ := he c
    refine ⟨(h c).1.trans ?_, (h c).2⟩
    · exact (val_main_v9_eq _ _).trans (congrArg₂ (val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel32Ideal.Gen.frame (F := Bits) m g

theorem frame_same : FrameBits = Cert.quiescent_Kernel32 (hKernel32 := Cert.Kernel32.Gen.facts) := by sl_kernel_rfl

theorem frame_kernel : Cert.quiescent_Kernel32 (hKernel32 := Cert.Kernel32.Gen.facts) := cast frame_same frame_bits

theorem frame_ideal : Cert.quiescent_Kernel32Ideal (hKernel32Ideal := Cert.Kernel32Ideal.Gen.facts) := fun m g _ =>
  Cert.Kernel32Ideal.Gen.frame (F := Ideal) m g

theorem frame_reference : Cert.quiescent_Reference32Ideal (hReference32Ideal := Cert.Reference32Ideal.Gen.facts) := fun m g _ =>
  (θ_run _ _ _).mono (fun r h => ⟨fun c => (h c).2, Idealize.ShloMosaic.sem_eq_zero_of_no_sems (by decide) r.2⟩)
    (Cert.Reference32Ideal.Value.run (F := Ideal) m g)

end Cert.Kernel32Ideal.Mlp

end
-- ==== Proof.Mlp33.lean ====
/-
  The gradient at the recurrence's input, first pair of layers: the contraction is walked in two stretches over a
  carried accumulator.
-/
module

public import proofs.«01_k».proof.Defs
public import proofs.«01_k».proof.Proof.Gen.Kernel33
public import proofs.«01_k».proof.Proof.Gen.Kernel33Ideal.Value
public import proofs.«01_k».proof.Proof.Gen.Reference33Ideal.Read
public import proofs.«01_k».proof.Proof.Gen.Reference33Ideal.Run
public import Idealize.ShloMosaic.Lib.Pipeline.ValueKit
public import Idealize.ShloMosaic.Lib.Quiescent

@[expose] public section

set_option maxRecDepth 16384

noncomputable section

namespace Cert.Kernel33Ideal.Mlp

open Idealize.ShloMosaic Idealize.ShloMosaic.TcCoe Idealize.SL.Sem Idealize.ShloMosaic.ValueIdx
open Cert.Kernel33Ideal Cert.Kernel33Ideal.Gen Cert.Reference33Ideal.Read

variable (m : (ℓ : Loc nD τ sig) → Buf (Elt Ideal) ℓ) (c : Dev nD)

theorem ix0v : ∀ t : Fin cfg0.N, win0_0.index t = ![t.val / 4, t.val % 2] :=
  (by decide +kernel : ∀ t : Fin grid0.N, _)

theorem ix1v : ∀ t : Fin cfg0.N, win0_1.index t = ![0, t.val / 2 % 2, t.val % 2] :=
  (by decide +kernel : ∀ t : Fin grid0.N, _)

theorem ix2v : ∀ t : Fin cfg0.N, win0_2.index t = ![t.val / 4, t.val / 2 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 (j 0) k)) (iblk m c 1 t (Idealize.ShloMosaic.ix3 0 (j 1) k))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 2 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 2 = 0) (j : S512x1024.Idx) :
    (outsAt0 m c t.val t.isLt).2 j = ((outsAt0 m c (t.val - 1) (Nat.lt_of_le_of_lt (Nat.sub_le _ _) t.isLt)).2 j + share m c t j : EReal) := by
  have h1 : t.val % 2 = 1 := by omega
  rw [outsAt0_B m c t h h1]
  dsimp only
  frame_out
  rw [pay_add]
  refine congrArg (fun z : EReal => z + share m c t j) ?_
  exact congrFun (Memref.IsWhole.read_unread (Memref.isWhole_whole cc0_scratch0) _) j

/-- The written block is the accumulator after the run's last point. -/
theorem written (t : Fin cfg0.N) (hm : t.val % 2 = 1) (y : S512x1024.Idx) :
    (outsAt0 m c t.val t.isLt).1 y = ((outsAt0 m c t.val t.isLt).2 y : EReal) := by
  rw [outsAt0_B m c t (by omega) hm]
  dsimp only
  frame_out
  pointwise [k0_pay3]

theorem summed (t : Fin cfg0.N) (hm : t.val % 2 = 1) (y : S512x1024.Idx) :
    (outsAt0 m c t.val t.isLt).2 y = (0 + ∑ s : Fin 2, share m c ⟨2 * (t.val / 2) + s.val, Pipeline.run_point_lt_of_flush t hm s⟩ y : EReal) :=
  Pipeline.eq_sum_fin_of_reset_step_apply_of_flush (M := EReal) (fun n h => (outsAt0 m c n h).2) 2 (fun _ => 0) (share m c)
    (fun t h j => step0 m c t h j) (fun t h j => stepS m c t h j) t hm y

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2]
  refine (written m c t hm _).trans ((summed m c t hm _).trans ?_)
  rw [zero_add]
  pointwise [val_main_v9, val_main_v8, val_main_v4, val_main_v3, val_main_v2, val_main_v1]
  unfold share
  refine Fin.sum_mul_add_congr fun s k hl => ?_
  have hN : t.val < 64 := lt_of_lt_of_eq t.isLt (show cfg0.N = 64 from N_0)
  congr 1 <;> blk_ext [iblk, V, ix2v t, ix0v ⟨2 * (t.val / 2) + s.val, Pipeline.run_point_lt_of_flush t hm s⟩, ix1v ⟨2 * (t.val / 2) + s.val, Pipeline.run_point_lt_of_flush t hm s⟩]

theorem algebraic : Cert.algebraic_Kernel33Ideal_Reference33Ideal (hKernel33Ideal := Cert.Kernel33Ideal.Gen.facts)
    (hReference33Ideal := Cert.Reference33Ideal.Gen.facts) := by
  intro m g m' g' _ he
  refine ⟨fun c => val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel33Ideal.Value.run_blocks m g)
  · refine (θ_run _ _ _).mono (fun r h c => ?_) (Cert.Reference33Ideal.Value.run (F := Ideal) m' g')
    obtain ⟨e0, e1⟩ := he c
    refine ⟨(h c).1.trans ?_, (h c).2⟩
    · exact (val_main_v9_eq _ _).trans (congrArg₂ (val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel33Ideal.Gen.frame (F := Bits) m g

theorem frame_same : FrameBits = Cert.quiescent_Kernel33 (hKernel33 := Cert.Kernel33.Gen.facts) := by sl_kernel_rfl

theorem frame_kernel : Cert.quiescent_Kernel33 (hKernel33 := Cert.Kernel33.Gen.facts) := cast frame_same frame_bits

theorem frame_ideal : Cert.quiescent_Kernel33Ideal (hKernel33Ideal := Cert.Kernel33Ideal.Gen.facts) := fun m g _ =>
  Cert.Kernel33Ideal.Gen.frame (F := Ideal) m g

theorem frame_reference : Cert.quiescent_Reference33Ideal (hReference33Ideal := Cert.Reference33Ideal.Gen.facts) := fun m g _ =>
  (θ_run _ _ _).mono (fun r h => ⟨fun c => (h c).2, Idealize.ShloMosaic.sem_eq_zero_of_no_sems (by decide) r.2⟩)
    (Cert.Reference33Ideal.Value.run (F := Ideal) m g)

end Cert.Kernel33Ideal.Mlp

end
-- ==== Proof.Mlp34.lean ====
/-
  The gradient at the recurrence's input, second pair of layers: the contraction is walked in two stretches over a
  carried accumulator.
-/
module

public import proofs.«01_k».proof.Defs
public import proofs.«01_k».proof.Proof.Gen.Kernel34
public import proofs.«01_k».proof.Proof.Gen.Kernel34Ideal.Value
public import proofs.«01_k».proof.Proof.Gen.Reference34Ideal.Read
public import proofs.«01_k».proof.Proof.Gen.Reference34Ideal.Run
public import Idealize.ShloMosaic.Lib.Pipeline.ValueKit
public import Idealize.ShloMosaic.Lib.Quiescent

@[expose] public section

set_option maxRecDepth 16384

noncomputable section

namespace Cert.Kernel34Ideal.Mlp

open Idealize.ShloMosaic Idealize.ShloMosaic.TcCoe Idealize.SL.Sem Idealize.ShloMosaic.ValueIdx
open Cert.Kernel34Ideal Cert.Kernel34Ideal.Gen Cert.Reference34Ideal.Read

variable (m : (ℓ : Loc nD τ sig) → Buf (Elt Ideal) ℓ) (c : Dev nD)

theorem ix0v : ∀ t : Fin cfg0.N, win0_0.index t = ![t.val / 4, t.val % 2] :=
  (by decide +kernel : ∀ t : Fin grid0.N, _)

theorem ix1v : ∀ t : Fin cfg0.N, win0_1.index t = ![1, t.val / 2 % 2, t.val % 2] :=
  (by decide +kernel : ∀ t : Fin grid0.N, _)

theorem ix2v : ∀ t : Fin cfg0.N, win0_2.index t = ![t.val / 4, t.val / 2 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 (j 0) k)) (iblk m c 1 t (Idealize.ShloMosaic.ix3 0 (j 1) k))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 2 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 2 = 0) (j : S512x1024.Idx) :
    (outsAt0 m c t.val t.isLt).2 j = ((outsAt0 m c (t.val - 1) (Nat.lt_of_le_of_lt (Nat.sub_le _ _) t.isLt)).2 j + share m c t j : EReal) := by
  have h1 : t.val % 2 = 1 := by omega
  rw [outsAt0_B m c t h h1]
  dsimp only
  frame_out
  rw [pay_add]
  refine congrArg (fun z : EReal => z + share m c t j) ?_
  exact congrFun (Memref.IsWhole.read_unread (Memref.isWhole_whole cc0_scratch0) _) j

/-- The written block is the accumulator after the run's last point. -/
theorem written (t : Fin cfg0.N) (hm : t.val % 2 = 1) (y : S512x1024.Idx) :
    (outsAt0 m c t.val t.isLt).1 y = ((outsAt0 m c t.val t.isLt).2 y : EReal) := by
  rw [outsAt0_B m c t (by omega) hm]
  dsimp only
  frame_out
  pointwise [k0_pay3]

theorem summed (t : Fin cfg0.N) (hm : t.val % 2 = 1) (y : S512x1024.Idx) :
    (outsAt0 m c t.val t.isLt).2 y = (0 + ∑ s : Fin 2, share m c ⟨2 * (t.val / 2) + s.val, Pipeline.run_point_lt_of_flush t hm s⟩ y : EReal) :=
  Pipeline.eq_sum_fin_of_reset_step_apply_of_flush (M := EReal) (fun n h => (outsAt0 m c n h).2) 2 (fun _ => 0) (share m c)
    (fun t h j => step0 m c t h j) (fun t h j => stepS m c t h j) t hm y

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2]
  refine (written m c t hm _).trans ((summed m c t hm _).trans ?_)
  rw [zero_add]
  pointwise [val_main_v9, val_main_v8, val_main_v4, val_main_v3, val_main_v2, val_main_v1]
  unfold share
  refine Fin.sum_mul_add_congr fun s k hl => ?_
  have hN : t.val < 64 := lt_of_lt_of_eq t.isLt (show cfg0.N = 64 from N_0)
  congr 1 <;> blk_ext [iblk, V, ix2v t, ix0v ⟨2 * (t.val / 2) + s.val, Pipeline.run_point_lt_of_flush t hm s⟩, ix1v ⟨2 * (t.val / 2) + s.val, Pipeline.run_point_lt_of_flush t hm s⟩]

theorem algebraic : Cert.algebraic_Kernel34Ideal_Reference34Ideal (hKernel34Ideal := Cert.Kernel34Ideal.Gen.facts)
    (hReference34Ideal := Cert.Reference34Ideal.Gen.facts) := by
  intro m g m' g' _ he
  refine ⟨fun c => val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel34Ideal.Value.run_blocks m g)
  · refine (θ_run _ _ _).mono (fun r h c => ?_) (Cert.Reference34Ideal.Value.run (F := Ideal) m' g')
    obtain ⟨e0, e1⟩ := he c
    refine ⟨(h c).1.trans ?_, (h c).2⟩
    · exact (val_main_v9_eq _ _).trans (congrArg₂ (val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel34Ideal.Gen.frame (F := Bits) m g

theorem frame_same : FrameBits = Cert.quiescent_Kernel34 (hKernel34 := Cert.Kernel34.Gen.facts) := by sl_kernel_rfl

theorem frame_kernel : Cert.quiescent_Kernel34 (hKernel34 := Cert.Kernel34.Gen.facts) := cast frame_same frame_bits

theorem frame_ideal : Cert.quiescent_Kernel34Ideal (hKernel34Ideal := Cert.Kernel34Ideal.Gen.facts) := fun m g _ =>
  Cert.Kernel34Ideal.Gen.frame (F := Ideal) m g

theorem frame_reference : Cert.quiescent_Reference34Ideal (hReference34Ideal := Cert.Reference34Ideal.Gen.facts) := fun m g _ =>
  (θ_run _ _ _).mono (fun r h => ⟨fun c => (h c).2, Idealize.ShloMosaic.sem_eq_zero_of_no_sems (by decide) r.2⟩)
    (Cert.Reference34Ideal.Value.run (F := Ideal) m g)

end Cert.Kernel34Ideal.Mlp

end
-- ==== Proof.Mlp35.lean ====
/-
  The gradient at the attention's input, first pair of layers: the contraction is walked in three stretches over a
  carried accumulator.
-/
module

public import proofs.«01_k».proof.Defs
public import proofs.«01_k».proof.Proof.Gen.Kernel35
public import proofs.«01_k».proof.Proof.Gen.Kernel35Ideal.Value
public import proofs.«01_k».proof.Proof.Gen.Reference35Ideal.Read
public import proofs.«01_k».proof.Proof.Gen.Reference35Ideal.Run
public import Idealize.ShloMosaic.Lib.Pipeline.ValueKit
public import Idealize.ShloMosaic.Lib.Quiescent

@[expose] public section

set_option maxRecDepth 16384

noncomputable section

namespace Cert.Kernel35Ideal.Mlp

open Idealize.ShloMosaic Idealize.ShloMosaic.TcCoe Idealize.SL.Sem Idealize.ShloMosaic.ValueIdx
open Cert.Kernel35Ideal Cert.Kernel35Ideal.Gen Cert.Reference35Ideal.Read

variable (m : (ℓ : Loc nD τ sig) → Buf (Elt Ideal) ℓ) (c : Dev nD)

theorem ix0v : ∀ t : Fin cfg0.N, win0_0.index t = ![t.val / 6, t.val % 3] :=
  (by decide +kernel : ∀ t : Fin grid0.N, _)

theorem ix1v : ∀ t : Fin cfg0.N, win0_1.index t = ![0, t.val / 3 % 2, t.val % 3] :=
  (by decide +kernel : ∀ t : Fin grid0.N, _)

theorem ix2v : ∀ t : Fin cfg0.N, win0_2.index t = ![t.val / 6, t.val / 3 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 (j 0) k)) (iblk m c 1 t (Idealize.ShloMosaic.ix3 0 (j 1) k))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 3 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 3 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 3 = 2
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 3 = 2) (y : S512x1024.Idx) :
    (outsAt0 m c t.val t.isLt).1 y = ((outsAt0 m c t.val t.isLt).2 y : EReal) := by
  rw [outsAt0_C m c t (by omega) hm]
  dsimp only
  frame_out
  pointwise [k0_pay3]

theorem summed (t : Fin cfg0.N) (hm : t.val % 3 = 2) (y : S512x1024.Idx) :
    (outsAt0 m c t.val t.isLt).2 y = (0 + ∑ s : Fin 3, share m c ⟨3 * (t.val / 3) + s.val, Pipeline.run_point_lt_of_flush t hm s⟩ y : EReal) :=
  Pipeline.eq_sum_fin_of_reset_step_apply_of_flush (M := EReal) (fun n h => (outsAt0 m c n h).2) 3 (fun _ => 0) (share m c)
    (fun t h j => step0 m c t h j) (fun t h j => stepS m c t h j) t hm y

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  have hm : t.val % 3 = 2 := (flush0_2 t).mp hf
  blk_simp
  rw [after0_2]
  refine (written m c t hm _).trans ((summed m c t hm _).trans ?_)
  rw [zero_add]
  pointwise [val_main_v9, val_main_v8, val_main_v4, val_main_v3, val_main_v2, val_main_v1]
  unfold share
  refine Fin.sum_mul_add_congr fun s k hl => ?_
  have hN : t.val < 96 := lt_of_lt_of_eq t.isLt (show cfg0.N = 96 from N_0)
  congr 1 <;> blk_ext [iblk, V, ix2v t, ix0v ⟨3 * (t.val / 3) + s.val, Pipeline.run_point_lt_of_flush t hm s⟩, ix1v ⟨3 * (t.val / 3) + s.val, Pipeline.run_point_lt_of_flush t hm s⟩]

theorem algebraic : Cert.algebraic_Kernel35Ideal_Reference35Ideal (hKernel35Ideal := Cert.Kernel35Ideal.Gen.facts)
    (hReference35Ideal := Cert.Reference35Ideal.Gen.facts) := by
  intro m g m' g' _ he
  refine ⟨fun c => val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel35Ideal.Value.run_blocks m g)
  · refine (θ_run _ _ _).mono (fun r h c => ?_) (Cert.Reference35Ideal.Value.run (F := Ideal) m' g')
    obtain ⟨e0, e1⟩ := he c
    refine ⟨(h c).1.trans ?_, (h c).2⟩
    · exact (val_main_v9_eq _ _).trans (congrArg₂ (val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel35Ideal.Gen.frame (F := Bits) m g

theorem frame_same : FrameBits = Cert.quiescent_Kernel35 (hKernel35 := Cert.Kernel35.Gen.facts) := by sl_kernel_rfl

theorem frame_kernel : Cert.quiescent_Kernel35 (hKernel35 := Cert.Kernel35.Gen.facts) := cast frame_same frame_bits

theorem frame_ideal : Cert.quiescent_Kernel35Ideal (hKernel35Ideal := Cert.Kernel35Ideal.Gen.facts) := fun m g _ =>
  Cert.Kernel35Ideal.Gen.frame (F := Ideal) m g

theorem frame_reference : Cert.quiescent_Reference35Ideal (hReference35Ideal := Cert.Reference35Ideal.Gen.facts) := fun m g _ =>
  (θ_run _ _ _).mono (fun r h => ⟨fun c => (h c).2, Idealize.ShloMosaic.sem_eq_zero_of_no_sems (by decide) r.2⟩)
    (Cert.Reference35Ideal.Value.run (F := Ideal) m g)

end Cert.Kernel35Ideal.Mlp

end
-- ==== Proof.Mlp36.lean ====
/-
  The gradient at the attention's input, second pair of layers: the contraction is walked in three stretches over a
  carried accumulator.
-/
module

public import proofs.«01_k».proof.Defs
public import proofs.«01_k».proof.Proof.Gen.Kernel36
public import proofs.«01_k».proof.Proof.Gen.Kernel36Ideal.Value
public import proofs.«01_k».proof.Proof.Gen.Reference36Ideal.Read
public import proofs.«01_k».proof.Proof.Gen.Reference36Ideal.Run
public import Idealize.ShloMosaic.Lib.Pipeline.ValueKit
public import Idealize.ShloMosaic.Lib.Quiescent

@[expose] public section

set_option maxRecDepth 16384

noncomputable section

namespace Cert.Kernel36Ideal.Mlp

open Idealize.ShloMosaic Idealize.ShloMosaic.TcCoe Idealize.SL.Sem Idealize.ShloMosaic.ValueIdx
open Cert.Kernel36Ideal Cert.Kernel36Ideal.Gen Cert.Reference36Ideal.Read

variable (m : (ℓ : Loc nD τ sig) → Buf (Elt Ideal) ℓ) (c : Dev nD)

theorem ix0v : ∀ t : Fin cfg0.N, win0_0.index t = ![t.val / 6, t.val % 3] :=
  (by decide +kernel : ∀ t : Fin grid0.N, _)

theorem ix1v : ∀ t : Fin cfg0.N, win0_1.index t = ![1, t.val / 3 % 2, t.val % 3] :=
  (by decide +kernel : ∀ t : Fin grid0.N, _)

theorem ix2v : ∀ t : Fin cfg0.N, win0_2.index t = ![t.val / 6, t.val / 3 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 (j 0) k)) (iblk m c 1 t (Idealize.ShloMosaic.ix3 0 (j 1) k))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 3 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 3 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 3 = 2
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 3 = 2) (y : S512x1024.Idx) :
    (outsAt0 m c t.val t.isLt).1 y = ((outsAt0 m c t.val t.isLt).2 y : EReal) := by
  rw [outsAt0_C m c t (by omega) hm]
  dsimp only
  frame_out
  pointwise [k0_pay3]

theorem summed (t : Fin cfg0.N) (hm : t.val % 3 = 2) (y : S512x1024.Idx) :
    (outsAt0 m c t.val t.isLt).2 y = (0 + ∑ s : Fin 3, share m c ⟨3 * (t.val / 3) + s.val, Pipeline.run_point_lt_of_flush t hm s⟩ y : EReal) :=
  Pipeline.eq_sum_fin_of_reset_step_apply_of_flush (M := EReal) (fun n h => (outsAt0 m c n h).2) 3 (fun _ => 0) (share m c)
    (fun t h j => step0 m c t h j) (fun t h j => stepS m c t h j) t hm y

theorem final : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  have hm : t.val % 3 = 2 := (flush0_2 t).mp hf
  blk_simp
  rw [after0_2]
  refine (written m c t hm _).trans ((summed m c t hm _).trans ?_)
  rw [zero_add]
  pointwise [val_main_v9, val_main_v8, val_main_v4, val_main_v3, val_main_v2, val_main_v1]
  unfold share
  refine Fin.sum_mul_add_congr fun s k hl => ?_
  have hN : t.val < 96 := lt_of_lt_of_eq t.isLt (show cfg0.N = 96 from N_0)
  congr 1 <;> blk_ext [iblk, V, ix2v t, ix0v ⟨3 * (t.val / 3) + s.val, Pipeline.run_point_lt_of_flush t hm s⟩, ix1v ⟨3 * (t.val / 3) + s.val, Pipeline.run_point_lt_of_flush t hm s⟩]

theorem algebraic : Cert.algebraic_Kernel36Ideal_Reference36Ideal (hKernel36Ideal := Cert.Kernel36Ideal.Gen.facts)
    (hReference36Ideal := Cert.Reference36Ideal.Gen.facts) := by
  intro m g m' g' _ he
  refine ⟨fun c => val_main_v9 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel36Ideal.Value.run_blocks m g)
  · refine (θ_run _ _ _).mono (fun r h c => ?_) (Cert.Reference36Ideal.Value.run (F := Ideal) m' g')
    obtain ⟨e0, e1⟩ := he c
    refine ⟨(h c).1.trans ?_, (h c).2⟩
    · exact (val_main_v9_eq _ _).trans (congrArg₂ (val_main_v9 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel36Ideal.Gen.frame (F := Bits) m g

theorem frame_same : FrameBits = Cert.quiescent_Kernel36 (hKernel36 := Cert.Kernel36.Gen.facts) := by sl_kernel_rfl

theorem frame_kernel : Cert.quiescent_Kernel36 (hKernel36 := Cert.Kernel36.Gen.facts) := cast frame_same frame_bits

theorem frame_ideal : Cert.quiescent_Kernel36Ideal (hKernel36Ideal := Cert.Kernel36Ideal.Gen.facts) := fun m g _ =>
  Cert.Kernel36Ideal.Gen.frame (F := Ideal) m g

theorem frame_reference : Cert.quiescent_Reference36Ideal (hReference36Ideal := Cert.Reference36Ideal.Gen.facts) := fun m g _ =>
  (θ_run _ _ _).mono (fun r h => ⟨fun c => (h c).2, Idealize.ShloMosaic.sem_eq_zero_of_no_sems (by decide) r.2⟩)
    (Cert.Reference36Ideal.Value.run (F := Ideal) m g)

end Cert.Kernel36Ideal.Mlp

end
-- ==== Proof.Mlp37.lean ====
/-
  The first layer. The gate's weight gradient, one layer of the gradients of all layers.
-/
module

public import proofs.«01_k».proof.Defs
public import proofs.«01_k».proof.Proof.Gen.Kernel37
public import proofs.«01_k».proof.Proof.Gen.Kernel37Ideal.Value
public import proofs.«01_k».proof.Proof.Gen.Reference37Ideal.Read
public import proofs.«01_k».proof.Proof.Gen.Reference37Ideal.Run
public import Idealize.ShloMosaic.Lib.Pipeline.ValueKit
public import Idealize.ShloMosaic.Lib.Quiescent

@[expose] public section

set_option maxRecDepth 16384

noncomputable section

namespace Cert.Kernel37Ideal.Mlp

open Idealize.ShloMosaic Idealize.ShloMosaic.TcCoe Idealize.SL.Sem Idealize.ShloMosaic.ValueIdx
open Cert.Kernel37Ideal Cert.Kernel37Ideal.Gen Cert.Reference37Ideal.Read

variable (m : (ℓ : Loc nD τ sig) → Buf (Elt Ideal) ℓ) (c : Dev nD)

theorem ix0v : ∀ t : Fin cfg0.N, win0_0.index t = ![t.val % 4, t.val / 8] :=
  (by decide +kernel : ∀ t : Fin grid0.N, _)

theorem ix1v : ∀ t : Fin cfg0.N, win0_1.index t = ![t.val % 4, t.val / 4 % 2] :=
  (by decide +kernel : ∀ t : Fin grid0.N, _)

theorem ix2v : ∀ t : Fin cfg0.N, win0_2.index t = ![0, t.val / 8, t.val / 4 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = val_main_v10 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 0) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 32 := lt_of_lt_of_eq t.isLt (show cfg0.N = 32 from N_0)
    pointwise [val_main_v10, val_main_v9, val_main_v8, val_main_v7, val_main_v5, val_main_v4, val_main_v2, val_main_v1]
    rw [dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [val_main_v10, val_main_v9, val_main_v8, val_main_v7, val_main_v5, val_main_v4, val_main_v2, val_main_v1]
    rw [dif_neg (by blk_simp; omega)]
    entry_read
    blk_ext

theorem algebraic : Cert.algebraic_Kernel37Ideal_Reference37Ideal (hKernel37Ideal := Cert.Kernel37Ideal.Gen.facts)
    (hReference37Ideal := Cert.Reference37Ideal.Gen.facts) := by
  intro m g m' g' _ he
  refine ⟨fun c => val_main_v10 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel37Ideal.Value.run_blocks m g)
  · refine (θ_run _ _ _).mono (fun r h c => ?_) (Cert.Reference37Ideal.Value.run (F := Ideal) m' g')
    obtain ⟨e0, e1, e2⟩ := he c
    refine ⟨(h c).1.trans ?_, (h c).2⟩
    · exact (val_main_v10_eq _ _ _).trans (congr (congrArg₂ (val_main_v10 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel37Ideal.Gen.frame (F := Bits) m g

theorem frame_same : FrameBits = Cert.quiescent_Kernel37 (hKernel37 := Cert.Kernel37.Gen.facts) := by sl_kernel_rfl

theorem frame_kernel : Cert.quiescent_Kernel37 (hKernel37 := Cert.Kernel37.Gen.facts) := cast frame_same frame_bits

theorem frame_ideal : Cert.quiescent_Kernel37Ideal (hKernel37Ideal := Cert.Kernel37Ideal.Gen.facts) := fun m g _ =>
  Cert.Kernel37Ideal.Gen.frame (F := Ideal) m g

theorem frame_reference : Cert.quiescent_Reference37Ideal (hReference37Ideal := Cert.Reference37Ideal.Gen.facts) := fun m g _ =>
  (θ_run _ _ _).mono (fun r h => ⟨fun c => (h c).2, Idealize.ShloMosaic.sem_eq_zero_of_no_sems (by decide) r.2⟩)
    (Cert.Reference37Ideal.Value.run (F := Ideal) m g)

end Cert.Kernel37Ideal.Mlp

end
-- ==== Proof.Mlp38.lean ====
/-
  The second layer. The gate's weight gradient, one layer of the gradients of all layers.
-/
module

public import proofs.«01_k».proof.Defs
public import proofs.«01_k».proof.Proof.Gen.Kernel38
public import proofs.«01_k».proof.Proof.Gen.Kernel38Ideal.Value
public import proofs.«01_k».proof.Proof.Gen.Reference38Ideal.Read
public import proofs.«01_k».proof.Proof.Gen.Reference38Ideal.Run
public import Idealize.ShloMosaic.Lib.Pipeline.ValueKit
public import Idealize.ShloMosaic.Lib.Quiescent

@[expose] public section

set_option maxRecDepth 16384

noncomputable section

namespace Cert.Kernel38Ideal.Mlp

open Idealize.ShloMosaic Idealize.ShloMosaic.TcCoe Idealize.SL.Sem Idealize.ShloMosaic.ValueIdx
open Cert.Kernel38Ideal Cert.Kernel38Ideal.Gen Cert.Reference38Ideal.Read

variable (m : (ℓ : Loc nD τ sig) → Buf (Elt Ideal) ℓ) (c : Dev nD)

theorem ix0v : ∀ t : Fin cfg0.N, win0_0.index t = ![t.val % 4, t.val / 8] :=
  (by decide +kernel : ∀ t : Fin grid0.N, _)

theorem ix1v : ∀ t : Fin cfg0.N, win0_1.index t = ![t.val % 4, t.val / 4 % 2] :=
  (by decide +kernel : ∀ t : Fin grid0.N, _)

theorem ix2v : ∀ t : Fin cfg0.N, win0_2.index t = ![1, t.val / 8, t.val / 4 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = val_main_v11 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 1) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 32 := lt_of_lt_of_eq t.isLt (show cfg0.N = 32 from N_0)
    pointwise [val_main_v11, val_main_v10, val_main_v9, val_main_v8, val_main_v7, val_main_v5, val_main_v4, val_main_v2, val_main_v1]
    rw [dif_neg (by blk_simp [ix2v t]; idx_bounds y; omega), dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [val_main_v11, val_main_v10, val_main_v9, val_main_v8, val_main_v7, val_main_v5, val_main_v4, val_main_v2, val_main_v1]
    by_cases h0 : (j 0).val < 1
    · rw [dif_pos (by blk_simp; omega)]
      entry_read
      blk_ext
    · rw [dif_neg (by blk_simp; omega), dif_neg (by blk_simp; omega)]
      entry_read
      blk_ext

theorem algebraic : Cert.algebraic_Kernel38Ideal_Reference38Ideal (hKernel38Ideal := Cert.Kernel38Ideal.Gen.facts)
    (hReference38Ideal := Cert.Reference38Ideal.Gen.facts) := by
  intro m g m' g' _ he
  refine ⟨fun c => val_main_v11 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel38Ideal.Value.run_blocks m g)
  · refine (θ_run _ _ _).mono (fun r h c => ?_) (Cert.Reference38Ideal.Value.run (F := Ideal) m' g')
    obtain ⟨e0, e1, e2⟩ := he c
    refine ⟨(h c).1.trans ?_, (h c).2⟩
    · exact (val_main_v11_eq _ _ _).trans (congr (congrArg₂ (val_main_v11 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel38Ideal.Gen.frame (F := Bits) m g

theorem frame_same : FrameBits = Cert.quiescent_Kernel38 (hKernel38 := Cert.Kernel38.Gen.facts) := by sl_kernel_rfl

theorem frame_kernel : Cert.quiescent_Kernel38 (hKernel38 := Cert.Kernel38.Gen.facts) := cast frame_same frame_bits

theorem frame_ideal : Cert.quiescent_Kernel38Ideal (hKernel38Ideal := Cert.Kernel38Ideal.Gen.facts) := fun m g _ =>
  Cert.Kernel38Ideal.Gen.frame (F := Ideal) m g

theorem frame_reference : Cert.quiescent_Reference38Ideal (hReference38Ideal := Cert.Reference38Ideal.Gen.facts) := fun m g _ =>
  (θ_run _ _ _).mono (fun r h => ⟨fun c => (h c).2, Idealize.ShloMosaic.sem_eq_zero_of_no_sems (by decide) r.2⟩)
    (Cert.Reference38Ideal.Value.run (F := Ideal) m g)

end Cert.Kernel38Ideal.Mlp

end
-- ==== Proof.Mlp39.lean ====
/-
  The third layer. The gate's weight gradient, one layer of the gradients of all layers.
-/
module

public import proofs.«01_k».proof.Defs
public import proofs.«01_k».proof.Proof.Gen.Kernel39
public import proofs.«01_k».proof.Proof.Gen.Kernel39Ideal.Value
public import proofs.«01_k».proof.Proof.Gen.Reference39Ideal.Read
public import proofs.«01_k».proof.Proof.Gen.Reference39Ideal.Run
public import Idealize.ShloMosaic.Lib.Pipeline.ValueKit
public import Idealize.ShloMosaic.Lib.Quiescent

@[expose] public section

set_option maxRecDepth 16384

noncomputable section

namespace Cert.Kernel39Ideal.Mlp

open Idealize.ShloMosaic Idealize.ShloMosaic.TcCoe Idealize.SL.Sem Idealize.ShloMosaic.ValueIdx
open Cert.Kernel39Ideal Cert.Kernel39Ideal.Gen Cert.Reference39Ideal.Read

variable (m : (ℓ : Loc nD τ sig) → Buf (Elt Ideal) ℓ) (c : Dev nD)

theorem ix0v : ∀ t : Fin cfg0.N, win0_0.index t = ![t.val % 4, t.val / 8] :=
  (by decide +kernel : ∀ t : Fin grid0.N, _)

theorem ix1v : ∀ t : Fin cfg0.N, win0_1.index t = ![t.val % 4, t.val / 4 % 2] :=
  (by decide +kernel : ∀ t : Fin grid0.N, _)

theorem ix2v : ∀ t : Fin cfg0.N, win0_2.index t = ![2, t.val / 8, t.val / 4 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = val_main_v11 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 2) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 32 := lt_of_lt_of_eq t.isLt (show cfg0.N = 32 from N_0)
    pointwise [val_main_v11, val_main_v10, val_main_v9, val_main_v8, val_main_v7, val_main_v5, val_main_v4, val_main_v2, val_main_v1]
    rw [dif_neg (by blk_simp [ix2v t]; idx_bounds y; omega), dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [val_main_v11, val_main_v10, val_main_v9, val_main_v8, val_main_v7, val_main_v5, val_main_v4, val_main_v2, val_main_v1]
    by_cases h0 : (j 0).val < 2
    · rw [dif_pos (by blk_simp; omega)]
      entry_read
      blk_ext
    · rw [dif_neg (by blk_simp; omega), dif_neg (by blk_simp; omega)]
      entry_read
      blk_ext

theorem algebraic : Cert.algebraic_Kernel39Ideal_Reference39Ideal (hKernel39Ideal := Cert.Kernel39Ideal.Gen.facts)
    (hReference39Ideal := Cert.Reference39Ideal.Gen.facts) := by
  intro m g m' g' _ he
  refine ⟨fun c => val_main_v11 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel39Ideal.Value.run_blocks m g)
  · refine (θ_run _ _ _).mono (fun r h c => ?_) (Cert.Reference39Ideal.Value.run (F := Ideal) m' g')
    obtain ⟨e0, e1, e2⟩ := he c
    refine ⟨(h c).1.trans ?_, (h c).2⟩
    · exact (val_main_v11_eq _ _ _).trans (congr (congrArg₂ (val_main_v11 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel39Ideal.Gen.frame (F := Bits) m g

theorem frame_same : FrameBits = Cert.quiescent_Kernel39 (hKernel39 := Cert.Kernel39.Gen.facts) := by sl_kernel_rfl

theorem frame_kernel : Cert.quiescent_Kernel39 (hKernel39 := Cert.Kernel39.Gen.facts) := cast frame_same frame_bits

theorem frame_ideal : Cert.quiescent_Kernel39Ideal (hKernel39Ideal := Cert.Kernel39Ideal.Gen.facts) := fun m g _ =>
  Cert.Kernel39Ideal.Gen.frame (F := Ideal) m g

theorem frame_reference : Cert.quiescent_Reference39Ideal (hReference39Ideal := Cert.Reference39Ideal.Gen.facts) := fun m g _ =>
  (θ_run _ _ _).mono (fun r h => ⟨fun c => (h c).2, Idealize.ShloMosaic.sem_eq_zero_of_no_sems (by decide) r.2⟩)
    (Cert.Reference39Ideal.Value.run (F := Ideal) m g)

end Cert.Kernel39Ideal.Mlp

end
-- ==== Proof.Mlp40.lean ====
/-
  The output projection's weight gradient, first pair of layers.
-/
module

public import proofs.«01_k».proof.Defs
public import proofs.«01_k».proof.Proof.Gen.Kernel40
public import proofs.«01_k».proof.Proof.Gen.Kernel40Ideal.Value
public import proofs.«01_k».proof.Proof.Gen.Reference40Ideal.Read
public import proofs.«01_k».proof.Proof.Gen.Reference40Ideal.Run
public import Idealize.ShloMosaic.Lib.Pipeline.ValueKit
public import Idealize.ShloMosaic.Lib.Quiescent

@[expose] public section

set_option maxRecDepth 16384

noncomputable section

namespace Cert.Kernel40Ideal.Mlp

open Idealize.ShloMosaic Idealize.ShloMosaic.TcCoe Idealize.SL.Sem Idealize.ShloMosaic.ValueIdx
open Cert.Kernel40Ideal Cert.Kernel40Ideal.Gen Cert.Reference40Ideal.Read

variable (m : (ℓ : Loc nD τ sig) → Buf (Elt Ideal) ℓ) (c : Dev nD)

theorem ix0v : ∀ t : Fin cfg0.N, win0_0.index t = ![t.val % 4, t.val / 8] :=
  (by decide +kernel : ∀ t : Fin grid0.N, _)

theorem ix1v : ∀ t : Fin cfg0.N, win0_1.index t = ![t.val % 4, t.val / 4 % 2] :=
  (by decide +kernel : ∀ t : Fin grid0.N, _)

theorem ix2v : ∀ t : Fin cfg0.N, win0_2.index t = ![0, t.val / 8, t.val / 4 % 2] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = val_main_v10 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 0) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 32 := lt_of_lt_of_eq t.isLt (show cfg0.N = 32 from N_0)
    pointwise [val_main_v10, val_main_v9, val_main_v8, val_main_v7, val_main_v5, val_main_v4, val_main_v2, val_main_v1]
    rw [dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [val_main_v10, val_main_v9, val_main_v8, val_main_v7, val_main_v5, val_main_v4, val_main_v2, val_main_v1]
    rw [dif_neg (by blk_simp; omega)]
    entry_read
    blk_ext

theorem algebraic : Cert.algebraic_Kernel40Ideal_Reference40Ideal (hKernel40Ideal := Cert.Kernel40Ideal.Gen.facts)
    (hReference40Ideal := Cert.Reference40Ideal.Gen.facts) := by
  intro m g m' g' _ he
  refine ⟨fun c => val_main_v10 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel40Ideal.Value.run_blocks m g)
  · refine (θ_run _ _ _).mono (fun r h c => ?_) (Cert.Reference40Ideal.Value.run (F := Ideal) m' g')
    obtain ⟨e0, e1, e2⟩ := he c
    refine ⟨(h c).1.trans ?_, (h c).2⟩
    · exact (val_main_v10_eq _ _ _).trans (congr (congrArg₂ (val_main_v10 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel40Ideal.Gen.frame (F := Bits) m g

theorem frame_same : FrameBits = Cert.quiescent_Kernel40 (hKernel40 := Cert.Kernel40.Gen.facts) := by sl_kernel_rfl

theorem frame_kernel : Cert.quiescent_Kernel40 (hKernel40 := Cert.Kernel40.Gen.facts) := cast frame_same frame_bits

theorem frame_ideal : Cert.quiescent_Kernel40Ideal (hKernel40Ideal := Cert.Kernel40Ideal.Gen.facts) := fun m g _ =>
  Cert.Kernel40Ideal.Gen.frame (F := Ideal) m g

theorem frame_reference : Cert.quiescent_Reference40Ideal (hReference40Ideal := Cert.Reference40Ideal.Gen.facts) := fun m g _ =>
  (θ_run _ _ _).mono (fun r h => ⟨fun c => (h c).2, Idealize.ShloMosaic.sem_eq_zero_of_no_sems (by decide) r.2⟩)
    (Cert.Reference40Ideal.Value.run (F := Ideal) m g)

end Cert.Kernel40Ideal.Mlp

end
-- ==== Proof.Mlp41.lean ====
/-
  The recurrence's weight gradient, first pair of layers.
-/
module

public import proofs.«01_k».proof.Defs
public import proofs.«01_k».proof.Proof.Gen.Kernel41
public import proofs.«01_k».proof.Proof.Gen.Kernel41Ideal.Value
public import proofs.«01_k».proof.Proof.Gen.Reference41Ideal.Read
public import proofs.«01_k».proof.Proof.Gen.Reference41Ideal.Run
public import Idealize.ShloMosaic.Lib.Pipeline.ValueKit
public import Idealize.ShloMosaic.Lib.Quiescent

@[expose] public section

set_option maxRecDepth 16384

noncomputable section

namespace Cert.Kernel41Ideal.Mlp

open Idealize.ShloMosaic Idealize.ShloMosaic.TcCoe Idealize.SL.Sem Idealize.ShloMosaic.ValueIdx
open Cert.Kernel41Ideal Cert.Kernel41Ideal.Gen Cert.Reference41Ideal.Read

variable (m : (ℓ : Loc nD τ sig) → Buf (Elt Ideal) ℓ) (c : Dev nD)

theorem ix0v : ∀ t : Fin cfg0.N, win0_0.index t = ![t.val % 4, t.val / 16] :=
  (by decide +kernel : ∀ t : Fin grid0.N, _)

theorem ix1v : ∀ t : Fin cfg0.N, win0_1.index t = ![t.val % 4, t.val / 4 % 4] :=
  (by decide +kernel : ∀ t : Fin grid0.N, _)

theorem ix2v : ∀ t : Fin cfg0.N, win0_2.index t = ![0, t.val / 16, t.val / 4 % 4] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = val_main_v10 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 0) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 64 := lt_of_lt_of_eq t.isLt (show cfg0.N = 64 from N_0)
    pointwise [val_main_v10, val_main_v9, val_main_v8, val_main_v7, val_main_v5, val_main_v4, val_main_v2, val_main_v1]
    rw [dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [val_main_v10, val_main_v9, val_main_v8, val_main_v7, val_main_v5, val_main_v4, val_main_v2, val_main_v1]
    rw [dif_neg (by blk_simp; omega)]
    entry_read
    blk_ext

theorem algebraic : Cert.algebraic_Kernel41Ideal_Reference41Ideal (hKernel41Ideal := Cert.Kernel41Ideal.Gen.facts)
    (hReference41Ideal := Cert.Reference41Ideal.Gen.facts) := by
  intro m g m' g' _ he
  refine ⟨fun c => val_main_v10 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel41Ideal.Value.run_blocks m g)
  · refine (θ_run _ _ _).mono (fun r h c => ?_) (Cert.Reference41Ideal.Value.run (F := Ideal) m' g')
    obtain ⟨e0, e1, e2⟩ := he c
    refine ⟨(h c).1.trans ?_, (h c).2⟩
    · exact (val_main_v10_eq _ _ _).trans (congr (congrArg₂ (val_main_v10 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel41Ideal.Gen.frame (F := Bits) m g

theorem frame_same : FrameBits = Cert.quiescent_Kernel41 (hKernel41 := Cert.Kernel41.Gen.facts) := by sl_kernel_rfl

theorem frame_kernel : Cert.quiescent_Kernel41 (hKernel41 := Cert.Kernel41.Gen.facts) := cast frame_same frame_bits

theorem frame_ideal : Cert.quiescent_Kernel41Ideal (hKernel41Ideal := Cert.Kernel41Ideal.Gen.facts) := fun m g _ =>
  Cert.Kernel41Ideal.Gen.frame (F := Ideal) m g

theorem frame_reference : Cert.quiescent_Reference41Ideal (hReference41Ideal := Cert.Reference41Ideal.Gen.facts) := fun m g _ =>
  (θ_run _ _ _).mono (fun r h => ⟨fun c => (h c).2, Idealize.ShloMosaic.sem_eq_zero_of_no_sems (by decide) r.2⟩)
    (Cert.Reference41Ideal.Value.run (F := Ideal) m g)

end Cert.Kernel41Ideal.Mlp

end
-- ==== Proof.Mlp42.lean ====
/-
  The attention's weight gradient, first pair of layers.
-/
module

public import proofs.«01_k».proof.Defs
public import proofs.«01_k».proof.Proof.Gen.Kernel42
public import proofs.«01_k».proof.Proof.Gen.Kernel42Ideal.Value
public import proofs.«01_k».proof.Proof.Gen.Reference42Ideal.Read
public import proofs.«01_k».proof.Proof.Gen.Reference42Ideal.Run
public import Idealize.ShloMosaic.Lib.Pipeline.ValueKit
public import Idealize.ShloMosaic.Lib.Quiescent

@[expose] public section

set_option maxRecDepth 16384

noncomputable section

namespace Cert.Kernel42Ideal.Mlp

open Idealize.ShloMosaic Idealize.ShloMosaic.TcCoe Idealize.SL.Sem Idealize.ShloMosaic.ValueIdx
open Cert.Kernel42Ideal Cert.Kernel42Ideal.Gen Cert.Reference42Ideal.Read

variable (m : (ℓ : Loc nD τ sig) → Buf (Elt Ideal) ℓ) (c : Dev nD)

theorem ix0v : ∀ t : Fin cfg0.N, win0_0.index t = ![t.val % 4, t.val / 24] :=
  (by decide +kernel : ∀ t : Fin grid0.N, _)

theorem ix1v : ∀ t : Fin cfg0.N, win0_1.index t = ![t.val % 4, t.val / 4 % 6] :=
  (by decide +kernel : ∀ t : Fin grid0.N, _)

theorem ix2v : ∀ t : Fin cfg0.N, win0_2.index t = ![0, t.val / 24, t.val / 4 % 6] :=
  (by decide +kernel : ∀ t : Fin grid0.N, _)

/-- What a point adds at an index of the block: its stretch of the contraction. -/
def share (t : Fin cfg0.N) (j : S512x1024.Idx) : EReal :=
  ∑ k : Fin 2048, HMul.hMul (α := EReal) (β := EReal) (γ := EReal) (iblk m c 0 t (Idealize.ShloMosaic.ix2 k (j 0))) (iblk m c 1 t (Idealize.ShloMosaic.ix2 k (j 1)))

theorem pay_zero (j : S512x1024.Idx) : k0_pay1 (F := Ideal) j = (0 : EReal) := by pointwise [k0_pay1]

theorem pay_add (t : Fin cfg0.N) (v : Vec Ideal S512x1024 .f32) (j : S512x1024.Idx) :
    k0_pay2 v (iblk m c 0 t) (iblk m c 1 t) j = (v j + share m c t j : EReal) := by
  pointwise [k0_pay2, share]

theorem step0 (t : Fin cfg0.N) (h : t.val % 4 = 0) (j : S512x1024.Idx) :
    (outsAt0 m c t.val t.isLt).2 j = (0 + share m c t j : EReal) := by
  rw [outsAt0_A m c t h (by omega)]
  dsimp only
  frame_out
  rw [pay_add, pay_zero]

theorem stepS (t : Fin cfg0.N) (h : ¬t.val % 4 = 0) (j : S512x1024.Idx) :
    (outsAt0 m c t.val t.isLt).2 j = ((outsAt0 m c (t.val - 1) (Nat.lt_of_le_of_lt (Nat.sub_le _ _) t.isLt)).2 j + share m c t j : EReal) := by
  by_cases h1 : t.val % 4 = 3
  · rw [outsAt0_C m c t h h1]
    dsimp only
    frame_out
    rw [pay_add]
    refine congrArg (fun z : EReal => z + share m c t j) ?_
    exact congrFun (Memref.IsWhole.read_unread (Memref.isWhole_whole cc0_scratch0) _) j
  · rw [outsAt0_B m c t h h1]
    dsimp only
    frame_out
    rw [pay_add]
    refine congrArg (fun z : EReal => z + share m c t j) ?_
    exact congrFun (Memref.IsWhole.read_unread (Memref.isWhole_whole cc0_scratch0) _) j

/-- The written block is the accumulator after the run's last point. -/
theorem written (t : Fin cfg0.N) (hm : t.val % 4 = 3) (y : S1x512x1024.Idx) :
    (outsAt0 m c t.val t.isLt).1 y = ((outsAt0 m c t.val t.isLt).2 (Idealize.ShloMosaic.ix2 (y 1) (y 2)) : EReal) := by
  rw [outsAt0_C m c t (by omega) hm]
  dsimp only
  frame_out
  pointwise [k0_pay3]

theorem summed (t : Fin cfg0.N) (hm : t.val % 4 = 3) (y : S512x1024.Idx) :
    (outsAt0 m c t.val t.isLt).2 y = (0 + ∑ s : Fin 4, share m c ⟨4 * (t.val / 4) + s.val, Pipeline.run_point_lt_of_flush t hm s⟩ y : EReal) :=
  Pipeline.eq_sum_fin_of_reset_step_apply_of_flush (M := EReal) (fun n h => (outsAt0 m c n h).2) 4 (fun _ => 0) (share m c)
    (fun t h j => step0 m c t h j) (fun t h j => stepS m c t h j) t hm y

/-- The written layer holds the reference's gradient; the other layers are kept by both. -/
theorem final : (dats m 0 c).arrAt 2 cfg0.N = val_main_v10 (F := Ideal) (m ((c : Thread nD τ).loc main_arg0)) (m ((c : Thread nD τ).loc main_arg1)) (m ((c : Thread nD τ).loc main_arg2)) := by
  refine (dats m 0 c).arrAt_eq_of_coversWhere_of_agree 2 _ (fun β => β ⟨0, by decide⟩ = 0) (by decide +kernel) (fun t hf y => ?_) (fun j hj => ?_)
  · have hm : t.val % 4 = 3 := (flush0_2 t).mp hf
    blk_simp
    rw [after0_2]
    refine (written m c t hm _).trans ((summed m c t hm _).trans ?_)
    rw [zero_add]
    have hN : t.val < 96 := lt_of_lt_of_eq t.isLt (show cfg0.N = 96 from N_0)
    pointwise [val_main_v10, val_main_v9, val_main_v8, val_main_v7, val_main_v5, val_main_v4, val_main_v2, val_main_v1]
    rw [dif_pos (by blk_simp [ix2v t]; idx_bounds y; omega)]
    unfold share
    refine Fin.sum_mul_add_congr fun s k hl => ?_
    refine (mul_comm _ _).trans ?_
    congr 1 <;> blk_ext [iblk, V, ix2v t, ix0v ⟨4 * (t.val / 4) + s.val, Pipeline.run_point_lt_of_flush t hm s⟩, ix1v ⟨4 * (t.val / 4) + s.val, Pipeline.run_point_lt_of_flush t hm s⟩]
  · blk_simp [Pipeline.Window.cell_apply] at hj
    rw [A_eq]
    pointwise [val_main_v10, val_main_v9, val_main_v8, val_main_v7, val_main_v5, val_main_v4, val_main_v2, val_main_v1]
    rw [dif_neg (by blk_simp; omega)]
    entry_read
    blk_ext

theorem algebraic : Cert.algebraic_Kernel42Ideal_Reference42Ideal (hKernel42Ideal := Cert.Kernel42Ideal.Gen.facts)
    (hReference42Ideal := Cert.Reference42Ideal.Gen.facts) := by
  intro m g m' g' _ he
  refine ⟨fun c => val_main_v10 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel42Ideal.Value.run_blocks m g)
  · refine (θ_run _ _ _).mono (fun r h c => ?_) (Cert.Reference42Ideal.Value.run (F := Ideal) m' g')
    obtain ⟨e0, e1, e2⟩ := he c
    refine ⟨(h c).1.trans ?_, (h c).2⟩
    · exact (val_main_v10_eq _ _ _).trans (congr (congrArg₂ (val_main_v10 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel42Ideal.Gen.frame (F := Bits) m g

theorem frame_same : FrameBits = Cert.quiescent_Kernel42 (hKernel42 := Cert.Kernel42.Gen.facts) := by sl_kernel_rfl

theorem frame_kernel : Cert.quiescent_Kernel42 (hKernel42 := Cert.Kernel42.Gen.facts) := cast frame_same frame_bits

theorem frame_ideal : Cert.quiescent_Kernel42Ideal (hKernel42Ideal := Cert.Kernel42Ideal.Gen.facts) := fun m g _ =>
  Cert.Kernel42Ideal.Gen.frame (F := Ideal) m g

theorem frame_reference : Cert.quiescent_Reference42Ideal (hReference42Ideal := Cert.Reference42Ideal.Gen.facts) := fun m g _ =>
  (θ_run _ _ _).mono (fun r h => ⟨fun c => (h c).2, Idealize.ShloMosaic.sem_eq_zero_of_no_sems (by decide) r.2⟩)
    (Cert.Reference42Ideal.Value.run (F := Ideal) m g)

end Cert.Kernel42Ideal.Mlp

end
-- ==== Proof.Mlp43.lean ====
/-
  The recurrence's input projection, first pair of layers.
-/
module

public import proofs.«01_k».proof.Defs
public import proofs.«01_k».proof.Proof.Gen.Kernel43
public import proofs.«01_k».proof.Proof.Gen.Kernel43Ideal.Value
public import proofs.«01_k».proof.Proof.Gen.Reference43Ideal.Read
public import proofs.«01_k».proof.Proof.Gen.Reference43Ideal.Run
public import Idealize.ShloMosaic.Lib.Pipeline.ValueKit
public import Idealize.ShloMosaic.Lib.Quiescent

@[expose] public section

set_option maxRecDepth 16384

noncomputable section

namespace Cert.Kernel43Ideal.Mlp

open Idealize.ShloMosaic Idealize.ShloMosaic.TcCoe Idealize.SL.Sem Idealize.ShloMosaic.ValueIdx
open Cert.Kernel43Ideal Cert.Kernel43Ideal.Gen Cert.Reference43Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![0, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem final : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v4, val_main_v3, val_main_v2, val_main_v1, val_main_v0]
  blk_point [iblk, V, ix2v t, ix0v t, ix1v t]

theorem algebraic : Cert.algebraic_Kernel43Ideal_Reference43Ideal (hKernel43Ideal := Cert.Kernel43Ideal.Gen.facts)
    (hReference43Ideal := Cert.Reference43Ideal.Gen.facts) := by
  intro m g m' g' _ he
  refine ⟨fun c => val_main_v4 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel43Ideal.Value.run_blocks m g)
  · refine (θ_run _ _ _).mono (fun r h c => ?_) (Cert.Reference43Ideal.Value.run (F := Ideal) m' g')
    obtain ⟨e0, e1⟩ := he c
    refine ⟨(h c).1.trans ?_, (h c).2⟩
    · exact (val_main_v4_eq _ _).trans (congrArg₂ (val_main_v4 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel43Ideal.Gen.frame (F := Bits) m g

theorem frame_same : FrameBits = Cert.quiescent_Kernel43 (hKernel43 := Cert.Kernel43.Gen.facts) := by sl_kernel_rfl

theorem frame_kernel : Cert.quiescent_Kernel43 (hKernel43 := Cert.Kernel43.Gen.facts) := cast frame_same frame_bits

theorem frame_ideal : Cert.quiescent_Kernel43Ideal (hKernel43Ideal := Cert.Kernel43Ideal.Gen.facts) := fun m g _ =>
  Cert.Kernel43Ideal.Gen.frame (F := Ideal) m g

theorem frame_reference : Cert.quiescent_Reference43Ideal (hReference43Ideal := Cert.Reference43Ideal.Gen.facts) := fun m g _ =>
  (θ_run _ _ _).mono (fun r h => ⟨fun c => (h c).2, Idealize.ShloMosaic.sem_eq_zero_of_no_sems (by decide) r.2⟩)
    (Cert.Reference43Ideal.Value.run (F := Ideal) m g)

end Cert.Kernel43Ideal.Mlp

end
-- ==== Proof.Mlp44.lean ====
/-
  The recurrence's input projection, second pair of layers.
-/
module

public import proofs.«01_k».proof.Defs
public import proofs.«01_k».proof.Proof.Gen.Kernel44
public import proofs.«01_k».proof.Proof.Gen.Kernel44Ideal.Value
public import proofs.«01_k».proof.Proof.Gen.Reference44Ideal.Read
public import proofs.«01_k».proof.Proof.Gen.Reference44Ideal.Run
public import Idealize.ShloMosaic.Lib.Pipeline.ValueKit
public import Idealize.ShloMosaic.Lib.Quiescent

@[expose] public section

set_option maxRecDepth 16384

noncomputable section

namespace Cert.Kernel44Ideal.Mlp

open Idealize.ShloMosaic Idealize.ShloMosaic.TcCoe Idealize.SL.Sem Idealize.ShloMosaic.ValueIdx
open Cert.Kernel44Ideal Cert.Kernel44Ideal.Gen Cert.Reference44Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![1, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem final : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v4, val_main_v3, val_main_v2, val_main_v1, val_main_v0]
  blk_point [iblk, V, ix2v t, ix0v t, ix1v t]

theorem algebraic : Cert.algebraic_Kernel44Ideal_Reference44Ideal (hKernel44Ideal := Cert.Kernel44Ideal.Gen.facts)
    (hReference44Ideal := Cert.Reference44Ideal.Gen.facts) := by
  intro m g m' g' _ he
  refine ⟨fun c => val_main_v4 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel44Ideal.Value.run_blocks m g)
  · refine (θ_run _ _ _).mono (fun r h c => ?_) (Cert.Reference44Ideal.Value.run (F := Ideal) m' g')
    obtain ⟨e0, e1⟩ := he c
    refine ⟨(h c).1.trans ?_, (h c).2⟩
    · exact (val_main_v4_eq _ _).trans (congrArg₂ (val_main_v4 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel44Ideal.Gen.frame (F := Bits) m g

theorem frame_same : FrameBits = Cert.quiescent_Kernel44 (hKernel44 := Cert.Kernel44.Gen.facts) := by sl_kernel_rfl

theorem frame_kernel : Cert.quiescent_Kernel44 (hKernel44 := Cert.Kernel44.Gen.facts) := cast frame_same frame_bits

theorem frame_ideal : Cert.quiescent_Kernel44Ideal (hKernel44Ideal := Cert.Kernel44Ideal.Gen.facts) := fun m g _ =>
  Cert.Kernel44Ideal.Gen.frame (F := Ideal) m g

theorem frame_reference : Cert.quiescent_Reference44Ideal (hReference44Ideal := Cert.Reference44Ideal.Gen.facts) := fun m g _ =>
  (θ_run _ _ _).mono (fun r h => ⟨fun c => (h c).2, Idealize.ShloMosaic.sem_eq_zero_of_no_sems (by decide) r.2⟩)
    (Cert.Reference44Ideal.Value.run (F := Ideal) m g)

end Cert.Kernel44Ideal.Mlp

end
-- ==== Proof.Mlp45.lean ====
/-
  The attention's input projection, first pair of layers.
-/
module

public import proofs.«01_k».proof.Defs
public import proofs.«01_k».proof.Proof.Gen.Kernel45
public import proofs.«01_k».proof.Proof.Gen.Kernel45Ideal.Value
public import proofs.«01_k».proof.Proof.Gen.Reference45Ideal.Read
public import proofs.«01_k».proof.Proof.Gen.Reference45Ideal.Run
public import Idealize.ShloMosaic.Lib.Pipeline.ValueKit
public import Idealize.ShloMosaic.Lib.Quiescent

@[expose] public section

set_option maxRecDepth 16384

noncomputable section

namespace Cert.Kernel45Ideal.Mlp

open Idealize.ShloMosaic Idealize.ShloMosaic.TcCoe Idealize.SL.Sem Idealize.ShloMosaic.ValueIdx
open Cert.Kernel45Ideal Cert.Kernel45Ideal.Gen Cert.Reference45Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![0, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem final : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v5, val_main_v4, val_main_v3, val_main_v2, val_main_v1, val_main_v0]
  blk_point [iblk, V, ix2v t, ix0v t, ix1v t]

theorem algebraic : Cert.algebraic_Kernel45Ideal_Reference45Ideal (hKernel45Ideal := Cert.Kernel45Ideal.Gen.facts)
    (hReference45Ideal := Cert.Reference45Ideal.Gen.facts) := by
  intro m g m' g' _ he
  refine ⟨fun c => val_main_v5 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel45Ideal.Value.run_blocks m g)
  · refine (θ_run _ _ _).mono (fun r h c => ?_) (Cert.Reference45Ideal.Value.run (F := Ideal) m' g')
    obtain ⟨e0, e1⟩ := he c
    refine ⟨(h c).1.trans ?_, (h c).2⟩
    · exact (val_main_v5_eq _ _).trans (congrArg₂ (val_main_v5 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel45Ideal.Gen.frame (F := Bits) m g

theorem frame_same : FrameBits = Cert.quiescent_Kernel45 (hKernel45 := Cert.Kernel45.Gen.facts) := by sl_kernel_rfl

theorem frame_kernel : Cert.quiescent_Kernel45 (hKernel45 := Cert.Kernel45.Gen.facts) := cast frame_same frame_bits

theorem frame_ideal : Cert.quiescent_Kernel45Ideal (hKernel45Ideal := Cert.Kernel45Ideal.Gen.facts) := fun m g _ =>
  Cert.Kernel45Ideal.Gen.frame (F := Ideal) m g

theorem frame_reference : Cert.quiescent_Reference45Ideal (hReference45Ideal := Cert.Reference45Ideal.Gen.facts) := fun m g _ =>
  (θ_run _ _ _).mono (fun r h => ⟨fun c => (h c).2, Idealize.ShloMosaic.sem_eq_zero_of_no_sems (by decide) r.2⟩)
    (Cert.Reference45Ideal.Value.run (F := Ideal) m g)

end Cert.Kernel45Ideal.Mlp

end
-- ==== Proof.Mlp46.lean ====
/-
  The attention's input projection, second pair of layers.
-/
module

public import proofs.«01_k».proof.Defs
public import proofs.«01_k».proof.Proof.Gen.Kernel46
public import proofs.«01_k».proof.Proof.Gen.Kernel46Ideal.Value
public import proofs.«01_k».proof.Proof.Gen.Reference46Ideal.Read
public import proofs.«01_k».proof.Proof.Gen.Reference46Ideal.Run
public import Idealize.ShloMosaic.Lib.Pipeline.ValueKit
public import Idealize.ShloMosaic.Lib.Quiescent

@[expose] public section

set_option maxRecDepth 16384

noncomputable section

namespace Cert.Kernel46Ideal.Mlp

open Idealize.ShloMosaic Idealize.ShloMosaic.TcCoe Idealize.SL.Sem Idealize.ShloMosaic.ValueIdx
open Cert.Kernel46Ideal Cert.Kernel46Ideal.Gen Cert.Reference46Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![1, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem final : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, val_main_v5, val_main_v4, val_main_v3, val_main_v2, val_main_v1, val_main_v0]
  blk_point [iblk, V, ix2v t, ix0v t, ix1v t]

theorem algebraic : Cert.algebraic_Kernel46Ideal_Reference46Ideal (hKernel46Ideal := Cert.Kernel46Ideal.Gen.facts)
    (hReference46Ideal := Cert.Reference46Ideal.Gen.facts) := by
  intro m g m' g' _ he
  refine ⟨fun c => val_main_v5 (F := Ideal) (m ((c : Thread nD τ).loc main_arg0)) (m ((c : Thread nD τ).loc main_arg1)), ?_, ?_⟩
  · exact (θ_run _ _ _).mono (fun r h c => ⟨(h c).1.trans (final m c), (h c).2⟩) (Cert.Kernel46Ideal.Value.run_blocks m g)
  · refine (θ_run _ _ _).mono (fun r h c => ?_) (Cert.Reference46Ideal.Value.run (F := Ideal) m' g')
    obtain ⟨e0, e1⟩ := he c
    refine ⟨(h c).1.trans ?_, (h c).2⟩
    · exact (val_main_v5_eq _ _).trans (congrArg₂ (val_main_v5 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_bits : FrameBits := fun m g _ => Cert.Kernel46Ideal.Gen.frame (F := Bits) m g

theorem frame_same : FrameBits = Cert.quiescent_Kernel46 (hKernel46 := Cert.Kernel46.Gen.facts) := by sl_kernel_rfl

theorem frame_kernel : Cert.quiescent_Kernel46 (hKernel46 := Cert.Kernel46.Gen.facts) := cast frame_same frame_bits

theorem frame_ideal : Cert.quiescent_Kernel46Ideal (hKernel46Ideal := Cert.Kernel46Ideal.Gen.facts) := fun m g _ =>
  Cert.Kernel46Ideal.Gen.frame (F := Ideal) m g

theorem frame_reference : Cert.quiescent_Reference46Ideal (hReference46Ideal := Cert.Reference46Ideal.Gen.facts) := fun m g _ =>
  (θ_run _ _ _).mono (fun r h => ⟨fun c => (h c).2, Idealize.ShloMosaic.sem_eq_zero_of_no_sems (by decide) r.2⟩)
    (Cert.Reference46Ideal.Value.run (F := Ideal) m g)

end Cert.Kernel46Ideal.Mlp

end
-- ==== Proof.Mlp47.lean ====
/-
  The mixed output's projection added to the residual, first pair of layers.
-/
module

public import proofs.«01_k».proof.Defs
public import proofs.«01_k».proof.Proof.Gen.Kernel47
public import proofs.«01_k».proof.Proof.Gen.Kernel47Ideal.Value
public import proofs.«01_k».proof.Proof.Gen.Reference47Ideal.Read
public import proofs.«01_k».proof.Proof.Gen.Reference47Ideal.Run
public import Idealize.ShloMosaic.Lib.Pipeline.ValueKit
public import Idealize.ShloMosaic.Lib.Quiescent

@[expose] public section

set_option maxRecDepth 16384

noncomputable section

namespace Cert.Kernel47Ideal.Mlp

open Idealize.ShloMosaic Idealize.ShloMosaic.TcCoe Idealize.SL.Sem Idealize.ShloMosaic.ValueIdx
open Cert.Kernel47Ideal Cert.Kernel47Ideal.Gen Cert.Reference47Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![0, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

theorem final : (dats m 0 c).arrAt 3 cfg0.N = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, val_main_v5, val_main_v4, val_main_v3, val_main_v2, val_main_v1, val_main_v0]
  blk_point [iblk, V, ix3v t, ix0v t, ix1v t, ix2v t]

theorem algebraic : Cert.algebraic_Kernel47Ideal_Reference47Ideal (hKernel47Ideal := Cert.Kernel47Ideal.Gen.facts)
    (hReference47Ideal := Cert.Reference47Ideal.Gen.facts) := by
  intro m g m' g' _ he
  refine ⟨fun c => val_main_v5 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel47Ideal.Value.run_blocks m g)
  · refine (θ_run _ _ _).mono (fun r h c => ?_) (Cert.Reference47Ideal.Value.run (F := Ideal) m' g')
    obtain ⟨e0, e1, e2⟩ := he c
    refine ⟨(h c).1.trans ?_, (h c).2⟩
    · exact (val_main_v5_eq _ _ _).trans (congr (congrArg₂ (val_main_v5 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel47Ideal.Gen.frame (F := Bits) m g

theorem frame_same : FrameBits = Cert.quiescent_Kernel47 (hKernel47 := Cert.Kernel47.Gen.facts) := by sl_kernel_rfl

theorem frame_kernel : Cert.quiescent_Kernel47 (hKernel47 := Cert.Kernel47.Gen.facts) := cast frame_same frame_bits

theorem frame_ideal : Cert.quiescent_Kernel47Ideal (hKernel47Ideal := Cert.Kernel47Ideal.Gen.facts) := fun m g _ =>
  Cert.Kernel47Ideal.Gen.frame (F := Ideal) m g

theorem frame_reference : Cert.quiescent_Reference47Ideal (hReference47Ideal := Cert.Reference47Ideal.Gen.facts) := fun m g _ =>
  (θ_run _ _ _).mono (fun r h => ⟨fun c => (h c).2, Idealize.ShloMosaic.sem_eq_zero_of_no_sems (by decide) r.2⟩)
    (Cert.Reference47Ideal.Value.run (F := Ideal) m g)

end Cert.Kernel47Ideal.Mlp

end
-- ==== Proof.Mlp48.lean ====
/-
  The mixed output's projection added to the residual, second pair of layers.
-/
module

public import proofs.«01_k».proof.Defs
public import proofs.«01_k».proof.Proof.Gen.Kernel48
public import proofs.«01_k».proof.Proof.Gen.Kernel48Ideal.Value
public import proofs.«01_k».proof.Proof.Gen.Reference48Ideal.Read
public import proofs.«01_k».proof.Proof.Gen.Reference48Ideal.Run
public import Idealize.ShloMosaic.Lib.Pipeline.ValueKit
public import Idealize.ShloMosaic.Lib.Quiescent

@[expose] public section

set_option maxRecDepth 16384

noncomputable section

namespace Cert.Kernel48Ideal.Mlp

open Idealize.ShloMosaic Idealize.ShloMosaic.TcCoe Idealize.SL.Sem Idealize.ShloMosaic.ValueIdx
open Cert.Kernel48Ideal Cert.Kernel48Ideal.Gen Cert.Reference48Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![1, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

theorem final : (dats m 0 c).arrAt 3 cfg0.N = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, val_main_v5, val_main_v4, val_main_v3, val_main_v2, val_main_v1, val_main_v0]
  blk_point [iblk, V, ix3v t, ix0v t, ix1v t, ix2v t]

theorem algebraic : Cert.algebraic_Kernel48Ideal_Reference48Ideal (hKernel48Ideal := Cert.Kernel48Ideal.Gen.facts)
    (hReference48Ideal := Cert.Reference48Ideal.Gen.facts) := by
  intro m g m' g' _ he
  refine ⟨fun c => val_main_v5 (F := Ideal) (m ((c : Thread nD τ).loc main_arg0)) (m ((c : Thread nD τ).loc main_arg1)) (m ((c : Thread nD τ).loc main_arg2)), ?_, ?_⟩
  · exact (θ_run _ _ _).mono (fun r h c => ⟨(h c).1.trans (final m c), (h c).2⟩) (Cert.Kernel48Ideal.Value.run_blocks m g)
  · refine (θ_run _ _ _).mono (fun r h c => ?_) (Cert.Reference48Ideal.Value.run (F := Ideal) m' g')
    obtain ⟨e0, e1, e2⟩ := he c
    refine ⟨(h c).1.trans ?_, (h c).2⟩
    · exact (val_main_v5_eq _ _ _).trans (congr (congrArg₂ (val_main_v5 (F := Ideal)) e0 e1) e2)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.Kernel48Ideal.Gen.frame (F := Bits) m g

theorem frame_same : FrameBits = Cert.quiescent_Kernel48 (hKernel48 := Cert.Kernel48.Gen.facts) := by sl_kernel_rfl

theorem frame_kernel : Cert.quiescent_Kernel48 (hKernel48 := Cert.Kernel48.Gen.facts) := cast frame_same frame_bits

theorem frame_ideal : Cert.quiescent_Kernel48Ideal (hKernel48Ideal := Cert.Kernel48Ideal.Gen.facts) := fun m g _ =>
  Cert.Kernel48Ideal.Gen.frame (F := Ideal) m g

theorem frame_reference : Cert.quiescent_Reference48Ideal (hReference48Ideal := Cert.Reference48Ideal.Gen.facts) := fun m g _ =>
  (θ_run _ _ _).mono (fun r h => ⟨fun c => (h c).2, Idealize.ShloMosaic.sem_eq_zero_of_no_sems (by decide) r.2⟩)
    (Cert.Reference48Ideal.Value.run (F := Ideal) m g)

end Cert.Kernel48Ideal.Mlp

end
-- ==== Proof.Mlp49.lean ====
/-
  The first layer. The gate of the embedding added to the residual, and the gate's argument.
-/
module

public import proofs.«01_k».proof.Defs
public import proofs.«01_k».proof.Proof.Gen.Kernel49
public import proofs.«01_k».proof.Proof.Gen.Kernel49Ideal.Value
public import proofs.«01_k».proof.Proof.Gen.Reference49Ideal.Read
public import proofs.«01_k».proof.Proof.Gen.Reference49Ideal.Run
public import Idealize.ShloMosaic.Lib.Pipeline.ValueKit
public import Idealize.ShloMosaic.Lib.Quiescent

@[expose] public section

set_option maxRecDepth 16384

noncomputable section

namespace Cert.Kernel49Ideal.Mlp

open Idealize.ShloMosaic Idealize.ShloMosaic.TcCoe Idealize.SL.Sem Idealize.ShloMosaic.ValueIdx
open Cert.Kernel49Ideal Cert.Kernel49Ideal.Gen Cert.Reference49Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![0, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

theorem ix4v : ∀ t : Fin cfg0.N, win0_4.index t = ![(grid0.coords t 0).val, (grid0.coords t 1).val] :=
  (by decide +kernel : ∀ t : Fin grid0.N, _)

theorem ix5v : ∀ t : Fin cfg0.N, win0_5.index t = ![(grid0.coords t 0).val, (grid0.coords t 1).val] :=
  (by decide +kernel : ∀ t : Fin grid0.N, _)

theorem final_h : (dats m 0 c).arrAt 4 cfg0.N = val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  pointwise [k0_pay1, k0_pay2, Ideal.logistic, val_main_v13, val_main_v12, val_main_v11, val_main_v10, val_main_v9, val_main_cst_0, val_main_v8, val_main_v7, val_main_cst, val_main_v6, val_main_v5, val_main_v4, val_main_v3, val_main_v2, val_main_v1, val_main_v0]
  blk_point [iblk, V, ix4v t, ix0v t, ix1v t, ix2v t, ix3v t]

theorem final_gz : (dats m 0 c).arrAt 5 cfg0.N = val_main_v13 (F := Ideal) (m ((c : Thread nD τ).loc main_arg0)) (m ((c : Thread nD τ).loc main_arg1)) := by
  refine (dats m 0 c).arrAt_eq_of_covers 5 _ (by decide +kernel) fun t hf y => ?_
  blk_simp
  rw [after0_5]; frame_out
  pointwise [k0_pay1, k0_pay3, val_main_v13, val_main_v12, val_main_v11, val_main_v10, val_main_v9, val_main_cst_0, val_main_v8, val_main_v7, val_main_cst, val_main_v6, val_main_v5, val_main_v4, val_main_v3, val_main_v2, val_main_v1, val_main_v0]
  blk_point [iblk, V, ix5v t, ix0v t, ix1v t]

theorem algebraic : Cert.algebraic_Kernel49Ideal_Reference49Ideal (hKernel49Ideal := Cert.Kernel49Ideal.Gen.facts)
    (hReference49Ideal := Cert.Reference49Ideal.Gen.facts) := by
  intro m g m' g' _ he
  refine ⟨fun c => val_main_v12 (F := Ideal) (m ((c : Thread nD τ).loc main_arg0)) (m ((c : Thread nD τ).loc main_arg1)) (m ((c : Thread nD τ).loc main_arg2)) (m ((c : Thread nD τ).loc main_arg3)), fun c => val_main_v13 (F := Ideal) (m ((c : Thread nD τ).loc main_arg0)) (m ((c : Thread nD τ).loc main_arg1)), ?_, ?_⟩
  · exact (θ_run _ _ _).mono (fun r h c => ⟨(h c).1.trans (final_h m c), (h c).2.1.trans (final_gz m c), (h c).2.2⟩) (Cert.Kernel49Ideal.Value.run_blocks m g)
  · refine (θ_run _ _ _).mono (fun r h c => ?_) (Cert.Reference49Ideal.Value.run (F := Ideal) m' g')
    obtain ⟨e0, e1, e2, e3⟩ := he c
    refine ⟨(h c).1.trans ?_, (h c).2.1.trans ?_, (h c).2.2⟩
    · exact (val_main_v12_eq _ _ _ _).trans (congr (congr (congrArg₂ (val_main_v12 (F := Ideal)) e0 e1) e2) e3)
    · exact (val_main_v13_eq _ _).trans (congrArg₂ (val_main_v13 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_bits : FrameBits := fun m g _ => Cert.Kernel49Ideal.Gen.frame (F := Bits) m g

theorem frame_same : FrameBits = Cert.quiescent_Kernel49 (hKernel49 := Cert.Kernel49.Gen.facts) := by sl_kernel_rfl

theorem frame_kernel : Cert.quiescent_Kernel49 (hKernel49 := Cert.Kernel49.Gen.facts) := cast frame_same frame_bits

theorem frame_ideal : Cert.quiescent_Kernel49Ideal (hKernel49Ideal := Cert.Kernel49Ideal.Gen.facts) := fun m g _ =>
  Cert.Kernel49Ideal.Gen.frame (F := Ideal) m g

theorem frame_reference : Cert.quiescent_Reference49Ideal (hReference49Ideal := Cert.Reference49Ideal.Gen.facts) := fun m g _ =>
  (θ_run _ _ _).mono (fun r h => ⟨fun c => (h c).2.2, Idealize.ShloMosaic.sem_eq_zero_of_no_sems (by decide) r.2⟩)
    (Cert.Reference49Ideal.Value.run (F := Ideal) m g)

end Cert.Kernel49Ideal.Mlp

end
-- ==== Proof.Mlp50.lean ====
/-
  The second layer. The gate of the embedding added to the residual, and the gate's argument.
-/
module

public import proofs.«01_k».proof.Defs
public import proofs.«01_k».proof.Proof.Gen.Kernel50
public import proofs.«01_k».proof.Proof.Gen.Kernel50Ideal.Value
public import proofs.«01_k».proof.Proof.Gen.Reference50Ideal.Read
public import proofs.«01_k».proof.Proof.Gen.Reference50Ideal.Run
public import Idealize.ShloMosaic.Lib.Pipeline.ValueKit
public import Idealize.ShloMosaic.Lib.Quiescent

@[expose] public section

set_option maxRecDepth 16384

noncomputable section

namespace Cert.Kernel50Ideal.Mlp

open Idealize.ShloMosaic Idealize.ShloMosaic.TcCoe Idealize.SL.Sem Idealize.ShloMosaic.ValueIdx
open Cert.Kernel50Ideal Cert.Kernel50Ideal.Gen Cert.Reference50Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![1, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

theorem ix4v : ∀ t : Fin cfg0.N, win0_4.index t = ![(grid0.coords t 0).val, (grid0.coords t 1).val] :=
  (by decide +kernel : ∀ t : Fin grid0.N, _)

theorem ix5v : ∀ t : Fin cfg0.N, win0_5.index t = ![(grid0.coords t 0).val, (grid0.coords t 1).val] :=
  (by decide +kernel : ∀ t : Fin grid0.N, _)

theorem final_h : (dats m 0 c).arrAt 4 cfg0.N = val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  pointwise [k0_pay1, k0_pay2, Ideal.logistic, val_main_v13, val_main_v12, val_main_v11, val_main_v10, val_main_v9, val_main_cst_0, val_main_v8, val_main_v7, val_main_cst, val_main_v6, val_main_v5, val_main_v4, val_main_v3, val_main_v2, val_main_v1, val_main_v0]
  blk_point [iblk, V, ix4v t, ix0v t, ix1v t, ix2v t, ix3v t]

theorem final_gz : (dats m 0 c).arrAt 5 cfg0.N = val_main_v13 (F := Ideal) (m ((c : Thread nD τ).loc main_arg0)) (m ((c : Thread nD τ).loc main_arg1)) := by
  refine (dats m 0 c).arrAt_eq_of_covers 5 _ (by decide +kernel) fun t hf y => ?_
  blk_simp
  rw [after0_5]; frame_out
  pointwise [k0_pay1, k0_pay3, val_main_v13, val_main_v12, val_main_v11, val_main_v10, val_main_v9, val_main_cst_0, val_main_v8, val_main_v7, val_main_cst, val_main_v6, val_main_v5, val_main_v4, val_main_v3, val_main_v2, val_main_v1, val_main_v0]
  blk_point [iblk, V, ix5v t, ix0v t, ix1v t]

theorem algebraic : Cert.algebraic_Kernel50Ideal_Reference50Ideal (hKernel50Ideal := Cert.Kernel50Ideal.Gen.facts)
    (hReference50Ideal := Cert.Reference50Ideal.Gen.facts) := by
  intro m g m' g' _ he
  refine ⟨fun c => val_main_v12 (F := Ideal) (m ((c : Thread nD τ).loc main_arg0)) (m ((c : Thread nD τ).loc main_arg1)) (m ((c : Thread nD τ).loc main_arg2)) (m ((c : Thread nD τ).loc main_arg3)), fun c => val_main_v13 (F := Ideal) (m ((c : Thread nD τ).loc main_arg0)) (m ((c : Thread nD τ).loc main_arg1)), ?_, ?_⟩
  · exact (θ_run _ _ _).mono (fun r h c => ⟨(h c).1.trans (final_h m c), (h c).2.1.trans (final_gz m c), (h c).2.2⟩) (Cert.Kernel50Ideal.Value.run_blocks m g)
  · refine (θ_run _ _ _).mono (fun r h c => ?_) (Cert.Reference50Ideal.Value.run (F := Ideal) m' g')
    obtain ⟨e0, e1, e2, e3⟩ := he c
    refine ⟨(h c).1.trans ?_, (h c).2.1.trans ?_, (h c).2.2⟩
    · exact (val_main_v12_eq _ _ _ _).trans (congr (congr (congrArg₂ (val_main_v12 (F := Ideal)) e0 e1) e2) e3)
    · exact (val_main_v13_eq _ _).trans (congrArg₂ (val_main_v13 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_bits : FrameBits := fun m g _ => Cert.Kernel50Ideal.Gen.frame (F := Bits) m g

theorem frame_same : FrameBits = Cert.quiescent_Kernel50 (hKernel50 := Cert.Kernel50.Gen.facts) := by sl_kernel_rfl

theorem frame_kernel : Cert.quiescent_Kernel50 (hKernel50 := Cert.Kernel50.Gen.facts) := cast frame_same frame_bits

theorem frame_ideal : Cert.quiescent_Kernel50Ideal (hKernel50Ideal := Cert.Kernel50Ideal.Gen.facts) := fun m g _ =>
  Cert.Kernel50Ideal.Gen.frame (F := Ideal) m g

theorem frame_reference : Cert.quiescent_Reference50Ideal (hReference50Ideal := Cert.Reference50Ideal.Gen.facts) := fun m g _ =>
  (θ_run _ _ _).mono (fun r h => ⟨fun c => (h c).2.2, Idealize.ShloMosaic.sem_eq_zero_of_no_sems (by decide) r.2⟩)
    (Cert.Reference50Ideal.Value.run (F := Ideal) m g)

end Cert.Kernel50Ideal.Mlp

end
-- ==== Proof.Mlp51.lean ====
/-
  The third layer. The gate of the embedding added to the residual, and the gate's argument.
-/
module

public import proofs.«01_k».proof.Defs
public import proofs.«01_k».proof.Proof.Gen.Kernel51
public import proofs.«01_k».proof.Proof.Gen.Kernel51Ideal.Value
public import proofs.«01_k».proof.Proof.Gen.Reference51Ideal.Read
public import proofs.«01_k».proof.Proof.Gen.Reference51Ideal.Run
public import Idealize.ShloMosaic.Lib.Pipeline.ValueKit
public import Idealize.ShloMosaic.Lib.Quiescent

@[expose] public section

set_option maxRecDepth 16384

noncomputable section

namespace Cert.Kernel51Ideal.Mlp

open Idealize.ShloMosaic Idealize.ShloMosaic.TcCoe Idealize.SL.Sem Idealize.ShloMosaic.ValueIdx
open Cert.Kernel51Ideal Cert.Kernel51Ideal.Gen Cert.Reference51Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![2, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

theorem ix4v : ∀ t : Fin cfg0.N, win0_4.index t = ![(grid0.coords t 0).val, (grid0.coords t 1).val] :=
  (by decide +kernel : ∀ t : Fin grid0.N, _)

theorem ix5v : ∀ t : Fin cfg0.N, win0_5.index t = ![(grid0.coords t 0).val, (grid0.coords t 1).val] :=
  (by decide +kernel : ∀ t : Fin grid0.N, _)

theorem final_h : (dats m 0 c).arrAt 4 cfg0.N = val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  pointwise [k0_pay1, k0_pay2, Ideal.logistic, val_main_v13, val_main_v12, val_main_v11, val_main_v10, val_main_v9, val_main_cst_0, val_main_v8, val_main_v7, val_main_cst, val_main_v6, val_main_v5, val_main_v4, val_main_v3, val_main_v2, val_main_v1, val_main_v0]
  blk_point [iblk, V, ix4v t, ix0v t, ix1v t, ix2v t, ix3v t]

theorem final_gz : (dats m 0 c).arrAt 5 cfg0.N = val_main_v13 (F := Ideal) (m ((c : Thread nD τ).loc main_arg0)) (m ((c : Thread nD τ).loc main_arg1)) := by
  refine (dats m 0 c).arrAt_eq_of_covers 5 _ (by decide +kernel) fun t hf y => ?_
  blk_simp
  rw [after0_5]; frame_out
  pointwise [k0_pay1, k0_pay3, val_main_v13, val_main_v12, val_main_v11, val_main_v10, val_main_v9, val_main_cst_0, val_main_v8, val_main_v7, val_main_cst, val_main_v6, val_main_v5, val_main_v4, val_main_v3, val_main_v2, val_main_v1, val_main_v0]
  blk_point [iblk, V, ix5v t, ix0v t, ix1v t]

theorem algebraic : Cert.algebraic_Kernel51Ideal_Reference51Ideal (hKernel51Ideal := Cert.Kernel51Ideal.Gen.facts)
    (hReference51Ideal := Cert.Reference51Ideal.Gen.facts) := by
  intro m g m' g' _ he
  refine ⟨fun c => val_main_v12 (F := Ideal) (m ((c : Thread nD τ).loc main_arg0)) (m ((c : Thread nD τ).loc main_arg1)) (m ((c : Thread nD τ).loc main_arg2)) (m ((c : Thread nD τ).loc main_arg3)), fun c => val_main_v13 (F := Ideal) (m ((c : Thread nD τ).loc main_arg0)) (m ((c : Thread nD τ).loc main_arg1)), ?_, ?_⟩
  · exact (θ_run _ _ _).mono (fun r h c => ⟨(h c).1.trans (final_h m c), (h c).2.1.trans (final_gz m c), (h c).2.2⟩) (Cert.Kernel51Ideal.Value.run_blocks m g)
  · refine (θ_run _ _ _).mono (fun r h c => ?_) (Cert.Reference51Ideal.Value.run (F := Ideal) m' g')
    obtain ⟨e0, e1, e2, e3⟩ := he c
    refine ⟨(h c).1.trans ?_, (h c).2.1.trans ?_, (h c).2.2⟩
    · exact (val_main_v12_eq _ _ _ _).trans (congr (congr (congrArg₂ (val_main_v12 (F := Ideal)) e0 e1) e2) e3)
    · exact (val_main_v13_eq _ _).trans (congrArg₂ (val_main_v13 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_bits : FrameBits := fun m g _ => Cert.Kernel51Ideal.Gen.frame (F := Bits) m g

theorem frame_same : FrameBits = Cert.quiescent_Kernel51 (hKernel51 := Cert.Kernel51.Gen.facts) := by sl_kernel_rfl

theorem frame_kernel : Cert.quiescent_Kernel51 (hKernel51 := Cert.Kernel51.Gen.facts) := cast frame_same frame_bits

theorem frame_ideal : Cert.quiescent_Kernel51Ideal (hKernel51Ideal := Cert.Kernel51Ideal.Gen.facts) := fun m g _ =>
  Cert.Kernel51Ideal.Gen.frame (F := Ideal) m g

theorem frame_reference : Cert.quiescent_Reference51Ideal (hReference51Ideal := Cert.Reference51Ideal.Gen.facts) := fun m g _ =>
  (θ_run _ _ _).mono (fun r h => ⟨fun c => (h c).2.2, Idealize.ShloMosaic.sem_eq_zero_of_no_sems (by decide) r.2⟩)
    (Cert.Reference51Ideal.Value.run (F := Ideal) m g)

end Cert.Kernel51Ideal.Mlp

end
-- ==== Proof.Mlp52.lean ====
/-
  The last layer. The gate of the embedding added to the residual, and the gate's argument.
-/
module

public import proofs.«01_k».proof.Defs
public import proofs.«01_k».proof.Proof.Gen.Kernel52
public import proofs.«01_k».proof.Proof.Gen.Kernel52Ideal.Value
public import proofs.«01_k».proof.Proof.Gen.Reference52Ideal.Read
public import proofs.«01_k».proof.Proof.Gen.Reference52Ideal.Run
public import Idealize.ShloMosaic.Lib.Pipeline.ValueKit
public import Idealize.ShloMosaic.Lib.Quiescent

@[expose] public section

set_option maxRecDepth 16384

noncomputable section

namespace Cert.Kernel52Ideal.Mlp

open Idealize.ShloMosaic Idealize.ShloMosaic.TcCoe Idealize.SL.Sem Idealize.ShloMosaic.ValueIdx
open Cert.Kernel52Ideal Cert.Kernel52Ideal.Gen Cert.Reference52Ideal.Read

variable (m : (ℓ : Loc nD τ sig) → Buf (Elt Ideal) ℓ) (c : Dev nD)

theorem ix0v : ∀ t : Fin cfg0.N, win0_0.index t = ![(grid0.coords t 0).val, 0] :=
  (by decide +kernel : ∀ t : Fin grid0.N, _)

theorem ix1v : ∀ t : Fin cfg0.N, win0_1.index t = ![3, 0, (grid0.coords t 1).val] :=
  (by decide +kernel : ∀ t : Fin grid0.N, _)

theorem ix2v : ∀ t : Fin cfg0.N, win0_2.index t = ![(grid0.coords t 0).val, (grid0.coords t 1).val] :=
  (by decide +kernel : ∀ t : Fin grid0.N, _)

theorem ix3v : ∀ t : Fin cfg0.N, win0_3.index t = ![(grid0.coords t 0).val, (grid0.coords t 1).val] :=
  (by decide +kernel : ∀ t : Fin grid0.N, _)

theorem ix4v : ∀ t : Fin cfg0.N, win0_4.index t = ![(grid0.coords t 0).val, (grid0.coords t 1).val] :=
  (by decide +kernel : ∀ t : Fin grid0.N, _)

theorem ix5v : ∀ t : Fin cfg0.N, win0_5.index t = ![(grid0.coords t 0).val, (grid0.coords t 1).val] :=
  (by decide +kernel : ∀ t : Fin grid0.N, _)

theorem final_h : (dats m 0 c).arrAt 4 cfg0.N = val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  pointwise [k0_pay1, k0_pay2, Ideal.logistic, val_main_v13, val_main_v12, val_main_v11, val_main_v10, val_main_v9, val_main_cst_0, val_main_v8, val_main_v7, val_main_cst, val_main_v6, val_main_v5, val_main_v4, val_main_v3, val_main_v2, val_main_v1, val_main_v0]
  blk_point [iblk, V, ix4v t, ix0v t, ix1v t, ix2v t, ix3v t]

theorem final_gz : (dats m 0 c).arrAt 5 cfg0.N = val_main_v13 (F := Ideal) (m ((c : Thread nD τ).loc main_arg0)) (m ((c : Thread nD τ).loc main_arg1)) := by
  refine (dats m 0 c).arrAt_eq_of_covers 5 _ (by decide +kernel) fun t hf y => ?_
  blk_simp
  rw [after0_5]; frame_out
  pointwise [k0_pay1, k0_pay3, val_main_v13, val_main_v12, val_main_v11, val_main_v10, val_main_v9, val_main_cst_0, val_main_v8, val_main_v7, val_main_cst, val_main_v6, val_main_v5, val_main_v4, val_main_v3, val_main_v2, val_main_v1, val_main_v0]
  blk_point [iblk, V, ix5v t, ix0v t, ix1v t]

theorem algebraic : Cert.algebraic_Kernel52Ideal_Reference52Ideal (hKernel52Ideal := Cert.Kernel52Ideal.Gen.facts)
    (hReference52Ideal := Cert.Reference52Ideal.Gen.facts) := by
  intro m g m' g' _ he
  refine ⟨fun c => val_main_v12 (F := Ideal) (m ((c : Thread nD τ).loc main_arg0)) (m ((c : Thread nD τ).loc main_arg1)) (m ((c : Thread nD τ).loc main_arg2)) (m ((c : Thread nD τ).loc main_arg3)), fun c => val_main_v13 (F := Ideal) (m ((c : Thread nD τ).loc main_arg0)) (m ((c : Thread nD τ).loc main_arg1)), ?_, ?_⟩
  · exact (θ_run _ _ _).mono (fun r h c => ⟨(h c).1.trans (final_h m c), (h c).2.1.trans (final_gz m c), (h c).2.2⟩) (Cert.Kernel52Ideal.Value.run_blocks m g)
  · refine (θ_run _ _ _).mono (fun r h c => ?_) (Cert.Reference52Ideal.Value.run (F := Ideal) m' g')
    obtain ⟨e0, e1, e2, e3⟩ := he c
    refine ⟨(h c).1.trans ?_, (h c).2.1.trans ?_, (h c).2.2⟩
    · exact (val_main_v12_eq _ _ _ _).trans (congr (congr (congrArg₂ (val_main_v12 (F := Ideal)) e0 e1) e2) e3)
    · exact (val_main_v13_eq _ _).trans (congrArg₂ (val_main_v13 (F := Ideal)) e0 e1)

/-- The frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_bits : FrameBits := fun m g _ => Cert.Kernel52Ideal.Gen.frame (F := Bits) m g

theorem frame_same : FrameBits = Cert.quiescent_Kernel52 (hKernel52 := Cert.Kernel52.Gen.facts) := by sl_kernel_rfl

theorem frame_kernel : Cert.quiescent_Kernel52 (hKernel52 := Cert.Kernel52.Gen.facts) := cast frame_same frame_bits

theorem frame_ideal : Cert.quiescent_Kernel52Ideal (hKernel52Ideal := Cert.Kernel52Ideal.Gen.facts) := fun m g _ =>
  Cert.Kernel52Ideal.Gen.frame (F := Ideal) m g

theorem frame_reference : Cert.quiescent_Reference52Ideal (hReference52Ideal := Cert.Reference52Ideal.Gen.facts) := fun m g _ =>
  (θ_run _ _ _).mono (fun r h => ⟨fun c => (h c).2.2, Idealize.ShloMosaic.sem_eq_zero_of_no_sems (by decide) r.2⟩)
    (Cert.Reference52Ideal.Value.run (F := Ideal) m g)

end Cert.Kernel52Ideal.Mlp

end
-- ==== Proof.Words.lean ====
/-
  The words the body computes from its grid point and from the window's first block: the bounds of its loops, the
  places of the blocks it loads, and that the side conditions it assumes hold of every word.
-/
module

public import proofs.«01_k».proof.Proof.Gen.KernelIdeal.Skeleton
public import Idealize.ShloMosaic.Lib.Affine
public import Idealize.ShloMosaic.Lib.WordCmp

@[expose] public section

noncomputable section

namespace Cert.KernelIdeal.Bwd

open Idealize.ShloMosaic Idealize.ShloMosaic.Affine Cert.KernelIdeal.Gen

/-- The first key block of the window at the grid point `i`, from the word `v` the caller gives: clipped to
    `0 ≤ · ≤` the query block. -/
def fst (i : grid0.Coords) (v : BitVec 32) : ℕ := (min ((i 1).val : ℤ) (max 0 v.toInt)).toNat

theorem fst_le (i : grid0.Coords) (v : BitVec 32) : fst i v ≤ (i 1).val := by unfold fst; omega

theorem fst_cast (i : grid0.Coords) (v : BitVec 32) : ((fst i v : ℕ) : ℤ) = min ((i 1).val : ℤ) (max 0 v.toInt) := by
  unfold fst; omega

theorem lt32 (i : grid0.Coords) : (i 1).val < 32 := (i 1).isLt

section
variable (i : grid0.Coords) (v : BitVec 32)

theorem isInt_q : IsInt (BitVec.ofNat 32 (i 1).val) ((i 1).val : ℤ) :=
  Affine.ofNat _ ⟨rfl, by have := lt32 i; omega⟩

theorem isInt_lb : IsInt (Scalar.minsi (BitVec.ofNat 32 (i 1).val) (Scalar.maxsi 0#32 v)) (fst i v : ℤ) := by
  rw [fst_cast]
  exact Affine.minsi (isInt_q i) (Affine.maxsi (Affine.ofNat 0 ⟨rfl, by omega⟩) (Affine.word v) rfl) (by simp)

/-- The number of unmasked blocks. -/
abbrev cnt (i : grid0.Coords) (v : BitVec 32) : ℕ := (i 1).val - 1 - fst i v

theorem isInt_ub : IsInt (Scalar.addi (Scalar.minsi (BitVec.ofNat 32 (i 1).val) (Scalar.maxsi 0#32 v))
    (Scalar.muli (Scalar.divsi (Scalar.subi (Scalar.maxsi (Scalar.subi (BitVec.ofNat 32 (i 1).val) 1#32)
      (Scalar.minsi (BitVec.ofNat 32 (i 1).val) (Scalar.maxsi 0#32 v)))
      (Scalar.minsi (BitVec.ofNat 32 (i 1).val) (Scalar.maxsi 0#32 v))) 1#32) 1#32)) ((fst i v : ℤ) + cnt i v) := by
  have h := lt32 i
  have hf := fst_le i v
  have one : IsInt (1#32) 1 := Affine.ofNat 1 ⟨rfl, by omega⟩
  have d : IsInt (Scalar.subi (Scalar.maxsi (Scalar.subi (BitVec.ofNat 32 (i 1).val) 1#32)
      (Scalar.minsi (BitVec.ofNat 32 (i 1).val) (Scalar.maxsi 0#32 v)))
      (Scalar.minsi (BitVec.ofNat 32 (i 1).val) (Scalar.maxsi 0#32 v))) (cnt i v : ℤ) :=
    Affine.subi (Affine.maxsi (Affine.subi (isInt_q i) one ⟨rfl, by omega, by omega⟩) (isInt_lb i v) rfl) (isInt_lb i v)
      ⟨by unfold cnt; omega, by unfold cnt; omega, by unfold cnt; omega⟩
  have e : IsInt (Scalar.divsi (Scalar.subi (Scalar.maxsi (Scalar.subi (BitVec.ofNat 32 (i 1).val) 1#32)
      (Scalar.minsi (BitVec.ofNat 32 (i 1).val) (Scalar.maxsi 0#32 v)))
      (Scalar.minsi (BitVec.ofNat 32 (i 1).val) (Scalar.maxsi 0#32 v))) 1#32) (cnt i v : ℤ) := Affine.divsi_one d one ⟨rfl, rfl⟩
  exact Affine.addi (isInt_lb i v) (Affine.muli e one ⟨by omega, by unfold cnt; omega, by unfold cnt; omega⟩)
    ⟨rfl, by unfold cnt; omega, by unfold cnt; omega⟩

theorem isInt_ub' : IsInt (Scalar.addi (Scalar.minsi (BitVec.ofNat 32 (i 1).val) (Scalar.maxsi 0#32 v))
    (Scalar.subi (Scalar.maxsi (Scalar.subi (BitVec.ofNat 32 (i 1).val) 1#32)
      (Scalar.minsi (BitVec.ofNat 32 (i 1).val) (Scalar.maxsi 0#32 v)))
      (Scalar.minsi (BitVec.ofNat 32 (i 1).val) (Scalar.maxsi 0#32 v)))) ((fst i v : ℤ) + cnt i v) := by
  have h := lt32 i
  have hf := fst_le i v
  have one : IsInt (1#32) 1 := Affine.ofNat 1 ⟨rfl, by omega⟩
  have d : IsInt (Scalar.subi (Scalar.maxsi (Scalar.subi (BitVec.ofNat 32 (i 1).val) 1#32)
      (Scalar.minsi (BitVec.ofNat 32 (i 1).val) (Scalar.maxsi 0#32 v)))
      (Scalar.minsi (BitVec.ofNat 32 (i 1).val) (Scalar.maxsi 0#32 v))) (cnt i v : ℤ) :=
    Affine.subi (Affine.maxsi (Affine.subi (isInt_q i) one ⟨rfl, by omega, by omega⟩) (isInt_lb i v) rfl) (isInt_lb i v)
      ⟨by unfold cnt; omega, by unfold cnt; omega, by unfold cnt; omega⟩
  exact Affine.addi (isInt_lb i v) d ⟨rfl, by unfold cnt; omega, by unfold cnt; omega⟩

theorem one' : IsInt (1#32) 1 := Affine.ofNat 1 ⟨rfl, by omega⟩

theorem trips1 : (k0_t1_loop i v).trips = cnt i v :=
  Affine.trips_eq (isInt_lb i v) (isInt_ub i v) one' _ (by omega)

theorem trips2 : (k0_t2_loop i v).trips = 0 :=
  Affine.trips_eq (isInt_ub i v) (isInt_ub' i v) one' _ (by omega)

theorem isInt_iv (k : Fin (k0_t1_loop i v).trips) :
    IsInt (Scf.iv (Scalar.minsi (BitVec.ofNat 32 (i 1).val) (Scalar.maxsi 0#32 v)) 1#32 k.val) ((fst i v + k.val : ℕ) : ℤ) := by
  have h := lt32 i
  have hk : k.val < cnt i v := lt_of_lt_of_eq k.isLt (trips1 i v)
  exact Affine.iv (isInt_lb i v) one' k.val ⟨by push_cast; omega, by unfold cnt at hk; push_cast; omega, by unfold cnt at hk; push_cast; omega⟩

theorem isInt_row (k : Fin (k0_t1_loop i v).trips) : IsInt (k0_mult1 i v k) ((256 * (fst i v + k.val) : ℕ) : ℤ) := by
  have h := lt32 i
  have hk : k.val < cnt i v := lt_of_lt_of_eq k.isLt (trips1 i v)
  unfold cnt at hk
  exact Affine.muli (isInt_iv i v k) (Affine.ofNat 256 ⟨rfl, by omega⟩) ⟨by push_cast; omega, by push_cast; omega, by push_cast; omega⟩

theorem off2_eq (k : Fin (k0_t1_loop i v).trips) : k0_off2 i v k = ![256 * (fst i v + k.val), 0] :=
  Affine.vec_cons (isInt_row i v k) rfl rfl

theorem off5_eq (k : Fin (k0_t3_loop i v).trips) : k0_off5 i v k = ![256 * (fst i v + k.val), 128] :=
  Affine.vec_cons (isInt_row i v k) rfl rfl

theorem kb_lt (k : Fin (k0_t1_loop i v).trips) : fst i v + k.val < 32 := by
  have h := lt32 i
  have hk : k.val < cnt i v := lt_of_lt_of_eq k.isLt (trips1 i v)
  unfold cnt at hk
  omega

theorem inb_of {r h : ℕ} (hr : r < 32) (hh : h ≤ 128) : ∀ a, (![256 * r, h] : Fin 2 → ℕ) a + S256x128.size a ≤ S8192x256.size a := by
  intro a
  match a with
  | ⟨0, _⟩ => show 256 * r + 256 ≤ 8192; omega
  | ⟨1, _⟩ => show h + 128 ≤ 256; omega

theorem chk1 : k0_chk1 i v := by
  have h := lt32 i
  have hf := fst_le i v
  refine ⟨?_, ?_, ?_, ?_, ?_, ?_⟩
  · exact Affine.ok (isInt_lb i v) (isInt_ub i v) one' ⟨by omega, by unfold cnt; omega⟩
  · intro k; exact Affine.dvd_of (isInt_row i v k) 256 ⟨by push_cast; omega, by omega⟩
  · intro k; rw [off2_eq]; exact inb_of (kb_lt i v k) (by omega)
  · exact Affine.ok (isInt_ub i v) (isInt_ub' i v) one' ⟨by omega, by unfold cnt; omega⟩
  · intro k; exact absurd (lt_of_lt_of_eq k.isLt (trips2 i v)) (Nat.not_lt_zero _)
  · intro k; exact absurd (lt_of_lt_of_eq k.isLt (trips2 i v)) (Nat.not_lt_zero _)

theorem trips3 : (k0_t3_loop i v).trips = cnt i v := trips1 i v

theorem trips4 : (k0_t4_loop i v).trips = 0 := trips2 i v

theorem chk2 : k0_chk2 i v := by
  have h := chk1 i v
  refine ⟨h.1, h.2.1, ?_, h.2.2.2.1, h.2.2.2.2.1, ?_⟩
  · intro k; rw [off5_eq]; exact inb_of (kb_lt i v k) (by omega)
  · intro k; exact absurd (lt_of_lt_of_eq k.isLt (trips4 i v)) (Nat.not_lt_zero _)

/-- The block before the diagonal one: `max (q − 1) 0`. -/
abbrev prv (i : grid0.Coords) : ℕ := (i 1).val - 1

theorem off7_eq : k0_off7 i = ![256 * prv i, 0] := by
  have h := lt32 i
  exact Affine.vec_cons (Affine.muli (Affine.maxsi (Affine.subi (isInt_q i) one' ⟨rfl, by omega, by omega⟩)
    (Affine.ofNat 0 ⟨rfl, by omega⟩) rfl) (Affine.ofNat 256 ⟨rfl, by omega⟩) ⟨rfl, by omega, by omega⟩) (by unfold prv; push_cast; omega) rfl

theorem off9_eq : k0_off9 i = ![256 * prv i, 128] := by
  have h := lt32 i
  exact Affine.vec_cons (Affine.muli (Affine.maxsi (Affine.subi (isInt_q i) one' ⟨rfl, by omega, by omega⟩)
    (Affine.ofNat 0 ⟨rfl, by omega⟩) rfl) (Affine.ofNat 256 ⟨rfl, by omega⟩) ⟨rfl, by omega, by omega⟩) (by unfold prv; push_cast; omega) rfl

theorem off8_eq : k0_off8 i = ![256 * (i 1).val, 0] := by
  have h := lt32 i
  exact Affine.vec_cons (Affine.muli (isInt_q i) (Affine.ofNat 256 ⟨rfl, by omega⟩) ⟨rfl, by omega, by omega⟩) (by push_cast; omega) rfl

theorem off10_eq : k0_off10 i = ![256 * (i 1).val, 128] := by
  have h := lt32 i
  exact Affine.vec_cons (Affine.muli (isInt_q i) (Affine.ofNat 256 ⟨rfl, by omega⟩) ⟨rfl, by omega, by omega⟩) (by push_cast; omega) rfl

end

end Cert.KernelIdeal.Bwd

end
-- ==== Proof.Step.lean ====
/-
  One key block of the backward pass on array values: the kernel writes it six times (each head's loop, its previous
  block and its diagonal block) and the six differ only in the mask they apply. The whole body as a function of what
  its windows hold.
-/
module

public import proofs.«01_k».proof.Proof.Words
public import proofs.«01_k».proof.Proof.Gen.KernelIdeal.Frame
public import Idealize.ShloMosaic.Lib.Pipeline.FrameBody

@[expose] public section

set_option maxRecDepth 16384

noncomputable section

namespace Cert.KernelIdeal.Bwd

open Idealize.ShloMosaic Idealize.ShloMosaic.TcCoe
open Cert.KernelIdeal.Gen

variable {F : FTy → Type} [FloatOps F] [Named F]

/-- What a loop over key blocks carries of a head: the prefix sums of `softplus z` and of the weights' gradient per
    row, and the query gradient so far. -/
abbrev Carry (F : FTy → Type) : Type := FVec F S256x1 .f32 × FVec F S256x1 .f32 × FVec F S256x128 .f32

/-- The rectangle of a 256-row, 128-column block of an 8192×256 array. -/
abbrev rB {off : Fin 2 → ℕ} (h : ∀ a, off a + S256x128.size a ≤ S8192x256.size a) : Rect S8192x256 :=
  Rect.unit (s := S8192x256) off S256x128.size h

/-- The two columns of blocks of a 256×256 array. -/
abbrev rQ0 : Rect S256x256 := Rect.unit (s := S256x256) ![0, 0] S256x128.size inb_S256x256_S256x128_0_0
abbrev rQ1 : Rect S256x256 := Rect.unit (s := S256x256) ![0, 128] S256x128.size inb_S256x256_S256x128_0_128
/-- Where a head's total of `softplus z` is read. -/
abbrev rS0 : Rect S2x256x128 := Rect.unit (s := S2x256x128) ![0, 0, 0] S1x256x1.size inb_S2x256x128_S1x256x1_0_0_0
abbrev rS1 : Rect S2x256x128 := Rect.unit (s := S2x256x128) ![1, 0, 0] S1x256x1.size inb_S2x256x128_S1x256x1_1_0_0

/-- A mask: which entries of the first block to take, the others from the second. -/
abbrev Sel (F : FTy → Type) : Type := FVec F S256x256 .f32 → FVec F S256x256 .f32 → FVec F S256x256 .f32

/-- Every key of the block is attended to. -/
def selAll : Sel F := fun a _ => a
/-- The block just below the diagonal one counts when there is one and the loop has not passed it. -/
def selPrev (i : grid0.Coords) (v : BitVec 32) : Sel F := fun a c =>
  Scalar.select (Scalar.andi (Scalar.cmpi .sgt (BitVec.ofNat 32 (i 1).val) 0#32)
    (Scalar.cmpi .slt (Scalar.minsi (BitVec.ofNat 32 (i 1).val) (Scalar.maxsi 0#32 v)) (BitVec.ofNat 32 (i 1).val))) a c
/-- In the diagonal block a query attends to the keys before it. -/
def selDiag : Sel F := fun a c =>
  select (cmpi .slt (iota .tc S256x256 32 [1] iota_S256x256_d1_w32) (iota .tc S256x256 32 [0] iota_S256x256_d0_w32)) a c

section Block

variable (sel : Sel F) (q d k v : Vec F S256x128 .bf16) (t : Vec F S1x256x1 .f32) (c : Carry F)

/-- `softplus z`, masked. -/
def bSP : FVec F S256x256 .f32 := sel (k0_pay6 q k) (broadcast S256x256 (Scalar.ofBits .f32 0x00000000#32))
/-- The prefix sum of `softplus z` including this block. -/
def bPsp : FVec F S256x1 .f32 :=
  addf c.1 (shapeCast S256x1 (multiReduction .add [1] S256 (bSP sel q k) 0x00000000#32 reduces_S256x256_S256 (.inl rfl) rfl) shapeCasts_S256_S256x1)
/-- The weights. -/
def bA : FVec F S256x256 .f32 :=
  exp (sel (subf (subf (k0_pay5 q k) (broadcastTo S256x256 (subf (shapeCast S256x1 t shapeCasts_S1x256x1_S256x1) (bPsp sel q k c)) broadcasts_S256x1_S256x256))
      (matmul dot_S256x256_S256x256_S256x256_1_0_0_1_n_n none (truncf .bf16 (bSP sel q k) bitsLt_bf16_f32) (k0_pay35 (F := F)) (constant S256x256 .f32 0x00000000#32)))
    (broadcast S256x256 (Named.named κ "mask" 0xF149F2CA#32)))
/-- The weights' gradient times the weights. -/
def bG : FVec F S256x256 .f32 :=
  mulf (matmul dot_S256x128_S256x128_S256x256_1_1_0_0_n_n none d v (constant S256x256 .f32 0x00000000#32)) (bA sel q k t c)
/-- Its prefix sums. -/
def bPG : FVec F S256x256 .f32 :=
  addf (broadcastTo S256x256 c.2.1 broadcasts_S256x1_S256x256)
    (matmul dot_S256x256_S256x256_S256x256_1_0_0_1_n_n none (truncf .bf16 (bG sel q d k v t c) bitsLt_bf16_f32) (k0_pay36 (F := F)) (constant S256x256 .f32 0x00000000#32))
/-- The gradient of the scores, scaled. -/
def bDz : FVec F S256x256 .bf16 :=
  truncf .bf16 (mulf (sel (subf (bG sel q d k v t c) (mulf (bPG sel q d k v t c) (exp (subf (k0_pay5 q k) (k0_pay6 q k)))))
    (broadcast S256x256 (Scalar.ofBits .f32 0x00000000#32))) (broadcast S256x256 (Scalar.ofBits .f32 0x3DB504F3#32))) bitsLt_bf16_f32
/-- What the block adds to the key gradient. -/
def bDk (x : Vec F S256x128 .f32) : FVec F S256x128 .f32 :=
  addf (shapeCast S256x128 x shapeCasts_S256x128_S256x128) (matmul dot_S256x256_S256x128_S256x128_0_0_1_1_n_n none (bDz sel q d k v t c) q (constant S256x128 .f32 0x00000000#32))
/-- What the block adds to the value gradient. -/
def bDv (x : Vec F S256x128 .f32) : FVec F S256x128 .f32 :=
  addf (shapeCast S256x128 x shapeCasts_S256x128_S256x128) (matmul dot_S256x256_S256x128_S256x128_0_0_1_1_n_n none (truncf .bf16 (bA sel q k t c) bitsLt_bf16_f32) d (constant S256x128 .f32 0x00000000#32))
/-- The carried values after the block. -/
def bC : Carry F :=
  (bPsp sel q k c,
   addf c.2.1 (shapeCast S256x1 (multiReduction .add [1] S256 (bG sel q d k v t c) 0x00000000#32 reduces_S256x256_S256 (.inl rfl) rfl) shapeCasts_S256_S256x1),
   addf c.2.2 (matmul dot_S256x256_S256x128_S256x128_1_0_0_1_n_n none (bDz sel q d k v t c) k (constant S256x128 .f32 0x00000000#32)))

end Block

/-- The carried values and the two accumulators. -/
abbrev VSt (F : FTy → Type) : Type := Carry F × Vec F S8192x256 .f32 × Vec F S8192x256 .f32

/-- One block on the carried values and the accumulators. -/
def bstep (sel : Sel F) (q d : Vec F S256x128 .bf16) (t : Vec F S1x256x1 .f32) (x4 x5 : Vec F S8192x256 .bf16)
    {off : Fin 2 → ℕ} (h : ∀ a, off a + S256x128.size a ≤ S8192x256.size a) (s : VSt F) : VSt F :=
  (bC sel q d (View.ld x4 (rB h)) (View.ld x5 (rB h)) t s.1,
   (rB h).overlay s.2.1 (bDk sel q d (View.ld x4 (rB h)) (View.ld x5 (rB h)) t s.1 (View.ld s.2.1 (rB h))),
   (rB h).overlay s.2.2 (bDv sel q d (View.ld x4 (rB h)) t s.1 (View.ld s.2.2 (rB h))))

section Loops

variable (i : grid0.Coords) (q d : Vec F S256x128 .bf16) (t : Vec F S1x256x1 .f32) (x4 x5 : Vec F S8192x256 .bf16) (v : BitVec 32) (s : VSt F)

/-- The first head's state before trip `n`. -/
def vst1 : ℕ → VSt F
  | 0 => s
  | n + 1 => if h : n < (k0_t1_loop i v).trips then bstep selAll q d t x4 x5 (k0_off2_inb i v (chk1 i v) ⟨n, h⟩) (vst1 n) else vst1 n

/-- The second head's state before trip `n`. -/
def vst3 : ℕ → VSt F
  | 0 => s
  | n + 1 => if h : n < (k0_t3_loop i v).trips then bstep selAll q d t x4 x5 (k0_off5_inb i v (chk2 i v) ⟨n, h⟩) (vst3 n) else vst3 n

end Loops

section Body

variable (i : grid0.Coords) (x2 : Vec F S16x32 .f32) (x3 : Vec F S256x256 .bf16) (x4 x5 : Vec F S8192x256 .bf16)
  (x6 : Vec F S256x256 .bf16) (x7 : Vec F S2x256x128 .f32) (x9 x10 : Vec F S8192x256 .f32)

/-- The two heads' first blocks, as the start window gives them. -/
def word0 : BitVec 32 := Scalar.fptosi 32 (View.ld x2 (Rect.unit (k0_off1 i) S1x1.size (k0_off1_inb i)) (Shape.Idx.first (show 0 < S1x1.numel by decide)))
def word1 : BitVec 32 := Scalar.fptosi 32 (View.ld x2 (Rect.unit (k0_off4 i) S1x1.size (k0_off4_inb i)) (Shape.Idx.first (show 0 < S1x1.numel by decide)))

/-- After the first head's loop. -/
def stA : VSt F := vst1 i (View.ld x3 rQ0) (View.ld x6 rQ0) (View.ld x7 rS0) x4 x5 (word0 i x2) ((k0_pay37, k0_pay38, k0_pay39), x9, x10) (k0_t1_loop i (word0 i x2)).trips
/-- After the second head's loop. -/
def stB : VSt F := vst3 i (View.ld x3 rQ1) (View.ld x6 rQ1) (View.ld x7 rS1) x4 x5 (word1 i x2) ((k0_pay50, k0_pay51, k0_pay52), (stA i x2 x3 x4 x5 x6 x7 x9 x10).2) (k0_t3_loop i (word1 i x2)).trips
/-- After the first head's previous block. -/
def stP0 : VSt F := bstep (selPrev i (word0 i x2)) (View.ld x3 rQ0) (View.ld x6 rQ0) (View.ld x7 rS0) x4 x5 (k0_off7_inb i) ((stA i x2 x3 x4 x5 x6 x7 x9 x10).1, (stB i x2 x3 x4 x5 x6 x7 x9 x10).2)
/-- After the first head's diagonal block. -/
def stD0 : VSt F := bstep selDiag (View.ld x3 rQ0) (View.ld x6 rQ0) (View.ld x7 rS0) x4 x5 (k0_off8_inb i) (stP0 i x2 x3 x4 x5 x6 x7 x9 x10)
/-- After the second head's previous block. -/
def stP1 : VSt F := bstep (selPrev i (word1 i x2)) (View.ld x3 rQ1) (View.ld x6 rQ1) (View.ld x7 rS1) x4 x5 (k0_off9_inb i) ((stB i x2 x3 x4 x5 x6 x7 x9 x10).1, (stD0 i x2 x3 x4 x5 x6 x7 x9 x10).2)
/-- After the second head's diagonal block. -/
def stD1 : VSt F := bstep selDiag (View.ld x3 rQ1) (View.ld x6 rQ1) (View.ld x7 rS1) x4 x5 (k0_off10_inb i) (stP1 i x2 x3 x4 x5 x6 x7 x9 x10)

/-- The query gradient's block: one head per column half. -/
def outQ : List (View.Piece (Elt F) S256x256 .bf16) :=
  [⟨rQ1, truncf .bf16 (stD1 i x2 x3 x4 x5 x6 x7 x9 x10).1.2.2 bitsLt_bf16_f32⟩, ⟨rQ0, truncf .bf16 (stD0 i x2 x3 x4 x5 x6 x7 x9 x10).1.2.2 bitsLt_bf16_f32⟩]

end Body

end Cert.KernelIdeal.Bwd

end
-- ==== Proof.State.lean ====
/-
  The two loops over the unmasked key blocks: what one trip leaves of the carried row sums and of the two
  accumulators, by recursion on the trip, and the loops' invariants.
-/
module

public import proofs.«01_k».proof.Proof.Step
public import proofs.«01_k».proof.Proof.Gen.KernelIdeal.Frame
public import Idealize.ShloMosaic.Lib.Exec
public import Idealize.ShloMosaic.Lib.Tactic
public import Idealize.ShloMosaic.Lib.Pipeline.Kit

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- A sequence given by its first term and the others. -/
abbrev pick {α : Type} (G : α) (f : ℕ → α) (n : ℕ) : α := Nat.rec (motive := fun _ => α) G (fun k _ => f (k + 1)) n

theorem pick_eq {α : Type} (G : α) (f : ℕ → α) (h : f 0 = G) (n : ℕ) : pick G f n = f n := by
  cases n with
  | zero => exact h.symm
  | succ n => rfl

section Loops

variable (c : Dev nD) (i : grid0.Coords)
  (arg2 : Memref sig .tc .smem S16x32 .f32) (harg2 : arg2.IsWhole) (arg3 : Memref sig .tc .vmem S256x256 .bf16) (harg3 : arg3.IsWhole)
  (arg4 : Memref sig .tc .vmem S8192x256 .bf16) (harg4 : arg4.IsWhole) (arg5 : Memref sig .tc .vmem S8192x256 .bf16) (harg5 : arg5.IsWhole)
  (arg6 : Memref sig .tc .vmem S256x256 .bf16) (harg6 : arg6.IsWhole) (arg7 : Memref sig .tc .vmem S2x256x128 .f32) (harg7 : arg7.IsWhole)
  (arg8 : Memref sig .tc .vmem S256x256 .bf16) (harg8 : arg8.IsWhole) (arg9 : Memref sig .tc .vmem S8192x256 .f32) (harg9 : arg9.IsWhole)
  (arg10 : Memref sig .tc .vmem S8192x256 .f32) (harg10 : arg10.IsWhole)

variable (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty)

/-- What the two heads' loops pass from trip to trip: the carried values and the two accumulators' contents. -/
abbrev RawSt (F : FTy → Type) (arg9 arg10 : Memref sig .tc .vmem S8192x256 .f32) : Type :=
  Carry F × BufTy.Contents (Elt F) arg9.view.ty × BufTy.Contents (Elt F) arg10.view.ty

/-- One unmasked block of the first head. -/
def raw1 {off : Fin 2 → ℕ} (h : ∀ a, off a + S256x128.size a ≤ S8192x256.size a) (s : RawSt F arg9 arg10) : RawSt F arg9 arg10 :=
  let q := arg3.view.readAt (Elt F) rQ0.toLoadRect X3
  let d := arg6.view.readAt (Elt F) rQ0.toLoadRect X6
  let k := arg4.view.readAt (Elt F) (rB h).toLoadRect X4
  let v := arg5.view.readAt (Elt F) (rB h).toLoadRect X5
  let t := arg7.view.readAt (Elt F) rS0.toLoadRect X7
  let g := k0_pay9 (k0_pay35 (F := F)) s.1.1 q d k v t
  let p := k0_pay10 (k0_pay35 (F := F)) (k0_pay36 (F := F)) s.1.1 s.1.2.1 q d k v t
  ((k0_pay7 s.1.1 q k, k0_pay43 s.1.2.1 g, k0_pay44 s.1.2.2 k g p (k0_pay11 q k)),
    arg9.view.writes (Elt F) s.2.1 [⟨rB h, k0_pay41 q g p (k0_pay11 q k) (arg9.view.readAt (Elt F) (rB h).toLoadRect s.2.1)⟩],
    arg10.view.writes (Elt F) s.2.2 [⟨rB h, k0_pay42 d (k0_pay8 (k0_pay35 (F := F)) s.1.1 q k t) (arg10.view.readAt (Elt F) (rB h).toLoadRect s.2.2)⟩])

/-- One unmasked block of the second head. -/
def raw3 (v8 v12 : FVec F S256x256 .bf16) {off : Fin 2 → ℕ} (h : ∀ a, off a + S256x128.size a ≤ S8192x256.size a) (s : RawSt F arg9 arg10) : RawSt F arg9 arg10 :=
  let q := arg3.view.readAt (Elt F) rQ1.toLoadRect X3
  let d := arg6.view.readAt (Elt F) rQ1.toLoadRect X6
  let k := arg4.view.readAt (Elt F) (rB h).toLoadRect X4
  let v := arg5.view.readAt (Elt F) (rB h).toLoadRect X5
  let t := arg7.view.readAt (Elt F) rS1.toLoadRect X7
  let g := k0_pay23 v8 s.1.1 q d k v t
  let p := k0_pay24 v8 v12 s.1.1 s.1.2.1 q d k v t
  ((k0_pay21 s.1.1 q k, k0_pay56 s.1.2.1 g, k0_pay57 s.1.2.2 k g p (k0_pay25 q k)),
    arg9.view.writes (Elt F) s.2.1 [⟨rB h, k0_pay54 q g p (k0_pay25 q k) (arg9.view.readAt (Elt F) (rB h).toLoadRect s.2.1)⟩],
    arg10.view.writes (Elt F) s.2.2 [⟨rB h, k0_pay55 d (k0_pay22 v8 s.1.1 q k t) (arg10.view.readAt (Elt F) (rB h).toLoadRect s.2.2)⟩])

/-- The first head's state before trip `n`. -/
def rst1 (v : BitVec 32) (s : RawSt F arg9 arg10) : ℕ → RawSt F arg9 arg10
  | 0 => s
  | n + 1 => if h : n < (k0_t1_loop i v).trips
      then raw1 arg3 arg4 arg5 arg6 arg7 arg9 arg10 X3 X4 X5 X6 X7 (k0_off2_inb i v (chk1 i v) ⟨n, h⟩) (rst1 v s n)
      else rst1 v s n

/-- The second head's state before trip `n`. -/
def rst3 (v8 v12 : FVec F S256x256 .bf16) (v : BitVec 32) (s : RawSt F arg9 arg10) : ℕ → RawSt F arg9 arg10
  | 0 => s
  | n + 1 => if h : n < (k0_t3_loop i v).trips
      then raw3 arg3 arg4 arg5 arg6 arg7 arg9 arg10 X3 X4 X5 X6 X7 v8 v12 (k0_off5_inb i v (chk2 i v) ⟨n, h⟩) (rst3 v8 v12 v s n)
      else rst3 v8 v12 v s n

abbrev Held (s9 : BufTy.Contents (Elt F) arg9.view.ty) (s10 : BufTy.Contents (Elt F) arg10.view.ty) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7)
    ∗ (arg9.view.loc (c : Thread nD τ) ↦[arg9.view.set]{fullShare} s9) ∗ (arg10.view.loc (c : Thread nD τ) ↦[arg10.view.set]{fullShare} s10))

theorem trip1 (E : Set ℕ) (v : BitVec 32) (hw : k0_chk1 i v) (v20 : BitVec 32) (k : Fin (k0_t1_loop i v).trips) (s s' : RawSt F arg9 arg10)
    (hs : s' = raw1 arg3 arg4 arg5 arg6 arg7 arg9 arg10 X3 X4 X5 X6 X7 (k0_off2_inb i v hw k) s) :
    Held c arg3 arg4 arg5 arg6 arg7 arg9 arg10 X3 X4 X5 X6 X7 s.2.1 s.2.2
    ⊢ wp frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 v hw v20 k s.1)
        (fun yld => iprop(⌜yld = s'.1⌝
          ∗ Held c arg3 arg4 arg5 arg6 arg7 arg9 arg10 X3 X4 X5 X6 X7
            s'.2.1
            s'.2.2)) := by
  subst hs
  unfold k0_t1_body
  iintro ⟨H3, H4, H5, H6, H7, H9, H10⟩
  sl_exec
  sl_step
  isplitr
  · ipureintro; rfl
  isplitl [H3]; · iexact H3
  isplitl [H4]; · iexact H4
  isplitl [H5]; · iexact H5
  isplitl [H6]; · iexact H6
  isplitl [H7]; · iexact H7
  isplitl [H9]; · iexact H9
  iexact H10

theorem trip3 (E : Set ℕ) (arg1 : BitVec 32) (v8 v12 : FVec F S256x256 .bf16)
    (v20 : BitVec 32) (v : BitVec 32) (hw : k0_chk2 i v) (v39 v40 : BitVec 32) (k : Fin (k0_t3_loop i v).trips) (s s' : RawSt F arg9 arg10)
    (hs : s' = raw3 arg3 arg4 arg5 arg6 arg7 arg9 arg10 X3 X4 X5 X6 X7 v8 v12 (k0_off5_inb i v hw k) s) :
    Held c arg3 arg4 arg5 arg6 arg7 arg9 arg10 X3 X4 X5 X6 X7 s.2.1 s.2.2
    ⊢ wp frame (wpE (defs₀ (F := F)) Variants.none (c : Thread nD τ) none) E
        (k0_t3_body (F := F) i arg2 harg2 arg3 harg3 arg4 harg4 arg5 harg5 arg6 harg6 arg7 harg7 arg8 harg8 arg9 harg9 arg10 harg10 arg1 v8 v12 v20 v hw v39 v40 k s.1)
        (fun yld => iprop(⌜yld = s'.1⌝
          ∗ Held c arg3 arg4 arg5 arg6 arg7 arg9 arg10 X3 X4 X5 X6 X7
            s'.2.1
            s'.2.2)) := by
  subst hs
  unfold k0_t3_body
  iintro ⟨H3, H4, H5, H6, H7, H9, H10⟩
  sl_exec
  sl_step
  isplitr
  · ipureintro; rfl
  isplitl [H3]; · iexact H3
  isplitl [H4]; · iexact H4
  isplitl [H5]; · iexact H5
  isplitl [H6]; · iexact H6
  isplitl [H7]; · iexact H7
  isplitl [H9]; · iexact H9
  iexact H10

/-- The loop's invariant: the arrays read as they stand, and after `n` trips the accumulators and what is carried at the recursion's value. -/
abbrev linv1 (v : BitVec 32) (G9 : BufTy.Contents (Elt F) arg9.view.ty) (G10 : BufTy.Contents (Elt F) arg10.view.ty)
    (init : Carry F) (n : ℕ) (acc : Carry F) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7)
    ∗ (∃ f, (arg9.view.loc (c : Thread nD τ) ↦[arg9.view.set]{fullShare} f) ∗ ⌜f = pick G9 (fun n => (rst1 i arg3 arg4 arg5 arg6 arg7 arg9 arg10 X3 X4 X5 X6 X7 v (init, G9, G10) n).2.1) n⌝)
    ∗ (∃ f, (arg10.view.loc (c : Thread nD τ) ↦[arg10.view.set]{fullShare} f) ∗ ⌜f = pick G10 (fun n => (rst1 i arg3 arg4 arg5 arg6 arg7 arg9 arg10 X3 X4 X5 X6 X7 v (init, G9, G10) n).2.2) n⌝)
    ∗ ⌜acc = (rst1 i arg3 arg4 arg5 arg6 arg7 arg9 arg10 X3 X4 X5 X6 X7 v (init, G9, G10) n).1⌝)

theorem rst1_succ (v : BitVec 32) (s : RawSt F arg9 arg10) (k : Fin (k0_t1_loop i v).trips) :
    rst1 i arg3 arg4 arg5 arg6 arg7 arg9 arg10 X3 X4 X5 X6 X7 v s (k.val + 1) = raw1 arg3 arg4 arg5 arg6 arg7 arg9 arg10 X3 X4 X5 X6 X7 (k0_off2_inb i v (chk1 i v) k) (rst1 i arg3 arg4 arg5 arg6 arg7 arg9 arg10 X3 X4 X5 X6 X7 v s k.val) := by
  simp only [rst1, dif_pos k.isLt]

set_option warn.classDefReducibility false in
/-- The loop by its invariant. -/
@[sl_loop] def loop1 (E : Set ℕ) (v : BitVec 32) (hw : k0_chk1 i v) (v20 : BitVec 32)
    (G9 : BufTy.Contents (Elt F) arg9.view.ty) (G10 : BufTy.Contents (Elt F) arg10.view.ty) (init : Carry F) :
    LoopInv (M := 𝕄) Idealize.ShloMosaic.frame (wpE (defs₀ (F := F)) Variants.none (c : Thread nD τ) none) E
      (k0_t1_loop i v).lb (k0_t1_loop i v).ub (k0_t1_loop i v).st (k0_t1_ok i v hw) init
      (k0_t1_body (F := F) i arg2 harg2 arg3 harg3 arg4 harg4 arg5 harg5 arg6 harg6 arg7 harg7 arg8 harg8 arg9 harg9 arg10 harg10 v hw v20) where
  inv := linv1 c i arg3 arg4 arg5 arg6 arg7 arg9 arg10 X3 X4 X5 X6 X7 v G9 G10 init
  step k acc := by
    iintro ⟨H3, H4, H5, H6, H7, ⟨%f9, H9, %h9⟩, ⟨%f10, H10, %h10⟩, %hacc⟩
    rw [pick_eq G9 (fun n => (rst1 i arg3 arg4 arg5 arg6 arg7 arg9 arg10 X3 X4 X5 X6 X7 v (init, G9, G10) n).2.1) rfl] at h9
    rw [pick_eq G10 (fun n => (rst1 i arg3 arg4 arg5 arg6 arg7 arg9 arg10 X3 X4 X5 X6 X7 v (init, G9, G10) n).2.2) rfl] at h10
    subst h9 h10 hacc
    iapply (wp_wand_r Idealize.ShloMosaic.frame (wpE (defs₀ (F := F)) Variants.none (c : Thread nD τ) none) E)
    isplitl [H3 H4 H5 H6 H7 H9 H10]
    · iapply (trip1 c i arg2 harg2 arg3 harg3 arg4 harg4 arg5 harg5 arg6 harg6 arg7 harg7 arg8 harg8 arg9 harg9 arg10 harg10 X3 X4 X5 X6 X7 E v hw v20 k (rst1 i arg3 arg4 arg5 arg6 arg7 arg9 arg10 X3 X4 X5 X6 X7 v (init, G9, G10) k.val)
        (rst1 i arg3 arg4 arg5 arg6 arg7 arg9 arg10 X3 X4 X5 X6 X7 v (init, G9, G10) (k.val + 1)) (rst1_succ i arg3 arg4 arg5 arg6 arg7 arg9 arg10 X3 X4 X5 X6 X7 v (init, G9, G10) k))
      isplitl [H3]; · iexact H3
      isplitl [H4]; · iexact H4
      isplitl [H5]; · iexact H5
      isplitl [H6]; · iexact H6
      isplitl [H7]; · iexact H7
      isplitl [H9]; · iexact H9
      iexact H10
    · iintro %yld ⟨%hres, H3, H4, H5, H6, H7, H9, H10⟩
      isplitl [H3]; · iexact H3
      isplitl [H4]; · iexact H4
      isplitl [H5]; · iexact H5
      isplitl [H6]; · iexact H6
      isplitl [H7]; · iexact H7
      isplitl [H9]
      · iexists _; isplitl [H9]; · iexact H9
        ipureintro; rfl
      isplitl [H10]
      · iexists _; isplitl [H10]; · iexact H10
        ipureintro; rfl
      ipureintro; exact hres

/-- The loop's invariant: the arrays read as they stand, and after `n` trips the accumulators and what is carried at the recursion's value. -/
abbrev linv3 (v8 v12 : FVec F S256x256 .bf16) (v : BitVec 32) (G9 : BufTy.Contents (Elt F) arg9.view.ty) (G10 : BufTy.Contents (Elt F) arg10.view.ty)
    (init : Carry F) (n : ℕ) (acc : Carry F) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7)
    ∗ (∃ f, (arg9.view.loc (c : Thread nD τ) ↦[arg9.view.set]{fullShare} f) ∗ ⌜f = pick G9 (fun n => (rst3 i arg3 arg4 arg5 arg6 arg7 arg9 arg10 X3 X4 X5 X6 X7 v8 v12 v (init, G9, G10) n).2.1) n⌝)
    ∗ (∃ f, (arg10.view.loc (c : Thread nD τ) ↦[arg10.view.set]{fullShare} f) ∗ ⌜f = pick G10 (fun n => (rst3 i arg3 arg4 arg5 arg6 arg7 arg9 arg10 X3 X4 X5 X6 X7 v8 v12 v (init, G9, G10) n).2.2) n⌝)
    ∗ ⌜acc = (rst3 i arg3 arg4 arg5 arg6 arg7 arg9 arg10 X3 X4 X5 X6 X7 v8 v12 v (init, G9, G10) n).1⌝)

theorem rst3_succ (v8 v12 : FVec F S256x256 .bf16) (v : BitVec 32) (s : RawSt F arg9 arg10) (k : Fin (k0_t3_loop i v).trips) :
    rst3 i arg3 arg4 arg5 arg6 arg7 arg9 arg10 X3 X4 X5 X6 X7 v8 v12 v s (k.val + 1) = raw3 arg3 arg4 arg5 arg6 arg7 arg9 arg10 X3 X4 X5 X6 X7 v8 v12 (k0_off5_inb i v (chk2 i v) k) (rst3 i arg3 arg4 arg5 arg6 arg7 arg9 arg10 X3 X4 X5 X6 X7 v8 v12 v s k.val) := by
  simp only [rst3, dif_pos k.isLt]

set_option warn.classDefReducibility false in
/-- The loop by its invariant. -/
@[sl_loop] def loop3 (E : Set ℕ) (v8 v12 : FVec F S256x256 .bf16) (v : BitVec 32) (hw : k0_chk2 i v) (v40 : BitVec 32)
    (G9 : BufTy.Contents (Elt F) arg9.view.ty) (G10 : BufTy.Contents (Elt F) arg10.view.ty) (init : Carry F) :
    LoopInv (M := 𝕄) Idealize.ShloMosaic.frame (wpE (defs₀ (F := F)) Variants.none (c : Thread nD τ) none) E
      (k0_t3_loop i v).lb (k0_t3_loop i v).ub (k0_t3_loop i v).st (k0_t3_ok i v hw) init
      (k0_t3_body (F := F) i arg2 harg2 arg3 harg3 arg4 harg4 arg5 harg5 arg6 harg6 arg7 harg7 arg8 harg8 arg9 harg9 arg10 harg10 0#32 v8 v12 0#32 v hw 0#32 v40) where
  inv := linv3 c i arg3 arg4 arg5 arg6 arg7 arg9 arg10 X3 X4 X5 X6 X7 v8 v12 v G9 G10 init
  step k acc := by
    iintro ⟨H3, H4, H5, H6, H7, ⟨%f9, H9, %h9⟩, ⟨%f10, H10, %h10⟩, %hacc⟩
    rw [pick_eq G9 (fun n => (rst3 i arg3 arg4 arg5 arg6 arg7 arg9 arg10 X3 X4 X5 X6 X7 v8 v12 v (init, G9, G10) n).2.1) rfl] at h9
    rw [pick_eq G10 (fun n => (rst3 i arg3 arg4 arg5 arg6 arg7 arg9 arg10 X3 X4 X5 X6 X7 v8 v12 v (init, G9, G10) n).2.2) rfl] at h10
    subst h9 h10 hacc
    iapply (wp_wand_r Idealize.ShloMosaic.frame (wpE (defs₀ (F := F)) Variants.none (c : Thread nD τ) none) E)
    isplitl [H3 H4 H5 H6 H7 H9 H10]
    · iapply (trip3 c i arg2 harg2 arg3 harg3 arg4 harg4 arg5 harg5 arg6 harg6 arg7 harg7 arg8 harg8 arg9 harg9 arg10 harg10 X3 X4 X5 X6 X7 E 0#32 v8 v12 0#32 v hw 0#32 v40 k (rst3 i arg3 arg4 arg5 arg6 arg7 arg9 arg10 X3 X4 X5 X6 X7 v8 v12 v (init, G9, G10) k.val)
        (rst3 i arg3 arg4 arg5 arg6 arg7 arg9 arg10 X3 X4 X5 X6 X7 v8 v12 v (init, G9, G10) (k.val + 1)) (rst3_succ i arg3 arg4 arg5 arg6 arg7 arg9 arg10 X3 X4 X5 X6 X7 v8 v12 v (init, G9, G10) k))
      isplitl [H3]; · iexact H3
      isplitl [H4]; · iexact H4
      isplitl [H5]; · iexact H5
      isplitl [H6]; · iexact H6
      isplitl [H7]; · iexact H7
      isplitl [H9]; · iexact H9
      iexact H10
    · iintro %yld ⟨%hres, H3, H4, H5, H6, H7, H9, H10⟩
      isplitl [H3]; · iexact H3
      isplitl [H4]; · iexact H4
      isplitl [H5]; · iexact H5
      isplitl [H6]; · iexact H6
      isplitl [H7]; · iexact H7
      isplitl [H9]
      · iexists _; isplitl [H9]; · iexact H9
        ipureintro; rfl
      isplitl [H10]
      · iexists _; isplitl [H10]; · iexact H10
        ipureintro; rfl
      ipureintro; exact hres

set_option warn.classDefReducibility false in
/-- The remainder loop: it makes no trip. -/
@[sl_loop] def loop2 (E : Set ℕ) (v : BitVec 32) (hw : k0_chk1 i v) (v30 : BitVec 32) (init : Carry F) :
    LoopInv (M := 𝕄) Idealize.ShloMosaic.frame (wpE (defs₀ (F := F)) Variants.none (c : Thread nD τ) none) E
      (k0_t2_loop i v).lb (k0_t2_loop i v).ub (k0_t2_loop i v).st (k0_t2_ok i v hw) init
      (k0_t2_body (F := F) i arg2 harg2 arg3 harg3 arg4 harg4 arg5 harg5 arg6 harg6 arg7 harg7 arg8 harg8 arg9 harg9 arg10 harg10 v hw v30) where
  inv _ acc := iprop(⌜acc = init⌝)
  step k _ := absurd k.isLt (by have h : (k0_t2_loop i v).trips = 0 := trips2 i v; show ¬ k.val < (k0_t2_loop i v).trips; omega)

set_option warn.classDefReducibility false in
/-- The remainder loop: it makes no trip. -/
@[sl_loop] def loop4 (E : Set ℕ) (v8 v12 : FVec F S256x256 .bf16) (v : BitVec 32) (hw : k0_chk2 i v) (v50 : BitVec 32) (init : Carry F) :
    LoopInv (M := 𝕄) Idealize.ShloMosaic.frame (wpE (defs₀ (F := F)) Variants.none (c : Thread nD τ) none) E
      (k0_t4_loop i v).lb (k0_t4_loop i v).ub (k0_t4_loop i v).st (k0_t4_ok i v hw) init
      (k0_t4_body (F := F) i arg2 harg2 arg3 harg3 arg4 harg4 arg5 harg5 arg6 harg6 arg7 harg7 arg8 harg8 arg9 harg9 arg10 harg10 0#32 v8 v12 0#32 v hw 0#32 v50) where
  inv _ acc := iprop(⌜acc = init⌝)
  step k _ := absurd k.isLt (by have h : (k0_t4_loop i v).trips = 0 := trips4 i v; show ¬ k.val < (k0_t4_loop i v).trips; omega)

end Loops

end Cert.KernelIdeal.Bwd

end
-- ==== Proof.RunB.lean ====
module

public import proofs.«01_k».proof.Proof.State

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

variable (i : grid0.Coords)

local notation "𝕄" => MT nD τ sig Unit (Elt F) ℕ (UR sig nD τ) ℕ

instance : ClosedOff (k0_off7 i) := ⟨![256 * prv i, 0], off7_eq i⟩
instance : ClosedOff (k0_off8 i) := ⟨![256 * (i 1).val, 0], off8_eq i⟩
instance : ClosedOff (k0_off9 i) := ⟨![256 * prv i, 128], off9_eq i⟩
instance : ClosedOff (k0_off10 i) := ⟨![256 * (i 1).val, 128], off10_eq i⟩

abbrev cond0 : Prop := (Scalar.cmpi .ne (Scalar.extui (Scalar.cmpi .eq (BitVec.ofNat 32 (i 1).val) 0#32)) 0#32) = 1#1

set_option maxHeartbeats 4000000 in
noncomputable def runB (c : Dev nD)
  (arg2 : Memref sig .tc .smem S16x32 .f32) (harg2 : arg2.IsWhole) (arg3 : Memref sig .tc .vmem S256x256 .bf16) (harg3 : arg3.IsWhole)
  (arg4 : Memref sig .tc .vmem S8192x256 .bf16) (harg4 : arg4.IsWhole) (arg5 : Memref sig .tc .vmem S8192x256 .bf16) (harg5 : arg5.IsWhole)
  (arg6 : Memref sig .tc .vmem S256x256 .bf16) (harg6 : arg6.IsWhole) (arg7 : Memref sig .tc .vmem S2x256x128 .f32) (harg7 : arg7.IsWhole)
  (arg8 : Memref sig .tc .vmem S256x256 .bf16) (harg8 : arg8.IsWhole) (arg9 : Memref sig .tc .vmem S8192x256 .f32) (harg9 : arg9.IsWhole)
  (arg10 : Memref sig .tc .vmem S8192x256 .f32) (harg10 : arg10.IsWhole) (hc0 : ¬ cond0 i) (hi : 0 < (i 1).val)
  (f2 : BufTy.Contents (Elt F) arg2.view.ty) (f3 : BufTy.Contents (Elt F) arg3.view.ty) (f4 : BufTy.Contents (Elt F) arg4.view.ty) (f5 : BufTy.Contents (Elt F) arg5.view.ty)
  (f6 : BufTy.Contents (Elt F) arg6.view.ty) (f7 : BufTy.Contents (Elt F) arg7.view.ty) (f9 : BufTy.Contents (Elt F) arg9.view.ty) (f10 : BufTy.Contents (Elt F) arg10.view.ty) :
  Σ' (L8 : List (View.Piece (Elt F) S256x256 .bf16)) (L9 : BufTy.Contents (Elt F) arg9.view.ty), { L10 : BufTy.Contents (Elt F) arg10.view.ty //
   ∀ (E : Set ℕ) (K : PUnit → sProp 𝕄) (f8 : BufTy.Contents (Elt F) arg8.view.ty),
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} f8)
    ∗ (arg9.view.loc (c : Thread nD τ) ↦[arg9.view.set]{fullShare} f9) ∗ (arg10.view.loc (c : Thread nD τ) ↦[arg10.view.set]{fullShare} f10)
    ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} arg8.view.writes (Elt F) f8 L8)
    ∗ (arg9.view.loc (c : Thread nD τ) ↦[arg9.view.set]{fullShare} L9) ∗ (arg10.view.loc (c : Thread nD τ) ↦[arg10.view.set]{fullShare} L10)) -∗ K ⟨⟩))
    ⊢ wp frame (wpE (defs₀ (F := F)) Variants.none (c : Thread nD τ) none) E
        (cc0_attn_bwd (F := F) i arg2 harg2 arg3 harg3 arg4 harg4 arg5 harg5 arg6 harg6 arg7 harg7 arg8 harg8 arg9 harg9 arg10 harg10) K } := by
  refine ⟨?_, ?_, ?_, fun E K f8 => ?run⟩
  case run =>
    simp only [cc0_attn_bwd_eq_skeleton]; unfold cc0_attn_bwd_skel
    iintro ⟨H2, H3, H4, H5, H6, H7, H8, H9, H10, Hk⟩
    sl_exec (disch := first | sl_exact hc0 | exact chk1 _ _ | exact chk2 _ _)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Bwd

end
-- ==== Proof.RunA.lean ====
module

public import proofs.«01_k».proof.Proof.RunB

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

variable (i : grid0.Coords)

local notation "𝕄" => MT nD τ sig Unit (Elt F) ℕ (UR sig nD τ) ℕ

set_option maxHeartbeats 4000000 in
noncomputable def runA (c : Dev nD)
  (arg2 : Memref sig .tc .smem S16x32 .f32) (harg2 : arg2.IsWhole) (arg3 : Memref sig .tc .vmem S256x256 .bf16) (harg3 : arg3.IsWhole)
  (arg4 : Memref sig .tc .vmem S8192x256 .bf16) (harg4 : arg4.IsWhole) (arg5 : Memref sig .tc .vmem S8192x256 .bf16) (harg5 : arg5.IsWhole)
  (arg6 : Memref sig .tc .vmem S256x256 .bf16) (harg6 : arg6.IsWhole) (arg7 : Memref sig .tc .vmem S2x256x128 .f32) (harg7 : arg7.IsWhole)
  (arg8 : Memref sig .tc .vmem S256x256 .bf16) (harg8 : arg8.IsWhole) (arg9 : Memref sig .tc .vmem S8192x256 .f32) (harg9 : arg9.IsWhole)
  (arg10 : Memref sig .tc .vmem S8192x256 .f32) (harg10 : arg10.IsWhole) (hc0 : cond0 i) (hi : (i 1).val = 0)
  (f2 : BufTy.Contents (Elt F) arg2.view.ty) (f3 : BufTy.Contents (Elt F) arg3.view.ty) (f4 : BufTy.Contents (Elt F) arg4.view.ty) (f5 : BufTy.Contents (Elt F) arg5.view.ty)
  (f6 : BufTy.Contents (Elt F) arg6.view.ty) (f7 : BufTy.Contents (Elt F) arg7.view.ty) (f9 : BufTy.Contents (Elt F) arg9.view.ty) (f10 : BufTy.Contents (Elt F) arg10.view.ty) :
  Σ' (L8 : List (View.Piece (Elt F) S256x256 .bf16)) (L9 : BufTy.Contents (Elt F) arg9.view.ty), { L10 : BufTy.Contents (Elt F) arg10.view.ty //
   ∀ (E : Set ℕ) (K : PUnit → sProp 𝕄) (f8 : BufTy.Contents (Elt F) arg8.view.ty),
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} f8)
    ∗ (arg9.view.loc (c : Thread nD τ) ↦[arg9.view.set]{fullShare} f9) ∗ (arg10.view.loc (c : Thread nD τ) ↦[arg10.view.set]{fullShare} f10)
    ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} arg8.view.writes (Elt F) f8 L8)
    ∗ (arg9.view.loc (c : Thread nD τ) ↦[arg9.view.set]{fullShare} L9) ∗ (arg10.view.loc (c : Thread nD τ) ↦[arg10.view.set]{fullShare} L10)) -∗ K ⟨⟩))
    ⊢ wp frame (wpE (defs₀ (F := F)) Variants.none (c : Thread nD τ) none) E
        (cc0_attn_bwd (F := F) i arg2 harg2 arg3 harg3 arg4 harg4 arg5 harg5 arg6 harg6 arg7 harg7 arg8 harg8 arg9 harg9 arg10 harg10) K } := by
  refine ⟨?_, ?_, ?_, fun E K f8 => ?run⟩
  case run =>
    simp only [cc0_attn_bwd_eq_skeleton]; unfold cc0_attn_bwd_skel
    iintro ⟨H2, H3, H4, H5, H6, H7, H8, H9, H10, Hk⟩
    sl_exec (disch := first | sl_exact hc0 | exact chk1 _ _ | exact chk2 _ _)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Bwd

end
-- ==== Proof.OutB.lean ====
/-
  What the body's run leaves in the accumulators and in the query-gradient block, as the function of the windows'
  values of the block step.
-/
module

public import proofs.«01_k».proof.Proof.RunA

@[expose] public section

set_option maxRecDepth 16384

noncomputable section

namespace Cert.KernelIdeal.Bwd

open Idealize.ShloMosaic Idealize.ShloMosaic.TcCoe
open Cert.KernelIdeal.Gen

variable {F : FTy → Type} [FloatOps F] [Named F]

section Final

variable (i : grid0.Coords) (c : Dev nD)
  (arg2 : Memref sig .tc .smem S16x32 .f32) (harg2 : arg2.IsWhole) (arg3 : Memref sig .tc .vmem S256x256 .bf16) (harg3 : arg3.IsWhole)
  (arg4 : Memref sig .tc .vmem S8192x256 .bf16) (harg4 : arg4.IsWhole) (arg5 : Memref sig .tc .vmem S8192x256 .bf16) (harg5 : arg5.IsWhole)
  (arg6 : Memref sig .tc .vmem S256x256 .bf16) (harg6 : arg6.IsWhole) (arg7 : Memref sig .tc .vmem S2x256x128 .f32) (harg7 : arg7.IsWhole)
  (arg8 : Memref sig .tc .vmem S256x256 .bf16) (harg8 : arg8.IsWhole) (arg9 : Memref sig .tc .vmem S8192x256 .f32) (harg9 : arg9.IsWhole)
  (arg10 : Memref sig .tc .vmem S8192x256 .f32) (harg10 : arg10.IsWhole)
  (f2 : BufTy.Contents (Elt F) arg2.view.ty) (f3 : BufTy.Contents (Elt F) arg3.view.ty) (f4 : BufTy.Contents (Elt F) arg4.view.ty) (f5 : BufTy.Contents (Elt F) arg5.view.ty)
  (f6 : BufTy.Contents (Elt F) arg6.view.ty) (f7 : BufTy.Contents (Elt F) arg7.view.ty) (f9 : BufTy.Contents (Elt F) arg9.view.ty) (f10 : BufTy.Contents (Elt F) arg10.view.ty)

/-- The contents after the first head's loop. -/
abbrev R1 (n : ℕ) : RawSt F arg9 arg10 :=
  rst1 i arg3 arg4 arg5 arg6 arg7 arg9 arg10 f3 f4 f5 f6 f7 (word0 i (arg2.view.read (Elt F) f2)) ((k0_pay37, k0_pay38, k0_pay39), f9, f10) n
abbrev T1 : ℕ := (k0_t1_loop i (word0 i (arg2.view.read (Elt F) f2))).trips
/-- The contents after the second head's loop. -/
abbrev R3 (g9 : BufTy.Contents (Elt F) arg9.view.ty) (g10 : BufTy.Contents (Elt F) arg10.view.ty) (n : ℕ) : RawSt F arg9 arg10 :=
  rst3 i arg3 arg4 arg5 arg6 arg7 arg9 arg10 f3 f4 f5 f6 f7 (k0_pay35 (F := F)) (k0_pay36 (F := F)) (word1 i (arg2.view.read (Elt F) f2)) ((k0_pay50, k0_pay51, k0_pay52), g9, g10) n
abbrev T3 : ℕ := (k0_t3_loop i (word1 i (arg2.view.read (Elt F) f2))).trips

section Pieces
variable (x2 : Vec F S16x32 .f32) (x3 : Vec F S256x256 .bf16) (x4 x5 : Vec F S8192x256 .bf16) (x6 : Vec F S256x256 .bf16) (x7 : Vec F S2x256x128 .f32) (c0 c1 : Carry F)
/-- The carried values after each head's previous block. -/
def cP0 : Carry F := bC (selPrev i (word0 i x2)) (View.ld x3 rQ0) (View.ld x6 rQ0) (View.ld x4 (rB (k0_off7_inb i))) (View.ld x5 (rB (k0_off7_inb i))) (View.ld x7 rS0) c0
def cP1 : Carry F := bC (selPrev i (word1 i x2)) (View.ld x3 rQ1) (View.ld x6 rQ1) (View.ld x4 (rB (k0_off9_inb i))) (View.ld x5 (rB (k0_off9_inb i))) (View.ld x7 rS1) c1
/-- The four last blocks' pieces of the key gradient, each from the accumulator's block it adds to. -/
def pK7 (x : Vec F S256x128 .f32) : View.Piece (Elt F) S8192x256 .f32 :=
  ⟨rB (k0_off7_inb i), bDk (selPrev i (word0 i x2)) (View.ld x3 rQ0) (View.ld x6 rQ0) (View.ld x4 (rB (k0_off7_inb i))) (View.ld x5 (rB (k0_off7_inb i))) (View.ld x7 rS0) c0 x⟩
def pK8 (x : Vec F S256x128 .f32) : View.Piece (Elt F) S8192x256 .f32 :=
  ⟨rB (k0_off8_inb i), bDk selDiag (View.ld x3 rQ0) (View.ld x6 rQ0) (View.ld x4 (rB (k0_off8_inb i))) (View.ld x5 (rB (k0_off8_inb i))) (View.ld x7 rS0) c0 x⟩
def pK9 (x : Vec F S256x128 .f32) : View.Piece (Elt F) S8192x256 .f32 :=
  ⟨rB (k0_off9_inb i), bDk (selPrev i (word1 i x2)) (View.ld x3 rQ1) (View.ld x6 rQ1) (View.ld x4 (rB (k0_off9_inb i))) (View.ld x5 (rB (k0_off9_inb i))) (View.ld x7 rS1) c1 x⟩
def pK10 (x : Vec F S256x128 .f32) : View.Piece (Elt F) S8192x256 .f32 :=
  ⟨rB (k0_off10_inb i), bDk selDiag (View.ld x3 rQ1) (View.ld x6 rQ1) (View.ld x4 (rB (k0_off10_inb i))) (View.ld x5 (rB (k0_off10_inb i))) (View.ld x7 rS1) c1 x⟩
/-- The same of the value gradient. -/
def pV7 (x : Vec F S256x128 .f32) : View.Piece (Elt F) S8192x256 .f32 :=
  ⟨rB (k0_off7_inb i), bDv (selPrev i (word0 i x2)) (View.ld x3 rQ0) (View.ld x6 rQ0) (View.ld x4 (rB (k0_off7_inb i))) (View.ld x7 rS0) c0 x⟩
def pV8 (x : Vec F S256x128 .f32) : View.Piece (Elt F) S8192x256 .f32 :=
  ⟨rB (k0_off8_inb i), bDv selDiag (View.ld x3 rQ0) (View.ld x6 rQ0) (View.ld x4 (rB (k0_off8_inb i))) (View.ld x7 rS0) c0 x⟩
def pV9 (x : Vec F S256x128 .f32) : View.Piece (Elt F) S8192x256 .f32 :=
  ⟨rB (k0_off9_inb i), bDv (selPrev i (word1 i x2)) (View.ld x3 rQ1) (View.ld x6 rQ1) (View.ld x4 (rB (k0_off9_inb i))) (View.ld x7 rS1) c1 x⟩
def pV10 (x : Vec F S256x128 .f32) : View.Piece (Elt F) S8192x256 .f32 :=
  ⟨rB (k0_off10_inb i), bDv selDiag (View.ld x3 rQ1) (View.ld x6 rQ1) (View.ld x4 (rB (k0_off10_inb i))) (View.ld x7 rS1) c1 x⟩
end Pieces
abbrev G9 : BufTy.Contents (Elt F) arg9.view.ty := pick f9 (fun n => (R1 i arg2 arg3 arg4 arg5 arg6 arg7 arg9 arg10 f2 f3 f4 f5 f6 f7 f9 f10 n).2.1) (T1 i arg2 f2)
abbrev G10 : BufTy.Contents (Elt F) arg10.view.ty := pick f10 (fun n => (R1 i arg2 arg3 arg4 arg5 arg6 arg7 arg9 arg10 f2 f3 f4 f5 f6 f7 f9 f10 n).2.2) (T1 i arg2 f2)
abbrev H9 : BufTy.Contents (Elt F) arg9.view.ty := pick (G9 i arg2 arg3 arg4 arg5 arg6 arg7 arg9 arg10 f2 f3 f4 f5 f6 f7 f9 f10)
  (fun n => (R3 i arg2 arg3 arg4 arg5 arg6 arg7 arg9 arg10 f2 f3 f4 f5 f6 f7 (G9 i arg2 arg3 arg4 arg5 arg6 arg7 arg9 arg10 f2 f3 f4 f5 f6 f7 f9 f10) (G10 i arg2 arg3 arg4 arg5 arg6 arg7 arg9 arg10 f2 f3 f4 f5 f6 f7 f9 f10) n).2.1) (T3 i arg2 f2)
abbrev H10 : BufTy.Contents (Elt F) arg10.view.ty := pick (G10 i arg2 arg3 arg4 arg5 arg6 arg7 arg9 arg10 f2 f3 f4 f5 f6 f7 f9 f10)
  (fun n => (R3 i arg2 arg3 arg4 arg5 arg6 arg7 arg9 arg10 f2 f3 f4 f5 f6 f7 (G9 i arg2 arg3 arg4 arg5 arg6 arg7 arg9 arg10 f2 f3 f4 f5 f6 f7 f9 f10) (G10 i arg2 arg3 arg4 arg5 arg6 arg7 arg9 arg10 f2 f3 f4 f5 f6 f7 f9 f10) n).2.2) (T3 i arg2 f2)
abbrev C0 : Carry F := (R1 i arg2 arg3 arg4 arg5 arg6 arg7 arg9 arg10 f2 f3 f4 f5 f6 f7 f9 f10 (T1 i arg2 f2)).1
abbrev C1 : Carry F := (R3 i arg2 arg3 arg4 arg5 arg6 arg7 arg9 arg10 f2 f3 f4 f5 f6 f7 (G9 i arg2 arg3 arg4 arg5 arg6 arg7 arg9 arg10 f2 f3 f4 f5 f6 f7 f9 f10) (G10 i arg2 arg3 arg4 arg5 arg6 arg7 arg9 arg10 f2 f3 f4 f5 f6 f7 f9 f10) (T3 i arg2 f2)).1

set_option maxHeartbeats 400000
attribute [local irreducible] rst1 rst3 Scf.trips
/-- The pieces the previous block of the first head leaves. -/
abbrev L7 : View.Piece (Elt F) S8192x256 .f32 := pK7 i (arg2.view.read (Elt F) f2) (arg3.view.read (Elt F) f3) (arg4.view.read (Elt F) f4) (arg5.view.read (Elt F) f5) (arg6.view.read (Elt F) f6) (arg7.view.read (Elt F) f7) (C0 i arg2 arg3 arg4 arg5 arg6 arg7 arg9 arg10 f2 f3 f4 f5 f6 f7 f9 f10) (View.ld (arg9.view.read (Elt F) (arg9.view.writes (Elt F) (H9 i arg2 arg3 arg4 arg5 arg6 arg7 arg9 arg10 f2 f3 f4 f5 f6 f7 f9 f10) [])) (rB (k0_off7_inb i)))
abbrev L8 : View.Piece (Elt F) S8192x256 .f32 := pK8 i (arg3.view.read (Elt F) f3) (arg4.view.read (Elt F) f4) (arg5.view.read (Elt F) f5) (arg6.view.read (Elt F) f6) (arg7.view.read (Elt F) f7) (cP0 i (arg2.view.read (Elt F) f2) (arg3.view.read (Elt F) f3) (arg4.view.read (Elt F) f4) (arg5.view.read (Elt F) f5) (arg6.view.read (Elt F) f6) (arg7.view.read (Elt F) f7) (C0 i arg2 arg3 arg4 arg5 arg6 arg7 arg9 arg10 f2 f3 f4 f5 f6 f7 f9 f10)) (View.ld (arg9.view.read (Elt F) (arg9.view.writes (Elt F) (H9 i arg2 arg3 arg4 arg5 arg6 arg7 arg9 arg10 f2 f3 f4 f5 f6 f7 f9 f10) [L7 i arg2 arg3 arg4 arg5 arg6 arg7 arg9 arg10 f2 f3 f4 f5 f6 f7 f9 f10])) (rB (k0_off8_inb i)))
abbrev L9 : View.Piece (Elt F) S8192x256 .f32 := pK9 i (arg2.view.read (Elt F) f2) (arg3.view.read (Elt F) f3) (arg4.view.read (Elt F) f4) (arg5.view.read (Elt F) f5) (arg6.view.read (Elt F) f6) (arg7.view.read (Elt F) f7) (C1 i arg2 arg3 arg4 arg5 arg6 arg7 arg9 arg10 f2 f3 f4 f5 f6 f7 f9 f10) (View.ld (arg9.view.read (Elt F) (arg9.view.writes (Elt F) (H9 i arg2 arg3 arg4 arg5 arg6 arg7 arg9 arg10 f2 f3 f4 f5 f6 f7 f9 f10) [])) (rB (k0_off9_inb i)))
abbrev L10 : View.Piece (Elt F) S8192x256 .f32 := pK10 i (arg3.view.read (Elt F) f3) (arg4.view.read (Elt F) f4) (arg5.view.read (Elt F) f5) (arg6.view.read (Elt F) f6) (arg7.view.read (Elt F) f7) (cP1 i (arg2.view.read (Elt F) f2) (arg3.view.read (Elt F) f3) (arg4.view.read (Elt F) f4) (arg5.view.read (Elt F) f5) (arg6.view.read (Elt F) f6) (arg7.view.read (Elt F) f7) (C1 i arg2 arg3 arg4 arg5 arg6 arg7 arg9 arg10 f2 f3 f4 f5 f6 f7 f9 f10)) (View.ld (arg9.view.read (Elt F) (arg9.view.writes (Elt F) (H9 i arg2 arg3 arg4 arg5 arg6 arg7 arg9 arg10 f2 f3 f4 f5 f6 f7 f9 f10) [L9 i arg2 arg3 arg4 arg5 arg6 arg7 arg9 arg10 f2 f3 f4 f5 f6 f7 f9 f10, L8 i arg2 arg3 arg4 arg5 arg6 arg7 arg9 arg10 f2 f3 f4 f5 f6 f7 f9 f10, L7 i arg2 arg3 arg4 arg5 arg6 arg7 arg9 arg10 f2 f3 f4 f5 f6 f7 f9 f10])) (rB (k0_off10_inb i)))

theorem runB_H91 : runB.sl.H9_1 i arg2 arg3 arg4 arg5 arg6 arg7 arg9 arg10 f2 f3 f4 f5 f6 f7 f9 f10 = [L7 i arg2 arg3 arg4 arg5 arg6 arg7 arg9 arg10 f2 f3 f4 f5 f6 f7 f9 f10] := by
  rfl

abbrev M7 : View.Piece (Elt F) S8192x256 .f32 := pV7 i (arg2.view.read (Elt F) f2) (arg3.view.read (Elt F) f3) (arg4.view.read (Elt F) f4) (arg6.view.read (Elt F) f6) (arg7.view.read (Elt F) f7) (C0 i arg2 arg3 arg4 arg5 arg6 arg7 arg9 arg10 f2 f3 f4 f5 f6 f7 f9 f10) (View.ld (arg10.view.read (Elt F) (arg10.view.writes (Elt F) (H10 i arg2 arg3 arg4 arg5 arg6 arg7 arg9 arg10 f2 f3 f4 f5 f6 f7 f9 f10) [])) (rB (k0_off7_inb i)))
abbrev M8 : View.Piece (Elt F) S8192x256 .f32 := pV8 i (arg3.view.read (Elt F) f3) (arg4.view.read (Elt F) f4) (arg6.view.read (Elt F) f6) (arg7.view.read (Elt F) f7) (cP0 i (arg2.view.read (Elt F) f2) (arg3.view.read (Elt F) f3) (arg4.view.read (Elt F) f4) (arg5.view.read (Elt F) f5) (arg6.view.read (Elt F) f6) (arg7.view.read (Elt F) f7) (C0 i arg2 arg3 arg4 arg5 arg6 arg7 arg9 arg10 f2 f3 f4 f5 f6 f7 f9 f10)) (View.ld (arg10.view.read (Elt F) (arg10.view.writes (Elt F) (H10 i arg2 arg3 arg4 arg5 arg6 arg7 arg9 arg10 f2 f3 f4 f5 f6 f7 f9 f10) [M7 i arg2 arg3 arg4 arg5 arg6 arg7 arg9 arg10 f2 f3 f4 f5 f6 f7 f9 f10])) (rB (k0_off8_inb i)))
abbrev M9 : View.Piece (Elt F) S8192x256 .f32 := pV9 i (arg2.view.read (Elt F) f2) (arg3.view.read (Elt F) f3) (arg4.view.read (Elt F) f4) (arg6.view.read (Elt F) f6) (arg7.view.read (Elt F) f7) (C1 i arg2 arg3 arg4 arg5 arg6 arg7 arg9 arg10 f2 f3 f4 f5 f6 f7 f9 f10) (View.ld (arg10.view.read (Elt F) (arg10.view.writes (Elt F) (H10 i arg2 arg3 arg4 arg5 arg6 arg7 arg9 arg10 f2 f3 f4 f5 f6 f7 f9 f10) [])) (rB (k0_off9_inb i)))
abbrev M10 : View.Piece (Elt F) S8192x256 .f32 := pV10 i (arg3.view.read (Elt F) f3) (arg4.view.read (Elt F) f4) (arg6.view.read (Elt F) f6) (arg7.view.read (Elt F) f7) (cP1 i (arg2.view.read (Elt F) f2) (arg3.view.read (Elt F) f3) (arg4.view.read (Elt F) f4) (arg5.view.read (Elt F) f5) (arg6.view.read (Elt F) f6) (arg7.view.read (Elt F) f7) (C1 i arg2 arg3 arg4 arg5 arg6 arg7 arg9 arg10 f2 f3 f4 f5 f6 f7 f9 f10)) (View.ld (arg10.view.read (Elt F) (arg10.view.writes (Elt F) (H10 i arg2 arg3 arg4 arg5 arg6 arg7 arg9 arg10 f2 f3 f4 f5 f6 f7 f9 f10) [M9 i arg2 arg3 arg4 arg5 arg6 arg7 arg9 arg10 f2 f3 f4 f5 f6 f7 f9 f10, M8 i arg2 arg3 arg4 arg5 arg6 arg7 arg9 arg10 f2 f3 f4 f5 f6 f7 f9 f10, M7 i arg2 arg3 arg4 arg5 arg6 arg7 arg9 arg10 f2 f3 f4 f5 f6 f7 f9 f10])) (rB (k0_off10_inb i)))
/-- The query gradient's two pieces from the carried values before the diagonal blocks. -/
def pQ (i : grid0.Coords) (x3 : Vec F S256x256 .bf16) (x4 x5 : Vec F S8192x256 .bf16) (x6 : Vec F S256x256 .bf16) (x7 : Vec F S2x256x128 .f32) (c0 c1 : Carry F) : List (View.Piece (Elt F) S256x256 .bf16) :=
  [⟨rQ1, truncf .bf16 (bC selDiag (View.ld x3 rQ1) (View.ld x6 rQ1) (View.ld x4 (rB (k0_off10_inb i))) (View.ld x5 (rB (k0_off10_inb i))) (View.ld x7 rS1) c1).2.2 bitsLt_bf16_f32⟩,
   ⟨rQ0, truncf .bf16 (bC selDiag (View.ld x3 rQ0) (View.ld x6 rQ0) (View.ld x4 (rB (k0_off8_inb i))) (View.ld x5 (rB (k0_off8_inb i))) (View.ld x7 rS0) c0).2.2 bitsLt_bf16_f32⟩]

theorem runB_H101 : runB.sl.H10_1 i arg2 arg3 arg4 arg5 arg6 arg7 arg9 arg10 f2 f3 f4 f5 f6 f7 f9 f10 = [M7 i arg2 arg3 arg4 arg5 arg6 arg7 arg9 arg10 f2 f3 f4 f5 f6 f7 f9 f10] := by
  rfl
theorem runB_H93 : runB.sl.H9_3 i arg2 arg3 arg4 arg5 arg6 arg7 arg9 arg10 f2 f3 f4 f5 f6 f7 f9 f10 = [L9 i arg2 arg3 arg4 arg5 arg6 arg7 arg9 arg10 f2 f3 f4 f5 f6 f7 f9 f10, L8 i arg2 arg3 arg4 arg5 arg6 arg7 arg9 arg10 f2 f3 f4 f5 f6 f7 f9 f10, L7 i arg2 arg3 arg4 arg5 arg6 arg7 arg9 arg10 f2 f3 f4 f5 f6 f7 f9 f10] := by
  rfl
theorem runB_H103 : runB.sl.H10_3 i arg2 arg3 arg4 arg5 arg6 arg7 arg9 arg10 f2 f3 f4 f5 f6 f7 f9 f10 = [M9 i arg2 arg3 arg4 arg5 arg6 arg7 arg9 arg10 f2 f3 f4 f5 f6 f7 f9 f10, M8 i arg2 arg3 arg4 arg5 arg6 arg7 arg9 arg10 f2 f3 f4 f5 f6 f7 f9 f10, M7 i arg2 arg3 arg4 arg5 arg6 arg7 arg9 arg10 f2 f3 f4 f5 f6 f7 f9 f10] := by
  rfl
theorem runB_9 (hc0 : ¬ cond0 i) (hi : 0 < (i 1).val) :
    (runB i c arg2 harg2 arg3 harg3 arg4 harg4 arg5 harg5 arg6 harg6 arg7 harg7 arg8 harg8 arg9 harg9 arg10 harg10 hc0 hi f2 f3 f4 f5 f6 f7 f9 f10).2.1
    = arg9.view.writes (Elt F) (H9 i arg2 arg3 arg4 arg5 arg6 arg7 arg9 arg10 f2 f3 f4 f5 f6 f7 f9 f10) [L10 i arg2 arg3 arg4 arg5 arg6 arg7 arg9 arg10 f2 f3 f4 f5 f6 f7 f9 f10, L9 i arg2 arg3 arg4 arg5 arg6 arg7 arg9 arg10 f2 f3 f4 f5 f6 f7 f9 f10, L8 i arg2 arg3 arg4 arg5 arg6 arg7 arg9 arg10 f2 f3 f4 f5 f6 f7 f9 f10, L7 i arg2 arg3 arg4 arg5 arg6 arg7 arg9 arg10 f2 f3 f4 f5 f6 f7 f9 f10] := by
  rfl
theorem runB_10 (hc0 : ¬ cond0 i) (hi : 0 < (i 1).val) :
    (runB i c arg2 harg2 arg3 harg3 arg4 harg4 arg5 harg5 arg6 harg6 arg7 harg7 arg8 harg8 arg9 harg9 arg10 harg10 hc0 hi f2 f3 f4 f5 f6 f7 f9 f10).2.2.1
    = arg10.view.writes (Elt F) (H10 i arg2 arg3 arg4 arg5 arg6 arg7 arg9 arg10 f2 f3 f4 f5 f6 f7 f9 f10) [M10 i arg2 arg3 arg4 arg5 arg6 arg7 arg9 arg10 f2 f3 f4 f5 f6 f7 f9 f10, M9 i arg2 arg3 arg4 arg5 arg6 arg7 arg9 arg10 f2 f3 f4 f5 f6 f7 f9 f10, M8 i arg2 arg3 arg4 arg5 arg6 arg7 arg9 arg10 f2 f3 f4 f5 f6 f7 f9 f10, M7 i arg2 arg3 arg4 arg5 arg6 arg7 arg9 arg10 f2 f3 f4 f5 f6 f7 f9 f10] := by
  rfl
theorem runB_8 (hc0 : ¬ cond0 i) (hi : 0 < (i 1).val) :
    (runB i c arg2 harg2 arg3 harg3 arg4 harg4 arg5 harg5 arg6 harg6 arg7 harg7 arg8 harg8 arg9 harg9 arg10 harg10 hc0 hi f2 f3 f4 f5 f6 f7 f9 f10).1
    = pQ i (arg3.view.read (Elt F) f3) (arg4.view.read (Elt F) f4) (arg5.view.read (Elt F) f5) (arg6.view.read (Elt F) f6) (arg7.view.read (Elt F) f7) (cP0 i (arg2.view.read (Elt F) f2) (arg3.view.read (Elt F) f3) (arg4.view.read (Elt F) f4) (arg5.view.read (Elt F) f5) (arg6.view.read (Elt F) f6) (arg7.view.read (Elt F) f7) (C0 i arg2 arg3 arg4 arg5 arg6 arg7 arg9 arg10 f2 f3 f4 f5 f6 f7 f9 f10)) (cP1 i (arg2.view.read (Elt F) f2) (arg3.view.read (Elt F) f3) (arg4.view.read (Elt F) f4) (arg5.view.read (Elt F) f5) (arg6.view.read (Elt F) f6) (arg7.view.read (Elt F) f7) (C1 i arg2 arg3 arg4 arg5 arg6 arg7 arg9 arg10 f2 f3 f4 f5 f6 f7 f9 f10)) := by
  rfl

theorem runA_9 (hc0 : cond0 i) (hi : (i 1).val = 0) :
    (runA i c arg2 harg2 arg3 harg3 arg4 harg4 arg5 harg5 arg6 harg6 arg7 harg7 arg8 harg8 arg9 harg9 arg10 harg10 hc0 hi f2 f3 f4 f5 f6 f7 f9 f10).2.1
    = arg9.view.writes (Elt F) (H9 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F)))) [L10 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))), L9 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))), L8 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))), L7 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F)))] := by
  rfl
theorem runA_10 (hc0 : cond0 i) (hi : (i 1).val = 0) :
    (runA i c arg2 harg2 arg3 harg3 arg4 harg4 arg5 harg5 arg6 harg6 arg7 harg7 arg8 harg8 arg9 harg9 arg10 harg10 hc0 hi f2 f3 f4 f5 f6 f7 f9 f10).2.2.1
    = arg10.view.writes (Elt F) (H10 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F)))) [M10 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))), M9 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))), M8 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))), M7 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F)))] := by
  rfl
theorem runA_8 (hc0 : cond0 i) (hi : (i 1).val = 0) :
    (runA i c arg2 harg2 arg3 harg3 arg4 harg4 arg5 harg5 arg6 harg6 arg7 harg7 arg8 harg8 arg9 harg9 arg10 harg10 hc0 hi f2 f3 f4 f5 f6 f7 f9 f10).1
    = pQ i (arg3.view.read (Elt F) f3) (arg4.view.read (Elt F) f4) (arg5.view.read (Elt F) f5) (arg6.view.read (Elt F) f6) (arg7.view.read (Elt F) f7) (cP0 i (arg2.view.read (Elt F) f2) (arg3.view.read (Elt F) f3) (arg4.view.read (Elt F) f4) (arg5.view.read (Elt F) f5) (arg6.view.read (Elt F) f6) (arg7.view.read (Elt F) f7) (C0 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))))) (cP1 i (arg2.view.read (Elt F) f2) (arg3.view.read (Elt F) f3) (arg4.view.read (Elt F) f4) (arg5.view.read (Elt F) f5) (arg6.view.read (Elt F) f6) (arg7.view.read (Elt F) f7) (C1 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))))) := by
  rfl
end Final

end Cert.KernelIdeal.Bwd

end
-- ==== Proof.Out.lean ====
/-
  What the body's run leaves in the accumulators and in the query-gradient block, as the function of the windows'
  values of the block step.
-/
module

public import proofs.«01_k».proof.Proof.OutB

@[expose] public section

set_option maxRecDepth 16384

noncomputable section

namespace Cert.KernelIdeal.Bwd

open Idealize.ShloMosaic Idealize.ShloMosaic.TcCoe
open Cert.KernelIdeal.Gen

variable {F : FTy → Type} [FloatOps F] [Named F]

/-- Writing one rectangle and reading back is replacing that rectangle's part. -/
theorem read_writes_cons_overlay {sig : RefSig} {κ : Kind} {sp : Space} {s : Shape} {e : EltTy} {Val : EltTy → Type}
    (v : View sig κ sp s e) (f : BufTy.Contents Val v.ty) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy]
    exact View.read_writes_cons_miss v f ⟨r, w⟩ L y hy

theorem read_writes_nil {sig : RefSig} {κ : Kind} {sp : Space} {s : Shape} {e : EltTy} {Val : EltTy → Type}
    (v : View sig κ sp s e) (f : BufTy.Contents Val v.ty) : v.read Val (v.writes Val f []) = v.read Val f := rfl

/-- A load of what was just stored. -/
theorem ld_overlay_self {s : Shape} {e : EltTy} {Val : EltTy → Type} (r : Rect s) (x : s.Idx → Val e) (w : r.shape.Idx → Val e) :
    View.ld (Val := Val) (r.overlay x w) r = w := by
  funext y; exact Rect.overlay_emb r x w y

/-- A load of a block apart from the stored one. -/
theorem ld_overlay_disj {s : Shape} {e : EltTy} {Val : EltTy → Type} (r r' : Rect s) (h : Disjoint r.set r'.set) (x : s.Idx → Val e)
    (w : r.shape.Idx → Val e) : View.ld (Val := Val) (r.overlay x w) r' = View.ld x r' := by
  funext y
  exact Rect.overlay_of_not_mem _ _ _ (fun hy => Finset.disjoint_left.mp h hy (r'.idx_mem y))

section Loops

variable (i : grid0.Coords)
  (arg3 : Memref sig .tc .vmem S256x256 .bf16) (arg4 : Memref sig .tc .vmem S8192x256 .bf16) (arg5 : Memref sig .tc .vmem S8192x256 .bf16)
  (arg6 : Memref sig .tc .vmem S256x256 .bf16) (arg7 : Memref sig .tc .vmem S2x256x128 .f32) (arg9 : Memref sig .tc .vmem S8192x256 .f32)
  (arg10 : Memref sig .tc .vmem S8192x256 .f32)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty)

/-- A raw state read through the accumulators' views. -/
def rd (s : RawSt F arg9 arg10) : VSt F := (s.1, arg9.view.read (Elt F) s.2.1, arg10.view.read (Elt F) s.2.2)

theorem rd_raw1 {off : Fin 2 → ℕ} (h : ∀ a, off a + S256x128.size a ≤ S8192x256.size a) (s : RawSt F arg9 arg10) :
    rd arg9 arg10 (raw1 arg3 arg4 arg5 arg6 arg7 arg9 arg10 X3 X4 X5 X6 X7 h s)
    = bstep selAll (View.ld (arg3.view.read (Elt F) X3) rQ0) (View.ld (arg6.view.read (Elt F) X6) rQ0) (View.ld (arg7.view.read (Elt F) X7) rS0)
        (arg4.view.read (Elt F) X4) (arg5.view.read (Elt F) X5) h (rd arg9 arg10 s) := by
  refine Prod.ext rfl (Prod.ext ?_ ?_)
  · show arg9.view.read (Elt F) (arg9.view.writes (Elt F) _ _) = _
    rw [read_writes_cons_overlay, read_writes_nil]; rfl
  · show arg10.view.read (Elt F) (arg10.view.writes (Elt F) _ _) = _
    rw [read_writes_cons_overlay, read_writes_nil]; rfl

theorem rd_raw3 {off : Fin 2 → ℕ} (h : ∀ a, off a + S256x128.size a ≤ S8192x256.size a) (s : RawSt F arg9 arg10) :
    rd arg9 arg10 (raw3 arg3 arg4 arg5 arg6 arg7 arg9 arg10 X3 X4 X5 X6 X7 (k0_pay35 (F := F)) (k0_pay36 (F := F)) h s)
    = bstep selAll (View.ld (arg3.view.read (Elt F) X3) rQ1) (View.ld (arg6.view.read (Elt F) X6) rQ1) (View.ld (arg7.view.read (Elt F) X7) rS1)
        (arg4.view.read (Elt F) X4) (arg5.view.read (Elt F) X5) h (rd arg9 arg10 s) := by
  refine Prod.ext rfl (Prod.ext ?_ ?_)
  · show arg9.view.read (Elt F) (arg9.view.writes (Elt F) _ _) = _
    rw [read_writes_cons_overlay, read_writes_nil]; rfl
  · show arg10.view.read (Elt F) (arg10.view.writes (Elt F) _ _) = _
    rw [read_writes_cons_overlay, read_writes_nil]; rfl

theorem rd_rst1 (v : BitVec 32) (s : RawSt F arg9 arg10) (n : ℕ) :
    rd arg9 arg10 (rst1 i arg3 arg4 arg5 arg6 arg7 arg9 arg10 X3 X4 X5 X6 X7 v s n)
    = vst1 i (View.ld (arg3.view.read (Elt F) X3) rQ0) (View.ld (arg6.view.read (Elt F) X6) rQ0) (View.ld (arg7.view.read (Elt F) X7) rS0)
        (arg4.view.read (Elt F) X4) (arg5.view.read (Elt F) X5) v (rd arg9 arg10 s) n := by
  induction n with
  | zero => rfl
  | succ n ih =>
    simp only [rst1, vst1]
    split
    · rw [rd_raw1, ih]
    · exact ih

theorem rd_rst3 (v : BitVec 32) (s : RawSt F arg9 arg10) (n : ℕ) :
    rd arg9 arg10 (rst3 i arg3 arg4 arg5 arg6 arg7 arg9 arg10 X3 X4 X5 X6 X7 (k0_pay35 (F := F)) (k0_pay36 (F := F)) v s n)
    = vst3 i (View.ld (arg3.view.read (Elt F) X3) rQ1) (View.ld (arg6.view.read (Elt F) X6) rQ1) (View.ld (arg7.view.read (Elt F) X7) rS1)
        (arg4.view.read (Elt F) X4) (arg5.view.read (Elt F) X5) v (rd arg9 arg10 s) n := by
  induction n with
  | zero => rfl
  | succ n ih =>
    simp only [rst3, vst3]
    split
    · rw [rd_raw3, ih]
    · exact ih

end Loops

section Value

variable (i : grid0.Coords) (c : Dev nD)
  (arg2 : Memref sig .tc .smem S16x32 .f32) (harg2 : arg2.IsWhole) (arg3 : Memref sig .tc .vmem S256x256 .bf16) (harg3 : arg3.IsWhole)
  (arg4 : Memref sig .tc .vmem S8192x256 .bf16) (harg4 : arg4.IsWhole) (arg5 : Memref sig .tc .vmem S8192x256 .bf16) (harg5 : arg5.IsWhole)
  (arg6 : Memref sig .tc .vmem S256x256 .bf16) (harg6 : arg6.IsWhole) (arg7 : Memref sig .tc .vmem S2x256x128 .f32) (harg7 : arg7.IsWhole)
  (arg8 : Memref sig .tc .vmem S256x256 .bf16) (harg8 : arg8.IsWhole) (arg9 : Memref sig .tc .vmem S8192x256 .f32) (harg9 : arg9.IsWhole)
  (arg10 : Memref sig .tc .vmem S8192x256 .f32) (harg10 : arg10.IsWhole)
  (f2 : BufTy.Contents (Elt F) arg2.view.ty) (f3 : BufTy.Contents (Elt F) arg3.view.ty) (f4 : BufTy.Contents (Elt F) arg4.view.ty) (f5 : BufTy.Contents (Elt F) arg5.view.ty)
  (f6 : BufTy.Contents (Elt F) arg6.view.ty) (f7 : BufTy.Contents (Elt F) arg7.view.ty) (f9 : BufTy.Contents (Elt F) arg9.view.ty) (f10 : BufTy.Contents (Elt F) arg10.view.ty)

theorem rd_R1 : rd arg9 arg10 (R1 i arg2 arg3 arg4 arg5 arg6 arg7 arg9 arg10 f2 f3 f4 f5 f6 f7 f9 f10 (T1 i arg2 f2)) = stA i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10) :=
  rd_rst1 i arg3 arg4 arg5 arg6 arg7 arg9 arg10 f3 f4 f5 f6 f7 _ _ _

theorem G9_eq : G9 i arg2 arg3 arg4 arg5 arg6 arg7 arg9 arg10 f2 f3 f4 f5 f6 f7 f9 f10 = (R1 i arg2 arg3 arg4 arg5 arg6 arg7 arg9 arg10 f2 f3 f4 f5 f6 f7 f9 f10 (T1 i arg2 f2)).2.1 :=
  pick_eq f9 (fun n => (R1 i arg2 arg3 arg4 arg5 arg6 arg7 arg9 arg10 f2 f3 f4 f5 f6 f7 f9 f10 n).2.1) rfl (T1 i arg2 f2)
theorem G10_eq : G10 i arg2 arg3 arg4 arg5 arg6 arg7 arg9 arg10 f2 f3 f4 f5 f6 f7 f9 f10 = (R1 i arg2 arg3 arg4 arg5 arg6 arg7 arg9 arg10 f2 f3 f4 f5 f6 f7 f9 f10 (T1 i arg2 f2)).2.2 :=
  pick_eq f10 (fun n => (R1 i arg2 arg3 arg4 arg5 arg6 arg7 arg9 arg10 f2 f3 f4 f5 f6 f7 f9 f10 n).2.2) rfl (T1 i arg2 f2)

theorem rd_R3 : rd arg9 arg10 (R3 i arg2 arg3 arg4 arg5 arg6 arg7 arg9 arg10 f2 f3 f4 f5 f6 f7 (G9 i arg2 arg3 arg4 arg5 arg6 arg7 arg9 arg10 f2 f3 f4 f5 f6 f7 f9 f10) (G10 i arg2 arg3 arg4 arg5 arg6 arg7 arg9 arg10 f2 f3 f4 f5 f6 f7 f9 f10) (T3 i arg2 f2)) = stB i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10) := by
  rw [G9_eq, G10_eq]
  refine (rd_rst3 i arg3 arg4 arg5 arg6 arg7 arg9 arg10 f3 f4 f5 f6 f7 _ _ _).trans ?_
  have h := congrArg Prod.snd (rd_R1 i arg2 arg3 arg4 arg5 arg6 arg7 arg9 arg10 f2 f3 f4 f5 f6 f7 f9 f10)
  unfold stB
  rw [← h]
  rfl

theorem C0_eq : C0 i arg2 arg3 arg4 arg5 arg6 arg7 arg9 arg10 f2 f3 f4 f5 f6 f7 f9 f10 = (stA i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).1 := congrArg Prod.fst (rd_R1 i arg2 arg3 arg4 arg5 arg6 arg7 arg9 arg10 f2 f3 f4 f5 f6 f7 f9 f10)
theorem C1_eq : C1 i arg2 arg3 arg4 arg5 arg6 arg7 arg9 arg10 f2 f3 f4 f5 f6 f7 f9 f10 = (stB i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).1 := congrArg Prod.fst (rd_R3 i arg2 arg3 arg4 arg5 arg6 arg7 arg9 arg10 f2 f3 f4 f5 f6 f7 f9 f10)
theorem H9_p : H9 i arg2 arg3 arg4 arg5 arg6 arg7 arg9 arg10 f2 f3 f4 f5 f6 f7 f9 f10 = (R3 i arg2 arg3 arg4 arg5 arg6 arg7 arg9 arg10 f2 f3 f4 f5 f6 f7 (G9 i arg2 arg3 arg4 arg5 arg6 arg7 arg9 arg10 f2 f3 f4 f5 f6 f7 f9 f10) (G10 i arg2 arg3 arg4 arg5 arg6 arg7 arg9 arg10 f2 f3 f4 f5 f6 f7 f9 f10) (T3 i arg2 f2)).2.1 :=
  pick_eq (G9 i arg2 arg3 arg4 arg5 arg6 arg7 arg9 arg10 f2 f3 f4 f5 f6 f7 f9 f10) (fun n => (R3 i arg2 arg3 arg4 arg5 arg6 arg7 arg9 arg10 f2 f3 f4 f5 f6 f7 (G9 i arg2 arg3 arg4 arg5 arg6 arg7 arg9 arg10 f2 f3 f4 f5 f6 f7 f9 f10) (G10 i arg2 arg3 arg4 arg5 arg6 arg7 arg9 arg10 f2 f3 f4 f5 f6 f7 f9 f10) n).2.1) rfl (T3 i arg2 f2)
theorem H9_eq : arg9.view.read (Elt F) (H9 i arg2 arg3 arg4 arg5 arg6 arg7 arg9 arg10 f2 f3 f4 f5 f6 f7 f9 f10) = (stB i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.1 :=
  (congrArg (arg9.view.read (Elt F)) (H9_p i arg2 arg3 arg4 arg5 arg6 arg7 arg9 arg10 f2 f3 f4 f5 f6 f7 f9 f10)).trans (congrArg (fun s : VSt F => s.2.1) (rd_R3 i arg2 arg3 arg4 arg5 arg6 arg7 arg9 arg10 f2 f3 f4 f5 f6 f7 f9 f10))
theorem H10_p : H10 i arg2 arg3 arg4 arg5 arg6 arg7 arg9 arg10 f2 f3 f4 f5 f6 f7 f9 f10 = (R3 i arg2 arg3 arg4 arg5 arg6 arg7 arg9 arg10 f2 f3 f4 f5 f6 f7 (G9 i arg2 arg3 arg4 arg5 arg6 arg7 arg9 arg10 f2 f3 f4 f5 f6 f7 f9 f10) (G10 i arg2 arg3 arg4 arg5 arg6 arg7 arg9 arg10 f2 f3 f4 f5 f6 f7 f9 f10) (T3 i arg2 f2)).2.2 :=
  pick_eq (G10 i arg2 arg3 arg4 arg5 arg6 arg7 arg9 arg10 f2 f3 f4 f5 f6 f7 f9 f10) (fun n => (R3 i arg2 arg3 arg4 arg5 arg6 arg7 arg9 arg10 f2 f3 f4 f5 f6 f7 (G9 i arg2 arg3 arg4 arg5 arg6 arg7 arg9 arg10 f2 f3 f4 f5 f6 f7 f9 f10) (G10 i arg2 arg3 arg4 arg5 arg6 arg7 arg9 arg10 f2 f3 f4 f5 f6 f7 f9 f10) n).2.2) rfl (T3 i arg2 f2)
theorem H10_eq : arg10.view.read (Elt F) (H10 i arg2 arg3 arg4 arg5 arg6 arg7 arg9 arg10 f2 f3 f4 f5 f6 f7 f9 f10) = (stB i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.2 :=
  (congrArg (arg10.view.read (Elt F)) (H10_p i arg2 arg3 arg4 arg5 arg6 arg7 arg9 arg10 f2 f3 f4 f5 f6 f7 f9 f10)).trans (congrArg (fun s : VSt F => s.2.2) (rd_R3 i arg2 arg3 arg4 arg5 arg6 arg7 arg9 arg10 f2 f3 f4 f5 f6 f7 f9 f10))
theorem cP0_eq : cP0 i (arg2.view.read (Elt F) f2) (arg3.view.read (Elt F) f3) (arg4.view.read (Elt F) f4) (arg5.view.read (Elt F) f5) (arg6.view.read (Elt F) f6) (arg7.view.read (Elt F) f7) (C0 i arg2 arg3 arg4 arg5 arg6 arg7 arg9 arg10 f2 f3 f4 f5 f6 f7 f9 f10) = (stP0 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).1 := by rw [C0_eq]; rfl
theorem cP1_eq : cP1 i (arg2.view.read (Elt F) f2) (arg3.view.read (Elt F) f3) (arg4.view.read (Elt F) f4) (arg5.view.read (Elt F) f5) (arg6.view.read (Elt F) f6) (arg7.view.read (Elt F) f7) (C1 i arg2 arg3 arg4 arg5 arg6 arg7 arg9 arg10 f2 f3 f4 f5 f6 f7 f9 f10) = (stP1 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).1 := by rw [C1_eq]; rfl

theorem disj79 : Disjoint (rB (k0_off7_inb i)).set (rB (k0_off9_inb i)).set :=
  Rect.unit_disjoint (1 : Fin 2) (Or.inl (by rw [off7_eq, off9_eq]; exact le_refl 128))
theorem disj89 : Disjoint (rB (k0_off8_inb i)).set (rB (k0_off9_inb i)).set :=
  Rect.unit_disjoint (1 : Fin 2) (Or.inl (by rw [off8_eq, off9_eq]; exact le_refl 128))

theorem arg9_P0 : arg9.view.read (Elt F) (arg9.view.writes (Elt F) (H9 i arg2 arg3 arg4 arg5 arg6 arg7 arg9 arg10 f2 f3 f4 f5 f6 f7 f9 f10) [L7 i arg2 arg3 arg4 arg5 arg6 arg7 arg9 arg10 f2 f3 f4 f5 f6 f7 f9 f10]) = (stP0 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.1 := by
  rw [read_writes_cons_overlay, read_writes_nil, H9_eq, C0_eq]; rfl
theorem arg9_D0 : arg9.view.read (Elt F) (arg9.view.writes (Elt F) (H9 i arg2 arg3 arg4 arg5 arg6 arg7 arg9 arg10 f2 f3 f4 f5 f6 f7 f9 f10) [L8 i arg2 arg3 arg4 arg5 arg6 arg7 arg9 arg10 f2 f3 f4 f5 f6 f7 f9 f10, L7 i arg2 arg3 arg4 arg5 arg6 arg7 arg9 arg10 f2 f3 f4 f5 f6 f7 f9 f10]) = (stD0 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.1 := by
  rw [read_writes_cons_overlay, arg9_P0, cP0_eq]; rfl
theorem arg9_x9 : View.ld ((stB i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.1) (rB (k0_off9_inb i)) = View.ld ((stD0 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.1) (rB (k0_off9_inb i)) := by
  unfold stD0 bstep; dsimp only
  rw [ld_overlay_disj _ _ (disj89 i)]
  unfold stP0 bstep; dsimp only
  rw [ld_overlay_disj _ _ (disj79 i)]
theorem arg9_P1 : arg9.view.read (Elt F) (arg9.view.writes (Elt F) (H9 i arg2 arg3 arg4 arg5 arg6 arg7 arg9 arg10 f2 f3 f4 f5 f6 f7 f9 f10) [L9 i arg2 arg3 arg4 arg5 arg6 arg7 arg9 arg10 f2 f3 f4 f5 f6 f7 f9 f10, L8 i arg2 arg3 arg4 arg5 arg6 arg7 arg9 arg10 f2 f3 f4 f5 f6 f7 f9 f10, L7 i arg2 arg3 arg4 arg5 arg6 arg7 arg9 arg10 f2 f3 f4 f5 f6 f7 f9 f10]) = (stP1 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.1 := by
  rw [read_writes_cons_overlay, arg9_D0, read_writes_nil, H9_eq, C1_eq, arg9_x9]; rfl
theorem arg9_D1 : arg9.view.read (Elt F) (arg9.view.writes (Elt F) (H9 i arg2 arg3 arg4 arg5 arg6 arg7 arg9 arg10 f2 f3 f4 f5 f6 f7 f9 f10) [L10 i arg2 arg3 arg4 arg5 arg6 arg7 arg9 arg10 f2 f3 f4 f5 f6 f7 f9 f10, L9 i arg2 arg3 arg4 arg5 arg6 arg7 arg9 arg10 f2 f3 f4 f5 f6 f7 f9 f10, L8 i arg2 arg3 arg4 arg5 arg6 arg7 arg9 arg10 f2 f3 f4 f5 f6 f7 f9 f10, L7 i arg2 arg3 arg4 arg5 arg6 arg7 arg9 arg10 f2 f3 f4 f5 f6 f7 f9 f10]) = (stD1 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.1 := by
  rw [read_writes_cons_overlay, arg9_P1, cP1_eq]; rfl

theorem arg10_P0 : arg10.view.read (Elt F) (arg10.view.writes (Elt F) (H10 i arg2 arg3 arg4 arg5 arg6 arg7 arg9 arg10 f2 f3 f4 f5 f6 f7 f9 f10) [M7 i arg2 arg3 arg4 arg5 arg6 arg7 arg9 arg10 f2 f3 f4 f5 f6 f7 f9 f10]) = (stP0 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.2 := by
  rw [read_writes_cons_overlay, read_writes_nil, H10_eq, C0_eq]; rfl
theorem arg10_D0 : arg10.view.read (Elt F) (arg10.view.writes (Elt F) (H10 i arg2 arg3 arg4 arg5 arg6 arg7 arg9 arg10 f2 f3 f4 f5 f6 f7 f9 f10) [M8 i arg2 arg3 arg4 arg5 arg6 arg7 arg9 arg10 f2 f3 f4 f5 f6 f7 f9 f10, M7 i arg2 arg3 arg4 arg5 arg6 arg7 arg9 arg10 f2 f3 f4 f5 f6 f7 f9 f10]) = (stD0 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.2 := by
  rw [read_writes_cons_overlay, arg10_P0, cP0_eq]; rfl
theorem arg10_x9 : View.ld ((stB i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.2) (rB (k0_off9_inb i)) = View.ld ((stD0 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.2) (rB (k0_off9_inb i)) := by
  unfold stD0 bstep; dsimp only
  rw [ld_overlay_disj _ _ (disj89 i)]
  unfold stP0 bstep; dsimp only
  rw [ld_overlay_disj _ _ (disj79 i)]
theorem arg10_P1 : arg10.view.read (Elt F) (arg10.view.writes (Elt F) (H10 i arg2 arg3 arg4 arg5 arg6 arg7 arg9 arg10 f2 f3 f4 f5 f6 f7 f9 f10) [M9 i arg2 arg3 arg4 arg5 arg6 arg7 arg9 arg10 f2 f3 f4 f5 f6 f7 f9 f10, M8 i arg2 arg3 arg4 arg5 arg6 arg7 arg9 arg10 f2 f3 f4 f5 f6 f7 f9 f10, M7 i arg2 arg3 arg4 arg5 arg6 arg7 arg9 arg10 f2 f3 f4 f5 f6 f7 f9 f10]) = (stP1 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.2 := by
  rw [read_writes_cons_overlay, arg10_D0, read_writes_nil, H10_eq, C1_eq, arg10_x9]; rfl
theorem arg10_D1 : arg10.view.read (Elt F) (arg10.view.writes (Elt F) (H10 i arg2 arg3 arg4 arg5 arg6 arg7 arg9 arg10 f2 f3 f4 f5 f6 f7 f9 f10) [M10 i arg2 arg3 arg4 arg5 arg6 arg7 arg9 arg10 f2 f3 f4 f5 f6 f7 f9 f10, M9 i arg2 arg3 arg4 arg5 arg6 arg7 arg9 arg10 f2 f3 f4 f5 f6 f7 f9 f10, M8 i arg2 arg3 arg4 arg5 arg6 arg7 arg9 arg10 f2 f3 f4 f5 f6 f7 f9 f10, M7 i arg2 arg3 arg4 arg5 arg6 arg7 arg9 arg10 f2 f3 f4 f5 f6 f7 f9 f10]) = (stD1 i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)).2.2 := by
  rw [read_writes_cons_overlay, arg10_P1, cP1_eq]; rfl

theorem pQ_eq : pQ i (arg3.view.read (Elt F) f3) (arg4.view.read (Elt F) f4) (arg5.view.read (Elt F) f5) (arg6.view.read (Elt F) f6) (arg7.view.read (Elt F) f7) (cP0 i (arg2.view.read (Elt F) f2) (arg3.view.read (Elt F) f3) (arg4.view.read (Elt F) f4) (arg5.view.read (Elt F) f5) (arg6.view.read (Elt F) f6) (arg7.view.read (Elt F) f7) (C0 i arg2 arg3 arg4 arg5 arg6 arg7 arg9 arg10 f2 f3 f4 f5 f6 f7 f9 f10)) (cP1 i (arg2.view.read (Elt F) f2) (arg3.view.read (Elt F) f3) (arg4.view.read (Elt F) f4) (arg5.view.read (Elt F) f5) (arg6.view.read (Elt F) f6) (arg7.view.read (Elt F) f7) (C1 i arg2 arg3 arg4 arg5 arg6 arg7 arg9 arg10 f2 f3 f4 f5 f6 f7 f9 f10)) = outQ i (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10) := by
  rw [cP0_eq, cP1_eq]; rfl

theorem runA_base9 : arg9.view.read (Elt F) (arg9.view.writes (Elt F) arg9.view.junk (runA.sl.H9_1 (F := F))) = k0_pay33 := by
  refine (read_writes_cons_overlay _ _ _ _ _).trans ?_
  funext y
  have hy : y ∈ (Rect.unit (s := S8192x256) ![0, 0] S8192x256.size inb_S8192x256_S8192x256_0_0).set :=
    Rect.mem_set_unit.mpr fun a => by fin_cases a <;> first | exact ⟨Nat.zero_le _, (y 0).isLt⟩ | exact ⟨Nat.zero_le _, (y 1).isLt⟩
  obtain ⟨x, rfl⟩ : ∃ x, (Rect.unit (s := S8192x256) ![0, 0] S8192x256.size inb_S8192x256_S8192x256_0_0).emb x = y := (Rect.unit (s := S8192x256) ![0, 0] S8192x256.size inb_S8192x256_S8192x256_0_0).exists_idx_of_mem hy
  exact (Rect.overlay_emb _ _ _ x).trans rfl
theorem runA_base10 : arg10.view.read (Elt F) (arg10.view.writes (Elt F) arg10.view.junk (runA.sl.H9_1 (F := F))) = k0_pay33 := by
  refine (read_writes_cons_overlay _ _ _ _ _).trans ?_
  funext y
  have hy : y ∈ (Rect.unit (s := S8192x256) ![0, 0] S8192x256.size inb_S8192x256_S8192x256_0_0).set :=
    Rect.mem_set_unit.mpr fun a => by fin_cases a <;> first | exact ⟨Nat.zero_le _, (y 0).isLt⟩ | exact ⟨Nat.zero_le _, (y 1).isLt⟩
  obtain ⟨x, rfl⟩ : ∃ x, (Rect.unit (s := S8192x256) ![0, 0] S8192x256.size inb_S8192x256_S8192x256_0_0).emb x = y := (Rect.unit (s := S8192x256) ![0, 0] S8192x256.size inb_S8192x256_S8192x256_0_0).exists_idx_of_mem hy
  exact (Rect.overlay_emb _ _ _ x).trans rfl

end Value

end Cert.KernelIdeal.Bwd

end
-- ==== Proof.Point.lean ====
/-
  The body at a point, on what its windows hold: one triple for the first query block of a head pair (the accumulators
  are reset) and one for the others, and the pipeline's proof data, its body obligation and the run.
-/
module

public import proofs.«01_k».proof.Proof.Out
public import proofs.«01_k».proof.Proof.Gen.KernelIdeal.Launch
public import proofs.«01_k».proof.Proof.Gen.KernelIdeal.Points
public import Idealize.ShloMosaic.Lib.Ring
public import Idealize.ShloMosaic.Lib.WordCmp
public import Idealize.ShloMosaic.Lib.Claim

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

attribute [local irreducible] stD1 runA runB

/-- What the body leaves in its three output windows. -/
def bOut (i : grid0.Coords) (x2 : Vec F S16x32 .f32) (x3 : Vec F S256x256 .bf16) (x4 : Vec F S8192x256 .bf16) (x5 : Vec F S8192x256 .bf16) (x6 : Vec F S256x256 .bf16) (x7 : Vec F S2x256x128 .f32) (x9 : Vec F S8192x256 .f32) (x10 : Vec F S8192x256 .f32) : Vec F S256x256 .bf16 × Vec F S8192x256 .f32 × Vec F S8192x256 .f32 :=
  (View.canon (outQ i x2 x3 x4 x5 x6 x7 x9 x10), (stD1 i x2 x3 x4 x5 x6 x7 x9 x10).2.1, (stD1 i x2 x3 x4 x5 x6 x7 x9 x10).2.2)

theorem cover_outQ (i : grid0.Coords) (x2 : Vec F S16x32 .f32) (x3 : Vec F S256x256 .bf16) (x4 : Vec F S8192x256 .bf16) (x5 : Vec F S8192x256 .bf16) (x6 : Vec F S256x256 .bf16) (x7 : Vec F S2x256x128 .f32) (x9 : Vec F S8192x256 .f32) (x10 : Vec F S8192x256 .f32) (y : S256x256.Idx) : ∃ p ∈ outQ i x2 x3 x4 x5 x6 x7 x9 x10, y ∈ p.1.set :=
  View.cover_of_tiledL (outQ i x2 x3 x4 x5 x6 x7 x9 x10) S256x128.size (by sl_kernel_rfl) y

theorem rd8 (i : grid0.Coords) (arg8 : Memref sig .tc .vmem S256x256 .bf16) (f8 : BufTy.Contents (Elt F) arg8.view.ty) (x2 : Vec F S16x32 .f32) (x3 : Vec F S256x256 .bf16) (x4 : Vec F S8192x256 .bf16) (x5 : Vec F S8192x256 .bf16) (x6 : Vec F S256x256 .bf16) (x7 : Vec F S2x256x128 .f32) (x9 : Vec F S8192x256 .f32) (x10 : Vec F S8192x256 .f32) :
    arg8.view.read (Elt F) (arg8.view.writes (Elt F) f8 (outQ i x2 x3 x4 x5 x6 x7 x9 x10)) = (bOut i x2 x3 x4 x5 x6 x7 x9 x10).1 :=
  View.read_writes_eq_canon arg8.view f8 (outQ i x2 x3 x4 x5 x6 x7 x9 x10) (cover_outQ i x2 x3 x4 x5 x6 x7 x9 x10)

attribute [local irreducible] outQ

set_option maxHeartbeats 1000000 in
/-- The body on the windows' values, the accumulators carried over. -/
theorem pointB (c : Dev nD) (i : grid0.Coords) (arg2 : Memref sig .tc .smem S16x32 .f32) (harg2 : arg2.IsWhole) (arg3 : Memref sig .tc .vmem S256x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S256x256 .bf16) (harg6 : arg6.IsWhole) (arg7 : Memref sig .tc .vmem S2x256x128 .f32) (harg7 : arg7.IsWhole) (arg8 : Memref sig .tc .vmem S256x256 .bf16) (harg8 : arg8.IsWhole) (arg9 : Memref sig .tc .vmem S8192x256 .f32) (harg9 : arg9.IsWhole) (arg10 : Memref sig .tc .vmem S8192x256 .f32) (harg10 : arg10.IsWhole) (hc0 : ¬ cond0 i) (hi : 0 < (i 1).val) (x2 : Vec F S16x32 .f32) (x3 : Vec F S256x256 .bf16) (x4 : Vec F S8192x256 .bf16) (x5 : Vec F S8192x256 .bf16) (x6 : Vec F S256x256 .bf16) (x7 : Vec F S2x256x128 .f32) (x9 : Vec F S8192x256 .f32) (x10 : Vec F S8192x256 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (bOut i x2 x3 x4 x5 x6 x7 x9 x10).1 ∗ owns (c : Thread nD τ) arg9 fullShare (bOut i x2 x3 x4 x5 x6 x7 x9 x10).2.1 ∗ owns (c : Thread nD τ) arg10 fullShare (bOut i x2 x3 x4 x5 x6 x7 x9 x10).2.2) -∗ K ⟨⟩))
    ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, %h8, H8⟩, ⟨%f9, %h9, H9⟩, ⟨%f10, %h10, H10⟩, Hk⟩
  subst h2 h3 h4 h5 h6 h7 h9 h10
  iapply ((runB i c arg2 harg2 arg3 harg3 arg4 harg4 arg5 harg5 arg6 harg6 arg7 harg7 arg8 harg8 arg9 harg9 arg10 harg10 hc0 hi f2 f3 f4 f5 f6 f7 f9 f10).2.2.2 E K f8)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, H9, H10⟩
  iapply Hk
  isplitl [H2]; · iexists _; isplitr; swap; (iexact H2); ipureintro; rfl
  isplitl [H3]; · iexists _; isplitr; swap; (iexact H3); ipureintro; rfl
  isplitl [H4]; · iexists _; isplitr; swap; (iexact H4); ipureintro; rfl
  isplitl [H5]; · iexists _; isplitr; swap; (iexact H5); ipureintro; rfl
  isplitl [H6]; · iexists _; isplitr; swap; (iexact H6); ipureintro; rfl
  isplitl [H7]; · iexists _; isplitr; swap; (iexact H7); ipureintro; rfl
  isplitl [H8]
  · iexists _; isplitr; swap; (iexact H8); ipureintro
    rw [show (runB i c arg2 harg2 arg3 harg3 arg4 harg4 arg5 harg5 arg6 harg6 arg7 harg7 arg8 harg8 arg9 harg9 arg10 harg10 hc0 hi f2 f3 f4 f5 f6 f7 f9 f10).1 = _ from (runB_8 i c arg2 harg2 arg3 harg3 arg4 harg4 arg5 harg5 arg6 harg6 arg7 harg7 arg8 harg8 arg9 harg9 arg10 harg10 f2 f3 f4 f5 f6 f7 f9 f10 hc0 hi).trans (pQ_eq i arg2 arg3 arg4 arg5 arg6 arg7 arg9 arg10 f2 f3 f4 f5 f6 f7 f9 f10)]
    exact rd8 i arg8 f8 (arg2.view.read (Elt F) f2) (arg3.view.read (Elt F) f3) (arg4.view.read (Elt F) f4) (arg5.view.read (Elt F) f5) (arg6.view.read (Elt F) f6) (arg7.view.read (Elt F) f7) (arg9.view.read (Elt F) f9) (arg10.view.read (Elt F) f10)
  isplitl [H9]
  · iexists _; isplitr; swap; (iexact H9); ipureintro
    exact (congrArg (arg9.view.read (Elt F)) (runB_9 i c arg2 harg2 arg3 harg3 arg4 harg4 arg5 harg5 arg6 harg6 arg7 harg7 arg8 harg8 arg9 harg9 arg10 harg10 f2 f3 f4 f5 f6 f7 f9 f10 hc0 hi)).trans (arg9_D1 i arg2 arg3 arg4 arg5 arg6 arg7 arg9 arg10 f2 f3 f4 f5 f6 f7 f9 f10)
  iexists _; isplitr; swap; (iexact H10); ipureintro
  exact (congrArg (arg10.view.read (Elt F)) (runB_10 i c arg2 harg2 arg3 harg3 arg4 harg4 arg5 harg5 arg6 harg6 arg7 harg7 arg8 harg8 arg9 harg9 arg10 harg10 f2 f3 f4 f5 f6 f7 f9 f10 hc0 hi)).trans (arg10_D1 i arg2 arg3 arg4 arg5 arg6 arg7 arg9 arg10 f2 f3 f4 f5 f6 f7 f9 f10)

set_option maxHeartbeats 1000000 in
/-- The body on the windows' values, the accumulators reset. -/
theorem pointA (c : Dev nD) (i : grid0.Coords) (arg2 : Memref sig .tc .smem S16x32 .f32) (harg2 : arg2.IsWhole) (arg3 : Memref sig .tc .vmem S256x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S256x256 .bf16) (harg6 : arg6.IsWhole) (arg7 : Memref sig .tc .vmem S2x256x128 .f32) (harg7 : arg7.IsWhole) (arg8 : Memref sig .tc .vmem S256x256 .bf16) (harg8 : arg8.IsWhole) (arg9 : Memref sig .tc .vmem S8192x256 .f32) (harg9 : arg9.IsWhole) (arg10 : Memref sig .tc .vmem S8192x256 .f32) (harg10 : arg10.IsWhole) (hc0 : cond0 i) (hi : (i 1).val = 0) (x2 : Vec F S16x32 .f32) (x3 : Vec F S256x256 .bf16) (x4 : Vec F S8192x256 .bf16) (x5 : Vec F S8192x256 .bf16) (x6 : Vec F S256x256 .bf16) (x7 : Vec F S2x256x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (bOut i x2 x3 x4 x5 x6 x7 (k0_pay33 (F := F)) (k0_pay33 (F := F))).1 ∗ owns (c : Thread nD τ) arg9 fullShare (bOut i x2 x3 x4 x5 x6 x7 (k0_pay33 (F := F)) (k0_pay33 (F := F))).2.1 ∗ owns (c : Thread nD τ) arg10 fullShare (bOut i x2 x3 x4 x5 x6 x7 (k0_pay33 (F := F)) (k0_pay33 (F := F))).2.2) -∗ K ⟨⟩))
    ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, %h8, H8⟩, ⟨%d9, %f9, %h9, H9⟩, ⟨%d10, %f10, %h10, H10⟩, Hk⟩
  subst h2 h3 h4 h5 h6 h7
  have b9 : arg9.view.read (Elt F) (arg9.view.writes (Elt F) arg9.view.junk (runA.sl.H9_1 (F := F))) = k0_pay33 := runA_base9 arg9
  have b10 : arg10.view.read (Elt F) (arg10.view.writes (Elt F) arg10.view.junk (runA.sl.H9_1 (F := F))) = k0_pay33 := runA_base10 arg10
  iapply ((runA i c arg2 harg2 arg3 harg3 arg4 harg4 arg5 harg5 arg6 harg6 arg7 harg7 arg8 harg8 arg9 harg9 arg10 harg10 hc0 hi f2 f3 f4 f5 f6 f7 f9 f10).2.2.2 E K f8)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, H9, H10⟩
  iapply Hk
  isplitl [H2]; · iexists _; isplitr; swap; (iexact H2); ipureintro; rfl
  isplitl [H3]; · iexists _; isplitr; swap; (iexact H3); ipureintro; rfl
  isplitl [H4]; · iexists _; isplitr; swap; (iexact H4); ipureintro; rfl
  isplitl [H5]; · iexists _; isplitr; swap; (iexact H5); ipureintro; rfl
  isplitl [H6]; · iexists _; isplitr; swap; (iexact H6); ipureintro; rfl
  isplitl [H7]; · iexists _; isplitr; swap; (iexact H7); ipureintro; rfl
  isplitl [H8]
  · iexists _; isplitr; swap; (iexact H8); ipureintro
    have e := (runA_8 i c arg2 harg2 arg3 harg3 arg4 harg4 arg5 harg5 arg6 harg6 arg7 harg7 arg8 harg8 arg9 harg9 arg10 harg10 f2 f3 f4 f5 f6 f7 f9 f10 hc0 hi).trans (pQ_eq i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))))
    rw [b9, b10] at e
    rw [e]
    exact rd8 i arg8 f8 (arg2.view.read (Elt F) f2) (arg3.view.read (Elt F) f3) (arg4.view.read (Elt F) f4) (arg5.view.read (Elt F) f5) (arg6.view.read (Elt F) f6) (arg7.view.read (Elt F) f7) k0_pay33 k0_pay33
  isplitl [H9]
  · iexists _; isplitr; swap; (iexact H9); ipureintro
    have e := (congrArg (arg9.view.read (Elt F)) (runA_9 i c arg2 harg2 arg3 harg3 arg4 harg4 arg5 harg5 arg6 harg6 arg7 harg7 arg8 harg8 arg9 harg9 arg10 harg10 f2 f3 f4 f5 f6 f7 f9 f10 hc0 hi)).trans (arg9_D1 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))))
    rw [b9, b10] at e
    exact e
  iexists _; isplitr; swap; (iexact H10); ipureintro
  have e := (congrArg (arg10.view.read (Elt F)) (runA_10 i c arg2 harg2 arg3 harg3 arg4 harg4 arg5 harg5 arg6 harg6 arg7 harg7 arg8 harg8 arg9 harg9 arg10 harg10 f2 f3 f4 f5 f6 f7 f9 f10 hc0 hi)).trans (arg10_D1 i arg2 arg3 arg4 arg5 arg6 arg7 arg9 arg10 f2 f3 f4 f5 f6 f7 (arg9.view.writes (Elt F) arg9.view.junk (runA.sl.H9_1 (F := F))) (arg10.view.writes (Elt F) arg10.view.junk (runA.sl.H9_1 (F := F))))
  rw [b9, b10] at e
  exact e

end Cert.KernelIdeal.Bwd

end
-- ==== Proof.FrameK.lean ====
/-
  The pipeline's proof data, its body obligation at every point, and the run of the whole program.
-/
module

public import proofs.«01_k».proof.Proof.Point

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .smem S16x32 .f32 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S8192x256 .bf16 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S8192x256 .bf16 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S2x256x128 .f32 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S256x256 .bf16 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S8192x256 .f32 := win0_7.stage (cfg0.slots t 7)
theorem hs0_7 (t : Fin cfg0.N) : (ms0_7 t).IsWhole := hstage0_7 ((cfg0.slots t 7).cast nbuf0_7)
abbrev ms0_8 (t : Fin cfg0.N) : Memref sig .tc .vmem S8192x256 .f32 := win0_8.stage (cfg0.slots t 8)
theorem hs0_8 (t : Fin cfg0.N) : (ms0_8 t).IsWhole := hstage0_8 ((cfg0.slots t 8).cast nbuf0_8)

theorem crd0 (t : Fin cfg0.N) : (grid0.coords t 0).val = t.val / 32 := by
  have e0 : (grid0.coords t 0).val = t.val / 32 % 8 := Pipeline.Grid.coords_val t 0 (by decide) rfl
  have hN : t.val < 256 := lt_of_lt_of_eq t.isLt (show cfg0.N = 256 from N_0)
  rw [e0]; omega

theorem crd1 (t : Fin cfg0.N) : (grid0.coords t 1).val = t.val % 32 := by
  have e1 : (grid0.coords t 1).val = t.val / 1 % 32 := Pipeline.Grid.coords_val t 1 (by decide) rfl
  rw [e1]; omega

/-- The accumulators are reset at the first query block of a head pair. -/
theorem hcond0_0 (t : Fin cfg0.N) : cond0 (grid0.coords t) ↔ t.val % 32 = 0 := by
  have e1 := crd1 t
  simp only [cond0, e1]; word_cmp

/-! ## What the output windows hold after each point -/

def outsAt (c : Dev nD) : (n : ℕ) → n < cfg0.N → Vec F S256x256 .bf16 × Vec F S8192x256 .f32 × Vec F S8192x256 .f32
  | 0, hn => bOut (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) k0_pay33 k0_pay33
  | n + 1, hn =>
    if (n + 1) % 32 = 0 then
      bOut (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) k0_pay33 k0_pay33
    else
      bOut (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2

theorem outsAt_A (c : Dev nD) (t : Fin cfg0.N) (h0 : t.val % 32 = 0) :
    outsAt m c t.val t.isLt = bOut (grid0.coords t) (iblk m c 0 t) (iblk m c 1 t) (iblk m c 2 t) (iblk m c 3 t) (iblk m c 4 t) (iblk m c 5 t) k0_pay33 k0_pay33 := by
  obtain ⟨n, hn⟩ := t
  cases n with
  | zero => exact rfl
  | succ n => exact (if_pos h0).trans rfl

theorem outsAt_B (c : Dev nD) (t : Fin cfg0.N) (h0 : ¬ t.val % 32 = 0) :
    outsAt m c t.val t.isLt = bOut (grid0.coords t) (iblk m c 0 t) (iblk m c 1 t) (iblk m c 2 t) (iblk m c 3 t) (iblk m c 4 t) (iblk m c 5 t)
      (outsAt m c (t.val - 1) (Nat.lt_of_le_of_lt (Nat.sub_le _ _) t.isLt)).2.1 (outsAt m c (t.val - 1) (Nat.lt_of_le_of_lt (Nat.sub_le _ _) t.isLt)).2.2 := by
  obtain ⟨n, hn⟩ := t
  cases n with
  | zero => exact absurd (Nat.zero_mod _) h0
  | succ n => exact (if_neg h0).trans rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt m c t.val t.isLt).1 := by dsimp only [dats]
theorem after0_7 (c : Dev nD) (t : Fin cfg0.N) : (dats m 0 c).after 7 t = (outsAt m c t.val t.isLt).2.1 := by dsimp only [dats]
theorem after0_8 (c : Dev nD) (t : Fin cfg0.N) : (dats m 0 c).after 8 t = (outsAt m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_7_B (c : Dev nD) (t : Fin cfg0.N) (h0 : ¬t.val % 32 = 0) (d) :
    (dats m 0 c).before 7 t d = (outsAt m c (t.val - 1) (Nat.lt_of_le_of_lt (Nat.sub_le _ _) t.isLt)).2.1 := by
  have hN : t.val < 256 := lt_of_lt_of_eq t.isLt (show cfg0.N = 256 from N_0)
  rw [Dat.before_out_kept _ 7 rfl t (by omega) (Bool.eq_false_iff.mpr fun h => by have := (flush0_7 _).mp h; dsimp only at this; omega)
    (fun _ => rfl) (fun _ _ => rfl)]
  dsimp only [dats]
theorem before0_8_B (c : Dev nD) (t : Fin cfg0.N) (h0 : ¬t.val % 32 = 0) (d) :
    (dats m 0 c).before 8 t d = (outsAt m c (t.val - 1) (Nat.lt_of_le_of_lt (Nat.sub_le _ _) t.isLt)).2.2 := by
  have hN : t.val < 256 := lt_of_lt_of_eq t.isLt (show cfg0.N = 256 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h0 : t.val % 32 = 0
  · rw [outsAt_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (pointA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) ((crd1 t).trans h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [outsAt_B m c t h0]
    simp only [before0_7_B m c t h0, before0_8_B m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (pointB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (by rw [crd1 t]; omega) (iblk m c 0 t) (iblk m c 1 t) (iblk m c 2 t) (iblk m c 3 t) (iblk m c 4 t) (iblk m c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and no semaphore is left raised, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Bwd

end
-- ==== Proof.Frames.lean ====
/-
  The frame of the compiled program, out of the run of the idealized one: the two programs differ only in the mask
  constant, which at the machine's values is its bits.
-/
module

public import proofs.«01_k».proof.Proof.FrameK
public import proofs.«01_k».proof.Defs
public import proofs.«01_k».proof.Proof.Gen.Kernel
public import proofs.«01_k».proof.Proof.Gen.ReferenceIdeal.Run
public import Idealize.ShloMosaic.Lib.Quiescent

@[expose] public section

noncomputable section

namespace Cert.KernelIdeal.Bwd

open Idealize.ShloMosaic Idealize.SL.Sem

/-- At the machine's values a named constant is its literal. -/
@[local instance] abbrev namedBits : Named Bits := ⟨fun _ _ b => FloatOps.ofBits b⟩

/-- The idealized program's frame at the machine's values. -/
def FrameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_bits : FrameBits := fun m g _ => Cert.KernelIdeal.Bwd.frame (F := Bits) m g

theorem frame_same : FrameBits = Cert.quiescent_Kernel (hKernel := Cert.Kernel.Gen.facts) := by sl_kernel_rfl

theorem frame_kernel : Cert.quiescent_Kernel (hKernel := Cert.Kernel.Gen.facts) := cast frame_same frame_bits

theorem frame_ideal : Cert.quiescent_KernelIdeal (hKernelIdeal := Cert.KernelIdeal.Gen.facts) := fun m g _ =>
  Cert.KernelIdeal.Bwd.frame (F := Ideal) m g

theorem frame_reference : Cert.quiescent_ReferenceIdeal (hReferenceIdeal := Cert.ReferenceIdeal.Gen.facts) := fun m g _ =>
  (θ_run _ _ _).mono (fun r h => ⟨fun c => (h c).2.2.2, Idealize.ShloMosaic.sem_eq_zero_of_no_sems (by decide) r.2⟩)
    (Cert.ReferenceIdeal.Value.run (F := Ideal) m g)

theorem preserves : Cert.preserves_Kernel_KernelIdeal :=
  IdealRules.named_const.statement Cert.KernelIdeal.κ "mask" .f32 0xF149F2CA#32 ⊥ rfl

end Cert.KernelIdeal.Bwd

end
-- ==== Proof.Spec.lean ====
/-
  The gradient of one head of stick-breaking attention over the reals, with no program in it: scores, masked
  `softplus`, weights, and the three gradients as sums over the sequence; and the algebra that joins the two ways of
  writing the score's gradient.
-/
module

public import Mathlib.Analysis.SpecialFunctions.Log.Basic
public import Mathlib.Analysis.SpecialFunctions.Exp

@[expose] public section

noncomputable section

namespace Cert.KernelIdeal.Bwd

open Finset

/-- `softplus z` as both programs write it. -/
def sp (z : ℝ) : ℝ := max z 0 + Real.log (1 + Real.exp (-|z|))

theorem one_add_pos (z : ℝ) : 0 < 1 + Real.exp (-|z|) := by positivity

/-- `softplus z - softplus (-z) = z`. -/
theorem sp_neg (z : ℝ) : sp (-z) = sp z - z := by
  unfold sp
  rw [abs_neg]
  rcases le_total 0 z with h | h
  · rw [max_eq_left h, max_eq_right (by linarith)]; ring
  · rw [max_eq_right h, max_eq_left (by linarith)]; ring

theorem exp_sp (z : ℝ) : Real.exp (sp z) = 1 + Real.exp z := by
  unfold sp
  rw [Real.exp_add, Real.exp_log (one_add_pos z)]
  rcases le_total 0 z with h | h
  · rw [max_eq_left h, abs_of_nonneg h, mul_add, ← Real.exp_add]; simp [add_comm]
  · rw [max_eq_right h, abs_of_nonpos h]; simp

/-- The two logistic factors, `exp (z - softplus z)` and `exp (-z - softplus (-z))`, sum to one. -/
theorem logistic_sum (z : ℝ) : Real.exp (-z - sp (-z)) = 1 - Real.exp (z - sp z) := by
  have h := exp_sp z
  have hp : (0 : ℝ) < 1 + Real.exp z := by positivity
  rw [sp_neg, show -z - (sp z - z) = -sp z by ring, Real.exp_neg, Real.exp_sub, h]
  field_simp
  ring

/-- One head's inputs: queries, keys, values and the output's gradient, which keys a query weighs, and the scale. -/
structure Hd where
  Q : ℕ → ℕ → ℝ
  K : ℕ → ℕ → ℝ
  V : ℕ → ℕ → ℝ
  D : ℕ → ℕ → ℝ
  att : ℕ → ℕ → Prop
  s : ℝ

namespace Hd

variable (M : Hd)

/-- The scores. -/
def Z (q k : ℕ) : ℝ := (∑ d ∈ range 128, M.Q q d * M.K k d) * M.s
open Classical in
/-- The masked `softplus` of the scores. -/
def SP (q k : ℕ) : ℝ := if M.att q k then sp (M.Z q k) else 0
/-- Its sum over the keys before the `n`-th. -/
def pSP (q n : ℕ) : ℝ := ∑ k ∈ range n, M.SP q k
open Classical in
/-- The weights: the mass that the keys after `k` leave of the stick, times the logistic of the score. -/
def A (q k : ℕ) : ℝ := if M.att q k then Real.exp (M.Z q k - (M.pSP q 8192 - M.pSP q k)) else 0
/-- The weights' gradient times the weights. -/
def G (q k : ℕ) : ℝ := (∑ d ∈ range 128, M.D q d * M.V k d) * M.A q k
/-- Its sum over the keys before the `n`-th. -/
def pG (q n : ℕ) : ℝ := ∑ k ∈ range n, M.G q k
open Classical in
/-- The scores' gradient. -/
def DZ (q k : ℕ) : ℝ := if M.att q k then M.G q k - M.pG q (k + 1) * Real.exp (M.Z q k - sp (M.Z q k)) else 0
/-- The query gradient from the keys before the `n`-th. -/
def pDQ (q d n : ℕ) : ℝ := ∑ k ∈ range n, M.DZ q k * M.s * M.K k d
/-- The key gradient from the queries before the `n`-th. -/
def pDK (k d n : ℕ) : ℝ := ∑ q ∈ range n, M.DZ q k * M.s * M.Q q d
/-- The value gradient from the queries before the `n`-th. -/
def pDV (k d n : ℕ) : ℝ := ∑ q ∈ range n, M.A q k * M.D q d
/-- One block of queries' part of the key gradient. -/
def rDK (qi k d : ℕ) : ℝ := ∑ r ∈ range 256, M.DZ (256 * qi + r) k * M.s * M.Q (256 * qi + r) d
/-- One block of queries' part of the value gradient. -/
def rDV (qi k d : ℕ) : ℝ := ∑ r ∈ range 256, M.A (256 * qi + r) k * M.D (256 * qi + r) d

theorem sum_block (f : ℕ → ℝ) (n : ℕ) :
    ∑ k ∈ range (256 * (n + 1)), f k = ∑ k ∈ range (256 * n), f k + ∑ c ∈ range 256, f (256 * n + c) := by
  rw [Nat.mul_succ, sum_range_add]

theorem pSP_block (q n : ℕ) : M.pSP q (256 * (n + 1)) = M.pSP q (256 * n) + ∑ c ∈ range 256, M.SP q (256 * n + c) :=
  sum_block _ _
theorem pG_block (q n : ℕ) : M.pG q (256 * (n + 1)) = M.pG q (256 * n) + ∑ c ∈ range 256, M.G q (256 * n + c) :=
  sum_block _ _
theorem pDQ_block (q d n : ℕ) :
    M.pDQ q d (256 * (n + 1)) = M.pDQ q d (256 * n) + ∑ c ∈ range 256, M.DZ q (256 * n + c) * M.s * M.K (256 * n + c) d :=
  sum_block _ _
theorem pDK_block (k d n : ℕ) : M.pDK k d (256 * (n + 1)) = M.pDK k d (256 * n) + M.rDK n k d := sum_block _ _
theorem pDV_block (k d n : ℕ) : M.pDV k d (256 * (n + 1)) = M.pDV k d (256 * n) + M.rDV n k d := sum_block _ _

/-- A sum over the keys of a block from the `c`-th on. -/
theorem sum_suffix (f : ℕ → ℝ) (c : ℕ) (hc : c ≤ 256) :
    ∑ j ∈ range 256, f j * (if c ≤ j then 1 else 0) = ∑ j ∈ range 256, f j - ∑ j ∈ range c, f j := by
  obtain ⟨m, hm⟩ := Nat.exists_eq_add_of_le hc
  rw [hm]
  rw [sum_range_add, sum_range_add]
  have h1 : ∑ j ∈ range c, f j * (if c ≤ j then (1 : ℝ) else 0) = 0 :=
    sum_eq_zero fun j hj => by rw [if_neg (by have := mem_range.1 hj; omega), mul_zero]
  have h2 : ∑ j ∈ range m, f (c + j) * (if c ≤ c + j then (1 : ℝ) else 0) = ∑ j ∈ range m, f (c + j) :=
    sum_congr rfl fun j _ => by rw [if_pos (by omega), mul_one]
  rw [h1, h2]; ring

/-- A sum over the keys of a block up to the `c`-th. -/
theorem sum_prefix (f : ℕ → ℝ) (c : ℕ) (hc : c < 256) :
    ∑ j ∈ range 256, f j * (if j ≤ c then 1 else 0) = ∑ j ∈ range (c + 1), f j := by
  have h := sum_suffix f (c + 1) hc
  have h' : ∑ j ∈ range 256, f j * (if j ≤ c then (1 : ℝ) else 0)
      = ∑ j ∈ range 256, f j - ∑ j ∈ range 256, f j * (if c + 1 ≤ j then (1 : ℝ) else 0) := by
    rw [← sum_sub_distrib]
    refine sum_congr rfl fun j _ => ?_
    by_cases hj : j ≤ c
    · rw [if_pos hj, if_neg (by omega)]; ring
    · rw [if_neg hj, if_pos (by omega)]; ring
  rw [h', h]; ring

theorem pSP_at (q n c : ℕ) : M.pSP q (256 * n + c) = M.pSP q (256 * n) + ∑ j ∈ range c, M.SP q (256 * n + j) :=
  sum_range_add _ _ _
theorem pG_at (q n c : ℕ) : M.pG q (256 * n + c) = M.pG q (256 * n) + ∑ j ∈ range c, M.G q (256 * n + j) :=
  sum_range_add _ _ _

variable {M}

theorem SP_off {q k : ℕ} (h : ¬ M.att q k) : M.SP q k = 0 := if_neg h
theorem A_off {q k : ℕ} (h : ¬ M.att q k) : M.A q k = 0 := if_neg h
theorem G_off {q k : ℕ} (h : ¬ M.att q k) : M.G q k = 0 := by unfold G; rw [A_off h, mul_zero]
theorem DZ_off {q k : ℕ} (h : ¬ M.att q k) : M.DZ q k = 0 := if_neg h

theorem pSP_zero {q n : ℕ} (h : ∀ k < n, ¬ M.att q k) : M.pSP q n = 0 :=
  sum_eq_zero fun k hk => SP_off (h k (mem_range.1 hk))
theorem pG_zero {q n : ℕ} (h : ∀ k < n, ¬ M.att q k) : M.pG q n = 0 :=
  sum_eq_zero fun k hk => G_off (h k (mem_range.1 hk))
theorem pDQ_zero {q d n : ℕ} (h : ∀ k < n, ¬ M.att q k) : M.pDQ q d n = 0 :=
  sum_eq_zero fun k hk => by rw [DZ_off (h k (mem_range.1 hk)), zero_mul, zero_mul]
theorem rDK_off {qi k d : ℕ} (h : ∀ r < 256, ¬ M.att (256 * qi + r) k) : M.rDK qi k d = 0 :=
  sum_eq_zero fun r hr => by rw [DZ_off (h r (mem_range.1 hr)), zero_mul, zero_mul]
theorem rDV_off {qi k d : ℕ} (h : ∀ r < 256, ¬ M.att (256 * qi + r) k) : M.rDV qi k d = 0 :=
  sum_eq_zero fun r hr => by rw [A_off (h r (mem_range.1 hr)), zero_mul]

/-- No key from the `n`-th on adds to the query gradient where none is attended to. -/
theorem pDQ_end {q d n m : ℕ} (hn : n ≤ m) (h : ∀ k, n ≤ k → ¬ M.att q k) : M.pDQ q d m = M.pDQ q d n := by
  obtain ⟨j, rfl⟩ := Nat.exists_eq_add_of_le hn
  unfold pDQ
  rw [sum_range_add, add_eq_left]
  exact sum_eq_zero fun k _ => by rw [DZ_off (h _ (by omega)), zero_mul, zero_mul]

/-- The score's gradient as the reverse rule of the reference writes it. -/
theorem DZ_eq {q k : ℕ} (h : M.att q k) :
    M.DZ q k = M.G q k * Real.exp (-M.Z q k - sp (-M.Z q k)) + -(M.pG q (k + 1) - M.G q k) * Real.exp (M.Z q k - sp (M.Z q k)) := by
  unfold DZ
  rw [if_pos h, logistic_sum]; ring

/-- The weights as the reference writes them. -/
theorem A_eq {q k : ℕ} (h : M.att q k) (hk : k < 8192) :
    M.A q k = Real.exp (-sp (-M.Z q k) + -(M.pSP q 8192 - M.pSP q (k + 1))) := by
  unfold A
  rw [if_pos h, sp_neg]
  have h1 : M.pSP q (k + 1) = M.pSP q k + M.SP q k := sum_range_succ _ _
  have h2 : M.SP q k = sp (M.Z q k) := if_pos h
  rw [h1, h2]; congr 1; ring

end Hd

end Cert.KernelIdeal.Bwd

end
-- ==== Proof.Entry.lean ====
/-
  One key block of the backward pass, entry by entry, over the reals: what the block computes where the sums so far
  and its inputs are real numbers, and that a block whose mask is nowhere set changes nothing.
-/
module

public import proofs.«01_k».proof.Proof.Spec
public import proofs.«01_k».proof.Proof.Step
public import Idealize.ShloMosaic.Lib.Pointwise

@[expose] public section

set_option maxRecDepth 16384

noncomputable section

namespace Cert.KernelIdeal.Bwd

open Idealize.ShloMosaic Idealize.ShloMosaic.TcCoe
open Cert.KernelIdeal.Gen
open Finset

/-! ## Sums and functions of real numbers among the extended reals -/

/-- A sum of real numbers is the real sum. -/
theorem csum {n : ℕ} (F : Fin n → EReal) (f : ℕ → ℝ) (h : ∀ x : Fin n, F x = ((f x.val : ℝ) : EReal)) :
    ∑ x, F x = ((∑ x ∈ range n, f x : ℝ) : EReal) := by
  induction n with
  | zero => simp
  | succ n ih =>
    rw [Fin.sum_univ_castSucc, sum_range_succ, EReal.coe_add, ih (fun x => F x.castSucc) fun x => h x.castSucc, h (Fin.last n)]
    rfl

theorem cexp (x : ℝ) : Ideal.exp (x : EReal) = ((Real.exp x : ℝ) : EReal) := rfl
theorem clog {x : ℝ} (h : 0 < x) : Ideal.log (x : EReal) = ((Real.log x : ℝ) : EReal) := if_neg (not_le.2 h)
theorem cmax (x y : ℝ) : max (x : EReal) (y : EReal) = ((max x y : ℝ) : EReal) := (EReal.coe_strictMono.monotone.map_max).symm
theorem cabs (x : ℝ) : max (x : EReal) (-(x : EReal)) = ((|x| : ℝ) : EReal) := by
  rw [← EReal.coe_neg, cmax]; rfl

/-- `softplus` of a real number. -/
theorem csp (x : ℝ) : max (x : EReal) 0 + Ideal.log (1 + Ideal.exp (0 - ((|x| : ℝ) : EReal))) = ((sp x : ℝ) : EReal) := by
  rw [zero_sub, ← EReal.coe_neg, cexp, ← EReal.coe_one, ← EReal.coe_add, clog (one_add_pos x), ← EReal.coe_zero, cmax,
    ← EReal.coe_add]
  rfl

/-- A comparison's bit, as the number it is turned into. -/
theorem bit_ite (p : Bool) : (FloatOps.sitofp (F := Ideal) FTy.f32 (BitVec.setWidth 32 (BitVec.ofBool p)) : EReal) = if p then ((1 : ℝ) : EReal) else ((0 : ℝ) : EReal) := by
  cases p
  · show ((((BitVec.setWidth 32 (BitVec.ofBool false)).toInt : ℝ)) : EReal) = _
    simp
  · show ((((BitVec.setWidth 32 (BitVec.ofBool true)).toInt : ℝ)) : EReal) = _
    simp

theorem toInt_small {a : ℕ} (h : a < 256) : (BitVec.ofNat 32 a).toInt = (a : ℤ) := by
  rw [BitVec.toInt_eq_toNat_cond, BitVec.toNat_ofNat]; omega

theorem pay35_apply (a b : Fin 256) : k0_pay35 (F := Ideal) (ix2 a b) = if b.val ≤ a.val then ((1 : ℝ) : EReal) else ((0 : ℝ) : EReal) := by
  pointwise [k0_pay35]
  refine (bit_ite _).trans ?_
  simp only [BitVec.sle, toInt_small a.isLt, toInt_small b.isLt, decide_eq_true_eq, Nat.cast_le]

theorem pay36_apply (a b : Fin 256) : k0_pay36 (F := Ideal) (ix2 a b) = if a.val ≤ b.val then ((1 : ℝ) : EReal) else ((0 : ℝ) : EReal) := by
  pointwise [k0_pay36]
  refine (bit_ite _).trans ?_
  simp only [BitVec.sle, toInt_small a.isLt, toInt_small b.isLt, decide_eq_true_eq, Nat.cast_le]

/-- The mask's value is the least one. -/
theorem mask_bot : (Named.named (F := Ideal) (φ := .f32) κ "mask" 0xF149F2CA#32 : EReal) = ⊥ := by
  rw [IdealRules.named_const.ideal_named_scalar _ _ _ _ rfl]

/-! ## The block -/

section

variable (sel : Sel Ideal) (q d k v : Vec Ideal S256x128 .bf16) (t : Vec Ideal S1x256x1 .f32) (c : Carry Ideal)

/-- The block's inputs: query block `qi`, key block `N` of one head, and the head's totals of `softplus`. -/
structure BlkIn (M : Hd) (qi N : ℕ) : Prop where
  q : ∀ (a : Fin 256) (b : Fin 128), q (ix2 a b) = ((M.Q (256 * qi + a.val) b.val : ℝ) : EReal)
  d : ∀ (a : Fin 256) (b : Fin 128), d (ix2 a b) = ((M.D (256 * qi + a.val) b.val : ℝ) : EReal)
  k : ∀ (a : Fin 256) (b : Fin 128), k (ix2 a b) = ((M.K (256 * N + a.val) b.val : ℝ) : EReal)
  v : ∀ (a : Fin 256) (b : Fin 128), v (ix2 a b) = ((M.V (256 * N + a.val) b.val : ℝ) : EReal)
  t : ∀ a : Fin 256, t (ix3 0 a 0) = ((M.pSP (256 * qi + a.val) 8192 : ℝ) : EReal)
  s : (Ideal.ofBits .f32 0x3DB504F3#32 : EReal) = ((M.s : ℝ) : EReal)

open Classical in
/-- The mask is the head's, at this pair of blocks. -/
def SelAtt (M : Hd) (qi N : ℕ) : Prop := ∀ (x y : FVec Ideal S256x256 .f32) (a b : Fin 256),
  sel x y (ix2 a b) = if M.att (256 * qi + a.val) (256 * N + b.val) then x (ix2 a b) else y (ix2 a b)

/-- The mask is nowhere set. -/
def SelOff : Prop := ∀ (x y : FVec Ideal S256x256 .f32) (a b : Fin 256), sel x y (ix2 a b) = y (ix2 a b)

/-- What the head has carried over the first `N` key blocks. -/
structure CInv (M : Hd) (qi N : ℕ) : Prop where
  p : ∀ a : Fin 256, c.1 (ix2 a 0) = ((M.pSP (256 * qi + a.val) (256 * N) : ℝ) : EReal)
  g : ∀ a : Fin 256, c.2.1 (ix2 a 0) = ((M.pG (256 * qi + a.val) (256 * N) : ℝ) : EReal)
  q : ∀ (a : Fin 256) (b : Fin 128), c.2.2 (ix2 a b) = ((M.pDQ (256 * qi + a.val) b.val (256 * N) : ℝ) : EReal)

variable {sel q d k v t c}
variable {M : Hd} {qi N : ℕ}

section On

variable (hb : BlkIn q d k v t M qi N) (hs : SelAtt sel M qi N) (hc : CInv c M qi N)
include hb

theorem z_apply (a b : Fin 256) : k0_pay5 q k (ix2 a b) = ((M.Z (256 * qi + a.val) (256 * N + b.val) : ℝ) : EReal) := by
  pointwise [k0_pay5]
  rw [hb.s, csum _ (fun x => M.Q (256 * qi + a.val) x * M.K (256 * N + b.val) x) fun x => by rw [hb.q, hb.k, ← EReal.coe_mul], ← EReal.coe_mul]
  rfl

theorem spz_apply (a b : Fin 256) : k0_pay6 q k (ix2 a b) = ((sp (M.Z (256 * qi + a.val) (256 * N + b.val)) : ℝ) : EReal) := by
  pointwise [k0_pay6]
  rw [z_apply hb, Ideal.absf_def, cabs]
  exact csp _

include hs in
theorem bSP_apply (a b : Fin 256) : bSP sel q k (ix2 a b) = ((M.SP (256 * qi + a.val) (256 * N + b.val) : ℝ) : EReal) := by
  unfold bSP Hd.SP
  rw [hs, spz_apply hb]
  split
  · rfl
  · pointwise []
    rfl

include hs hc

theorem bPsp_apply (a : Fin 256) : bPsp sel q k c (ix2 a 0) = ((M.pSP (256 * qi + a.val) (256 * (N + 1)) : ℝ) : EReal) := by
  pointwise [bPsp]
  rw [hc.p, csum _ (fun x => M.SP (256 * qi + a.val) (256 * N + x)) fun x => bSP_apply hb hs a x, ← EReal.coe_add, ← M.pSP_block]

theorem bA_apply (a b : Fin 256) : bA sel q k t c (ix2 a b) = ((M.A (256 * qi + a.val) (256 * N + b.val) : ℝ) : EReal) := by
  unfold bA
  rw [show ∀ (y : FVec Ideal S256x256 .f32), exp y (ix2 a b) = Ideal.exp (y (ix2 a b)) from fun _ => rfl, hs]
  unfold Hd.A
  split
  · pointwise []
    rw [z_apply hb, hb.t, bPsp_apply hb hs hc,
      csum _ (fun x => M.SP (256 * qi + a.val) (256 * N + x) * (if b.val ≤ x then 1 else 0)) fun x => by
        rw [bSP_apply hb hs, pay35_apply, EReal.coe_mul]; congr 1; split <;> rfl,
      ← EReal.coe_sub, ← EReal.coe_sub, ← EReal.coe_sub, cexp, Hd.sum_suffix _ _ b.isLt.le, M.pSP_at, M.pSP_block]
    congr 2; ring
  · pointwise []
    rw [mask_bot]; rfl

theorem bG_apply (a b : Fin 256) : bG sel q d k v t c (ix2 a b) = ((M.G (256 * qi + a.val) (256 * N + b.val) : ℝ) : EReal) := by
  pointwise [bG]
  rw [bA_apply hb hs hc, csum _ (fun x => M.D (256 * qi + a.val) x * M.V (256 * N + b.val) x) fun x => by rw [hb.d, hb.v, ← EReal.coe_mul], ← EReal.coe_mul]
  rfl

theorem bPG_apply (a b : Fin 256) : bPG sel q d k v t c (ix2 a b) = ((M.pG (256 * qi + a.val) (256 * N + b.val + 1) : ℝ) : EReal) := by
  pointwise [bPG]
  rw [hc.g, csum _ (fun x => M.G (256 * qi + a.val) (256 * N + x) * (if x ≤ b.val then 1 else 0)) fun x => by
      rw [bG_apply hb hs hc, pay36_apply, EReal.coe_mul]; congr 1; split <;> rfl,
    ← EReal.coe_add, Hd.sum_prefix _ _ b.isLt, Nat.add_assoc, M.pG_at]

theorem bDz_apply (a b : Fin 256) : bDz sel q d k v t c (ix2 a b) = ((M.DZ (256 * qi + a.val) (256 * N + b.val) * M.s : ℝ) : EReal) := by
  pointwise [bDz]
  rw [hb.s, hs, EReal.coe_mul]
  congr 1
  unfold Hd.DZ
  split
  · pointwise []
    rw [bG_apply hb hs hc, bPG_apply hb hs hc, z_apply hb, spz_apply hb, ← EReal.coe_sub, cexp, ← EReal.coe_mul, ← EReal.coe_sub]
  · pointwise []
    rfl

theorem bDk_apply (x : Vec Ideal S256x128 .f32) (a : Fin 256) (b : Fin 128) :
    bDk sel q d k v t c x (ix2 a b) = x (ix2 a b) + ((M.rDK qi (256 * N + a.val) b.val : ℝ) : EReal) := by
  pointwise [bDk]
  rw [csum _ (fun r => M.DZ (256 * qi + r) (256 * N + a.val) * M.s * M.Q (256 * qi + r) b.val) fun r => by
    rw [bDz_apply hb hs hc, hb.q, ← EReal.coe_mul]]
  rfl

theorem bDv_apply (x : Vec Ideal S256x128 .f32) (a : Fin 256) (b : Fin 128) :
    bDv sel q d k t c x (ix2 a b) = x (ix2 a b) + ((M.rDV qi (256 * N + a.val) b.val : ℝ) : EReal) := by
  pointwise [bDv]
  rw [csum _ (fun r => M.A (256 * qi + r) (256 * N + a.val) * M.D (256 * qi + r) b.val) fun r => by
    rw [bA_apply hb hs hc, hb.d, ← EReal.coe_mul]]
  rfl

/-- The carried values go on to the next block. -/
theorem bC_inv : CInv (bC sel q d k v t c) M qi (N + 1) where
  p a := bPsp_apply hb hs hc a
  g a := by
    pointwise [bC]
    rw [hc.g, csum _ (fun x => M.G (256 * qi + a.val) (256 * N + x)) fun x => bG_apply hb hs hc a x, ← EReal.coe_add, ← M.pG_block]
  q a b := by
    pointwise [bC]
    rw [hc.q, csum _ (fun x => M.DZ (256 * qi + a.val) (256 * N + x) * M.s * M.K (256 * N + x) b.val) fun x => by
      rw [bDz_apply hb hs hc, hb.k, ← EReal.coe_mul], ← EReal.coe_add, ← M.pDQ_block]

end On

/-! ## A block whose mask is nowhere set -/

section Off

variable (hs : SelOff sel)
include hs

theorem bSP_off (a b : Fin 256) : bSP sel q k (ix2 a b) = 0 := by
  unfold bSP
  rw [hs]
  pointwise []

theorem bA_off (a b : Fin 256) : bA sel q k t c (ix2 a b) = 0 := by
  unfold bA
  rw [show ∀ (y : FVec Ideal S256x256 .f32), exp y (ix2 a b) = Ideal.exp (y (ix2 a b)) from fun _ => rfl, hs]
  pointwise []
  rw [mask_bot]; rfl

theorem bG_off (a b : Fin 256) : bG sel q d k v t c (ix2 a b) = 0 := by
  pointwise [bG]
  rw [bA_off hs, mul_zero]

theorem bDz_off (a b : Fin 256) : bDz sel q d k v t c (ix2 a b) = 0 := by
  pointwise [bDz]
  rw [hs]
  pointwise []
  rw [zero_mul]

theorem bDk_off (x : Vec Ideal S256x128 .f32) (a : Fin 256) (b : Fin 128) : bDk sel q d k v t c x (ix2 a b) = x (ix2 a b) := by
  pointwise [bDk]
  rw [Finset.sum_eq_zero fun r _ => by rw [bDz_off hs, zero_mul], add_zero]

theorem bDv_off (x : Vec Ideal S256x128 .f32) (a : Fin 256) (b : Fin 128) : bDv sel q d k t c x (ix2 a b) = x (ix2 a b) := by
  pointwise [bDv]
  rw [Finset.sum_eq_zero fun r _ => by rw [bA_off hs, zero_mul], add_zero]

theorem bC_off (hc : CInv c M qi N) : CInv (bC sel q d k v t c) M qi N where
  p a := by
    pointwise [bC, bPsp]
    rw [Finset.sum_eq_zero fun r _ => bSP_off hs a r, add_zero, hc.p]
  g a := by
    pointwise [bC]
    rw [Finset.sum_eq_zero fun r _ => bG_off hs a r, add_zero, hc.g]
  q a b := by
    pointwise [bC]
    rw [Finset.sum_eq_zero fun r _ => by rw [bDz_off hs, zero_mul], add_zero, hc.q]

end Off

end

end Cert.KernelIdeal.Bwd

end
-- ==== Proof.Body.lean ====
/-
  The whole body at a grid point over the reals: what its two accumulators and its query block hold after it.
-/
module

public import proofs.«01_k».proof.Proof.Entry
public import proofs.«01_k».proof.Proof.Words

@[expose] public section

set_option maxRecDepth 16384

noncomputable section

namespace Cert.KernelIdeal.Bwd

open Idealize.ShloMosaic Idealize.ShloMosaic.TcCoe
open Cert.KernelIdeal.Gen
open Finset

variable {M : ℕ → Hd} {qi : ℕ}

/-- An accumulator after some key blocks of the query block `qi`: of head `h` (128 columns each), the first `n h`
    key blocks have been added to what was there. -/
def AInv (M : ℕ → Hd) (f : Hd → ℕ → ℕ → ℕ → ℝ) (qi : ℕ) (b x : Vec Ideal S8192x256 .f32) (n : ℕ → ℕ) : Prop :=
  ∀ (k : Fin 8192) (c : Fin 256), x (ix2 k c)
    = b (ix2 k c) + ((if k.val < 256 * n (c.val / 128) then f (M (c.val / 128)) qi k.val (c.val % 128) else 0 : ℝ) : EReal)

theorem overlay_ainv {f : Hd → ℕ → ℕ → ℕ → ℝ} {b x : Vec Ideal S8192x256 .f32} {n : ℕ → ℕ} {off : Fin 2 → ℕ}
    (h : ∀ a, off a + S256x128.size a ≤ S8192x256.size a) {N hh : ℕ} (hh2 : hh < 2) (e : off = ![256 * N, 128 * hh])
    (w : Vec Ideal S256x128 .f32) (hn : n hh = N) (ha : AInv M f qi b x n)
    (hw : ∀ (a : Fin 256) (d : Fin 128), w (ix2 a d) = View.ld x (rB h) (ix2 a d) + ((f (M hh) qi (256 * N + a.val) d.val : ℝ) : EReal)) :
    AInv M f qi b ((rB h).overlay x w) (Function.update n hh (N + 1)) := by
  subst e
  intro k c
  by_cases hm : ix2 k c ∈ (rB h).set
  · obtain ⟨j, hj⟩ := (rB h).exists_idx_of_mem hm
    obtain ⟨a, d, rfl⟩ : ∃ (a : Fin 256) (d : Fin 128), j = ix2 a d := ⟨j 0, j 1, eq_ix2 j⟩
    have hk : k.val = 256 * N + a.val := by
      have := congrArg (fun i => (i 0).val) hj
      simpa using this.symm
    have hc : c.val = 128 * hh + d.val := by
      have := congrArg (fun i => (i 1).val) hj
      simpa using this.symm
    have hd := d.isLt
    have hA := a.isLt
    have h1 : c.val / 128 = hh := by omega
    have h2 : c.val % 128 = d.val := by omega
    have hx : View.ld x (rB h) (ix2 a d) = x (ix2 k c) := congrArg x hj
    rw [← hj]
    refine ((rB h).overlay_emb x w (ix2 a d)).trans ?_
    rw [hj, hw, hx, ha k c, h1, h2, Function.update_self, if_neg (by rw [hn]; omega), if_pos (by omega), hk, EReal.coe_zero, add_zero]
  · rw [Rect.overlay_of_not_mem _ _ _ hm, ha k c]
    have hm' := mt (Rect.mem_set_unit).2 hm
    by_cases h1 : c.val / 128 = hh
    · rw [h1, Function.update_self, hn]
      have : ¬ (256 * N ≤ k.val ∧ k.val < 256 * N + 256) := fun hk => hm' fun a => by
        have := c.isLt
        match a with
        | 0 => exact hk
        | 1 => exact (show 128 * hh ≤ c.val ∧ c.val < 128 * hh + 128 by omega)
      congr 3
      exact propext ⟨fun _ => by omega, fun _ => by omega⟩
    · rw [Function.update_of_ne h1]

theorem overlay_same {x w : Vec Ideal S8192x256 .f32} {off : Fin 2 → ℕ} (h : ∀ a, off a + S256x128.size a ≤ S8192x256.size a)
    (u : Vec Ideal S256x128 .f32) (hu : ∀ (a : Fin 256) (d : Fin 128), u (ix2 a d) = View.ld x (rB h) (ix2 a d)) :
    (rB h).overlay x u = x := by
  funext y
  by_cases hm : y ∈ (rB h).set
  · obtain ⟨j, rfl⟩ := (rB h).exists_idx_of_mem hm
    obtain ⟨a, d, rfl⟩ : ∃ (a : Fin 256) (d : Fin 128), j = ix2 a d := ⟨j 0, j 1, eq_ix2 j⟩
    exact ((rB h).overlay_emb x u (ix2 a d)).trans (hu a d)
  · exact Rect.overlay_of_not_mem _ _ _ hm

/-- Both accumulators. -/
structure AInv2 (M : ℕ → Hd) (qi : ℕ) (b1 b2 : Vec Ideal S8192x256 .f32) (x : Vec Ideal S8192x256 .f32 × Vec Ideal S8192x256 .f32)
    (n : ℕ → ℕ) : Prop where
  k : AInv M Hd.rDK qi b1 x.1 n
  v : AInv M Hd.rDV qi b2 x.2 n

section Step

variable {sel : Sel Ideal} {q d : Vec Ideal S256x128 .bf16} {t : Vec Ideal S1x256x1 .f32} {x4 x5 : Vec Ideal S8192x256 .bf16}
  {b1 b2 : Vec Ideal S8192x256 .f32} {off : Fin 2 → ℕ} (h : ∀ a, off a + S256x128.size a ≤ S8192x256.size a) {N hh : ℕ}
  {n : ℕ → ℕ} {s : VSt Ideal}

theorem bstep_on (hh2 : hh < 2) (e : off = ![256 * N, 128 * hh]) (hb : BlkIn q d (View.ld x4 (rB h)) (View.ld x5 (rB h)) t (M hh) qi N)
    (hs : SelAtt sel (M hh) qi N) (hn : n hh = N) (hc : CInv s.1 (M hh) qi N) (ha : AInv2 M qi b1 b2 s.2 n) :
    CInv (bstep sel q d t x4 x5 h s).1 (M hh) qi (N + 1)
      ∧ AInv2 M qi b1 b2 (bstep sel q d t x4 x5 h s).2 (Function.update n hh (N + 1)) :=
  ⟨bC_inv hb hs hc,
   overlay_ainv h hh2 e _ hn ha.k fun a d => bDk_apply hb hs hc _ a d,
   overlay_ainv h hh2 e _ hn ha.v fun a d => bDv_apply hb hs hc _ a d⟩

theorem bstep_off (hs : SelOff sel) (hc : CInv s.1 (M hh) qi N) :
    CInv (bstep sel q d t x4 x5 h s).1 (M hh) qi N ∧ (bstep sel q d t x4 x5 h s).2 = s.2 :=
  ⟨bC_off hs hc, Prod.ext (overlay_same (w := s.2.1) h _ fun a d => bDk_off hs _ a d) (overlay_same (w := s.2.2) h _ fun a d => bDv_off hs _ a d)⟩

end Step

/-! ## The masks -/

theorem selAll_att {m : Hd} {N : ℕ} (h : ∀ a b : Fin 256, m.att (256 * qi + a.val) (256 * N + b.val)) :
    SelAtt (selAll (F := Ideal)) m qi N := fun x y a b => (if_pos (h a b)).symm

theorem selDiag_att {m : Hd} (h : ∀ a b : Fin 256, m.att (256 * qi + a.val) (256 * qi + b.val) ↔ b.val < a.val) :
    SelAtt (selDiag (F := Ideal)) m qi qi := fun x y a b => by
  pointwise [selDiag]
  rw [show IntOp.cmpi CmpIPredicate.slt (BitVec.ofNat 32 b.val) (BitVec.ofNat 32 a.val) = BitVec.ofBool (decide (b.val < a.val)) by
    show BitVec.ofBool (BitVec.slt _ _) = _
    simp only [BitVec.slt, toInt_small a.isLt, toInt_small b.isLt, Nat.cast_lt]]
  by_cases hab : b.val < a.val
  · rw [if_pos ((h a b).2 hab), decide_eq_true hab]; rfl
  · rw [if_neg (mt (h a b).1 hab), decide_eq_false hab]; rfl

/-- The condition of the previous block, as a word. -/
theorem prev_word (i : grid0.Coords) (v : BitVec 32) : Scalar.andi (Scalar.cmpi .sgt (BitVec.ofNat 32 (i 1).val) 0#32)
    (Scalar.cmpi .slt (Scalar.minsi (BitVec.ofNat 32 (i 1).val) (Scalar.maxsi 0#32 v)) (BitVec.ofNat 32 (i 1).val))
      = BitVec.ofBool (decide (fst i v < (i 1).val)) := by
  have h1 : (BitVec.ofNat 32 (i 1).val).toInt = ((i 1).val : ℤ) := by
    have := isInt_q i
    unfold Affine.IsInt at this
    exact this
  have h2 : (Scalar.minsi (BitVec.ofNat 32 (i 1).val) (Scalar.maxsi 0#32 v)).toInt = (fst i v : ℤ) := by
    have := isInt_lb i v
    unfold Affine.IsInt at this
    exact this
  have hf := fst_le i v
  show BitVec.ofBool (BitVec.slt 0#32 _) &&& BitVec.ofBool (BitVec.slt _ _) = _
  simp only [BitVec.slt, h1, h2, Nat.cast_lt, BitVec.toInt_zero]
  by_cases h : fst i v < (i 1).val
  · rw [decide_eq_true h, decide_eq_true (by omega : (0 : ℤ) < (((i 1).val : ℕ) : ℤ))]; rfl
  · rw [decide_eq_false h, BitVec.and_comm]
    cases decide ((0 : ℤ) < (((i 1).val : ℕ) : ℤ)) <;> rfl

theorem selPrev_on {i : grid0.Coords} {v : BitVec 32} (h : fst i v < (i 1).val) : selPrev (F := Ideal) i v = selAll := by
  funext x y
  unfold selPrev
  rw [prev_word, decide_eq_true h]; rfl

theorem selPrev_off {i : grid0.Coords} {v : BitVec 32} (h : ¬ fst i v < (i 1).val) : SelOff (selPrev (F := Ideal) i v) := by
  intro x y a b
  unfold selPrev
  rw [prev_word, decide_eq_false h]; rfl

/-! ## The body -/

/-- The windows' contents at a grid point: two heads' queries, keys, values, output gradients and totals, and which
    keys are attended to. -/
structure BodyIn (M : ℕ → Hd) (i : grid0.Coords) (x2 : Vec Ideal S16x32 .f32) (x3 : Vec Ideal S256x256 .bf16) (x4 x5 : Vec Ideal S8192x256 .bf16)
    (x6 : Vec Ideal S256x256 .bf16) (x7 : Vec Ideal S2x256x128 .f32) : Prop where
  q : ∀ a c : Fin 256, x3 (ix2 a c) = (((M (c.val / 128)).Q (256 * (i 1).val + a.val) (c.val % 128) : ℝ) : EReal)
  d : ∀ a c : Fin 256, x6 (ix2 a c) = (((M (c.val / 128)).D (256 * (i 1).val + a.val) (c.val % 128) : ℝ) : EReal)
  k : ∀ (k : Fin 8192) (c : Fin 256), x4 (ix2 k c) = (((M (c.val / 128)).K k.val (c.val % 128) : ℝ) : EReal)
  v : ∀ (k : Fin 8192) (c : Fin 256), x5 (ix2 k c) = (((M (c.val / 128)).V k.val (c.val % 128) : ℝ) : EReal)
  t : ∀ (h : Fin 2) (a : Fin 256), x7 (ix3 h a 0) = (((M h.val).pSP (256 * (i 1).val + a.val) 8192 : ℝ) : EReal)
  s : ∀ h, (Ideal.ofBits .f32 0x3DB504F3#32 : EReal) = (((M h).s : ℝ) : EReal)
  att0 : ∀ (a : Fin 256) (k : ℕ), (M 0).att (256 * (i 1).val + a.val) k ↔ k < 256 * (i 1).val + a.val ∧ fst i (word0 i x2) ≤ k / 256
  att1 : ∀ (a : Fin 256) (k : ℕ), (M 1).att (256 * (i 1).val + a.val) k ↔ k < 256 * (i 1).val + a.val ∧ fst i (word1 i x2) ≤ k / 256

section Body

variable {i : grid0.Coords} {x2 : Vec Ideal S16x32 .f32} {x3 : Vec Ideal S256x256 .bf16} {x4 x5 : Vec Ideal S8192x256 .bf16}
  {x6 : Vec Ideal S256x256 .bf16} {x7 : Vec Ideal S2x256x128 .f32} {x9 x10 : Vec Ideal S8192x256 .f32}
  (H : BodyIn M i x2 x3 x4 x5 x6 x7)
include H

theorem blk0 {N : ℕ} {off : Fin 2 → ℕ} (h : ∀ a, off a + S256x128.size a ≤ S8192x256.size a) (e : off = ![256 * N, 0]) :
    BlkIn (View.ld x3 rQ0) (View.ld x6 rQ0) (View.ld x4 (rB h)) (View.ld x5 (rB h)) (View.ld x7 rS0) (M 0) (i 1).val N := by
  subst e
  refine ⟨fun a b => ?_, fun a b => ?_, fun a b => ?_, fun a b => ?_, fun a => ?_, H.s 0⟩
  · pointwise []
    refine (H.q _ _).trans ?_
    have := b.isLt
    simp only [Nat.div_eq_of_lt this, Nat.mod_eq_of_lt this]
  · pointwise []
    refine (H.d _ _).trans ?_
    have := b.isLt
    simp only [Nat.div_eq_of_lt this, Nat.mod_eq_of_lt this]
  · pointwise []
    refine (H.k _ _).trans ?_
    have := b.isLt
    simp only [Nat.div_eq_of_lt this, Nat.mod_eq_of_lt this]
  · pointwise []
    refine (H.v _ _).trans ?_
    have := b.isLt
    simp only [Nat.div_eq_of_lt this, Nat.mod_eq_of_lt this]
  · pointwise []
    exact H.t 0 a

theorem blk1 {N : ℕ} {off : Fin 2 → ℕ} (h : ∀ a, off a + S256x128.size a ≤ S8192x256.size a) (e : off = ![256 * N, 128]) :
    BlkIn (View.ld x3 rQ1) (View.ld x6 rQ1) (View.ld x4 (rB h)) (View.ld x5 (rB h)) (View.ld x7 rS1) (M 1) (i 1).val N := by
  subst e
  have hd (b : Fin 128) : (128 + b.val) / 128 = 1 := by have := b.isLt; omega
  have hm (b : Fin 128) : (128 + b.val) % 128 = b.val := by have := b.isLt; omega
  refine ⟨fun a b => ?_, fun a b => ?_, fun a b => ?_, fun a b => ?_, fun a => ?_, H.s 1⟩
  · pointwise []
    refine (H.q _ _).trans ?_
    simp only [hd, hm]
  · pointwise []
    refine (H.d _ _).trans ?_
    simp only [hd, hm]
  · pointwise []
    refine (H.k _ _).trans ?_
    simp only [hd, hm]
  · pointwise []
    refine (H.v _ _).trans ?_
    simp only [hd, hm]
  · pointwise []
    exact H.t 1 a

omit H in
/-- Nothing carried: no key before the first block is attended to. -/
theorem cinv_zero {m : Hd} {N : ℕ} {c : Carry Ideal} (h : ∀ (a : Fin 256) (k : ℕ), k < 256 * N → ¬ m.att (256 * qi + a.val) k)
    (h1 : ∀ a : Fin 256, c.1 (ix2 a 0) = 0) (h2 : ∀ a : Fin 256, c.2.1 (ix2 a 0) = 0)
    (h3 : ∀ (a : Fin 256) (b : Fin 128), c.2.2 (ix2 a b) = 0) : CInv c m qi N where
  p a := by rw [h1, Hd.pSP_zero (h a), EReal.coe_zero]
  g a := by rw [h2, Hd.pG_zero (h a), EReal.coe_zero]
  q a b := by rw [h3, Hd.pDQ_zero (h a), EReal.coe_zero]

/-- The first head's loop. -/
theorem inv1 {b1 b2 : Vec Ideal S8192x256 .f32} {c0 : Carry Ideal} {y : Vec Ideal S8192x256 .f32 × Vec Ideal S8192x256 .f32} {n : ℕ → ℕ}
    (hc : CInv c0 (M 0) (i 1).val (fst i (word0 i x2))) (ha : AInv2 M (i 1).val b1 b2 y n) (hn : n 0 = fst i (word0 i x2)) :
    ∀ j, j ≤ cnt i (word0 i x2) →
      CInv (vst1 i (View.ld x3 rQ0) (View.ld x6 rQ0) (View.ld x7 rS0) x4 x5 (word0 i x2) (c0, y) j).1 (M 0) (i 1).val (fst i (word0 i x2) + j)
      ∧ AInv2 M (i 1).val b1 b2 (vst1 i (View.ld x3 rQ0) (View.ld x6 rQ0) (View.ld x7 rS0) x4 x5 (word0 i x2) (c0, y) j).2
          (Function.update n 0 (fst i (word0 i x2) + j))
  | 0, _ => ⟨hc, by rw [Nat.add_zero, ← hn, Function.update_eq_self]; exact ha⟩
  | j + 1, hj => by
    have ih := inv1 hc ha hn j (by omega)
    have hj' : j < (k0_t1_loop i (word0 i x2)).trips := lt_of_lt_of_eq (by omega) (trips1 i _).symm
    have e := off2_eq i (word0 i x2) ⟨j, hj'⟩
    rw [show vst1 i (View.ld x3 rQ0) (View.ld x6 rQ0) (View.ld x7 rS0) x4 x5 (word0 i x2) (c0, y) (j + 1) = _ from dif_pos hj']
    have := bstep_on (M := M) (b1 := b1) (b2 := b2) (n := Function.update n 0 (fst i (word0 i x2) + j))
      (k0_off2_inb i (word0 i x2) (chk1 i _) ⟨j, hj'⟩) (hh := 0) (by omega) e
      (blk0 H _ e) (selAll_att fun a b => (H.att0 a _).2 (by have := b.isLt; have := hj; unfold cnt at this; dsimp only; constructor <;> omega))
      (Function.update_self ..) ih.1 ih.2
    rwa [Function.update_idem] at this

/-- The second head's loop. -/
theorem inv3 {b1 b2 : Vec Ideal S8192x256 .f32} {c0 : Carry Ideal} {y : Vec Ideal S8192x256 .f32 × Vec Ideal S8192x256 .f32} {n : ℕ → ℕ}
    (hc : CInv c0 (M 1) (i 1).val (fst i (word1 i x2))) (ha : AInv2 M (i 1).val b1 b2 y n) (hn : n 1 = fst i (word1 i x2)) :
    ∀ j, j ≤ cnt i (word1 i x2) →
      CInv (vst3 i (View.ld x3 rQ1) (View.ld x6 rQ1) (View.ld x7 rS1) x4 x5 (word1 i x2) (c0, y) j).1 (M 1) (i 1).val (fst i (word1 i x2) + j)
      ∧ AInv2 M (i 1).val b1 b2 (vst3 i (View.ld x3 rQ1) (View.ld x6 rQ1) (View.ld x7 rS1) x4 x5 (word1 i x2) (c0, y) j).2
          (Function.update n 1 (fst i (word1 i x2) + j))
  | 0, _ => ⟨hc, by rw [Nat.add_zero, ← hn, Function.update_eq_self]; exact ha⟩
  | j + 1, hj => by
    have ih := inv3 hc ha hn j (by omega)
    have hj' : j < (k0_t3_loop i (word1 i x2)).trips := lt_of_lt_of_eq (by omega) (trips3 i _).symm
    have e := off5_eq i (word1 i x2) ⟨j, hj'⟩
    rw [show vst3 i (View.ld x3 rQ1) (View.ld x6 rQ1) (View.ld x7 rS1) x4 x5 (word1 i x2) (c0, y) (j + 1) = _ from dif_pos hj']
    have := bstep_on (M := M) (b1 := b1) (b2 := b2) (n := Function.update n 1 (fst i (word1 i x2) + j))
      (k0_off5_inb i (word1 i x2) (chk2 i _) ⟨j, hj'⟩) (hh := 1) (by omega) e
      (blk1 H _ e) (selAll_att fun a b => (H.att1 a _).2 (by have := b.isLt; have := hj; unfold cnt at this; dsimp only; constructor <;> omega))
      (Function.update_self ..) ih.1 ih.2
    rwa [Function.update_idem] at this

omit H in
/-- The block below the diagonal one, whichever way its condition goes: the head stands at the diagonal block. -/
theorem prev_step {hh : ℕ} (hh2 : hh < 2) {w : BitVec 32} {q d : Vec Ideal S256x128 .bf16} {t : Vec Ideal S1x256x1 .f32} {off : Fin 2 → ℕ}
    (h : ∀ a, off a + S256x128.size a ≤ S8192x256.size a) {b1 b2 : Vec Ideal S8192x256 .f32} {n : ℕ → ℕ} {s : VSt Ideal}
    (e : off = ![256 * prv i, 128 * hh])
    (hb : ∀ N, off = ![256 * N, 128 * hh] → BlkIn q d (View.ld x4 (rB h)) (View.ld x5 (rB h)) t (M hh) (i 1).val N)
    (hatt : ∀ (a : Fin 256) (k : ℕ), (M hh).att (256 * (i 1).val + a.val) k ↔ k < 256 * (i 1).val + a.val ∧ fst i w ≤ k / 256)
    (hn : n hh = fst i w + cnt i w) (hc : CInv s.1 (M hh) (i 1).val (fst i w + cnt i w)) (ha : AInv2 M (i 1).val b1 b2 s.2 n) :
    CInv (bstep (selPrev i w) q d t x4 x5 h s).1 (M hh) (i 1).val (i 1).val
      ∧ AInv2 M (i 1).val b1 b2 (bstep (selPrev i w) q d t x4 x5 h s).2 (Function.update n hh (i 1).val) := by
  have hf := fst_le i w
  by_cases hp : fst i w < (i 1).val
  · have hN : fst i w + cnt i w = prv i := by unfold cnt prv; omega
    have hS : prv i + 1 = (i 1).val := by unfold prv; omega
    rw [selPrev_on hp]
    have := bstep_on (M := M) (b1 := b1) (b2 := b2) h hh2 e (hb _ e)
      (selAll_att fun a b => (hatt a _).2 (by have := b.isLt; constructor <;> omega)) (hn.trans hN) (hN ▸ hc) ha
    rwa [hS] at this
  · have hN : fst i w + cnt i w = (i 1).val := by unfold cnt; omega
    have := bstep_off (M := M) (hh := hh) (q := q) (d := d) (t := t) (x4 := x4) (x5 := x5) h (selPrev_off hp) (hN ▸ hc)
    refine ⟨this.1, ?_⟩
    rw [this.2, show Function.update n hh (i 1).val = n from
      (congrArg (Function.update n hh) (hn.trans hN).symm).trans (Function.update_eq_self hh n)]
    exact ha

omit H in
/-- The diagonal block. -/
theorem diag_step {hh : ℕ} (hh2 : hh < 2) {w : BitVec 32} {q d : Vec Ideal S256x128 .bf16} {t : Vec Ideal S1x256x1 .f32} {off : Fin 2 → ℕ}
    (h : ∀ a, off a + S256x128.size a ≤ S8192x256.size a) {b1 b2 : Vec Ideal S8192x256 .f32} {n : ℕ → ℕ} {s : VSt Ideal}
    (e : off = ![256 * (i 1).val, 128 * hh])
    (hb : ∀ N, off = ![256 * N, 128 * hh] → BlkIn q d (View.ld x4 (rB h)) (View.ld x5 (rB h)) t (M hh) (i 1).val N)
    (hatt : ∀ (a : Fin 256) (k : ℕ), (M hh).att (256 * (i 1).val + a.val) k ↔ k < 256 * (i 1).val + a.val ∧ fst i w ≤ k / 256)
    (hn : n hh = (i 1).val) (hc : CInv s.1 (M hh) (i 1).val (i 1).val) (ha : AInv2 M (i 1).val b1 b2 s.2 n) :
    CInv (bstep selDiag q d t x4 x5 h s).1 (M hh) (i 1).val ((i 1).val + 1)
      ∧ AInv2 M (i 1).val b1 b2 (bstep selDiag q d t x4 x5 h s).2 (Function.update n hh ((i 1).val + 1)) := by
  have hf := fst_le i w
  exact bstep_on (M := M) (b1 := b1) (b2 := b2) h hh2 e (hb _ e)
    (selDiag_att fun a b => (hatt a _).trans (by have := a.isLt; have := b.isLt; omega)) hn hc ha

theorem natt0 (a : Fin 256) (k : ℕ) (hk : k < 256 * fst i (word0 i x2)) : ¬ (M 0).att (256 * (i 1).val + a.val) k :=
  fun h => by have := ((H.att0 a k).1 h).2; omega
theorem natt1 (a : Fin 256) (k : ℕ) (hk : k < 256 * fst i (word1 i x2)) : ¬ (M 1).att (256 * (i 1).val + a.val) k :=
  fun h => by have := ((H.att1 a k).1 h).2; omega

/-- Before the body nothing has been added. -/
theorem ainv_start (f : Hd → ℕ → ℕ → ℕ → ℝ)
    (hf : ∀ (m : Hd) (k d : ℕ), (∀ r < 256, ¬ m.att (256 * (i 1).val + r) k) → f m (i 1).val k d = 0) (b : Vec Ideal S8192x256 .f32) :
    AInv M f (i 1).val b b (fun h => if h = 0 then fst i (word0 i x2) else fst i (word1 i x2)) := by
  intro k c
  have hc := c.isLt
  rcases (by omega : c.val / 128 = 0 ∨ c.val / 128 = 1) with h | h
  · rw [h]
    split
    · next hk => rw [hf _ _ _ fun r hr => natt0 H ⟨r, hr⟩ _ hk, EReal.coe_zero, add_zero]
    · rw [EReal.coe_zero, add_zero]
  · rw [h]
    split
    · next hk => rw [hf _ _ _ fun r hr => natt1 H ⟨r, hr⟩ _ hk, EReal.coe_zero, add_zero]
    · rw [EReal.coe_zero, add_zero]

/-- After the body the query block's whole part has been added. -/
theorem ainv_end {f : Hd → ℕ → ℕ → ℕ → ℝ}
    (hf : ∀ (m : Hd) (k d : ℕ), (∀ r < 256, ¬ m.att (256 * (i 1).val + r) k) → f m (i 1).val k d = 0) {b x : Vec Ideal S8192x256 .f32}
    {n : ℕ → ℕ} (h0 : n 0 = (i 1).val + 1) (h1 : n 1 = (i 1).val + 1) (ha : AInv M f (i 1).val b x n) (k : Fin 8192) (c : Fin 256) :
    x (ix2 k c) = b (ix2 k c) + ((f (M (c.val / 128)) (i 1).val k.val (c.val % 128) : ℝ) : EReal) := by
  have hc := c.isLt
  rw [ha k c]
  congr 2
  rcases (by omega : c.val / 128 = 0 ∨ c.val / 128 = 1) with h | h
  · rw [h, h0]
    split
    · rfl
    · next hk => exact (hf _ _ _ fun r hr h => by have := ((H.att0 ⟨r, hr⟩ _).1 h).1; dsimp only at this; omega).symm
  · rw [h, h1]
    split
    · rfl
    · next hk => exact (hf _ _ _ fun r hr h => by have := ((H.att1 ⟨r, hr⟩ _).1 h).1; dsimp only at this; omega).symm

/-- The state at the end, and the two heads' query gradients. -/
theorem body_inv :
    CInv (stD0 i x2 x3 x4 x5 x6 x7 x9 x10).1 (M 0) (i 1).val ((i 1).val + 1)
      ∧ CInv (stD1 i x2 x3 x4 x5 x6 x7 x9 x10).1 (M 1) (i 1).val ((i 1).val + 1)
      ∧ ∃ n : ℕ → ℕ, n 0 = (i 1).val + 1 ∧ n 1 = (i 1).val + 1 ∧ AInv2 M (i 1).val x9 x10 (stD1 i x2 x3 x4 x5 x6 x7 x9 x10).2 n := by
  have hA := inv1 H (c0 := (k0_pay37, k0_pay38, k0_pay39)) (y := (x9, x10)) (b1 := x9) (b2 := x10)
    (n := fun h => if h = 0 then fst i (word0 i x2) else fst i (word1 i x2))
    (cinv_zero (natt0 H) (fun a => by pointwise [k0_pay37]) (fun a => by pointwise [k0_pay38]) (fun a b => by pointwise [k0_pay39]))
    ⟨ainv_start H _ (fun _ _ _ h => Hd.rDK_off h) _, ainv_start H _ (fun _ _ _ h => Hd.rDV_off h) _⟩ rfl _ (trips1 i (word0 i x2)).le
  rw [trips1] at hA
  have hB := inv3 H (c0 := (k0_pay50, k0_pay51, k0_pay52)) (y := (stA i x2 x3 x4 x5 x6 x7 x9 x10).2)
    (cinv_zero (natt1 H) (fun a => by pointwise [k0_pay50]) (fun a => by pointwise [k0_pay51]) (fun a b => by pointwise [k0_pay52]))
    (by unfold stA; rw [trips1]; exact hA.2) rfl _ (trips3 i (word1 i x2)).le
  rw [trips3] at hB
  have hP0 := prev_step (M := M) (hh := 0) (by omega) (k0_off7_inb i) (s := ((stA i x2 x3 x4 x5 x6 x7 x9 x10).1, (stB i x2 x3 x4 x5 x6 x7 x9 x10).2))
    (off7_eq i) (fun N e => blk0 H _ e) H.att0 rfl (by unfold stA; rw [trips1]; exact hA.1) (by unfold stB; rw [trips3]; exact hB.2)
  have hD0 := diag_step (M := M) (hh := 0) (by omega) (k0_off8_inb i) (s := stP0 i x2 x3 x4 x5 x6 x7 x9 x10)
    (off8_eq i) (fun N e => blk0 H _ e) H.att0 (Function.update_self ..) hP0.1 hP0.2
  have hP1 := prev_step (M := M) (hh := 1) (by omega) (k0_off9_inb i) (s := ((stB i x2 x3 x4 x5 x6 x7 x9 x10).1, (stD0 i x2 x3 x4 x5 x6 x7 x9 x10).2))
    (off9_eq i) (fun N e => blk1 H _ e) H.att1 rfl (by unfold stB; rw [trips3]; exact hB.1) hD0.2
  have hD1 := diag_step (M := M) (hh := 1) (by omega) (k0_off10_inb i) (s := stP1 i x2 x3 x4 x5 x6 x7 x9 x10)
    (off10_eq i) (fun N e => blk1 H _ e) H.att1 (Function.update_self ..) hP1.1 hP1.2
  refine ⟨hD0.1, hD1.1, _, ?_, ?_, hD1.2⟩ <;> rfl

end Body

end Cert.KernelIdeal.Bwd

end
-- ==== Proof.PointVal.lean ====
/-
  What a grid point leaves in the three output windows, over the reals.
-/
module

public import proofs.«01_k».proof.Proof.Point
public import proofs.«01_k».proof.Proof.Body

@[expose] public section

set_option maxRecDepth 16384

noncomputable section

namespace Cert.KernelIdeal.Bwd

open Idealize.ShloMosaic Idealize.ShloMosaic.TcCoe
open Cert.KernelIdeal.Gen

variable {M : ℕ → Hd} {i : grid0.Coords} {x2 : Vec Ideal S16x32 .f32} {x3 : Vec Ideal S256x256 .bf16} {x4 x5 : Vec Ideal S8192x256 .bf16}
  {x6 : Vec Ideal S256x256 .bf16} {x7 : Vec Ideal S2x256x128 .f32} {x9 x10 : Vec Ideal S8192x256 .f32}
  (H : BodyIn M i x2 x3 x4 x5 x6 x7)
include H

theorem bOut_dk (k : Fin 8192) (c : Fin 256) : (bOut i x2 x3 x4 x5 x6 x7 x9 x10).2.1 (ix2 k c)
    = x9 (ix2 k c) + (((M (c.val / 128)).rDK (i 1).val k.val (c.val % 128) : ℝ) : EReal) := by
  obtain ⟨-, -, n, h0, h1, hA⟩ := body_inv (x9 := x9) (x10 := x10) H
  exact ainv_end H (f := Hd.rDK) (fun _ _ _ h => Hd.rDK_off h) h0 h1 hA.k k c

theorem bOut_dv (k : Fin 8192) (c : Fin 256) : (bOut i x2 x3 x4 x5 x6 x7 x9 x10).2.2 (ix2 k c)
    = x10 (ix2 k c) + (((M (c.val / 128)).rDV (i 1).val k.val (c.val % 128) : ℝ) : EReal) := by
  obtain ⟨-, -, n, h0, h1, hA⟩ := body_inv (x9 := x9) (x10 := x10) H
  exact ainv_end H (f := Hd.rDV) (fun _ _ _ h => Hd.rDV_off h) h0 h1 hA.v k c

omit H in
theorem two_cols (w1 w0 : Vec Ideal S256x128 .bf16) (a c : Fin 256) :
    View.canon (Val := Elt Ideal) [⟨rQ1, w1⟩, ⟨rQ0, w0⟩] (ix2 a c)
      = if h : c.val < 128 then w0 (ix2 a ⟨c.val, h⟩) else w1 (ix2 a ⟨c.val - 128, by have := c.isLt; omega⟩) := by
  have hc := c.isLt
  split
  · next hh =>
    have e : ix2 a c = rQ0.emb (ix2 a (⟨c.val, hh⟩ : Fin 128)) := by
      funext x; apply Fin.ext
      match x with
      | ⟨0, _⟩ => simp [ix2]
      | ⟨1, _⟩ => simp [ix2]
    have hn : ix2 a c ∉ rQ1.set := fun hm => by
      have h2 : (128 : ℕ) ≤ c.val := (Rect.mem_set_unit.1 hm 1).1
      omega
    refine (View.canon_cons_of_not_mem (Val := Elt Ideal) ⟨rQ1, w1⟩ _ hn).trans ?_
    rw [e]
    exact View.canon_cons_emb (Val := Elt Ideal) rQ0 w0 [] _
  · next hh =>
    have e : ix2 a c = rQ1.emb (ix2 a (⟨c.val - 128, by omega⟩ : Fin 128)) := by
      funext x; apply Fin.ext
      match x with
      | ⟨0, _⟩ => simp [ix2]
      | ⟨1, _⟩ => simp [ix2]; omega
    rw [e]
    exact View.canon_cons_emb (Val := Elt Ideal) rQ1 w1 _ _

theorem bOut_dq (a c : Fin 256) : (bOut i x2 x3 x4 x5 x6 x7 x9 x10).1 (ix2 a c)
    = (((M (c.val / 128)).pDQ (256 * (i 1).val + a.val) (c.val % 128) 8192 : ℝ) : EReal) := by
  obtain ⟨h0, h1, -⟩ := body_inv (x9 := x9) (x10 := x10) H
  have hi := lt32 i
  have hc := c.isLt
  have ha := a.isLt
  have e0 := h0.q
  have e1 := h1.q
  clear h0 h1
  unfold bOut outQ
  generalize stD0 i x2 x3 x4 x5 x6 x7 x9 x10 = S0 at e0 ⊢
  generalize stD1 i x2 x3 x4 x5 x6 x7 x9 x10 = S1 at e1 ⊢
  refine (two_cols _ _ a c).trans ?_
  split
  · next hh =>
    rw [show c.val / 128 = 0 by omega, show c.val % 128 = c.val by omega]
    refine (e0 a ⟨c.val, hh⟩).trans ?_
    rw [Hd.pDQ_end (M := M 0) (n := 256 * ((i 1).val + 1)) (m := 8192) (by omega) fun k hk h => by have := ((H.att0 a k).1 h).1; omega]
  · next hh =>
    rw [show c.val / 128 = 1 by omega, show c.val % 128 = c.val - 128 by omega]
    refine (e1 a ⟨c.val - 128, by omega⟩).trans ?_
    rw [Hd.pDQ_end (M := M 1) (n := 256 * ((i 1).val + 1)) (m := 8192) (by omega) fun k hk h => by have := ((H.att1 a k).1 h).1; omega]

end Cert.KernelIdeal.Bwd

end
-- ==== Proof.Model.lean ====
/-
  The heads of the attention, from the three arguments of the call.
-/
module

public import proofs.«01_k».proof.Proof.Spec
public import Idealize.ShloMosaic.Lib.Pointwise

@[expose] public section

noncomputable section

namespace Cert.KernelIdeal.Bwd

open Idealize.ShloMosaic

/-- The first key block a query of the block `j` attends to, from the word `w` given for it. -/
def first (w : BitVec 32) (j : ℕ) : ℕ := (min (j : ℤ) (max 0 w.toInt)).toNat

/-- Head `h`: 128 columns each of the queries, of the keys and of the values, and of the gradient of the result. -/
def heads (X Y : ℕ → ℕ → ℝ) (W : ℕ → ℕ → BitVec 32) (s : ℝ) (h : ℕ) : Hd where
  Q q d := X q (128 * h + d)
  K k d := X k (2048 + 128 * h + d)
  V k d := X k (4096 + 128 * h + d)
  D q d := Y q (128 * h + d)
  att q k := k < q ∧ first (W h (q / 256)) (q / 256) ≤ k / 256
  s := s

variable {X Y : ℕ → ℕ → ℝ} {W : ℕ → ℕ → BitVec 32} {s : ℝ}

theorem heads_att_lt {h q k : ℕ} (ha : (heads X Y W s h).att q k) : k < q := ha.1

/-- The arguments' entries are these numbers. -/
structure Args (x0 : Fin 8192 → Fin 6144 → EReal) (x1 : Fin 8192 → Fin 2048 → EReal) (x2 : Fin 16 → Fin 32 → EReal)
    (X Y : ℕ → ℕ → ℝ) (W : ℕ → ℕ → BitVec 32) (s : ℝ) : Prop where
  x : ∀ a b, x0 a b = ((X a.val b.val : ℝ) : EReal)
  y : ∀ a b, x1 a b = ((Y a.val b.val : ℝ) : EReal)
  w : ∀ a b, Ideal.fptosi 32 (x2 a b) = W a.val b.val
  s : (Ideal.ofBits .f32 0x3DB504F3#32 : EReal) = ((s : ℝ) : EReal)

end Cert.KernelIdeal.Bwd

end
-- ==== Proof.Acc.lean ====
/-
  The run over the reals: each window's block at a point as entries of the argument arrays, the accumulators after each
  point, and the three result arrays.
-/
module

public import proofs.«01_k».proof.Proof.PointVal
public import proofs.«01_k».proof.Proof.FrameK
public import proofs.«01_k».proof.Proof.Model
public import Idealize.ShloMosaic.Lib.Pipeline.ValueKit.Geometry

@[expose] public section

set_option maxRecDepth 16384

noncomputable section

namespace Cert.KernelIdeal.Bwd

open Idealize.ShloMosaic Idealize.ShloMosaic.TcCoe Idealize.ShloMosaic.Tactic
open Cert.KernelIdeal.Gen
open Idealize.ShloMosaic.Pipeline (Dat Cfg Window)

theorem ixw0 : ∀ t : Fin cfg0.N, win0_0.index t = ![0, 0] := (by decide +kernel : ∀ t : Fin grid0.N, _)
theorem ixw1 : ∀ t : Fin cfg0.N, win0_1.index t = ![(grid0.coords t 1).val, (grid0.coords t 0).val] := (by decide +kernel : ∀ t : Fin grid0.N, _)
theorem ixw2 : ∀ t : Fin cfg0.N, win0_2.index t = ![0, 8 + (grid0.coords t 0).val] := (by decide +kernel : ∀ t : Fin grid0.N, _)
theorem ixw3 : ∀ t : Fin cfg0.N, win0_3.index t = ![0, 16 + (grid0.coords t 0).val] := (by decide +kernel : ∀ t : Fin grid0.N, _)
theorem ixw4 : ∀ t : Fin cfg0.N, win0_4.index t = ![(grid0.coords t 1).val, (grid0.coords t 0).val] := (by decide +kernel : ∀ t : Fin grid0.N, _)
theorem ixw5 : ∀ t : Fin cfg0.N, win0_5.index t = ![(grid0.coords t 0).val, (grid0.coords t 1).val, 0] := (by decide +kernel : ∀ t : Fin grid0.N, _)
theorem ixw6 : ∀ t : Fin cfg0.N, win0_6.index t = ![(grid0.coords t 1).val, (grid0.coords t 0).val] := (by decide +kernel : ∀ t : Fin grid0.N, _)
theorem ixw7 : ∀ t : Fin cfg0.N, win0_7.index t = ![0, (grid0.coords t 0).val] := (by decide +kernel : ∀ t : Fin grid0.N, _)
theorem ixw8 : ∀ t : Fin cfg0.N, win0_8.index t = ![0, (grid0.coords t 0).val] := (by decide +kernel : ∀ t : Fin grid0.N, _)

variable (m : (ℓ : Loc nD τ sig) → Buf (Elt Ideal) ℓ) (c : Dev nD) (t : Fin cfg0.N)

theorem iblk1_apply (a b : Fin 256) (r : Fin 8192) (k : Fin 6144) (hr : r.val = 256 * (t.val % 32) + a.val) (hk : k.val = 256 * (t.val / 32) + b.val) :
    iblk m c 1 t (ix2 a b) = m ((c : Thread nD τ).loc main_arg0) (ix2 r k) := by
  blk_simp [iblk]
  rw [V_main_arg0]
  congr 1
  blk_ext [ixw1, crd0, crd1]

theorem iblk4_apply (a b : Fin 256) (r : Fin 8192) (k : Fin 2048) (hr : r.val = 256 * (t.val % 32) + a.val) (hk : k.val = 256 * (t.val / 32) + b.val) :
    iblk m c 4 t (ix2 a b) = m ((c : Thread nD τ).loc main_arg1) (ix2 r k) := by
  blk_simp [iblk]
  rw [V_main_arg1]
  congr 1
  blk_ext [ixw4, crd0, crd1]

theorem iblk2_apply (r : Fin 8192) (b : Fin 256) (k : Fin 6144) (hk : k.val = 2048 + 256 * (t.val / 32) + b.val) :
    iblk m c 2 t (ix2 r b) = m ((c : Thread nD τ).loc main_arg0) (ix2 r k) := by
  blk_simp [iblk]
  rw [V_main_arg0]
  congr 1
  blk_ext [ixw2, crd0, crd1]

theorem iblk3_apply (r : Fin 8192) (b : Fin 256) (k : Fin 6144) (hk : k.val = 4096 + 256 * (t.val / 32) + b.val) :
    iblk m c 3 t (ix2 r b) = m ((c : Thread nD τ).loc main_arg0) (ix2 r k) := by
  blk_simp [iblk]
  rw [V_main_arg0]
  congr 1
  blk_ext [ixw3, crd0, crd1]

theorem iblk0_apply (h : Fin 16) (j : Fin 32) :
    iblk m c 0 t (ix2 h j) = m ((c : Thread nD τ).loc main_arg2) (ix2 h j) := by
  blk_simp [iblk]
  rw [V_main_arg2]
  congr 1
  blk_ext [ixw0, crd0, crd1]

theorem iblk5_apply (h : Fin 2) (a : Fin 256) (l : Fin 128) (g : Fin 16) (r : Fin 8192) (hg : g.val = 2 * (t.val / 32) + h.val)
    (hr : r.val = 256 * (t.val % 32) + a.val) :
    iblk m c 5 t (ix3 h a l) = V m c main_v35 (ix3 g r l) := by
  blk_simp [iblk]
  congr 1
  blk_ext [ixw5, crd0, crd1]

theorem isInt_h (i : grid0.Coords) : Affine.IsInt (Scalar.muli 2#32 (BitVec.ofNat 32 (i 0).val)) ((2 * (i 0).val : ℕ) : ℤ) := by
  have h0 : (i 0).val < 8 := (i 0).isLt
  exact Affine.muli (Affine.ofNat 2 ⟨rfl, by omega⟩) (Affine.ofNat _ ⟨rfl, by omega⟩) ⟨by push_cast; omega, by push_cast; omega, by push_cast; omega⟩

theorem off1_eq (i : grid0.Coords) : k0_off1 i = ![2 * (i 0).val, (i 1).val] := by
  have h0 : (i 0).val < 8 := (i 0).isLt
  have h := lt32 i
  refine Affine.vec_cons (Affine.addi (isInt_h i) (Affine.ofNat 0 ⟨rfl, by omega⟩) ⟨rfl, by omega, by omega⟩) (by push_cast; omega) ?_
  exact Affine.vec_cons (isInt_q i) rfl rfl

theorem off4_eq (i : grid0.Coords) : k0_off4 i = ![2 * (i 0).val + 1, (i 1).val] := by
  have h0 : (i 0).val < 8 := (i 0).isLt
  have h := lt32 i
  refine Affine.vec_cons (Affine.addi (isInt_h i) (Affine.ofNat 1 ⟨rfl, by omega⟩) ⟨rfl, by omega, by omega⟩) (by push_cast; omega) ?_
  exact Affine.vec_cons (isInt_q i) rfl rfl

theorem ld_cell (x2 : Vec Ideal S16x32 .f32) (off : Fin 2 → ℕ) (inb : ∀ a, off a + S1x1.size a ≤ S16x32.size a) (h : Fin 16) (j : Fin 32)
    (e : off = ![h.val, j.val]) (p : S1x1.Idx) : View.ld x2 (Rect.unit off S1x1.size inb) p = x2 (ix2 h j) := by
  subst e
  refine congrArg x2 (funext fun x => Fin.ext ?_)
  have hp : ∀ y, (p y).val = 0 := fun y => by
    have := (p y).isLt
    match y with
    | ⟨0, _⟩ => have h : (p ⟨0, by decide⟩).val < 1 := this; omega
    | ⟨1, _⟩ => have h : (p ⟨1, by decide⟩).val < 1 := this; omega
  match x with
  | ⟨0, _⟩ => have := hp ⟨0, by decide⟩; simpa [ix2] using this
  | ⟨1, _⟩ => have := hp ⟨1, by decide⟩; simpa [ix2] using this

section Run

variable {X Y : ℕ → ℕ → ℝ} {W : ℕ → ℕ → BitVec 32} {s : ℝ}

variable (HA : Args (fun a b => m ((c : Thread nD τ).loc main_arg0) (ix2 a b)) (fun a b => m ((c : Thread nD τ).loc main_arg1) (ix2 a b))
    (fun a b => m ((c : Thread nD τ).loc main_arg2) (ix2 a b)) X Y W s)
  (HS : ∀ (h : Fin 16) (q : Fin 8192) (l : Fin 128), V m c main_v35 (ix3 h q l) = (((heads X Y W s h.val).pSP q.val 8192 : ℝ) : EReal))
include HA

theorem word0_eq : word0 (grid0.coords t) (iblk m c 0 t) = W (2 * (t.val / 32)) (t.val % 32) := by
  have hN : t.val < 256 := lt_of_lt_of_eq t.isLt (show cfg0.N = 256 from N_0)
  refine (congrArg (Ideal.fptosi 32) ((ld_cell _ _ (k0_off1_inb (grid0.coords t)) ⟨2 * (t.val / 32), by omega⟩ ⟨t.val % 32, by omega⟩
    (by rw [off1_eq, crd0, crd1]) _).trans (iblk0_apply m c t _ _))).trans (HA.w _ _)

theorem word1_eq : word1 (grid0.coords t) (iblk m c 0 t) = W (2 * (t.val / 32) + 1) (t.val % 32) := by
  have hN : t.val < 256 := lt_of_lt_of_eq t.isLt (show cfg0.N = 256 from N_0)
  refine (congrArg (Ideal.fptosi 32) ((ld_cell _ _ (k0_off4_inb (grid0.coords t)) ⟨2 * (t.val / 32) + 1, by omega⟩ ⟨t.val % 32, by omega⟩
    (by rw [off4_eq, crd0, crd1]) _).trans (iblk0_apply m c t _ _))).trans (HA.w _ _)

include HS

theorem bodyIn : BodyIn (fun hh => heads X Y W s (2 * (t.val / 32) + hh)) (grid0.coords t) (iblk m c 0 t) (iblk m c 1 t) (iblk m c 2 t)
    (iblk m c 3 t) (iblk m c 4 t) (iblk m c 5 t) := by
  have hN : t.val < 256 := lt_of_lt_of_eq t.isLt (show cfg0.N = 256 from N_0)
  refine ⟨fun a b => ?_, fun a b => ?_, fun r b => ?_, fun r b => ?_, fun h a => ?_, fun _ => HA.s, fun a k => ?_, fun a k => ?_⟩
  · have ha := a.isLt
    have hb := b.isLt
    rw [iblk1_apply m c t a b ⟨256 * (t.val % 32) + a.val, by omega⟩ ⟨256 * (t.val / 32) + b.val, by omega⟩ rfl rfl, crd1]
    refine (HA.x _ _).trans ?_
    dsimp only [heads]
    rw [show 256 * (t.val / 32) + b.val = 128 * (2 * (t.val / 32) + b.val / 128) + b.val % 128 by omega]
  · have ha := a.isLt
    have hb := b.isLt
    rw [iblk4_apply m c t a b ⟨256 * (t.val % 32) + a.val, by omega⟩ ⟨256 * (t.val / 32) + b.val, by omega⟩ rfl rfl, crd1]
    refine (HA.y _ _).trans ?_
    dsimp only [heads]
    rw [show 256 * (t.val / 32) + b.val = 128 * (2 * (t.val / 32) + b.val / 128) + b.val % 128 by omega]
  · have hb := b.isLt
    rw [iblk2_apply m c t r b ⟨2048 + 256 * (t.val / 32) + b.val, by omega⟩ rfl]
    refine (HA.x _ _).trans ?_
    dsimp only [heads]
    rw [show 2048 + 256 * (t.val / 32) + b.val = 2048 + 128 * (2 * (t.val / 32) + b.val / 128) + b.val % 128 by omega]
  · have hb := b.isLt
    rw [iblk3_apply m c t r b ⟨4096 + 256 * (t.val / 32) + b.val, by omega⟩ rfl]
    refine (HA.x _ _).trans ?_
    dsimp only [heads]
    rw [show 4096 + 256 * (t.val / 32) + b.val = 4096 + 128 * (2 * (t.val / 32) + b.val / 128) + b.val % 128 by omega]
  · have ha := a.isLt
    have hh := h.isLt
    rw [iblk5_apply m c t h a 0 ⟨2 * (t.val / 32) + h.val, by omega⟩ ⟨256 * (t.val % 32) + a.val, by omega⟩ rfl rfl, crd1]
    exact HS _ _ _
  · have ha := a.isLt
    rw [word0_eq m c t HA, crd1]
    dsimp only [heads, fst, first]
    rw [crd1, show (256 * (t.val % 32) + a.val) / 256 = t.val % 32 by omega, Nat.add_zero]
  · have ha := a.isLt
    rw [word1_eq m c t HA, crd1]
    dsimp only [heads, fst, first]
    rw [crd1, show (256 * (t.val % 32) + a.val) / 256 = t.val % 32 by omega]

theorem outs_dq (a b : Fin 256) : (outsAt m c t.val t.isLt).1 (ix2 a b)
    = (((heads X Y W s (2 * (t.val / 32) + b.val / 128)).pDQ (256 * (t.val % 32) + a.val) (b.val % 128) 8192 : ℝ) : EReal) := by
  have H := bodyIn m c t HA HS
  by_cases h0 : t.val % 32 = 0
  · rw [outsAt_A m c t h0, bOut_dq H, crd1]
  · rw [outsAt_B m c t h0, bOut_dq H, crd1]

omit HA HS in
theorem pay33_apply (k : Fin 8192) (b : Fin 256) : k0_pay33 (F := Ideal) (ix2 k b) = 0 := by
  pointwise [k0_pay33]

theorem outs_acc (n : ℕ) : ∀ hn : n < cfg0.N, ∀ (k : Fin 8192) (b : Fin 256),
    (outsAt m c n hn).2.1 (ix2 k b) = (((heads X Y W s (2 * (n / 32) + b.val / 128)).pDK k.val (b.val % 128) (256 * (n % 32 + 1)) : ℝ) : EReal)
      ∧ (outsAt m c n hn).2.2 (ix2 k b) = (((heads X Y W s (2 * (n / 32) + b.val / 128)).pDV k.val (b.val % 128) (256 * (n % 32 + 1)) : ℝ) : EReal) := by
  induction n using Nat.strong_induction_on with
  | _ n ih =>
    intro hn k b
    have H := bodyIn m c ⟨n, hn⟩ HA HS
    by_cases h0 : n % 32 = 0
    · have e := outsAt_A m c ⟨n, hn⟩ h0
      dsimp only at e
      rw [e, bOut_dk H, bOut_dv H, crd1, pay33_apply, Hd.pDK_block, Hd.pDV_block]
      dsimp only
      rw [h0]
      simp [Hd.pDK, Hd.pDV]
    · have e := outsAt_B m c ⟨n, hn⟩ h0
      dsimp only at e
      have i := ih (n - 1) (by omega) (by omega) k b
      rw [show (n - 1) / 32 = n / 32 by omega, show (n - 1) % 32 + 1 = n % 32 by omega] at i
      rw [e, bOut_dk H, bOut_dv H, crd1, Hd.pDK_block, Hd.pDV_block, i.1, i.2]
      dsimp only
      exact ⟨(EReal.coe_add _ _).symm, (EReal.coe_add _ _).symm⟩

theorem final_dq : (dats m 0 c).arrAt 6 cfg0.N = (fun i =>
    (((heads X Y W s ((i 1).val / 128)).pDQ (i 0).val ((i 1).val % 128) 8192 : ℝ) : EReal) : Vec Ideal S8192x2048 .bf16) := by
  refine (dats m 0 c).arrAt_eq_of_covers 6 _ (by decide +kernel) fun t hf y => ?_
  blk_simp
  rw [after0_6]
  obtain ⟨a, b, rfl⟩ : ∃ (a : Fin 256) (b : Fin 256), y = ix2 a b := ⟨y 0, y 1, eq_ix2 y⟩
  refine (outs_dq m c t HA HS a b).trans ?_
  have e0 : win0_6.index t 0 * 256 + (ix2 a b 0).val = 256 * (t.val % 32) + a.val := by
    rw [ixw6, crd1]; simp [ix2]; omega
  have e1 : win0_6.index t 1 * 256 + (ix2 a b 1).val = 256 * (t.val / 32) + b.val := by
    rw [ixw6, crd0]; simp [ix2]; omega
  have hb := b.isLt
  dsimp only
  rw [e0, e1, show (256 * (t.val / 32) + b.val) / 128 = 2 * (t.val / 32) + b.val / 128 by omega,
    show (256 * (t.val / 32) + b.val) % 128 = b.val % 128 by omega]

theorem final_dk : (dats m 0 c).arrAt 7 cfg0.N = (fun i =>
    (((heads X Y W s ((i 1).val / 128)).pDK (i 0).val ((i 1).val % 128) 8192 : ℝ) : EReal) : Vec Ideal S8192x2048 .f32) := by
  refine (dats m 0 c).arrAt_eq_of_covers 7 _ (by decide +kernel) fun t hf y => ?_
  blk_simp
  rw [after0_7]
  have h31 := (flush0_7 t).1 hf
  obtain ⟨a, b, rfl⟩ : ∃ (a : Fin 8192) (b : Fin 256), y = ix2 a b := ⟨y 0, y 1, eq_ix2 y⟩
  refine (outs_acc m c HA HS t.val t.isLt a b).1.trans ?_
  have e0 : win0_7.index t 0 * 8192 + (ix2 a b 0).val = a.val := by
    rw [ixw7]; simp [ix2]
  have e1 : win0_7.index t 1 * 256 + (ix2 a b 1).val = 256 * (t.val / 32) + b.val := by
    rw [ixw7, crd0]; simp [ix2]; omega
  have hb := b.isLt
  dsimp only
  rw [e0, e1, show (256 * (t.val / 32) + b.val) / 128 = 2 * (t.val / 32) + b.val / 128 by omega,
    show (256 * (t.val / 32) + b.val) % 128 = b.val % 128 by omega, show 256 * (t.val % 32 + 1) = 8192 by omega]

theorem final_dv : (dats m 0 c).arrAt 8 cfg0.N = (fun i =>
    (((heads X Y W s ((i 1).val / 128)).pDV (i 0).val ((i 1).val % 128) 8192 : ℝ) : EReal) : Vec Ideal S8192x2048 .f32) := by
  refine (dats m 0 c).arrAt_eq_of_covers 8 _ (by decide +kernel) fun t hf y => ?_
  blk_simp
  rw [after0_8]
  have h31 := (flush0_8 t).1 hf
  obtain ⟨a, b, rfl⟩ : ∃ (a : Fin 8192) (b : Fin 256), y = ix2 a b := ⟨y 0, y 1, eq_ix2 y⟩
  refine (outs_acc m c HA HS t.val t.isLt a b).2.trans ?_
  have e0 : win0_8.index t 0 * 8192 + (ix2 a b 0).val = a.val := by
    rw [ixw8]; simp [ix2]
  have e1 : win0_8.index t 1 * 256 + (ix2 a b 1).val = 256 * (t.val / 32) + b.val := by
    rw [ixw8, crd0]; simp [ix2]; omega
  have hb := b.isLt
  dsimp only
  rw [e0, e1, show (256 * (t.val / 32) + b.val) / 128 = 2 * (t.val / 32) + b.val / 128 by omega,
    show (256 * (t.val / 32) + b.val) % 128 = b.val % 128 by omega, show 256 * (t.val % 32 + 1) = 8192 by omega]

end Run

end Cert.KernelIdeal.Bwd

end
-- ==== Proof.Mask.lean ====
/-
  The mask of the attention, as the reference's text computes it.
-/
module

public import proofs.«01_k».proof.Proof.Model
public import proofs.«01_k».proof.Proof.Gen.ReferenceIdeal.Read

@[expose] public section

set_option maxRecDepth 16384

noncomputable section

namespace Cert.KernelIdeal.Bwd

open Idealize.ShloMosaic Idealize.ShloMosaic.TcCoe
open Cert.ReferenceIdeal Cert.ReferenceIdeal.Gen Cert.ReferenceIdeal.Read

theorem blk_of (k : Fin 8192) : val_main_v5 (F := Ideal) (ix1 k) = BitVec.ofNat 32 (k.val / 256) := by
  pointwise [val_main_v5, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, val_main_c, val_main_v4]
  revert k
  decide +kernel

variable (x2 : (⟨S16x32, .f32⟩ : BufTy).Contents (Elt Ideal))

theorem toInt_ofNat_lt {n : ℕ} (h : n < 2 ^ 31) : (BitVec.ofNat 32 n).toInt = (n : ℤ) := by
  rw [BitVec.toInt_eq_toNat_cond, BitVec.toNat_ofNat]; omega

theorem maxsi_toInt (x y : BitVec 32) : (IntOp.maxsi x y).toInt = max x.toInt y.toInt := by
  unfold IntOp.maxsi
  rw [BitVec.slt_eq_decide]
  split <;> rename_i h <;> simp only [decide_eq_true_eq] at h <;> omega

theorem minsi_toInt (x y : BitVec 32) : (IntOp.minsi x y).toInt = min x.toInt y.toInt := by
  unfold IntOp.minsi
  rw [BitVec.slt_eq_decide]
  split <;> rename_i h <;> simp only [decide_eq_true_eq] at h <;> omega

/-- The mask: the key is before the query and not before the first block given for the query's block. -/
theorem mask_apply (h : Fin 16) (q k : Fin 8192) : val_main_v23 (F := Ideal) x2 (ix3 h q k)
    = BitVec.ofBool (decide (k.val < q.val ∧ first (Ideal.fptosi 32 (x2 (ix2 h ⟨q.val / 256, by have := q.isLt; omega⟩))) (q.val / 256) ≤ k.val / 256)) := by
  have hq := q.isLt
  have hk := k.isLt
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v4, val_main_call1_v0, val_main_call1_v1, val_main_call1_v2, val_main_call1_v3, val_main_c_0]
  rw [blk_of, show (FloatOps.fptosi (F := Ideal) 32 (x2 (ix2 h ⟨q.val / 256, by omega⟩)) : BitVec 32) = Ideal.fptosi 32 (x2 (ix2 h ⟨q.val / 256, by omega⟩)) from rfl]
  generalize (Ideal.fptosi 32 (x2 (ix2 h ⟨q.val / 256, by omega⟩)) : BitVec 32) = v
  show IntOp.andi (IntOp.cmpi .slt _ _) (IntOp.cmpi .sge _ (IntOp.minsi (BitVec.ofNat 32 (q.val / 256)) (IntOp.maxsi 0#32 v))) = _
  have e1 : IntOp.cmpi .slt (BitVec.ofNat 32 k.val) (BitVec.ofNat 32 q.val) = BitVec.ofBool (decide (k.val < q.val)) := by
    simp only [IntOp.cmpi, BitVec.slt_eq_decide]
    rw [toInt_ofNat_lt (by omega), toInt_ofNat_lt (by omega)]
    simp
  have e2 : IntOp.cmpi .sge (BitVec.ofNat 32 (k.val / 256)) (IntOp.minsi (BitVec.ofNat 32 (q.val / 256)) (IntOp.maxsi 0#32 v))
      = BitVec.ofBool (decide (first v (q.val / 256) ≤ k.val / 256)) := by
    simp only [IntOp.cmpi, BitVec.sle_eq_decide]
    rw [minsi_toInt, maxsi_toInt, toInt_ofNat_lt (n := q.val / 256) (by omega), toInt_ofNat_lt (n := k.val / 256) (by omega)]
    congr 2
    unfold first
    simp only [BitVec.toInt_zero, eq_iff_iff]
    omega
  rw [e1, e2, Bool.decide_and]
  cases decide (k.val < q.val) <;> cases decide (first v (q.val / 256) ≤ k.val / 256) <;> rfl

end Cert.KernelIdeal.Bwd

end
-- ==== Proof.Window.lean ====
/-
  The host's sum over a window along the last of three axes, where the entries are real numbers.
-/
module

public import Idealize.ShloMosaic.Lib.Pointwise
public import Mathlib.Analysis.SpecialFunctions.Log.Basic

@[expose] public section

noncomputable section

namespace Cert.KernelIdeal.Bwd

open Idealize.ShloMosaic
open Finset

/-- A left fold of additions of real numbers. -/
theorem fold_coe {M : ℕ} (E : Fin M → EReal) (g : ℕ → ℝ) (hE : ∀ n : Fin M, E n = ((g n.val : ℝ) : EReal)) (l : List (Fin M)) (z : ℝ) :
    l.foldl (fun r n => r + E n) (z : EReal) = ((z + (l.map fun n => g n.val).sum : ℝ) : EReal) := by
  induction l generalizing z with
  | nil => simp
  | cons n l ih =>
    rw [List.foldl_cons, hE, ← EReal.coe_add, ih, List.map_cons, List.sum_cons, add_assoc]

theorem fold_range {M : ℕ} (E : Fin M → EReal) (g : ℕ → ℝ) (hE : ∀ n : Fin M, E n = ((g n.val : ℝ) : EReal)) :
    (List.finRange M).foldl (fun r n => r + E n) (0 : EReal) = ((∑ n ∈ range M, g n : ℝ) : EReal) := by
  have h := fold_coe E g hE (List.finRange M) 0
  rw [EReal.coe_zero, zero_add, ← Fin.sum_univ_def, Fin.sum_univ_eq_sum_range] at h
  exact h

/-- A position of a window of one row. -/
theorem symm_row {N : ℕ} (n : Fin (⟨3, ![1, 1, N]⟩ : Shape).numel) :
    ((⟨3, ![1, 1, N]⟩ : Shape).rowMajor.symm n 2).val = n.val := by
  have h := Shape.rowMajor_val_three ((⟨3, ![1, 1, N]⟩ : Shape).rowMajor.symm n)
  rw [Equiv.apply_symm_apply] at h
  have h0 : ((⟨3, ![1, 1, N]⟩ : Shape).rowMajor.symm n 0).val = 0 := Nat.lt_one_iff.1 ((⟨3, ![1, 1, N]⟩ : Shape).rowMajor.symm n 0).isLt
  have h1 : ((⟨3, ![1, 1, N]⟩ : Shape).rowMajor.symm n 1).val = 0 := Nat.lt_one_iff.1 ((⟨3, ![1, 1, N]⟩ : Shape).rowMajor.symm n 1).isLt
  rw [h0, h1] at h
  omega

/-- The sum over a window of one row, of which `l` entries lie before the row's element. -/
theorem window_apply {A B N l u : ℕ}
    (hr : (⟨3, ![A, B, N]⟩ : Shape).ReduceWindows (![1, 1, N] : Fin 3 → ℕ) ![1, 1, 1] ![0, 0, l] ![0, 0, u] ⟨3, ![A, B, N]⟩)
    (x : (⟨3, ![A, B, N]⟩ : Shape).Idx → EReal) (f : ℕ → ℝ) (a : Fin A) (b : Fin B) (k : Fin N)
    (hx : ∀ j : Fin N, x (ix3 a b j) = ((f j.val : ℝ) : EReal)) :
    Ideal.hostReduceWindowAdd ![1, 1, N] ![1, 1, 1] ![0, 0, l] ![0, 0, u] hr x 0 (ix3 a b k)
      = ((∑ n ∈ range N, if l ≤ k.val + n ∧ k.val + n - l < N then f (k.val + n - l) else 0 : ℝ) : EReal) := by
  unfold Ideal.hostReduceWindowAdd Host.reduceWindow
  refine (fold_range _ (fun n => if l ≤ k.val + n ∧ k.val + n - l < N then f (k.val + n - l) else 0) fun n => ?_).trans ?_
  · have h2 := symm_row n
    have h0 : ((⟨3, ![1, 1, N]⟩ : Shape).rowMajor.symm n 0).val = 0 := Nat.lt_one_iff.1 ((⟨3, ![1, 1, N]⟩ : Shape).rowMajor.symm n 0).isLt
    have h1 : ((⟨3, ![1, 1, N]⟩ : Shape).rowMajor.symm n 1).val = 0 := Nat.lt_one_iff.1 ((⟨3, ![1, 1, N]⟩ : Shape).rowMajor.symm n 1).isLt
    have ha := a.isLt
    have hb := b.isLt
    dsimp only
    split
    · next hin =>
      have h := hin 2
      change l ≤ k.val * 1 + ((⟨3, ![1, 1, N]⟩ : Shape).rowMajor.symm n 2).val ∧ k.val * 1 + ((⟨3, ![1, 1, N]⟩ : Shape).rowMajor.symm n 2).val - l < N at h
      rw [h2, Nat.mul_one] at h
      rw [if_pos h]
      refine (congrArg x (funext fun c => Fin.ext ?_)).trans (hx ⟨k.val + n.val - l, h.2⟩)
      match c with
      | ⟨0, _⟩ =>
        show a.val * 1 + ((⟨3, ![1, 1, N]⟩ : Shape).rowMajor.symm n 0).val - 0 = a.val
        omega
      | ⟨1, _⟩ =>
        show b.val * 1 + ((⟨3, ![1, 1, N]⟩ : Shape).rowMajor.symm n 1).val - 0 = b.val
        omega
      | ⟨2, _⟩ =>
        show k.val * 1 + ((⟨3, ![1, 1, N]⟩ : Shape).rowMajor.symm n 2).val - l = k.val + n.val - l
        omega
    · next hin =>
      rw [if_neg fun hle => hin fun c => by
        match c with
        | ⟨0, _⟩ =>
          show 0 ≤ a.val * 1 + ((⟨3, ![1, 1, N]⟩ : Shape).rowMajor.symm n 0).val ∧ a.val * 1 + ((⟨3, ![1, 1, N]⟩ : Shape).rowMajor.symm n 0).val - 0 < A
          omega
        | ⟨1, _⟩ =>
          show 0 ≤ b.val * 1 + ((⟨3, ![1, 1, N]⟩ : Shape).rowMajor.symm n 1).val ∧ b.val * 1 + ((⟨3, ![1, 1, N]⟩ : Shape).rowMajor.symm n 1).val - 0 < B
          omega
        | ⟨2, _⟩ =>
          show l ≤ k.val * 1 + ((⟨3, ![1, 1, N]⟩ : Shape).rowMajor.symm n 2).val ∧ k.val * 1 + ((⟨3, ![1, 1, N]⟩ : Shape).rowMajor.symm n 2).val - l < N
          omega]
      rfl
  · have hn : (⟨3, ![1, 1, N]⟩ : Shape).numel = N := by
      rw [Shape.numel, Fin.prod_univ_three]
      show 1 * 1 * N = N
      omega
    exact congrArg (fun m => ((∑ n ∈ range m, if l ≤ k.val + n ∧ k.val + n - l < N then f (k.val + n - l) else 0 : ℝ) : EReal)) hn

/-- A window that starts at the element: the sum from it on. -/
theorem sum_from (f : ℕ → ℝ) (N k : ℕ) (hk : k ≤ N) :
    ∑ n ∈ range N, (if 0 ≤ k + n ∧ k + n - 0 < N then f (k + n - 0) else 0) = ∑ n ∈ range N, f n - ∑ n ∈ range k, f n := by
  obtain ⟨m, rfl⟩ := Nat.exists_eq_add_of_le hk
  have e : range (k + m) = range (m + k) := by rw [add_comm]
  rw [show ∑ n ∈ range (k + m), f n = ∑ n ∈ range k, f n + ∑ n ∈ range m, f (k + n) from sum_range_add _ _ _, add_sub_cancel_left, e, sum_range_add]
  rw [sum_congr rfl (g := fun n => f (k + n)) fun n hn => by
    have := mem_range.1 hn
    rw [if_pos (by omega), Nat.sub_zero]]
  rw [sum_eq_zero (s := range k) fun n hn => by
    rw [if_neg (by omega)], add_zero]

/-- A window that ends at the element: the sum up to it. -/
theorem sum_upto (f : ℕ → ℝ) (l k : ℕ) (hk : k ≤ l) :
    ∑ n ∈ range (l + 1), (if l ≤ k + n ∧ k + n - l < l + 1 then f (k + n - l) else 0) = ∑ n ∈ range (k + 1), f n := by
  obtain ⟨m, rfl⟩ := Nat.exists_eq_add_of_le' hk
  rw [show m + k + 1 = m + (k + 1) by omega, sum_range_add]
  rw [sum_eq_zero fun n hn => by
    have := mem_range.1 hn
    rw [if_neg (by omega)], zero_add]
  refine sum_congr rfl fun n hn => ?_
  have := mem_range.1 hn
  rw [if_pos (by omega)]
  congr 1; omega

end Cert.KernelIdeal.Bwd

end
-- ==== Proof.Ref.lean ====
/-
  What the reference computes, entry by entry, over the reals.
-/
module

public import proofs.«01_k».proof.Proof.Mask
public import proofs.«01_k».proof.Proof.Entry
public import proofs.«01_k».proof.Proof.Window

@[expose] public section

set_option maxRecDepth 16384

noncomputable section

namespace Cert.KernelIdeal.Bwd

open Idealize.ShloMosaic Idealize.ShloMosaic.TcCoe
open Cert.ReferenceIdeal Cert.ReferenceIdeal.Gen Cert.ReferenceIdeal.Read
open Finset

/-- The word of the greatest value. -/
theorem inf_top : (Ideal.ofBits .f32 0x7F800000#32 : EReal) = ⊤ := by
  simp [Ideal.ofBits, Ideal.ieee]

theorem exp_sub_ite (x y : ℝ) :
    Ideal.exp ((if (x : EReal) = Ideal.ofBits .f32 0x7F800000#32 then 0 else (x : EReal))
      - if (y : EReal) = Ideal.ofBits .f32 0x7F800000#32 then 0 else (y : EReal)) = ((Real.exp (x - y) : ℝ) : EReal) := by
  rw [inf_top, if_neg (EReal.coe_ne_top x), if_neg (EReal.coe_ne_top y), ← EReal.coe_sub]
  rfl

/-- A choice by a bit that stands for a proposition. -/
theorem sel_ite (p : Prop) [Decidable p] (x y : ℝ) (X Y : EReal) (hx : X = x) (hy : Y = y) :
    Scalar.select (BitVec.ofBool (decide p)) X Y = ((if p then x else y : ℝ) : EReal) := by
  subst hx hy
  by_cases hp : p <;> simp [hp, Scalar.select]

theorem zero_const : (id (constant (F := Ideal) ReferenceIdeal.S_ FTy.f32 0#32) ix0 : EReal) = ((0 : ℝ) : EReal) := by
  show (Ideal.ofBits .f32 0#32 : EReal) = _
  simp [Ideal.ofBits, Ideal.ieee]

theorem neg_coe (x : ℝ) : -((x : ℝ) : EReal) = ((-x : ℝ) : EReal) := (EReal.coe_neg x).symm

variable (x0 : (⟨S8192x6144, .bf16⟩ : BufTy).Contents (Elt Ideal)) (x1 : (⟨S8192x2048, .bf16⟩ : BufTy).Contents (Elt Ideal))
  (x2 : (⟨S16x32, .f32⟩ : BufTy).Contents (Elt Ideal))
variable {X Y : ℕ → ℕ → ℝ} {W : ℕ → ℕ → BitVec 32} {s : ℝ}
variable (HA : Args (fun a b => x0 (ix2 a b)) (fun a b => x1 (ix2 a b)) (fun a b => x2 (ix2 a b)) X Y W s)
variable (h : Fin 16) (q k : Fin 8192) (d : Fin 128)

include HA

theorem q_ref : val_main_v25 (F := Ideal) x0 (ix3 h q d) = (((heads X Y W s h.val).Q q.val d.val : ℝ) : EReal) := by
  pointwise [val_main_v25, val_main_v24, val_main_v1, val_main_v0]
  refine (HA.x _ _).trans ?_
  show ((X q.val (h.val * 128 + d.val) : ℝ) : EReal) = ((X q.val (128 * h.val + d.val) : ℝ) : EReal)
  rw [Nat.mul_comm]

theorem k_ref : val_main_v27 (F := Ideal) x0 (ix3 h k d) = (((heads X Y W s h.val).K k.val d.val : ℝ) : EReal) := by
  pointwise [val_main_v27, val_main_v26, val_main_v2, val_main_v0]
  refine (HA.x _ _).trans ?_
  refine congrArg (fun n => ((X k.val n : ℝ) : EReal)) ?_
  dsimp only
  omega

theorem v_ref : val_main_v29 (F := Ideal) x0 (ix3 h k d) = (((heads X Y W s h.val).V k.val d.val : ℝ) : EReal) := by
  pointwise [val_main_v29, val_main_v28, val_main_v3, val_main_v0]
  refine (HA.x _ _).trans ?_
  refine congrArg (fun n => ((X k.val n : ℝ) : EReal)) ?_
  dsimp only
  omega

theorem d_ref : val_main_v47 (F := Ideal) x1 (ix3 h q d) = (((heads X Y W s h.val).D q.val d.val : ℝ) : EReal) := by
  pointwise [val_main_v47, val_main_v46, val_main_v45]
  refine (HA.y _ _).trans ?_
  refine congrArg (fun n => ((Y q.val n : ℝ) : EReal)) ?_
  dsimp only
  omega

theorem z_ref : val_main_v32 (F := Ideal) x0 (ix3 h q k) = (((heads X Y W s h.val).Z q.val k.val : ℝ) : EReal) := by
  pointwise [val_main_v32, val_main_v30, val_main_v31, val_main_cst]
  rw [HA.s, csum _ (fun d => (heads X Y W s h.val).Q q.val d * (heads X Y W s h.val).K k.val d) fun d => by
    rw [q_ref x0 x1 x2 HA, k_ref x0 x1 x2 HA, ← EReal.coe_mul], ← EReal.coe_mul]
  rfl

theorem sp_ref : val_main_v33_0 (F := Ideal) x0 (ix3 h q k) = ((sp ((heads X Y W s h.val).Z q.val k.val) : ℝ) : EReal) := by
  pointwise [val_main_v33_0, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst]
  rw [z_ref x0 x1 x2 HA, if_neg (not_not.2 rfl)]
  generalize (heads X Y W s h.val).Z q.val k.val = z
  refine Eq.trans ?_ (csp z)
  rw [← cabs, zero_sub]
  rfl

theorem lz_ref : val_main_v33_1 (F := Ideal) x0 (ix3 h q k)
    = ((Real.exp ((heads X Y W s h.val).Z q.val k.val - sp ((heads X Y W s h.val).Z q.val k.val)) : ℝ) : EReal) := by
  pointwise [val_main_v33_1, val_main_call2_v21, val_main_call2_v20, val_main_call2_v19, val_main_call2_cst_3, val_main_call2_v18, val_main_call2_v17, val_main_call2_cst_2, val_main_call2_v16, val_main_call2_v15, val_main_call2_cst_1, val_main_call2_v14, val_main_call2_v13, val_main_call2_cst_0]
  rw [z_ref x0 x1 x2 HA, sp_ref x0 x1 x2 HA]
  exact exp_sub_ite _ _

theorem sn_ref : val_main_call5_v1_0 (F := Ideal) x0 (ix3 h q k) = ((sp (-(heads X Y W s h.val).Z q.val k.val) : ℝ) : EReal) := by
  pointwise [val_main_call5_v1_0, val_main_call5_v0, val_main_call5_call0_v11, val_main_call5_call0_v10, val_main_call5_call0_v9, val_main_call5_call0_v8, val_main_call5_call0_v7, val_main_call5_call0_v6, val_main_call5_call0_v5, val_main_call5_call0_v4, val_main_call5_call0_v3, val_main_call5_call0_v2, val_main_call5_call0_v1, val_main_call5_call0_v0, val_main_call5_call0_cst]
  rw [z_ref x0 x1 x2 HA, if_neg (not_not.2 rfl), ← EReal.coe_neg]
  generalize -(heads X Y W s h.val).Z q.val k.val = z
  refine Eq.trans ?_ (csp z)
  rw [← cabs, zero_sub]
  rfl

theorem ln_ref : val_main_v38_1 (F := Ideal) x0 (ix3 h q k)
    = ((Real.exp (-(heads X Y W s h.val).Z q.val k.val - sp (-(heads X Y W s h.val).Z q.val k.val)) : ℝ) : EReal) := by
  pointwise [val_main_v38_1, val_main_call5_call0_v21, val_main_call5_call0_v20, val_main_call5_call0_v19, val_main_call5_call0_cst_3, val_main_call5_call0_v18, val_main_call5_call0_v17, val_main_call5_call0_cst_2, val_main_call5_call0_v16, val_main_call5_call0_v15, val_main_call5_call0_cst_1, val_main_call5_call0_v14, val_main_call5_call0_v13, val_main_call5_call0_cst_0, val_main_call5_v0]
  rw [z_ref x0 x1 x2 HA, sn_ref x0 x1 x2 HA, ← EReal.coe_neg]
  exact exp_sub_ite _ _

open Classical in
theorem mask_ref : val_main_v23 (F := Ideal) x2 (ix3 h q k) = BitVec.ofBool (decide ((heads X Y W s h.val).att q.val k.val)) := by
  refine (mask_apply x2 h q k).trans ?_
  rw [HA.w]
  congr 2

open scoped Classical in
theorem nsp_ref : val_main_v35_0 (F := Ideal) x0 x2 (ix3 h q k) = ((-(heads X Y W s h.val).SP q.val k.val : ℝ) : EReal) := by
  pointwise [val_main_v35_0, val_main_v34, val_main_call3_v1, val_main_call3_v0, val_main_cst_1]
  rw [sp_ref x0 x1 x2 HA, mask_ref x0 x1 x2 HA, ← EReal.coe_neg]
  refine (sel_ite _ _ 0 _ _ rfl zero_const).trans ?_
  refine congrArg (fun r : ℝ => (r : EReal)) ?_
  unfold Hd.SP
  split <;> simp

theorem suf_ref : val_main_v36 (F := Ideal) x0 x2 (ix3 h q k)
    = ((-((heads X Y W s h.val).pSP q.val 8192 - (heads X Y W s h.val).pSP q.val k.val) : ℝ) : EReal) := by
  have e := window_apply (A := 16) (B := 8192) (N := 8192) (l := 0) (u := 8191) reduceWindows_S16x8192x8192_S16x8192x8192_w1s1p0_0_w1s1p0_0_w8192s1p0_8191
    (val_main_v35_0 (F := Ideal) x0 x2) (fun j => -(heads X Y W s h.val).SP q.val j) h q k fun j => nsp_ref x0 x1 x2 HA h q j
  rw [sum_from (fun j => -(heads X Y W s h.val).SP q.val j) 8192 k.val k.isLt.le, sum_neg_distrib, sum_neg_distrib] at e
  have e0 : val_main_call4_v0 (F := Ideal) (Shape.Idx.first h_S_) = (0 : EReal) := by
    rw [show Shape.Idx.first h_S_ = ix0 from funext fun a => a.elim0]; pointwise [val_main_call4_v0, val_main_call4_cst]
  refine Eq.trans ?_ (e.trans ?_)
  · unfold val_main_v36 Host.reduceWindowAdd
    rw [e0]
    rfl
  · refine congrArg (fun r : ℝ => (r : EReal)) ?_
    unfold Hd.pSP
    ring

theorem suf1_ref : val_main_v37 (F := Ideal) x0 x2 (ix3 h q k)
    = ((-((heads X Y W s h.val).pSP q.val 8192 - (heads X Y W s h.val).pSP q.val (k.val + 1)) : ℝ) : EReal) := by
  pointwise [val_main_v37]
  rw [suf_ref x0 x1 x2 HA, nsp_ref x0 x1 x2 HA, ← EReal.coe_sub]
  refine congrArg (fun r : ℝ => (r : EReal)) ?_
  have h1 : (heads X Y W s h.val).pSP q.val (k.val + 1) = (heads X Y W s h.val).pSP q.val k.val + (heads X Y W s h.val).SP q.val k.val := sum_range_succ _ _
  rw [h1]; ring

theorem p_ref : val_main_v40 (F := Ideal) x0 x2 (ix3 h q k)
    = ((Real.exp (-sp (-(heads X Y W s h.val).Z q.val k.val) + -((heads X Y W s h.val).pSP q.val 8192 - (heads X Y W s h.val).pSP q.val (k.val + 1))) : ℝ) : EReal) := by
  pointwise [val_main_v40, val_main_v39, val_main_v38_0]
  rw [sn_ref x0 x1 x2 HA, suf1_ref x0 x1 x2 HA, ← EReal.coe_neg, ← EReal.coe_add]
  rfl

open scoped Classical in
theorem a_ref : val_main_v41_0 (F := Ideal) x0 x2 (ix3 h q k) = (((heads X Y W s h.val).A q.val k.val : ℝ) : EReal) := by
  pointwise [val_main_v41_0, val_main_call6_v1, val_main_call6_v0, val_main_cst_2]
  rw [p_ref x0 x1 x2 HA, mask_ref x0 x1 x2 HA]
  refine (sel_ite _ _ 0 _ _ rfl zero_const).trans ?_
  refine congrArg (fun r : ℝ => (r : EReal)) ?_
  split
  · next ha => exact (Hd.A_eq ha k.isLt).symm
  · next ha => exact (Hd.A_off ha).symm

open scoped Classical in
theorem g_ref : val_main_v52 (F := Ideal) x0 x1 x2 (ix3 h q k) = (((heads X Y W s h.val).G q.val k.val : ℝ) : EReal) := by
  pointwise [val_main_v52, val_main_v51, val_main_v50, val_main_call7_v0, val_main_call7_cst]
  rw [p_ref x0 x1 x2 HA, mask_ref x0 x1 x2 HA, csum _ (fun d => (heads X Y W s h.val).D q.val d * (heads X Y W s h.val).V k.val d) fun d => by
    rw [d_ref x0 x1 x2 HA, v_ref x0 x1 x2 HA, ← EReal.coe_mul]]
  rw [← EReal.coe_mul, sel_ite _ _ 0 _ _ rfl EReal.coe_zero.symm]
  refine congrArg (fun r : ℝ => (r : EReal)) ?_
  split
  · next ha => unfold Hd.G; rw [Hd.A_eq ha k.isLt]
  · next ha => rw [Hd.G_off ha]

theorem pg_ref : val_main_v55 (F := Ideal) x0 x1 x2 (ix3 h q k) = (((heads X Y W s h.val).pG q.val (k.val + 1) : ℝ) : EReal) := by
  have e := window_apply (A := 16) (B := 8192) (N := 8192) (l := 8191) (u := 0) reduceWindows_S16x8192x8192_S16x8192x8192_w1s1p0_0_w1s1p0_0_w8192s1p8191_0
    (val_main_v52 (F := Ideal) x0 x1 x2) (fun j => (heads X Y W s h.val).G q.val j) h q k fun j => g_ref x0 x1 x2 HA h q j
  refine Eq.trans ?_ (e.trans (congrArg (fun r : ℝ => (r : EReal)) (sum_upto (fun j => (heads X Y W s h.val).G q.val j) 8191 k.val (Nat.le_of_lt_succ k.isLt))))
  have e0 : val_main_call9_v0 (F := Ideal) (Shape.Idx.first h_S_) = (0 : EReal) := by
    rw [show Shape.Idx.first h_S_ = ix0 from funext fun a => a.elim0]; pointwise [val_main_call9_v0, val_main_call9_cst]
  unfold val_main_v55 Host.reduceWindowAdd
  rw [e0]
  rfl

open scoped Classical in
theorem dz_ref : val_main_v62 (F := Ideal) x0 x1 x2 (ix3 h q k) = (((heads X Y W s h.val).DZ q.val k.val * s : ℝ) : EReal) := by
  pointwise [val_main_v62, val_main_v61, val_main_cst_3, val_main_v60, val_main_v59, val_main_v58, val_main_v57, val_main_v56, val_main_v54, val_main_v53, val_main_call8_v1, val_main_call8_v0, val_main_call10_v0, val_main_call10_cst]
  rw [mask_ref x0 x1 x2 HA, pg_ref x0 x1 x2 HA, g_ref x0 x1 x2 HA, lz_ref x0 x1 x2 HA, ln_ref x0 x1 x2 HA, HA.s]
  generalize hM : heads X Y W s h.val = M
  rw [neg_coe, ← EReal.coe_add, ← EReal.coe_mul, neg_coe, sel_ite _ _ 0 _ _ rfl EReal.coe_zero.symm, neg_coe, ← EReal.coe_mul, ← EReal.coe_add, ← EReal.coe_mul]
  refine congrArg (fun r : ℝ => ((r * s : ℝ) : EReal)) ?_
  split
  · next ha => rw [Hd.DZ_eq ha]; ring
  · next ha => rw [Hd.DZ_off ha, Hd.G_off ha]; ring

/-! ## The three results -/

omit HA in
theorem col_div (c : Fin 2048) : c.val / 128 < 16 := by have := c.isLt; omega

theorem dq_ref (c : Fin 2048) : val_main_v71 (F := Ideal) x0 x1 x2 (ix2 q c)
    = (((heads X Y W s (c.val / 128)).pDQ q.val (c.val % 128) 8192 : ℝ) : EReal) := by
  pointwise [val_main_v71, val_main_v70, val_main_v69, val_main_v64]
  exact csum _ (fun k => (heads X Y W s (c.val / 128)).DZ q.val k * s * (heads X Y W s (c.val / 128)).K k (c.val % 128)) fun k =>
    (congrArg₂ (· * ·) (dz_ref x0 x1 x2 HA ⟨c.val / 128, col_div c⟩ q k) (k_ref x0 x1 x2 HA ⟨c.val / 128, col_div c⟩ k ⟨c.val % 128, Nat.mod_lt _ (by omega)⟩)).trans (EReal.coe_mul _ _).symm

theorem dk_ref (c : Fin 2048) : val_main_v68 (F := Ideal) x0 x1 x2 (ix2 k c)
    = (((heads X Y W s (c.val / 128)).pDK k.val (c.val % 128) 8192 : ℝ) : EReal) := by
  pointwise [val_main_v68, val_main_v67, val_main_v63]
  exact csum _ (fun q => (heads X Y W s (c.val / 128)).DZ q k.val * s * (heads X Y W s (c.val / 128)).Q q (c.val % 128)) fun q =>
    (congrArg₂ (· * ·) (dz_ref x0 x1 x2 HA ⟨c.val / 128, col_div c⟩ q k) (q_ref x0 x1 x2 HA ⟨c.val / 128, col_div c⟩ q ⟨c.val % 128, Nat.mod_lt _ (by omega)⟩)).trans (EReal.coe_mul _ _).symm

theorem dv_ref (c : Fin 2048) : val_main_v66 (F := Ideal) x0 x1 x2 (ix2 k c)
    = (((heads X Y W s (c.val / 128)).pDV k.val (c.val % 128) 8192 : ℝ) : EReal) := by
  pointwise [val_main_v66, val_main_v65, val_main_v49, val_main_v48]
  exact csum _ (fun q => (heads X Y W s (c.val / 128)).A q k.val * (heads X Y W s (c.val / 128)).D q (c.val % 128)) fun q =>
    (congrArg₂ (· * ·) (d_ref x0 x1 x2 HA ⟨c.val / 128, col_div c⟩ q ⟨c.val % 128, Nat.mod_lt _ (by omega)⟩) (a_ref x0 x1 x2 HA ⟨c.val / 128, col_div c⟩ q k)).trans
      ((mul_comm _ _).trans (EReal.coe_mul _ _).symm)

end Cert.KernelIdeal.Bwd

end
-- ==== Proof.Host.lean ====
/-
  The totals of `softplus` that the host hands to the call.
-/
module

public import proofs.«01_k».proof.Proof.Ref
public import proofs.«01_k».proof.Proof.Gen.KernelIdeal.Frame
public import Idealize.ShloMosaic.Lib.StableHlo.Run
public import Idealize.ShloMosaic.Lib.StableHlo.RunRead

@[expose] public section

set_option maxRecDepth 16384

noncomputable section

namespace Cert.KernelIdeal.Bwd

open Idealize.ShloMosaic Idealize.ShloMosaic.TcCoe Idealize.ShloMosaic.Tactic
open Cert.KernelIdeal.Gen
open Finset

variable (m : (ℓ : Loc nD τ sig) → Buf (Elt Ideal) ℓ) (c : Dev nD)

/-- The masked `softplus` of the scores, as the host computes it: the reference's mask and `softplus`. -/
abbrev hostSP (x0 : (⟨S8192x6144, .bf16⟩ : BufTy).Contents (Elt Ideal)) (x2 : (⟨S16x32, .f32⟩ : BufTy).Contents (Elt Ideal)) :
    (⟨S16x8192x8192, .f32⟩ : BufTy).Contents (Elt Ideal) :=
  select (ReferenceIdeal.Read.val_main_v23 (F := Ideal) x2) (ReferenceIdeal.Read.val_main_v33_0 (F := Ideal) x0)
    (broadcastInDim S16x8192x8192 ![] bcast_S_S16x8192x8192 (id (constant (F := Ideal) S_ .f32 0x00000000#32)))

set_option maxHeartbeats 1000000 in
theorem V_tot : V m c main_v35 = broadcastInDim S16x8192x128 ![0, 1, 2] bcast_S16x8192x1_S16x8192x128_0_1_2
    (broadcastInDim S16x8192x1 ![0, 1] bcast_S16x8192_S16x8192x1_0_1
      (Host.reduceAdd (F := Ideal) (hostSP (m ((c : Thread nD τ).loc main_arg0)) (m ((c : Thread nD τ).loc main_arg2)))
        (constant (F := Ideal) S_ .f32 0x00000000#32) reducesTo_S16x8192x8192_S16x8192_d2 h_S_)) := by
  unfold V; dsimp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

variable {X Y : ℕ → ℕ → ℝ} {W : ℕ → ℕ → BitVec 32} {s : ℝ}
variable (HA : Args (fun a b => m ((c : Thread nD τ).loc main_arg0) (ix2 a b)) (fun a b => m ((c : Thread nD τ).loc main_arg1) (ix2 a b))
  (fun a b => m ((c : Thread nD τ).loc main_arg2) (ix2 a b)) X Y W s)

include HA

open scoped Classical in
theorem hostSP_apply (h : Fin 16) (q k : Fin 8192) :
    hostSP (m ((c : Thread nD τ).loc main_arg0)) (m ((c : Thread nD τ).loc main_arg2)) (ix3 h q k) = (((heads X Y W s h.val).SP q.val k.val : ℝ) : EReal) := by
  pointwise [hostSP]
  rw [sp_ref _ _ _ HA, mask_ref _ _ _ HA]
  exact sel_ite _ _ 0 _ _ rfl zero_const

/-- The call's totals are the model's. -/
theorem tot_apply (h : Fin 16) (q : Fin 8192) (l : Fin 128) :
    V m c main_v35 (ix3 h q l) = (((heads X Y W s h.val).pSP q.val 8192 : ℝ) : EReal) := by
  rw [V_tot]
  have hSP := hostSP_apply m c HA
  generalize hostSP (m ((c : Thread nD τ).loc main_arg0)) (m ((c : Thread nD τ).loc main_arg2)) = g at hSP ⊢
  pointwise []
  exact csum _ (fun k => (heads X Y W s h.val).SP q.val k) fun k => hSP h q k

end Cert.KernelIdeal.Bwd

end
-- ==== Proof.Value.lean ====
/-
  The value claim: with finite activations, the call leaves what the reference computes.
-/
module

public import proofs.«01_k».proof.Proof.Acc
public import proofs.«01_k».proof.Proof.Host
public import proofs.«01_k».proof.Proof.Frames
public import proofs.«01_k».proof.Proof.Gen.Pre_finite
public import Idealize.ShloMosaic.Lib.ReduceAll

@[expose] public section

set_option maxRecDepth 16384

noncomputable section

namespace Cert.KernelIdeal.Bwd

open Idealize.ShloMosaic Idealize.ShloMosaic.TcCoe Idealize.SL.Sem
open Cert.KernelIdeal.Gen

/-- What is less than the greatest value in magnitude is a real number. -/
theorem coe_of_abs_lt (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  have h' : max x (-x) < ⊤ := by
    rw [inf_top] at h
    have h2 : BitVec.ofBool (decide (max x (-x) < (⊤ : EReal))) = 1#1 := h
    by_contra hc
    rw [decide_eq_false hc] at h2
    exact absurd h2 (by decide)
  refine (EReal.coe_toReal (fun e => ?_) fun e => ?_).symm
  · subst e; simp at h'
  · subst e; simp at h'

/-- A normal word is a real number. -/
theorem ieee_real (b : BitVec 32) (h1 : ¬ (b.extractLsb' 23 8).toNat = 2 ^ 8 - 1) (h2 : ¬ (b.extractLsb' 23 8).toNat = 0) :
    ∃ s : ℝ, Ideal.ieee 8 23 b = ((s : ℝ) : EReal) := by
  unfold Ideal.ieee
  dsimp only
  rw [if_neg h1, if_neg h2]
  exact ⟨_, rfl⟩

/-- The scale's word is a real number. -/
theorem scale_real : ∃ s : ℝ, (Ideal.ofBits .f32 0x3DB504F3#32 : EReal) = ((s : ℝ) : EReal) :=
  ieee_real 0x3DB504F3#32 (by decide) (by decide)

section

variable (x0 : (⟨S8192x6144, .bf16⟩ : BufTy).Contents (Elt Ideal)) (x1 : (⟨S8192x2048, .bf16⟩ : BufTy).Contents (Elt Ideal))
  (x2 : (⟨S16x32, .f32⟩ : BufTy).Contents (Elt Ideal))

theorem finite_args (hp : Cert.Pre_finite.fn (F := Ideal) x0 x1 x2 = fun _ => 1#1) :
    (∀ i, x0 i = (((x0 i : EReal).toReal : ℝ) : EReal)) ∧ ∀ i, x1 i = (((x1 i : EReal).toReal : ℝ) : EReal) := by
  have h := congrFun hp ix0
  dsimp only [Cert.Pre_finite.fn] at h
  have h2 : IntOp.andi _ _ = 1#1 := h
  obtain ⟨ha, hb⟩ := IntOp.andi_eq_one.1 h2
  exact ⟨fun i => coe_of_abs_lt _ (Host.reduce_andi_all _ _ _ _ _ ha i), fun i => coe_of_abs_lt _ (Host.reduce_andi_all _ _ _ _ _ hb i)⟩

/-- Finite activations are real numbers. -/
theorem args_real (hp : Cert.Pre_finite.fn (F := Ideal) x0 x1 x2 = fun _ => 1#1) :
    ∃ X Y W s, Args (fun a b => x0 (ix2 a b)) (fun a b => x1 (ix2 a b)) (fun a b => x2 (ix2 a b)) X Y W s := by
  obtain ⟨h0, h1⟩ := finite_args x0 x1 x2 hp
  obtain ⟨s, hs⟩ := scale_real
  refine ⟨fun a b => if h : a < 8192 ∧ b < 6144 then (x0 (ix2 ⟨a, h.1⟩ ⟨b, h.2⟩) : EReal).toReal else 0,
    fun a b => if h : a < 8192 ∧ b < 2048 then (x1 (ix2 ⟨a, h.1⟩ ⟨b, h.2⟩) : EReal).toReal else 0,
    fun a b => if h : a < 16 ∧ b < 32 then Ideal.fptosi 32 (x2 (ix2 ⟨a, h.1⟩ ⟨b, h.2⟩)) else 0#32, s, ?_, ?_, ?_, hs⟩
  · intro a b
    rw [dif_pos ⟨a.isLt, b.isLt⟩]
    exact h0 _
  · intro a b
    rw [dif_pos ⟨a.isLt, b.isLt⟩]
    exact h1 _
  · intro a b
    rw [dif_pos ⟨a.isLt, b.isLt⟩]

end

variable (m : (ℓ : Loc nD τ sig) → Buf (Elt Ideal) ℓ) (c : Dev nD)

/-- The call's three arrays are the reference's three results. -/
theorem arrays_eq (hp : Cert.Pre_finite.fn (F := Ideal) (m ((c : Thread nD τ).loc main_arg0)) (m ((c : Thread nD τ).loc main_arg1)) (m ((c : Thread nD τ).loc main_arg2)) = fun _ => 1#1) :
    (dats m 0 c).arrAt 6 cfg0.N = ReferenceIdeal.Read.val_main_v71 (F := Ideal) (m ((c : Thread nD τ).loc main_arg0)) (m ((c : Thread nD τ).loc main_arg1)) (m ((c : Thread nD τ).loc main_arg2))
    ∧ (dats m 0 c).arrAt 7 cfg0.N = ReferenceIdeal.Read.val_main_v68 (F := Ideal) (m ((c : Thread nD τ).loc main_arg0)) (m ((c : Thread nD τ).loc main_arg1)) (m ((c : Thread nD τ).loc main_arg2))
    ∧ (dats m 0 c).arrAt 8 cfg0.N = ReferenceIdeal.Read.val_main_v66 (F := Ideal) (m ((c : Thread nD τ).loc main_arg0)) (m ((c : Thread nD τ).loc main_arg1)) (m ((c : Thread nD τ).loc main_arg2)) := by
  obtain ⟨X, Y, W, s, HA⟩ := args_real _ _ _ hp
  have HS := tot_apply m c HA
  refine ⟨(final_dq m c HA HS).trans ?_, (final_dk m c HA HS).trans ?_, (final_dv m c HA HS).trans ?_⟩
  · funext j
    rw [show j = ix2 (j 0) (j 1) by funext a; match a with | ⟨0, _⟩ => rfl | ⟨1, _⟩ => rfl]
    exact (dq_ref _ _ _ HA (j 0) (j 1)).symm
  · funext j
    rw [show j = ix2 (j 0) (j 1) by funext a; match a with | ⟨0, _⟩ => rfl | ⟨1, _⟩ => rfl]
    exact (dk_ref _ _ _ HA (j 0) (j 1)).symm
  · funext j
    rw [show j = ix2 (j 0) (j 1) by funext a; match a with | ⟨0, _⟩ => rfl | ⟨1, _⟩ => rfl]
    exact (dv_ref _ _ _ HA (j 0) (j 1)).symm

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp he
  refine ⟨fun c => ReferenceIdeal.Read.val_main_v71 (F := Ideal) (m ((c : Thread nD τ).loc main_arg0)) (m ((c : Thread nD τ).loc main_arg1)) (m ((c : Thread nD τ).loc main_arg2)),
    fun c => ReferenceIdeal.Read.val_main_v68 (F := Ideal) (m ((c : Thread nD τ).loc main_arg0)) (m ((c : Thread nD τ).loc main_arg1)) (m ((c : Thread nD τ).loc main_arg2)),
    fun c => ReferenceIdeal.Read.val_main_v66 (F := Ideal) (m ((c : Thread nD τ).loc main_arg0)) (m ((c : Thread nD τ).loc main_arg1)) (m ((c : Thread nD τ).loc main_arg2)), ?_, ?_⟩
  · refine (θ_run _ _ _).mono (fun r h c => ?_) (θ_run_and (run_main m g) (frame m g))
    exact ⟨((h.1 c).1 6).trans (arrays_eq m c (hp c)).1, ((h.1 c).1 7).trans (arrays_eq m c (hp c)).2.1, ((h.1 c).1 8).trans (arrays_eq m c (hp c)).2.2, h.2.1 c⟩
  · refine (θ_run _ _ _).mono (fun r h c => ?_) (Cert.ReferenceIdeal.Value.run (F := Ideal) m' g')
    obtain ⟨e0, e1, e2⟩ := he c
    obtain ⟨h0, h1, h2, h3⟩ := h c
    refine ⟨h0.trans ?_, h1.trans ?_, h2.trans ?_, h3⟩
    · refine (ReferenceIdeal.Read.val_main_v71_eq _).trans ?_
      exact congr (congrArg₂ (ReferenceIdeal.Read.val_main_v71 (F := Ideal)) e0 e1) e2
    · refine (ReferenceIdeal.Read.val_main_v68_eq _).trans ?_
      exact congr (congrArg₂ (ReferenceIdeal.Read.val_main_v68 (F := Ideal)) e0 e1) e2
    · refine (ReferenceIdeal.Read.val_main_v66_eq _).trans ?_
      exact congr (congrArg₂ (ReferenceIdeal.Read.val_main_v66 (F := Ideal)) e0 e1) e2

end Cert.KernelIdeal.Bwd

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel39
public import proofs.«01_k».proof.Proof.Gen.Kernel39Ideal
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel40
public import proofs.«01_k».proof.Proof.Gen.Kernel40Ideal
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.Gen.Kernel41
public import proofs.«01_k».proof.Proof.Gen.Kernel41Ideal
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import proofs.«01_k».proof.Proof.Gen.Kernel42
public import proofs.«01_k».proof.Proof.Gen.Kernel42Ideal
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Reference42Ideal.Read
public import proofs.«01_k».proof.Proof.Gen.Kernel43
public import proofs.«01_k».proof.Proof.Gen.Kernel43Ideal
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Reference43Ideal.Read
public import proofs.«01_k».proof.Proof.Gen.Kernel44
public import proofs.«01_k».proof.Proof.Gen.Kernel44Ideal
public import proofs.«01_k».proof.Proof.Gen.Kernel44Ideal.Frame
public import proofs.«01_k».proof.Proof.Gen.Kernel44Ideal.Value
public import proofs.«01_k».proof.Proof.Gen.Reference44Ideal
public import proofs.«01_k».proof.Proof.Gen.Reference44Ideal.Run
public import proofs.«01_k».proof.Proof.Gen.Reference44Ideal.Read
public import proofs.«01_k».proof.Proof.Gen.Kernel45
public import proofs.«01_k».proof.Proof.Gen.Kernel45Ideal
public import proofs.«01_k».proof.Proof.Gen.Kernel45Ideal.Frame
public import proofs.«01_k».proof.Proof.Gen.Kernel45Ideal.Value
public import proofs.«01_k».proof.Proof.Gen.Reference45Ideal
public import proofs.«01_k».proof.Proof.Gen.Reference45Ideal.Run
public import proofs.«01_k».proof.Proof.Gen.Reference45Ideal.Read
public import proofs.«01_k».proof.Proof.Gen.Kernel46
public import proofs.«01_k».proof.Proof.Gen.Kernel46Ideal
public import proofs.«01_k».proof.Proof.Gen.Kernel46Ideal.Frame
public import proofs.«01_k».proof.Proof.Gen.Kernel46Ideal.Value
public import proofs.«01_k».proof.Proof.Gen.Reference46Ideal
public import proofs.«01_k».proof.Proof.Gen.Reference46Ideal.Run
public import proofs.«01_k».proof.Proof.Gen.Reference46Ideal.Read
public import proofs.«01_k».proof.Proof.Gen.Kernel47
public import proofs.«01_k».proof.Proof.Gen.Kernel47Ideal
public import proofs.«01_k».proof.Proof.Gen.Kernel47Ideal.Frame
public import proofs.«01_k».proof.Proof.Gen.Kernel47Ideal.Value
public import proofs.«01_k».proof.Proof.Gen.Reference47Ideal
public import proofs.«01_k».proof.Proof.Gen.Reference47Ideal.Run
public import proofs.«01_k».proof.Proof.Gen.Reference47Ideal.Read
public import proofs.«01_k».proof.Proof.Gen.Kernel48
public import proofs.«01_k».proof.Proof.Gen.Kernel48Ideal
public import proofs.«01_k».proof.Proof.Gen.Kernel48Ideal.Frame
public import proofs.«01_k».proof.Proof.Gen.Kernel48Ideal.Value
public import proofs.«01_k».proof.Proof.Gen.Reference48Ideal
public import proofs.«01_k».proof.Proof.Gen.Reference48Ideal.Run
public import proofs.«01_k».proof.Proof.Gen.Reference48Ideal.Read
public import proofs.«01_k».proof.Proof.Gen.Kernel49
public import proofs.«01_k».proof.Proof.Gen.Kernel49Ideal
public import proofs.«01_k».proof.Proof.Gen.Kernel49Ideal.Frame
public import proofs.«01_k».proof.Proof.Gen.Kernel49Ideal.Value
public import proofs.«01_k».proof.Proof.Gen.Reference49Ideal
public import proofs.«01_k».proof.Proof.Gen.Reference49Ideal.Run
public import proofs.«01_k».proof.Proof.Gen.Reference49Ideal.Read
public import proofs.«01_k».proof.Proof.Gen.Kernel50
public import proofs.«01_k».proof.Proof.Gen.Kernel50Ideal
public import proofs.«01_k».proof.Proof.Gen.Kernel50Ideal.Frame
public import proofs.«01_k».proof.Proof.Gen.Kernel50Ideal.Value
public import proofs.«01_k».proof.Proof.Gen.Reference50Ideal
public import proofs.«01_k».proof.Proof.Gen.Reference50Ideal.Run
public import proofs.«01_k».proof.Proof.Gen.Reference50Ideal.Read
public import proofs.«01_k».proof.Proof.Gen.Kernel51
public import proofs.«01_k».proof.Proof.Gen.Kernel51Ideal
public import proofs.«01_k».proof.Proof.Gen.Kernel51Ideal.Frame
public import proofs.«01_k».proof.Proof.Gen.Kernel51Ideal.Value
public import proofs.«01_k».proof.Proof.Gen.Reference51Ideal
public import proofs.«01_k».proof.Proof.Gen.Reference51Ideal.Run
public import proofs.«01_k».proof.Proof.Gen.Reference51Ideal.Read
public import proofs.«01_k».proof.Proof.Gen.Kernel52
public import proofs.«01_k».proof.Proof.Gen.Kernel52Ideal
public import proofs.«01_k».proof.Proof.Gen.Kernel52Ideal.Frame
public import proofs.«01_k».proof.Proof.Gen.Kernel52Ideal.Value
public import proofs.«01_k».proof.Proof.Gen.Reference52Ideal
public import proofs.«01_k».proof.Proof.Gen.Reference52Ideal.Run
public import proofs.«01_k».proof.Proof.Gen.Reference52Ideal.Read
public import proofs.«01_k».proof.Proof.Gen.Pre_finite_norm
public import proofs.«01_k».proof.Proof.Mlp2
public import proofs.«01_k».proof.Proof.Mlp3
public import proofs.«01_k».proof.Proof.Mlp4
public import proofs.«01_k».proof.Proof.Mlp5
public import proofs.«01_k».proof.Proof.Mlp6
public import proofs.«01_k».proof.Proof.Gate7
public import proofs.«01_k».proof.Proof.Norm8
public import proofs.«01_k».proof.Proof.Norm9
public import proofs.«01_k».proof.Proof.Mlp10
public import proofs.«01_k».proof.Proof.Mlp11
public import proofs.«01_k».proof.Proof.Mlp12
public import proofs.«01_k».proof.Proof.Mlp13
public import proofs.«01_k».proof.Proof.Mlp14
public import proofs.«01_k».proof.Proof.Mlp15
public import proofs.«01_k».proof.Proof.Mlp16
public import proofs.«01_k».proof.Proof.Mlp17
public import proofs.«01_k».proof.Proof.Mlp18
public import proofs.«01_k».proof.Proof.Mlp19
public import proofs.«01_k».proof.Proof.Mlp20
public import proofs.«01_k».proof.Proof.Mlp21
public import proofs.«01_k».proof.Proof.Mlp22
public import proofs.«01_k».proof.Proof.Mlp23
public import proofs.«01_k».proof.Proof.Mlp24
public import proofs.«01_k».proof.Proof.Mlp25
public import proofs.«01_k».proof.Proof.Mlp26
public import proofs.«01_k».proof.Proof.Mlp27
public import proofs.«01_k».proof.Proof.Mlp28
public import proofs.«01_k».proof.Proof.Mlp29
public import proofs.«01_k».proof.Proof.Mlp30
public import proofs.«01_k».proof.Proof.Mlp31
public import proofs.«01_k».proof.Proof.Mlp32
public import proofs.«01_k».proof.Proof.Mlp33
public import proofs.«01_k».proof.Proof.Mlp34
public import proofs.«01_k».proof.Proof.Mlp35
public import proofs.«01_k».proof.Proof.Mlp36
public import proofs.«01_k».proof.Proof.Mlp37
public import proofs.«01_k».proof.Proof.Mlp38
public import proofs.«01_k».proof.Proof.Mlp39
public import proofs.«01_k».proof.Proof.Mlp40
public import proofs.«01_k».proof.Proof.Mlp41
public import proofs.«01_k».proof.Proof.Mlp42
public import proofs.«01_k».proof.Proof.Mlp43
public import proofs.«01_k».proof.Proof.Mlp44
public import proofs.«01_k».proof.Proof.Mlp45
public import proofs.«01_k».proof.Proof.Mlp46
public import proofs.«01_k».proof.Proof.Mlp47
public import proofs.«01_k».proof.Proof.Mlp48
public import proofs.«01_k».proof.Proof.Mlp49
public import proofs.«01_k».proof.Proof.Mlp50
public import proofs.«01_k».proof.Proof.Mlp51
public import proofs.«01_k».proof.Proof.Mlp52
public import proofs.«01_k».proof.Proof.Frames
public import proofs.«01_k».proof.Proof.Value
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts,
  Cert.Reference4Ideal.Gen.facts, Cert.Kernel5.Gen.facts, Cert.Kernel5Ideal.Gen.facts,
  Cert.Reference5Ideal.Gen.facts, Cert.Kernel6.Gen.facts, Cert.Kernel6Ideal.Gen.facts,
  Cert.Reference6Ideal.Gen.facts, Cert.Kernel7.Gen.facts, Cert.Kernel7Ideal.Gen.facts,
  Cert.Reference7Ideal.Gen.facts, Cert.Kernel8.Gen.facts, Cert.Kernel8Ideal.Gen.facts,
  Cert.Reference8Ideal.Gen.facts, Cert.Kernel9.Gen.facts, Cert.Kernel9Ideal.Gen.facts,
  Cert.Reference9Ideal.Gen.facts, Cert.Kernel10.Gen.facts, Cert.Kernel10Ideal.Gen.facts,
  Cert.Reference10Ideal.Gen.facts, Cert.Kernel11.Gen.facts, Cert.Kernel11Ideal.Gen.facts,
  Cert.Reference11Ideal.Gen.facts, Cert.Kernel12.Gen.facts, Cert.Kernel12Ideal.Gen.facts,
  Cert.Reference12Ideal.Gen.facts, Cert.Kernel13.Gen.facts, Cert.Kernel13Ideal.Gen.facts,
  Cert.Reference13Ideal.Gen.facts, Cert.Kernel14.Gen.facts, Cert.Kernel14Ideal.Gen.facts,
  Cert.Reference14Ideal.Gen.facts, Cert.Kernel15.Gen.facts, Cert.Kernel15Ideal.Gen.facts,
  Cert.Reference15Ideal.Gen.facts, Cert.Kernel16.Gen.facts, Cert.Kernel16Ideal.Gen.facts,
  Cert.Reference16Ideal.Gen.facts, Cert.Kernel17.Gen.facts, Cert.Kernel17Ideal.Gen.facts,
  Cert.Reference17Ideal.Gen.facts, Cert.Kernel18.Gen.facts, Cert.Kernel18Ideal.Gen.facts,
  Cert.Reference18Ideal.Gen.facts, Cert.Kernel19.Gen.facts, Cert.Kernel19Ideal.Gen.facts,
  Cert.Reference19Ideal.Gen.facts, Cert.Kernel20.Gen.facts, Cert.Kernel20Ideal.Gen.facts,
  Cert.Reference20Ideal.Gen.facts, Cert.Kernel21.Gen.facts, Cert.Kernel21Ideal.Gen.facts,
  Cert.Reference21Ideal.Gen.facts, Cert.Kernel22.Gen.facts, Cert.Kernel22Ideal.Gen.facts,
  Cert.Reference22Ideal.Gen.facts, Cert.Kernel23.Gen.facts, Cert.Kernel23Ideal.Gen.facts,
  Cert.Reference23Ideal.Gen.facts, Cert.Kernel24.Gen.facts, Cert.Kernel24Ideal.Gen.facts,
  Cert.Reference24Ideal.Gen.facts, Cert.Kernel25.Gen.facts, Cert.Kernel25Ideal.Gen.facts,
  Cert.Reference25Ideal.Gen.facts, Cert.Kernel26.Gen.facts, Cert.Kernel26Ideal.Gen.facts,
  Cert.Reference26Ideal.Gen.facts, Cert.Kernel27.Gen.facts, Cert.Kernel27Ideal.Gen.facts,
  Cert.Reference27Ideal.Gen.facts, Cert.Kernel28.Gen.facts, Cert.Kernel28Ideal.Gen.facts,
  Cert.Reference28Ideal.Gen.facts, Cert.Kernel29.Gen.facts, Cert.Kernel29Ideal.Gen.facts,
  Cert.Reference29Ideal.Gen.facts, Cert.Kernel30.Gen.facts, Cert.Kernel30Ideal.Gen.facts,
  Cert.Reference30Ideal.Gen.facts, Cert.Kernel31.Gen.facts, Cert.Kernel31Ideal.Gen.facts,
  Cert.Reference31Ideal.Gen.facts, Cert.Kernel32.Gen.facts, Cert.Kernel32Ideal.Gen.facts,
  Cert.Reference32Ideal.Gen.facts, Cert.Kernel33.Gen.facts, Cert.Kernel33Ideal.Gen.facts,
  Cert.Reference33Ideal.Gen.facts, Cert.Kernel34.Gen.facts, Cert.Kernel34Ideal.Gen.facts,
  Cert.Reference34Ideal.Gen.facts, Cert.Kernel35.Gen.facts, Cert.Kernel35Ideal.Gen.facts,
  Cert.Reference35Ideal.Gen.facts, Cert.Kernel36.Gen.facts, Cert.Kernel36Ideal.Gen.facts,
  Cert.Reference36Ideal.Gen.facts, Cert.Kernel37.Gen.facts, Cert.Kernel37Ideal.Gen.facts,
  Cert.Reference37Ideal.Gen.facts, Cert.Kernel38.Gen.facts, Cert.Kernel38Ideal.Gen.facts,
  Cert.Reference38Ideal.Gen.facts, Cert.Kernel39.Gen.facts, Cert.Kernel39Ideal.Gen.facts,
  Cert.Reference39Ideal.Gen.facts, Cert.Kernel40.Gen.facts, Cert.Kernel40Ideal.Gen.facts,
  Cert.Reference40Ideal.Gen.facts, Cert.Kernel41.Gen.facts, Cert.Kernel41Ideal.Gen.facts,
  Cert.Reference41Ideal.Gen.facts, Cert.Kernel42.Gen.facts, Cert.Kernel42Ideal.Gen.facts,
  Cert.Reference42Ideal.Gen.facts, Cert.Kernel43.Gen.facts, Cert.Kernel43Ideal.Gen.facts,
  Cert.Reference43Ideal.Gen.facts, Cert.Kernel44.Gen.facts, Cert.Kernel44Ideal.Gen.facts,
  Cert.Reference44Ideal.Gen.facts, Cert.Kernel45.Gen.facts, Cert.Kernel45Ideal.Gen.facts,
  Cert.Reference45Ideal.Gen.facts, Cert.Kernel46.Gen.facts, Cert.Kernel46Ideal.Gen.facts,
  Cert.Reference46Ideal.Gen.facts, Cert.Kernel47.Gen.facts, Cert.Kernel47Ideal.Gen.facts,
  Cert.Reference47Ideal.Gen.facts, Cert.Kernel48.Gen.facts, Cert.Kernel48Ideal.Gen.facts,
  Cert.Reference48Ideal.Gen.facts, Cert.Kernel49.Gen.facts, Cert.Kernel49Ideal.Gen.facts,
  Cert.Reference49Ideal.Gen.facts, Cert.Kernel50.Gen.facts, Cert.Kernel50Ideal.Gen.facts,
  Cert.Reference50Ideal.Gen.facts, Cert.Kernel51.Gen.facts, Cert.Kernel51Ideal.Gen.facts,
  Cert.Reference51Ideal.Gen.facts, Cert.Kernel52.Gen.facts, Cert.Kernel52Ideal.Gen.facts,
  Cert.Reference52Ideal.Gen.facts, Cert.Pre_finite.Gen.facts, Cert.Pre_finite_norm.Gen.facts,
  Cert.KernelIdeal.Bwd.frame_kernel, Cert.KernelIdeal.Bwd.frame_ideal,
  fun m g _ => Cert.KernelIdeal.Bwd.frame (F := Ideal) m g, Cert.KernelIdeal.Bwd.frame_reference,
  fun m g _ => Cert.KernelIdeal.Bwd.frame_reference m g trivial, Cert.Kernel2Ideal.Mlp.frame_kernel,
  Cert.Kernel2Ideal.Mlp.frame_ideal, Cert.Kernel2Ideal.Mlp.frame_reference, Cert.Kernel3Ideal.Mlp.frame_kernel,
  Cert.Kernel3Ideal.Mlp.frame_ideal, Cert.Kernel3Ideal.Mlp.frame_reference, Cert.Kernel4Ideal.Mlp.frame_kernel,
  Cert.Kernel4Ideal.Mlp.frame_ideal, Cert.Kernel4Ideal.Mlp.frame_reference, Cert.Kernel5Ideal.Mlp.frame_kernel,
  Cert.Kernel5Ideal.Mlp.frame_ideal, Cert.Kernel5Ideal.Mlp.frame_reference, Cert.Kernel6Ideal.Mlp.frame_kernel,
  Cert.Kernel6Ideal.Mlp.frame_ideal, Cert.Kernel6Ideal.Mlp.frame_reference, Cert.Kernel7Ideal.Mlp.frame_kernel,
  Cert.Kernel7Ideal.Mlp.frame_ideal, Cert.Kernel7Ideal.Mlp.frame_reference, Cert.Kernel8Ideal.Mlp.frame_kernel,
  Cert.Kernel8Ideal.Mlp.frame_ideal, fun m g _ => Cert.Kernel8Ideal.Mlp.frame_ideal m g trivial,
  Cert.Kernel8Ideal.Mlp.frame_reference, fun m g _ => Cert.Kernel8Ideal.Mlp.frame_reference m g trivial,
  Cert.Kernel9Ideal.Mlp.frame_kernel, Cert.Kernel9Ideal.Mlp.frame_ideal, Cert.Kernel9Ideal.Mlp.frame_reference,
  Cert.Kernel10Ideal.Mlp.frame_kernel, Cert.Kernel10Ideal.Mlp.frame_ideal, Cert.Kernel10Ideal.Mlp.frame_reference,
  Cert.Kernel11Ideal.Mlp.frame_kernel, Cert.Kernel11Ideal.Mlp.frame_ideal, Cert.Kernel11Ideal.Mlp.frame_reference,
  Cert.Kernel12Ideal.Mlp.frame_kernel, Cert.Kernel12Ideal.Mlp.frame_ideal, Cert.Kernel12Ideal.Mlp.frame_reference,
  Cert.Kernel13Ideal.Mlp.frame_kernel, Cert.Kernel13Ideal.Mlp.frame_ideal, Cert.Kernel13Ideal.Mlp.frame_reference,
  Cert.Kernel14Ideal.Mlp.frame_kernel, Cert.Kernel14Ideal.Mlp.frame_ideal, Cert.Kernel14Ideal.Mlp.frame_reference,
  Cert.Kernel15Ideal.Mlp.frame_kernel, Cert.Kernel15Ideal.Mlp.frame_ideal, Cert.Kernel15Ideal.Mlp.frame_reference,
  Cert.Kernel16Ideal.Mlp.frame_kernel, Cert.Kernel16Ideal.Mlp.frame_ideal, Cert.Kernel16Ideal.Mlp.frame_reference,
  Cert.Kernel17Ideal.Mlp.frame_kernel, Cert.Kernel17Ideal.Mlp.frame_ideal, Cert.Kernel17Ideal.Mlp.frame_reference,
  Cert.Kernel18Ideal.Mlp.frame_kernel, Cert.Kernel18Ideal.Mlp.frame_ideal, Cert.Kernel18Ideal.Mlp.frame_reference,
  Cert.Kernel19Ideal.Mlp.frame_kernel, Cert.Kernel19Ideal.Mlp.frame_ideal, Cert.Kernel19Ideal.Mlp.frame_reference,
  Cert.Kernel20Ideal.Mlp.frame_kernel, Cert.Kernel20Ideal.Mlp.frame_ideal, Cert.Kernel20Ideal.Mlp.frame_reference,
  Cert.Kernel21Ideal.Mlp.frame_kernel, Cert.Kernel21Ideal.Mlp.frame_ideal, Cert.Kernel21Ideal.Mlp.frame_reference,
  Cert.Kernel22Ideal.Mlp.frame_kernel, Cert.Kernel22Ideal.Mlp.frame_ideal, Cert.Kernel22Ideal.Mlp.frame_reference,
  Cert.Kernel23Ideal.Mlp.frame_kernel, Cert.Kernel23Ideal.Mlp.frame_ideal, Cert.Kernel23Ideal.Mlp.frame_reference,
  Cert.Kernel24Ideal.Mlp.frame_kernel, Cert.Kernel24Ideal.Mlp.frame_ideal, Cert.Kernel24Ideal.Mlp.frame_reference,
  Cert.Kernel25Ideal.Mlp.frame_kernel, Cert.Kernel25Ideal.Mlp.frame_ideal, Cert.Kernel25Ideal.Mlp.frame_reference,
  Cert.Kernel26Ideal.Mlp.frame_kernel, Cert.Kernel26Ideal.Mlp.frame_ideal, Cert.Kernel26Ideal.Mlp.frame_reference,
  Cert.Kernel27Ideal.Mlp.frame_kernel, Cert.Kernel27Ideal.Mlp.frame_ideal, Cert.Kernel27Ideal.Mlp.frame_reference,
  Cert.Kernel28Ideal.Mlp.frame_kernel, Cert.Kernel28Ideal.Mlp.frame_ideal, Cert.Kernel28Ideal.Mlp.frame_reference,
  Cert.Kernel29Ideal.Mlp.frame_kernel, Cert.Kernel29Ideal.Mlp.frame_ideal, Cert.Kernel29Ideal.Mlp.frame_reference,
  Cert.Kernel30Ideal.Mlp.frame_kernel, Cert.Kernel30Ideal.Mlp.frame_ideal, Cert.Kernel30Ideal.Mlp.frame_reference,
  Cert.Kernel31Ideal.Mlp.frame_kernel, Cert.Kernel31Ideal.Mlp.frame_ideal, Cert.Kernel31Ideal.Mlp.frame_reference,
  Cert.Kernel32Ideal.Mlp.frame_kernel, Cert.Kernel32Ideal.Mlp.frame_ideal, Cert.Kernel32Ideal.Mlp.frame_reference,
  Cert.Kernel33Ideal.Mlp.frame_kernel, Cert.Kernel33Ideal.Mlp.frame_ideal, Cert.Kernel33Ideal.Mlp.frame_reference,
  Cert.Kernel34Ideal.Mlp.frame_kernel, Cert.Kernel34Ideal.Mlp.frame_ideal, Cert.Kernel34Ideal.Mlp.frame_reference,
  Cert.Kernel35Ideal.Mlp.frame_kernel, Cert.Kernel35Ideal.Mlp.frame_ideal, Cert.Kernel35Ideal.Mlp.frame_reference,
  Cert.Kernel36Ideal.Mlp.frame_kernel, Cert.Kernel36Ideal.Mlp.frame_ideal, Cert.Kernel36Ideal.Mlp.frame_reference,
  Cert.Kernel37Ideal.Mlp.frame_kernel, Cert.Kernel37Ideal.Mlp.frame_ideal, Cert.Kernel37Ideal.Mlp.frame_reference,
  Cert.Kernel38Ideal.Mlp.frame_kernel, Cert.Kernel38Ideal.Mlp.frame_ideal, Cert.Kernel38Ideal.Mlp.frame_reference,
  Cert.Kernel39Ideal.Mlp.frame_kernel, Cert.Kernel39Ideal.Mlp.frame_ideal, Cert.Kernel39Ideal.Mlp.frame_reference,
  Cert.Kernel40Ideal.Mlp.frame_kernel, Cert.Kernel40Ideal.Mlp.frame_ideal, Cert.Kernel40Ideal.Mlp.frame_reference,
  Cert.Kernel41Ideal.Mlp.frame_kernel, Cert.Kernel41Ideal.Mlp.frame_ideal, Cert.Kernel41Ideal.Mlp.frame_reference,
  Cert.Kernel42Ideal.Mlp.frame_kernel, Cert.Kernel42Ideal.Mlp.frame_ideal, Cert.Kernel42Ideal.Mlp.frame_reference,
  Cert.Kernel43Ideal.Mlp.frame_kernel, Cert.Kernel43Ideal.Mlp.frame_ideal, Cert.Kernel43Ideal.Mlp.frame_reference,
  Cert.Kernel44Ideal.Mlp.frame_kernel, Cert.Kernel44Ideal.Mlp.frame_ideal, Cert.Kernel44Ideal.Mlp.frame_reference,
  Cert.Kernel45Ideal.Mlp.frame_kernel, Cert.Kernel45Ideal.Mlp.frame_ideal, Cert.Kernel45Ideal.Mlp.frame_reference,
  Cert.Kernel46Ideal.Mlp.frame_kernel, Cert.Kernel46Ideal.Mlp.frame_ideal, Cert.Kernel46Ideal.Mlp.frame_reference,
  Cert.Kernel47Ideal.Mlp.frame_kernel, Cert.Kernel47Ideal.Mlp.frame_ideal, Cert.Kernel47Ideal.Mlp.frame_reference,
  Cert.Kernel48Ideal.Mlp.frame_kernel, Cert.Kernel48Ideal.Mlp.frame_ideal, Cert.Kernel48Ideal.Mlp.frame_reference,
  Cert.Kernel49Ideal.Mlp.frame_kernel, Cert.Kernel49Ideal.Mlp.frame_ideal, Cert.Kernel49Ideal.Mlp.frame_reference,
  Cert.Kernel50Ideal.Mlp.frame_kernel, Cert.Kernel50Ideal.Mlp.frame_ideal, Cert.Kernel50Ideal.Mlp.frame_reference,
  Cert.Kernel51Ideal.Mlp.frame_kernel, Cert.Kernel51Ideal.Mlp.frame_ideal, Cert.Kernel51Ideal.Mlp.frame_reference,
  Cert.Kernel52Ideal.Mlp.frame_kernel, Cert.Kernel52Ideal.Mlp.frame_ideal, Cert.Kernel52Ideal.Mlp.frame_reference,
  Cert.KernelIdeal.Bwd.preserves, Cert.KernelIdeal.Bwd.algebraic, trivial, Cert.Kernel2Ideal.Mlp.algebraic,
  trivial, Cert.Kernel3Ideal.Mlp.algebraic, trivial, Cert.Kernel4Ideal.Mlp.algebraic, trivial,
  Cert.Kernel5Ideal.Mlp.algebraic, trivial, Cert.Kernel6Ideal.Mlp.algebraic, trivial,
  Cert.Kernel7Ideal.Mlp.algebraic, trivial, Cert.Kernel8Ideal.Mlp.algebraic, trivial,
  Cert.Kernel9Ideal.Mlp.algebraic, trivial, Cert.Kernel10Ideal.Mlp.algebraic, trivial,
  Cert.Kernel11Ideal.Mlp.algebraic, trivial, Cert.Kernel12Ideal.Mlp.algebraic, trivial,
  Cert.Kernel13Ideal.Mlp.algebraic, trivial, Cert.Kernel14Ideal.Mlp.algebraic, trivial,
  Cert.Kernel15Ideal.Mlp.algebraic, trivial, Cert.Kernel16Ideal.Mlp.algebraic, trivial,
  Cert.Kernel17Ideal.Mlp.algebraic, trivial, Cert.Kernel18Ideal.Mlp.algebraic, trivial,
  Cert.Kernel19Ideal.Mlp.algebraic, trivial, Cert.Kernel20Ideal.Mlp.algebraic, trivial,
  Cert.Kernel21Ideal.Mlp.algebraic, trivial, Cert.Kernel22Ideal.Mlp.algebraic, trivial,
  Cert.Kernel23Ideal.Mlp.algebraic, trivial, Cert.Kernel24Ideal.Mlp.algebraic, trivial,
  Cert.Kernel25Ideal.Mlp.algebraic, trivial, Cert.Kernel26Ideal.Mlp.algebraic, trivial,
  Cert.Kernel27Ideal.Mlp.algebraic, trivial, Cert.Kernel28Ideal.Mlp.algebraic, trivial,
  Cert.Kernel29Ideal.Mlp.algebraic, trivial, Cert.Kernel30Ideal.Mlp.algebraic, trivial,
  Cert.Kernel31Ideal.Mlp.algebraic, trivial, Cert.Kernel32Ideal.Mlp.algebraic, trivial,
  Cert.Kernel33Ideal.Mlp.algebraic, trivial, Cert.Kernel34Ideal.Mlp.algebraic, trivial,
  Cert.Kernel35Ideal.Mlp.algebraic, trivial, Cert.Kernel36Ideal.Mlp.algebraic, trivial,
  Cert.Kernel37Ideal.Mlp.algebraic, trivial, Cert.Kernel38Ideal.Mlp.algebraic, trivial,
  Cert.Kernel39Ideal.Mlp.algebraic, trivial, Cert.Kernel40Ideal.Mlp.algebraic, trivial,
  Cert.Kernel41Ideal.Mlp.algebraic, trivial, Cert.Kernel42Ideal.Mlp.algebraic, trivial,
  Cert.Kernel43Ideal.Mlp.algebraic, trivial, Cert.Kernel44Ideal.Mlp.algebraic, trivial,
  Cert.Kernel45Ideal.Mlp.algebraic, trivial, Cert.Kernel46Ideal.Mlp.algebraic, trivial,
  Cert.Kernel47Ideal.Mlp.algebraic, trivial, Cert.Kernel48Ideal.Mlp.algebraic, trivial,
  Cert.Kernel49Ideal.Mlp.algebraic, trivial, Cert.Kernel50Ideal.Mlp.algebraic, trivial,
  Cert.Kernel51Ideal.Mlp.algebraic, trivial, Cert.Kernel52Ideal.Mlp.algebraic⟩

end Cert.Proof

end
